-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_but_gates [hPre_finite_but_gates : Cert.Pre_finite_but_gates.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_but_gates.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_but_gates [hPre_finite_but_gates : Cert.Pre_finite_but_gates.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_but_gates.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_x [hPre_finite_x : Cert.Pre_finite_x.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_x.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_x [hPre_finite_x : Cert.Pre_finite_x.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_x.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_x_mix [hPre_finite_x_mix : Cert.Pre_finite_x_mix.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_x_mix.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_x_mix [hPre_finite_x_mix : Cert.Pre_finite_x_mix.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_x_mix.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite_qk [hPre_finite_qk : Cert.Pre_finite_qk.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite_qk.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite_qk [hPre_finite_qk : Cert.Pre_finite_qk.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite_qk.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite_out [hPre_finite_out : Cert.Pre_finite_out.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite_out.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite_out [hPre_finite_out : Cert.Pre_finite_out.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite_out.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2))) = (fun _ => 1#1)

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_finite_mem [hPre_finite_mem : Cert.Pre_finite_mem.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_finite_mem.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3))) = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_finite_mem [hPre_finite_mem : Cert.Pre_finite_mem.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_finite_mem.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3))) = (fun _ => 1#1)

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_but_gates [hKernel2Ideal : Cert.Kernel2Ideal.Facts] [hPre_finite_but_gates : Cert.Pre_finite_but_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_but_gates m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_but_gates [hReference2Ideal : Cert.Reference2Ideal.Facts] [hPre_finite_but_gates : Cert.Pre_finite_but_gates.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_but_gates m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_x [hKernel3Ideal : Cert.Kernel3Ideal.Facts] [hPre_finite_x : Cert.Pre_finite_x.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_x m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_x [hReference3Ideal : Cert.Reference3Ideal.Facts] [hPre_finite_x : Cert.Pre_finite_x.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_x m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite_x_mix [hKernel7Ideal : Cert.Kernel7Ideal.Facts] [hPre_finite_x_mix : Cert.Pre_finite_x_mix.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_x_mix m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite_x_mix [hReference7Ideal : Cert.Reference7Ideal.Facts] [hPre_finite_x_mix : Cert.Pre_finite_x_mix.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_x_mix m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Kernel20Ideal_pre_finite_qk [hKernel20Ideal : Cert.Kernel20Ideal.Facts] [hPre_finite_qk : Cert.Pre_finite_qk.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite_qk m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Reference20Ideal_pre_finite_qk [hReference20Ideal : Cert.Reference20Ideal.Facts] [hPre_finite_qk : Cert.Pre_finite_qk.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite_qk m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Kernel26Ideal_pre_finite_out [hKernel26Ideal : Cert.Kernel26Ideal.Facts] [hPre_finite_out : Cert.Pre_finite_out.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite_out m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Reference26Ideal_pre_finite_out [hReference26Ideal : Cert.Reference26Ideal.Facts] [hPre_finite_out : Cert.Pre_finite_out.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite_out m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Kernel27Ideal_pre_finite_mem [hKernel27Ideal : Cert.Kernel27Ideal.Facts] [hPre_finite_mem : Cert.Pre_finite_mem.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_finite_mem m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Reference27Ideal_pre_finite_mem [hReference27Ideal : Cert.Reference27Ideal.Facts] [hPre_finite_mem : Cert.Pre_finite_mem.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_finite_mem m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4)
      ∧ r.2.mem ((c.tc : Thread Cert.Kernel36.nD Cert.Kernel36.τ).loc Cert.Kernel36.main_arg5) = m ((c.tc : Thread Cert.Kernel36.nD Cert.Kernel36.τ).loc Cert.Kernel36.main_arg5)
      ∧ r.2.mem ((c.tc : Thread Cert.Kernel36.nD Cert.Kernel36.τ).loc Cert.Kernel36.main_arg6) = m ((c.tc : Thread Cert.Kernel36.nD Cert.Kernel36.τ).loc Cert.Kernel36.main_arg6)
      ∧ r.2.mem ((c.tc : Thread Cert.Kernel36.nD Cert.Kernel36.τ).loc Cert.Kernel36.main_arg7) = m ((c.tc : Thread Cert.Kernel36.nD Cert.Kernel36.τ).loc Cert.Kernel36.main_arg7)
      ∧ r.2.mem ((c.tc : Thread Cert.Kernel36.nD Cert.Kernel36.τ).loc Cert.Kernel36.main_arg8) = m ((c.tc : Thread Cert.Kernel36.nD Cert.Kernel36.τ).loc Cert.Kernel36.main_arg8))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
      ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5)
      ∧ r.2.mem ((c.tc : Thread Cert.Kernel36Ideal.nD Cert.Kernel36Ideal.τ).loc Cert.Kernel36Ideal.main_arg6) = m ((c.tc : Thread Cert.Kernel36Ideal.nD Cert.Kernel36Ideal.τ).loc Cert.Kernel36Ideal.main_arg6)
      ∧ r.2.mem ((c.tc : Thread Cert.Kernel36Ideal.nD Cert.Kernel36Ideal.τ).loc Cert.Kernel36Ideal.main_arg7) = m ((c.tc : Thread Cert.Kernel36Ideal.nD Cert.Kernel36Ideal.τ).loc Cert.Kernel36Ideal.main_arg7)
      ∧ r.2.mem ((c.tc : Thread Cert.Kernel36Ideal.nD Cert.Kernel36Ideal.τ).loc Cert.Kernel36Ideal.main_arg8) = m ((c.tc : Thread Cert.Kernel36Ideal.nD Cert.Kernel36Ideal.τ).loc Cert.Kernel36Ideal.main_arg8))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4)
      ∧ r.2.mem ((c.tc : Thread Cert.Reference36Ideal.nD Cert.Reference36Ideal.τ).loc Cert.Reference36Ideal.main_arg5) = m ((c.tc : Thread Cert.Reference36Ideal.nD Cert.Reference36Ideal.τ).loc Cert.Reference36Ideal.main_arg5)
      ∧ r.2.mem ((c.tc : Thread Cert.Reference36Ideal.nD Cert.Reference36Ideal.τ).loc Cert.Reference36Ideal.main_arg6) = m ((c.tc : Thread Cert.Reference36Ideal.nD Cert.Reference36Ideal.τ).loc Cert.Reference36Ideal.main_arg6)
      ∧ r.2.mem ((c.tc : Thread Cert.Reference36Ideal.nD Cert.Reference36Ideal.τ).loc Cert.Reference36Ideal.main_arg7) = m ((c.tc : Thread Cert.Reference36Ideal.nD Cert.Reference36Ideal.τ).loc Cert.Reference36Ideal.main_arg7)
      ∧ r.2.mem ((c.tc : Thread Cert.Reference36Ideal.nD Cert.Reference36Ideal.τ).loc Cert.Reference36Ideal.main_arg8) = m ((c.tc : Thread Cert.Reference36Ideal.nD Cert.Reference36Ideal.τ).loc Cert.Reference36Ideal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_but_gates [hKernel2Ideal : Cert.Kernel2Ideal.Facts] [hReference2Ideal : Cert.Reference2Ideal.Facts] [hPre_finite_but_gates : Cert.Pre_finite_but_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_but_gates m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_x [hKernel3Ideal : Cert.Kernel3Ideal.Facts] [hReference3Ideal : Cert.Reference3Ideal.Facts] [hPre_finite_x : Cert.Pre_finite_x.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_x m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)) (v4 : (c : Dev Cert.Kernel6Ideal.nD) → Buf (Elt Ideal) ((c.tc : Thread Cert.Kernel6Ideal.nD Cert.Kernel6Ideal.τ).loc Cert.Kernel6Ideal.main_v3_4)) (v5 : (c : Dev Cert.Kernel6Ideal.nD) → Buf (Elt Ideal) ((c.tc : Thread Cert.Kernel6Ideal.nD Cert.Kernel6Ideal.τ).loc Cert.Kernel6Ideal.main_v3_5)) (v6 : (c : Dev Cert.Kernel6Ideal.nD) → Buf (Elt Ideal) ((c.tc : Thread Cert.Kernel6Ideal.nD Cert.Kernel6Ideal.τ).loc Cert.Kernel6Ideal.main_v3_6)) (v7 : (c : Dev Cert.Kernel6Ideal.nD) → Buf (Elt Ideal) ((c.tc : Thread Cert.Kernel6Ideal.nD Cert.Kernel6Ideal.τ).loc Cert.Kernel6Ideal.main_v3_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_v3_4) = v4 c
          ∧ r.2.mem ((c.tc : Thread Cert.Kernel6Ideal.nD Cert.Kernel6Ideal.τ).loc Cert.Kernel6Ideal.main_v3_5) = v5 c
          ∧ r.2.mem ((c.tc : Thread Cert.Kernel6Ideal.nD Cert.Kernel6Ideal.τ).loc Cert.Kernel6Ideal.main_v3_6) = v6 c
          ∧ r.2.mem ((c.tc : Thread Cert.Kernel6Ideal.nD Cert.Kernel6Ideal.τ).loc Cert.Kernel6Ideal.main_v3_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v64) = v0 c
          ∧ r.2.mem ((c.tc : Thread Cert.Reference6Ideal.nD Cert.Reference6Ideal.τ).loc Cert.Reference6Ideal.main_v65) = v1 c
          ∧ r.2.mem ((c.tc : Thread Cert.Reference6Ideal.nD Cert.Reference6Ideal.τ).loc Cert.Reference6Ideal.main_v66) = v2 c
          ∧ r.2.mem ((c.tc : Thread Cert.Reference6Ideal.nD Cert.Reference6Ideal.τ).loc Cert.Reference6Ideal.main_v67) = v3 c
          ∧ r.2.mem ((c.tc : Thread Cert.Reference6Ideal.nD Cert.Reference6Ideal.τ).loc Cert.Reference6Ideal.main_v62) = v4 c
          ∧ r.2.mem ((c.tc : Thread Cert.Reference6Ideal.nD Cert.Reference6Ideal.τ).loc Cert.Reference6Ideal.main_v68) = v5 c
          ∧ r.2.mem ((c.tc : Thread Cert.Reference6Ideal.nD Cert.Reference6Ideal.τ).loc Cert.Reference6Ideal.main_v69) = v6 c
          ∧ r.2.mem ((c.tc : Thread Cert.Reference6Ideal.nD Cert.Reference6Ideal.τ).loc Cert.Reference6Ideal.main_v70) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal_pre_finite_x_mix [hKernel7Ideal : Cert.Kernel7Ideal.Facts] [hReference7Ideal : Cert.Reference7Ideal.Facts] [hPre_finite_x_mix : Cert.Pre_finite_x_mix.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_x_mix m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v42) = v0 c
          ∧ r.2.mem ((c.tc : Thread Cert.Reference7Ideal.nD Cert.Reference7Ideal.τ).loc Cert.Reference7Ideal.main_v43) = v1 c
          ∧ r.2.mem ((c.tc : Thread Cert.Reference7Ideal.nD Cert.Reference7Ideal.τ).loc Cert.Reference7Ideal.main_v44) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_v11) = v1 c
          ∧ r.2.mem ((c.tc : Thread Cert.Reference14Ideal.nD Cert.Reference14Ideal.τ).loc Cert.Reference14Ideal.main_v12) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v19) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v17) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_v5) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v7) = v3 c
          ∧ r.2.mem ((c.tc : Thread Cert.Reference17Ideal.nD Cert.Reference17Ideal.τ).loc Cert.Reference17Ideal.main_v8) = v4 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v32) = v0 c
          ∧ r.2.mem ((c.tc : Thread Cert.Reference18Ideal.nD Cert.Reference18Ideal.τ).loc Cert.Reference18Ideal.main_v33) = v1 c
          ∧ r.2.mem ((c.tc : Thread Cert.Reference18Ideal.nD Cert.Reference18Ideal.τ).loc Cert.Reference18Ideal.main_v34) = v2 c
          ∧ r.2.mem ((c.tc : Thread Cert.Reference18Ideal.nD Cert.Reference18Ideal.τ).loc Cert.Reference18Ideal.main_v35) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v22) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  IdealRules.named_const.Statement Cert.Kernel20Ideal.κ "mask" .f32 0xF149F2CA#32 ⊥

def algebraic_Kernel20Ideal_Reference20Ideal_pre_finite_qk [hKernel20Ideal : Cert.Kernel20Ideal.Facts] [hReference20Ideal : Cert.Reference20Ideal.Facts] [hPre_finite_qk : Cert.Pre_finite_qk.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite_qk m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v85) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal_pre_finite_out [hKernel26Ideal : Cert.Kernel26Ideal.Facts] [hReference26Ideal : Cert.Reference26Ideal.Facts] [hPre_finite_out : Cert.Pre_finite_out.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite_out m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)) (v2 : (c : Dev Cert.Kernel26Ideal.nD) → Buf (Elt Ideal) ((c.tc : Thread Cert.Kernel26Ideal.nD Cert.Kernel26Ideal.τ).loc Cert.Kernel26Ideal.main_v1_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_v1_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v51) = v0 c
          ∧ r.2.mem ((c.tc : Thread Cert.Reference26Ideal.nD Cert.Reference26Ideal.τ).loc Cert.Reference26Ideal.main_v50) = v1 c
          ∧ r.2.mem ((c.tc : Thread Cert.Reference26Ideal.nD Cert.Reference26Ideal.τ).loc Cert.Reference26Ideal.main_v52) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal_pre_finite_mem [hKernel27Ideal : Cert.Kernel27Ideal.Facts] [hReference27Ideal : Cert.Reference27Ideal.Facts] [hPre_finite_mem : Cert.Pre_finite_mem.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_finite_mem m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v1_0)) (v1 : (c : Dev Cert.Kernel27Ideal.nD) → Buf (Elt Ideal) ((c.tc : Thread Cert.Kernel27Ideal.nD Cert.Kernel27Ideal.τ).loc Cert.Kernel27Ideal.main_v1_1)) (v2 : (c : Dev Cert.Kernel27Ideal.nD) → Buf (Elt Ideal) ((c.tc : Thread Cert.Kernel27Ideal.nD Cert.Kernel27Ideal.τ).loc Cert.Kernel27Ideal.main_v1_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1_0) = v0 c
          ∧ r.2.mem ((c.tc : Thread Cert.Kernel27Ideal.nD Cert.Kernel27Ideal.τ).loc Cert.Kernel27Ideal.main_v1_1) = v1 c
          ∧ r.2.mem ((c.tc : Thread Cert.Kernel27Ideal.nD Cert.Kernel27Ideal.τ).loc Cert.Kernel27Ideal.main_v1_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v38) = v0 c
          ∧ r.2.mem ((c.tc : Thread Cert.Reference27Ideal.nD Cert.Reference27Ideal.τ).loc Cert.Reference27Ideal.main_v39) = v1 c
          ∧ r.2.mem ((c.tc : Thread Cert.Reference27Ideal.nD Cert.Reference27Ideal.τ).loc Cert.Reference27Ideal.main_v40) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v13) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v13) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v8) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v8) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v8) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v8) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_finite_scores : Cert.Pre_finite_scores.Facts) (hPre_finite_but_gates : Cert.Pre_finite_but_gates.Facts) (hPre_finite_x : Cert.Pre_finite_x.Facts) (hPre_finite_x_mix : Cert.Pre_finite_x_mix.Facts) (hPre_finite_qk : Cert.Pre_finite_qk.Facts) (hPre_finite_out : Cert.Pre_finite_out.Facts) (hPre_finite_mem : Cert.Pre_finite_mem.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_but_gates (hKernel2Ideal := hKernel2Ideal) (hPre_finite_but_gates := hPre_finite_but_gates)
    ∧ quiescent_Reference2Ideal (hReference2Ideal := hReference2Ideal)
    ∧ quiescent_Reference2Ideal_pre_finite_but_gates (hReference2Ideal := hReference2Ideal) (hPre_finite_but_gates := hPre_finite_but_gates)
    ∧ quiescent_Kernel3 (hKernel3 := hKernel3)
    ∧ quiescent_Kernel3Ideal (hKernel3Ideal := hKernel3Ideal)
    ∧ quiescent_Kernel3Ideal_pre_finite_x (hKernel3Ideal := hKernel3Ideal) (hPre_finite_x := hPre_finite_x)
    ∧ quiescent_Reference3Ideal (hReference3Ideal := hReference3Ideal)
    ∧ quiescent_Reference3Ideal_pre_finite_x (hReference3Ideal := hReference3Ideal) (hPre_finite_x := hPre_finite_x)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_x_mix (hKernel7Ideal := hKernel7Ideal) (hPre_finite_x_mix := hPre_finite_x_mix)
    ∧ quiescent_Reference7Ideal (hReference7Ideal := hReference7Ideal)
    ∧ quiescent_Reference7Ideal_pre_finite_x_mix (hReference7Ideal := hReference7Ideal) (hPre_finite_x_mix := hPre_finite_x_mix)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite_qk (hKernel20Ideal := hKernel20Ideal) (hPre_finite_qk := hPre_finite_qk)
    ∧ quiescent_Reference20Ideal (hReference20Ideal := hReference20Ideal)
    ∧ quiescent_Reference20Ideal_pre_finite_qk (hReference20Ideal := hReference20Ideal) (hPre_finite_qk := hPre_finite_qk)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_finite_out (hKernel26Ideal := hKernel26Ideal) (hPre_finite_out := hPre_finite_out)
    ∧ quiescent_Reference26Ideal (hReference26Ideal := hReference26Ideal)
    ∧ quiescent_Reference26Ideal_pre_finite_out (hReference26Ideal := hReference26Ideal) (hPre_finite_out := hPre_finite_out)
    ∧ quiescent_Kernel27 (hKernel27 := hKernel27)
    ∧ quiescent_Kernel27Ideal (hKernel27Ideal := hKernel27Ideal)
    ∧ quiescent_Kernel27Ideal_pre_finite_mem (hKernel27Ideal := hKernel27Ideal) (hPre_finite_mem := hPre_finite_mem)
    ∧ quiescent_Reference27Ideal (hReference27Ideal := hReference27Ideal)
    ∧ quiescent_Reference27Ideal_pre_finite_mem (hReference27Ideal := hReference27Ideal) (hPre_finite_mem := hPre_finite_mem)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_but_gates (hKernel2Ideal := hKernel2Ideal) (hReference2Ideal := hReference2Ideal) (hPre_finite_but_gates := hPre_finite_but_gates)
    ∧ preserves_Kernel3_Kernel3Ideal
    ∧ algebraic_Kernel3Ideal_Reference3Ideal_pre_finite_x (hKernel3Ideal := hKernel3Ideal) (hReference3Ideal := hReference3Ideal) (hPre_finite_x := hPre_finite_x)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_x_mix (hKernel7Ideal := hKernel7Ideal) (hReference7Ideal := hReference7Ideal) (hPre_finite_x_mix := hPre_finite_x_mix)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite_qk (hKernel20Ideal := hKernel20Ideal) (hReference20Ideal := hReference20Ideal) (hPre_finite_qk := hPre_finite_qk)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_finite_out (hKernel26Ideal := hKernel26Ideal) (hReference26Ideal := hReference26Ideal) (hPre_finite_out := hPre_finite_out)
    ∧ preserves_Kernel27_Kernel27Ideal
    ∧ algebraic_Kernel27Ideal_Reference27Ideal_pre_finite_mem (hKernel27Ideal := hKernel27Ideal) (hReference27Ideal := hReference27Ideal) (hPre_finite_mem := hPre_finite_mem)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
-- ==== Pre_finite_but_gates.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8192x2816 .f32 := (extf .f32 · bitsLt_bf16_f32) main_arg3
  let main_v12 : FVec F S8192x2816 .f32 := Host.absf main_v11
  let main_cst_2 : FVec F S_ .f32 := constant S_ .f32 0x7F800000#32
  let main_v13 : FVec F S8192x2816 .f32 := broadcastInDim S8192x2816 ![] bcast_S_S8192x2816 main_cst_2
  let main_v14 : IVec S8192x2816 1 := cmpf .olt main_v12 main_v13
  let main_c_3 : IVec S_ 1 := constantI S_ 1 1#1
  let main_v15 : IVec S_ 1 := (fun x v => Host.reduce IntOp.andi x v reducesTo_S8192x2816_S_d0_1 h_S_) main_v14 main_c_3
  let main_v16 : IVec S_ 1 := andi main_v10 main_v15
  main_v16
-- ==== Pre_finite_mem.lean ====
abbrev S256x1024 : Shape := ⟨2, ![256, 1024]⟩
abbrev S1024x1024 : Shape := ⟨2, ![1024, 1024]⟩
abbrev S1024 : Shape := ⟨1, ![1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel

variable [Facts]

def fn {F : FTy → Type} [FloatOps F] (main_arg0 : FVec F S256x1024 .f32) (main_arg1 : FVec F S1024x1024 .bf16) (main_arg2 : FVec F S256x1024 .f32) (main_arg3 : FVec F S1024 .f32) : IVec S_ 1 :=
  let main_v0 : FVec F S256x1024 .f32 := Host.absf main_arg2
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  main_v3
-- ==== Pre_finite_out.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_finite_qk.lean ====
abbrev S8192x768 : Shape := ⟨2, ![8192, 768]⟩
abbrev S8 : Shape := ⟨1, ![8]⟩
abbrev S8192x640 : Shape := ⟨2, ![8192, 640]⟩
abbrev S_ : Shape := ⟨0, ![]⟩

class Facts : Prop where
  slices_S8192x768_S8192x640_0_0 : S8192x768.Slices ![0, 0] S8192x640
  bcast_S_S8192x640 : S_.BroadcastsInDim S8192x640 (![] : Fin 0 → Fin S8192x640.rank)
  reducesTo_S8192x640_S_d0_1 : S8192x640.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8192x768 .f32) (main_arg1 : FVec F S8 .f32) : IVec S_ 1 :=
  let main_v0 : FVec F S8192x640 .f32 := (extractStridedSlice S8192x640 ![0, 0] · slices_S8192x768_S8192x640_0_0) main_arg0
  let main_v1 : FVec F S8192x640 .f32 := Host.absf main_v0
  let main_cst : FVec F S_ .f32 := constant S_ .f32 0x7F800000#32
  let main_v2 : FVec F S8192x640 .f32 := broadcastInDim S8192x640 ![] bcast_S_S8192x640 main_cst
  let main_v3 : IVec S8192x640 1 := cmpf .olt main_v1 main_v2
  let main_c : IVec S_ 1 := constantI S_ 1 1#1
  let main_v4 : IVec S_ 1 := (fun x v => Host.reduce IntOp.andi x v reducesTo_S8192x640_S_d0_1 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  main_v9
-- ==== Pre_finite_scores.lean ====
abbrev S8192x512 : Shape := ⟨2, ![8192, 512]⟩
abbrev S256x1024 : Shape := ⟨2, ![256, 1024]⟩
abbrev S_ : Shape := ⟨0, ![]⟩
abbrev S256x512 : Shape := ⟨2, ![256, 512]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  slices_S256x1024_S256x512_0_0 : S256x1024.Slices ![0, 0] S256x512
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x512 .f32) (main_arg1 : FVec F S256x1024 .f32) (main_arg2 : FVec F S8192x512 .bf16) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S256x512 .f32 := (extractStridedSlice S256x512 ![0, 0] · slices_S256x1024_S256x512_0_0) main_arg1
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_c_1 : IVec S_ 1 := constantI S_ 1 1#1
  let main_v8 : IVec S_ 1 := (fun x v => Host.reduce IntOp.andi x v reducesTo_S256x512_S_d0_1 h_S_) main_v7 main_c_1
  let main_v9 : IVec S_ 1 := andi main_v3 main_v8
  main_v9
-- ==== Pre_finite_x.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x2816 .bf16) (main_arg1 : FVec F S8192x2816 .bf16) (main_arg2 : FVec F S2816x1024 .bf16) (main_arg3 : FVec F S2816x1024 .bf16) (main_arg4 : FVec F S8192x1024 .f32) (main_arg5 : FVec F S1024 .f32) (main_arg6 : FVec F S8192x1024 .f32) : IVec S_ 1 :=
  let main_v0 : FVec F S8192x1024 .f32 := Host.absf main_arg4
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_finite_x_mix.lean ====
abbrev S8192x768 : Shape := ⟨2, ![8192, 768]⟩
abbrev S8192x1024 : Shape := ⟨2, ![8192, 1024]⟩
abbrev S8192x512 : Shape := ⟨2, ![8192, 512]⟩
abbrev S8192x3072 : Shape := ⟨2, ![8192, 3072]⟩
abbrev S6400x1024 : Shape := ⟨2, ![6400, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x768 .bf16) (main_arg1 : FVec F S8192x1024 .bf16) (main_arg2 : FVec F S8192x1024 .bf16) (main_arg3 : FVec F S8192x512 .bf16) (main_arg4 : FVec F S8192x3072 .bf16) (main_arg5 : FVec F S6400x1024 .bf16) (main_arg6 : FVec F S8192x1024 .f32) (main_arg7 : FVec F S1024 .f32) (main_arg8 : FVec F S8192x1024 .f32) : IVec S_ 1 :=
  let main_v0 : FVec F S8192x1024 .f32 := Host.absf main_arg6
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x512 : Shape := ⟨2, ![8192, 512]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .bf16⟩
  | .hbm, ⟨3, _⟩ => ⟨S8192x512, .bf16⟩
  | .hbm, ⟨4, _⟩ => ⟨S256x1024, .f32⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x512 : Shape := ⟨2, ![8192, 512]⟩
abbrev S256x1024 : Shape := ⟨2, ![256, 1024]⟩
abbrev S256x512 : Shape := ⟨2, ![256, 512]⟩
abbrev S256x4x128 : Shape := ⟨3, ![256, 4, 128]⟩
abbrev S8192x4x128 : Shape := ⟨3, ![8192, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 89
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .bf16⟩
  | .hbm, ⟨3, _⟩ => ⟨S256x512, .f32⟩
  | .hbm, ⟨4, _⟩ => ⟨S256x4x128, .f32⟩
  | .hbm, ⟨5, _⟩ => ⟨S256x512, .f32⟩
  | .hbm, ⟨6, _⟩ => ⟨S256x4x128, .f32⟩
  | .hbm, ⟨7, _⟩ => ⟨S8192x4x128, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x256, .f32⟩
  | .hbm, ⟨16, _⟩ => ⟨S4x8192x256, .i1⟩
  | .hbm, ⟨17, _⟩ => ⟨S4x8192x256, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .i1⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .f32⟩
  | .hbm, ⟨36, _⟩ => ⟨S4x8192, .f32⟩
  | .hbm, ⟨37, _⟩ => ⟨S4x8192x1, .f32⟩
  | .hbm, ⟨38, _⟩ => ⟨S4x8192x256, .f32⟩
  | .hbm, ⟨39, _⟩ => ⟨S4x8192x256, .f32⟩
  | .hbm, ⟨40, _⟩ => ⟨S4x8192x256, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S4x8192x256, .f32⟩
  | .hbm, ⟨45, _⟩ => ⟨S4x8192x256, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x128x8192, .f32⟩
  | .hbm, ⟨51, _⟩ => ⟨S8192x4x128, .f32⟩
  | .hbm, ⟨52, _⟩ => ⟨S8192x512, .f32⟩
  | .hbm, ⟨53, _⟩ => ⟨S8192x512, .f32⟩
  | .hbm, ⟨54, _⟩ => ⟨S8192x4x128, .f32⟩
  | .hbm, ⟨55, _⟩ => ⟨S4x128x8192, .f32⟩
  | .hbm, ⟨56, _⟩ => ⟨S4x8192x256, .f32⟩
  | .hbm, ⟨57, _⟩ => ⟨S4x128x256, .f32⟩
  | .hbm, ⟨58, _⟩ => ⟨S256x4x128, .f32⟩
  | .hbm, ⟨59, _⟩ => ⟨S4x8192x256, .f32⟩
  | .hbm, ⟨60, _⟩ => ⟨S4x8192x256, .f32⟩
  | .hbm, ⟨61, _⟩ => ⟨S4x8192x256, .f32⟩
  | .hbm, ⟨62, _⟩ => ⟨S_, .f32⟩
  | .hbm, ⟨63, _⟩ => ⟨S4x8192, .f32⟩
  | .hbm, ⟨64, _⟩ => ⟨S4x8192x1, .f32⟩
  | .hbm, ⟨65, _⟩ => ⟨S4x8192x1, .f32⟩
  | .hbm, ⟨66, _⟩ => ⟨S4x8192x256, .f32⟩
  | .hbm, ⟨67, _⟩ => ⟨S4x8192x256, .f32⟩
  | .hbm, ⟨68, _⟩ => ⟨S_, .f32⟩
  | .hbm, ⟨69, _⟩ => ⟨S4x8192, .f32⟩
  | .hbm, ⟨70, _⟩ => ⟨S4x8192x256, .f32⟩
  | .hbm, ⟨71, _⟩ => ⟨S4x8192x256, .f32⟩
  | .hbm, ⟨72, _⟩ => ⟨S4x8192x256, .f32⟩
  | .hbm, ⟨73, _⟩ => ⟨S_, .f32⟩
  | .hbm, ⟨74, _⟩ => ⟨S4x8192x256, .f32⟩
  | .hbm, ⟨75, _⟩ => ⟨S4x8192x256, .f32⟩
  | .hbm, ⟨76, _⟩ => ⟨S4x256x128, .f32⟩
  | .hbm, ⟨77, _⟩ => ⟨S256x4x128, .f32⟩
  | .hbm, ⟨78, _⟩ => ⟨S4x8192x128, .f32⟩
  | .hbm, ⟨79, _⟩ => ⟨S8192x4x128, .f32⟩
  | .hbm, ⟨80, _⟩ => ⟨S8192x512, .f32⟩
  | .hbm, ⟨81, _⟩ => ⟨S256x512, .f32⟩
  | .hbm, ⟨82, _⟩ => ⟨S_, .f32⟩
  | .hbm, ⟨83, _⟩ => ⟨S256x1024, .f32⟩
  | .hbm, ⟨84, _⟩ => ⟨S256x512, .f32⟩
  | .hbm, ⟨85, _⟩ => ⟨S_, .f32⟩
  | .hbm, ⟨86, _⟩ => ⟨S256x1024, .f32⟩
  | .hbm, ⟨87, _⟩ => ⟨S256x1024, .f32⟩
  | .hbm, ⟨88, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S1 : Shape := ⟨1, ![1]⟩
abbrev S512x1024 : Shape := ⟨2, ![512, 1024]⟩
abbrev S512x2816 : Shape := ⟨2, ![512, 2816]⟩
abbrev S384x1024 : Shape := ⟨2, ![384, 1024]⟩
abbrev S512x384 : Shape := ⟨2, ![512, 384]⟩
abbrev S128x1024 : Shape := ⟨2, ![128, 1024]⟩
abbrev S512x128 : Shape := ⟨2, ![512, 128]⟩

abbrev nBuf : Space → Nat
  | .hbm => 10
  | .vmem => 11
  | .smem => 1
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S8192x2816, .bf16⟩
  | .hbm, ⟨9, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .smem, ⟨0, _⟩ => ⟨S1, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .bf16⟩
  | .hbm, ⟨37, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_24 : BitVec 32 := 0#32
  let v42 : BitVec 1 := Scalar.cmpi .ne v41 c0_i32_24
  v42

def k0_cond2 (i : grid0.Coords) : BitVec 1 :=
  let arg0 : BitVec 32 := BitVec.ofNat 32 (i 0).val
  let c0_i32_25 : BitVec 32 := 0#32
  let v43 : BitVec 1 := Scalar.cmpi .sgt arg0 c0_i32_25
  let v44 : BitVec 32 := Scalar.extui v43
  let c0_i32_26 : BitVec 32 := 0#32
  let v45 : BitVec 1 := Scalar.cmpi .ne v44 c0_i32_26
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2816 : Shape := ⟨2, ![1024, 2816]⟩

abbrev nBuf : Space → Nat
  | .hbm => 66
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S2816x1024, .f32⟩
  | .hbm, ⟨28, _⟩ => ⟨S1024x2816, .f32⟩
  | .hbm, ⟨29, _⟩ => ⟨S8192x2816, .f32⟩
  | .hbm, ⟨30, _⟩ => ⟨S2816x1024, .f32⟩
  | .hbm, ⟨31, _⟩ => ⟨S1024x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .bf16⟩
  | .hbm, ⟨65, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 16
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x2816, .f32⟩
  | .hbm, ⟨14, _⟩ => ⟨S2816x1024, .f32⟩
  | .hbm, ⟨15, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S1024x512 : Shape := ⟨2, ![1024, 512]⟩
abbrev S8192x3072 : Shape := ⟨2, ![8192, 3072]⟩
abbrev S3072 : Shape := ⟨1, ![3072]⟩
abbrev S1x3072 : Shape := ⟨2, ![1, 3072]⟩
abbrev S_ : Shape := ⟨0, ![]⟩
abbrev S8192x512 : Shape := ⟨2, ![8192, 512]⟩
abbrev S256x1024 : Shape := ⟨2, ![256, 1024]⟩
abbrev S256x3072 : Shape := ⟨2, ![256, 3072]⟩
abbrev S256x512 : Shape := ⟨2, ![256, 512]⟩
abbrev S1x1024 : Shape := ⟨2, ![1, 1024]⟩
abbrev S1024 : Shape := ⟨1, ![1024]⟩

abbrev nBuf : Space → Nat
  | .hbm => 22
  | .vmem => 30
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x512, .bf16⟩
  | .hbm, ⟨3, _⟩ => ⟨S1024x1024, .bf16⟩
  | .hbm, ⟨4, _⟩ => ⟨S1024x512, .bf16⟩
  | .hbm, ⟨5, _⟩ => ⟨S8192x3072, .f32⟩
  | .hbm, ⟨6, _⟩ => ⟨S3072, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S1x3072, .f32⟩
  | .hbm, ⟨11, _⟩ => ⟨S_, .f32⟩
  | .hbm, ⟨12, _⟩ => ⟨S1x3072, .f32⟩
  | .hbm, ⟨13, _⟩ => ⟨S1x3072, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x512, .bf16⟩
  | .hbm, ⟨18, _⟩ => ⟨S8192x1024, .f32⟩
  | .hbm, ⟨19, _⟩ => ⟨S8192x512, .bf16⟩
  | .hbm, ⟨20, _⟩ => ⟨S8192x3072, .bf16⟩
  | .hbm, ⟨21, _⟩ => ⟨S1x3072, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x512, .bf16⟩
  | .local _ .vmem, ⟨4, _⟩ => ⟨S1024x1024, .bf16⟩
  | .local _ .vmem, ⟨5, _⟩ => ⟨S1024x512, .bf16⟩
  | .local _ .vmem, ⟨6, _⟩ => ⟨S256x3072, .f32⟩
  | .local _ .vmem, ⟨7, _⟩ => ⟨S256x3072, .f32⟩
  | .local _ .vmem, ⟨8, _⟩ => ⟨S1x3072, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x512, .bf16⟩
  | .local _ .vmem, ⟨22, _⟩ => ⟨S256x512, .bf16⟩
  | .local _ .vmem, ⟨23, _⟩ => ⟨S256x1024, .f32⟩
  | .local _ .vmem, ⟨24, _⟩ => ⟨S256x1024, .f32⟩
  | .local _ .vmem, ⟨25, _⟩ => ⟨S256x512, .bf16⟩
  | .local _ .vmem, ⟨26, _⟩ => ⟨S256x512, .bf16⟩
  | .local _ .vmem, ⟨27, _⟩ => ⟨S256x3072, .bf16⟩
  | .local _ .vmem, ⟨28, _⟩ => ⟨S256x3072, .bf16⟩
  | .local _ .vmem, ⟨29, _⟩ => ⟨S1x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v3_5 : Ref sig .tc := ⟨.hbm, 19, rfl⟩
abbrev main_v3_6 : Ref sig .tc := ⟨.hbm, 20, rfl⟩
abbrev main_v3_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x3072 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference6Ideal.lean ====
abbrev S8192x1024 : Shape := ⟨2, ![8192, 1024]⟩
abbrev S1024x1024 : Shape := ⟨2, ![1024, 1024]⟩
abbrev S1024x512 : Shape := ⟨2, ![1024, 512]⟩
abbrev S8192x3072 : Shape := ⟨2, ![8192, 3072]⟩
abbrev S3072 : Shape := ⟨1, ![3072]⟩
abbrev S1x3072 : Shape := ⟨2, ![1, 3072]⟩
abbrev S_ : Shape := ⟨0, ![]⟩
abbrev S8192x3x1024 : Shape := ⟨3, ![8192, 3, 1024]⟩
abbrev S8192x1x1024 : Shape := ⟨3, ![8192, 1, 1024]⟩
abbrev S8192x512 : Shape := ⟨2, ![8192, 512]⟩
abbrev S512x1024 : Shape := ⟨2, ![512, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x512, .bf16⟩
  | .hbm, ⟨3, _⟩ => ⟨S1024x1024, .bf16⟩
  | .hbm, ⟨4, _⟩ => ⟨S1024x512, .bf16⟩
  | .hbm, ⟨5, _⟩ => ⟨S8192x3072, .f32⟩
  | .hbm, ⟨6, _⟩ => ⟨S3072, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S_, .f32⟩
  | .hbm, ⟨22, _⟩ => ⟨S8192x3072, .f32⟩
  | .hbm, ⟨23, _⟩ => ⟨S8192x3072, .f32⟩
  | .hbm, ⟨24, _⟩ => ⟨S_, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1x1024, .f32⟩
  | .hbm, ⟨47, _⟩ => ⟨S_, .f32⟩
  | .hbm, ⟨48, _⟩ => ⟨S8192x3x1024, .f32⟩
  | .hbm, ⟨49, _⟩ => ⟨S8192x1024, .f32⟩
  | .hbm, ⟨50, _⟩ => ⟨S8192x1024, .f32⟩
  | .hbm, ⟨51, _⟩ => ⟨S8192x1x1024, .f32⟩
  | .hbm, ⟨52, _⟩ => ⟨S_, .f32⟩
  | .hbm, ⟨53, _⟩ => ⟨S8192x3x1024, .f32⟩
  | .hbm, ⟨54, _⟩ => ⟨S8192x3x1024, .f32⟩
  | .hbm, ⟨55, _⟩ => ⟨S8192x1024, .f32⟩
  | .hbm, ⟨56, _⟩ => ⟨S8192x1024, .f32⟩
  | .hbm, ⟨57, _⟩ => ⟨S8192x1x1024, .f32⟩
  | .hbm, ⟨58, _⟩ => ⟨S_, .f32⟩
  | .hbm, ⟨59, _⟩ => ⟨S8192x3x1024, .f32⟩
  | .hbm, ⟨60, _⟩ => ⟨S8192x3x1024, .f32⟩
  | .hbm, ⟨61, _⟩ => ⟨S8192x3072, .f32⟩
  | .hbm, ⟨62, _⟩ => ⟨S8192x3072, .f32⟩
  | .hbm, ⟨63, _⟩ => ⟨S_, .f32⟩
  | .hbm, ⟨64, _⟩ => ⟨S3072, .f32⟩
  | .hbm, ⟨65, _⟩ => ⟨S1x3072, .f32⟩
  | .hbm, ⟨66, _⟩ => ⟨S_, .f32⟩
  | .hbm, ⟨67, _⟩ => ⟨S3072, .f32⟩
  | .hbm, ⟨68, _⟩ => ⟨S_, .f32⟩
  | .hbm, ⟨69, _⟩ => ⟨S8192x512, .f32⟩
  | .hbm, ⟨70, _⟩ => ⟨S_, .f32⟩
  | .hbm, ⟨71, _⟩ => ⟨S8192x1024, .f32⟩
  | .hbm, ⟨72, _⟩ => ⟨S_, .f32⟩
  | .hbm, ⟨73, _⟩ => ⟨S8192x512, .f32⟩
  | .hbm, ⟨74, _⟩ => ⟨S1024x512, .f32⟩
  | .hbm, ⟨75, _⟩ => ⟨S512x1024, .f32⟩
  | .hbm, ⟨76, _⟩ => ⟨S8192x1024, .f32⟩
  | .hbm, ⟨77, _⟩ => ⟨S1024x1024, .f32⟩
  | .hbm, ⟨78, _⟩ => ⟨S8192x1024, .f32⟩
  | .hbm, ⟨79, _⟩ => ⟨S1024x512, .f32⟩
  | .hbm, ⟨80, _⟩ => ⟨S512x1024, .f32⟩
  | .hbm, ⟨81, _⟩ => ⟨S8192x1024, .f32⟩
  | .hbm, ⟨82, _⟩ => ⟨S8192x512, .f32⟩
  | .hbm, ⟨83, _⟩ => ⟨S8192x1024, .f32⟩
  | .hbm, ⟨84, _⟩ => ⟨S8192x512, .f32⟩
  | .hbm, ⟨85, _⟩ => ⟨S8192x1024, .bf16⟩
  | .hbm, ⟨86, _⟩ => ⟨S8192x1024, .bf16⟩
  | .hbm, ⟨87, _⟩ => ⟨S8192x1024, .bf16⟩
  | .hbm, ⟨88, _⟩ => ⟨S8192x512, .bf16⟩
  | .hbm, ⟨89, _⟩ => ⟨S8192x512, .bf16⟩
  | .hbm, ⟨90, _⟩ => ⟨S8192x3072, .bf16⟩
  | .hbm, ⟨91, _⟩ => ⟨S1x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel7.lean ====
abbrev S8192x768 : Shape := ⟨2, ![8192, 768]⟩
abbrev S8192x1024 : Shape := ⟨2, ![8192, 1024]⟩
abbrev S8192x512 : Shape := ⟨2, ![8192, 512]⟩
abbrev S8192x3072 : Shape := ⟨2, ![8192, 3072]⟩
abbrev S6400x1024 : Shape := ⟨2, ![6400, 1024]⟩
abbrev S1024 : Shape := ⟨1, ![1024]⟩
abbrev S1x1024 : Shape := ⟨2, ![1, 1024]⟩
abbrev S512x768 : Shape := ⟨2, ![512, 768]⟩
abbrev S512x1024 : Shape := ⟨2, ![512, 1024]⟩
abbrev S512x512 : Shape := ⟨2, ![512, 512]⟩
abbrev S512x3072 : Shape := ⟨2, ![512, 3072]⟩
abbrev S768x1024 : Shape := ⟨2, ![768, 1024]⟩
abbrev S1024x1024 : Shape := ⟨2, ![1024, 1024]⟩
abbrev S3072x1024 : Shape := ⟨2, ![3072, 1024]⟩
abbrev S512 : Shape := ⟨1, ![512]⟩
abbrev S512x1 : Shape := ⟨2, ![512, 1]⟩

abbrev nBuf : Space → Nat
  | .hbm => 13
  | .vmem => 21
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S8192x3072, .bf16⟩
  | .hbm, ⟨5, _⟩ => ⟨S6400x1024, .bf16⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S6400x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_35 : BitVec 32 := 0#32
  let v54 : BitVec 1 := Scalar.cmpi .ne v53 c0_i32_35
  v54

def k0_cond2 (i : grid0.Coords) : BitVec 1 :=
  let arg0 : BitVec 32 := BitVec.ofNat 32 (i 0).val
  let c0_i32_36 : BitVec 32 := 0#32
  let v55 : BitVec 1 := Scalar.cmpi .sgt arg0 c0_i32_36
  let v56 : BitVec 32 := Scalar.extui v55
  let c0_i32_37 : BitVec 32 := 0#32
  let v57 : BitVec 1 := Scalar.cmpi .ne v56 c0_i32_37
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6400x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S8192x768 : Shape := ⟨2, ![8192, 768]⟩
abbrev S8192x1024 : Shape := ⟨2, ![8192, 1024]⟩
abbrev S8192x512 : Shape := ⟨2, ![8192, 512]⟩
abbrev S8192x3072 : Shape := ⟨2, ![8192, 3072]⟩
abbrev S6400x1024 : Shape := ⟨2, ![6400, 1024]⟩
abbrev S1024 : Shape := ⟨1, ![1024]⟩
abbrev S8192x6400 : Shape := ⟨2, ![8192, 6400]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x6400 : Shape := ⟨2, ![1024, 6400]⟩

abbrev nBuf : Space → Nat
  | .hbm => 63
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S8192x3072, .bf16⟩
  | .hbm, ⟨5, _⟩ => ⟨S6400x1024, .bf16⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S8192x6400, .bf16⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S6400x1024, .f32⟩
  | .hbm, ⟨31, _⟩ => ⟨S1024x6400, .f32⟩
  | .hbm, ⟨32, _⟩ => ⟨S8192x6400, .f32⟩
  | .hbm, ⟨33, _⟩ => ⟨S8192x6400, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .bf16⟩
  | .hbm, ⟨62, _⟩ => ⟨S1x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel8.lean ====
abbrev S8192x768 : Shape := ⟨2, ![8192, 768]⟩
abbrev S8192x1024 : Shape := ⟨2, ![8192, 1024]⟩
abbrev S768x1024 : Shape := ⟨2, ![768, 1024]⟩
abbrev S2048x768 : Shape := ⟨2, ![2048, 768]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S768x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x768 : Shape := ⟨2, ![8192, 768]⟩
abbrev S8192x1024 : Shape := ⟨2, ![8192, 1024]⟩
abbrev S_ : Shape := ⟨0, ![]⟩
abbrev S768x1024 : Shape := ⟨2, ![768, 1024]⟩
abbrev S1024x768 : Shape := ⟨2, ![1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S_, .f32⟩
  | .hbm, ⟨3, _⟩ => ⟨S768x1024, .f32⟩
  | .hbm, ⟨4, _⟩ => ⟨S8192x1024, .f32⟩
  | .hbm, ⟨5, _⟩ => ⟨S1024x768, .f32⟩
  | .hbm, ⟨6, _⟩ => ⟨S8192x768, .f32⟩
  | .hbm, ⟨7, _⟩ => ⟨S8192x768, .f32⟩
  | .hbm, ⟨8, _⟩ => ⟨S768x1024, .f32⟩
  | .hbm, ⟨9, _⟩ => ⟨S1024x768, .f32⟩
  | .hbm, ⟨10, _⟩ => ⟨S768x1024, .f32⟩
  | .hbm, ⟨11, _⟩ => ⟨S768x1024, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S8192x512, .f32⟩
  | .hbm, ⟨7, _⟩ => ⟨S8192x512, .f32⟩
  | .hbm, ⟨8, _⟩ => ⟨S512x1024, .f32⟩
  | .hbm, ⟨9, _⟩ => ⟨S1024x512, .f32⟩
  | .hbm, ⟨10, _⟩ => ⟨S512x1024, .f32⟩
  | .hbm, ⟨11, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 12
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .f32⟩
  | .hbm, ⟨3, _⟩ => ⟨S3072x1024, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S3072x1024, .f32⟩
  | .hbm, ⟨11, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel12.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x512, .f32⟩
  | .hbm, ⟨5, _⟩ => ⟨S512x1024, .f32⟩
  | .hbm, ⟨6, _⟩ => ⟨S8192x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S1024x512, .f32⟩
  | .hbm, ⟨11, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel14.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference14Ideal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x1024, .f32⟩
  | .hbm, ⟨8, _⟩ => ⟨S2816x1024, .f32⟩
  | .hbm, ⟨9, _⟩ => ⟨S1024x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .bf16⟩
  | .hbm, ⟨22, _⟩ => ⟨S8192x2816, .bf16⟩
  | .hbm, ⟨23, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel15.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference16Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel17.lean ====
abbrev S8192x1024 : Shape := ⟨2, ![8192, 1024]⟩
abbrev S6400x1024 : Shape := ⟨2, ![6400, 1024]⟩
abbrev S8192x768 : Shape := ⟨2, ![8192, 768]⟩
abbrev S8192x512 : Shape := ⟨2, ![8192, 512]⟩
abbrev S8192x3072 : Shape := ⟨2, ![8192, 3072]⟩
abbrev S256x1024 : Shape := ⟨2, ![256, 1024]⟩
abbrev S256x768 : Shape := ⟨2, ![256, 768]⟩
abbrev S256x512 : Shape := ⟨2, ![256, 512]⟩
abbrev S256x3072 : Shape := ⟨2, ![256, 3072]⟩
abbrev S768x1024 : Shape := ⟨2, ![768, 1024]⟩
abbrev S1024x1024 : Shape := ⟨2, ![1024, 1024]⟩
abbrev S512x1024 : Shape := ⟨2, ![512, 1024]⟩
abbrev S3072x1024 : Shape := ⟨2, ![3072, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S6400x1024, .bf16⟩
  | .hbm, ⟨2, _⟩ => ⟨S8192x768, .f32⟩
  | .hbm, ⟨3, _⟩ => ⟨S8192x1024, .f32⟩
  | .hbm, ⟨4, _⟩ => ⟨S8192x1024, .f32⟩
  | .hbm, ⟨5, _⟩ => ⟨S8192x512, .f32⟩
  | .hbm, ⟨6, _⟩ => ⟨S8192x3072, .f32⟩
  | .local _ .vmem, ⟨0, _⟩ => ⟨S256x1024, .bf16⟩
  | .local _ .vmem, ⟨1, _⟩ => ⟨S256x1024, .bf16⟩
  | .local _ .vmem, ⟨2, _⟩ => ⟨S6400x1024, .bf16⟩
  | .local _ .vmem, ⟨3, _⟩ => ⟨S256x768, .f32⟩
  | .local _ .vmem, ⟨4, _⟩ => ⟨S256x768, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x512, .f32⟩
  | .local _ .vmem, ⟨10, _⟩ => ⟨S256x512, .f32⟩
  | .local _ .vmem, ⟨11, _⟩ => ⟨S256x3072, .f32⟩
  | .local _ .vmem, ⟨12, _⟩ => ⟨S256x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6400x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S8192x1024 : Shape := ⟨2, ![8192, 1024]⟩
abbrev S6400x1024 : Shape := ⟨2, ![6400, 1024]⟩
abbrev S1024x6400 : Shape := ⟨2, ![1024, 6400]⟩
abbrev S8192x6400 : Shape := ⟨2, ![8192, 6400]⟩
abbrev S8192x768 : Shape := ⟨2, ![8192, 768]⟩
abbrev S8192x512 : Shape := ⟨2, ![8192, 512]⟩
abbrev S8192x3072 : Shape := ⟨2, ![8192, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S6400x1024, .bf16⟩
  | .hbm, ⟨2, _⟩ => ⟨S8192x1024, .f32⟩
  | .hbm, ⟨3, _⟩ => ⟨S6400x1024, .f32⟩
  | .hbm, ⟨4, _⟩ => ⟨S1024x6400, .f32⟩
  | .hbm, ⟨5, _⟩ => ⟨S8192x6400, .f32⟩
  | .hbm, ⟨6, _⟩ => ⟨S8192x768, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel18.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩
abbrev S8192x3072 : Shape := ⟨2, ![8192, 3072]⟩
abbrev S3072 : Shape := ⟨1, ![3072]⟩
abbrev S1x3072 : Shape := ⟨2, ![1, 3072]⟩
abbrev S512x512 : Shape := ⟨2, ![512, 512]⟩
abbrev S512x1024 : Shape := ⟨2, ![512, 1024]⟩
abbrev S512x3072 : Shape := ⟨2, ![512, 3072]⟩
abbrev S1x1024 : Shape := ⟨2, ![1, 1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S1024x512, .bf16⟩
  | .hbm, ⟨4, _⟩ => ⟨S1024x1024, .bf16⟩
  | .hbm, ⟨5, _⟩ => ⟨S1024x512, .bf16⟩
  | .hbm, ⟨6, _⟩ => ⟨S8192x3072, .f32⟩
  | .hbm, ⟨7, _⟩ => ⟨S3072, .f32⟩
  | .hbm, ⟨8, _⟩ => ⟨S1x3072, .f32⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S1024x512, .bf16⟩
  | .local _ .vmem, ⟨7, _⟩ => ⟨S1024x1024, .bf16⟩
  | .local _ .vmem, ⟨8, _⟩ => ⟨S1024x512, .bf16⟩
  | .local _ .vmem, ⟨9, _⟩ => ⟨S512x3072, .f32⟩
  | .local _ .vmem, ⟨10, _⟩ => ⟨S512x3072, .f32⟩
  | .local _ .vmem, ⟨11, _⟩ => ⟨S1x3072, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference18Ideal.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩
abbrev S8192x3072 : Shape := ⟨2, ![8192, 3072]⟩
abbrev S3072 : Shape := ⟨1, ![3072]⟩
abbrev S1x3072 : Shape := ⟨2, ![1, 3072]⟩
abbrev S_ : Shape := ⟨0, ![]⟩
abbrev S8192x3x1024 : Shape := ⟨3, ![8192, 3, 1024]⟩
abbrev S512x1024 : Shape := ⟨2, ![512, 1024]⟩
abbrev S8192x1x1024 : Shape := ⟨3, ![8192, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S1024x512, .bf16⟩
  | .hbm, ⟨4, _⟩ => ⟨S1024x1024, .bf16⟩
  | .hbm, ⟨5, _⟩ => ⟨S1024x512, .bf16⟩
  | .hbm, ⟨6, _⟩ => ⟨S8192x3072, .f32⟩
  | .hbm, ⟨7, _⟩ => ⟨S3072, .f32⟩
  | .hbm, ⟨8, _⟩ => ⟨S1x3072, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S8192x3x1024, .f32⟩
  | .hbm, ⟨20, _⟩ => ⟨S8192x512, .f32⟩
  | .hbm, ⟨21, _⟩ => ⟨S1024x512, .f32⟩
  | .hbm, ⟨22, _⟩ => ⟨S512x1024, .f32⟩
  | .hbm, ⟨23, _⟩ => ⟨S8192x1024, .f32⟩
  | .hbm, ⟨24, _⟩ => ⟨S8192x1024, .f32⟩
  | .hbm, ⟨25, _⟩ => ⟨S1024x1024, .f32⟩
  | .hbm, ⟨26, _⟩ => ⟨S8192x1024, .f32⟩
  | .hbm, ⟨27, _⟩ => ⟨S8192x512, .f32⟩
  | .hbm, ⟨28, _⟩ => ⟨S1024x512, .f32⟩
  | .hbm, ⟨29, _⟩ => ⟨S512x1024, .f32⟩
  | .hbm, ⟨30, _⟩ => ⟨S8192x1024, .f32⟩
  | .hbm, ⟨31, _⟩ => ⟨S8192x1x1024, .f32⟩
  | .hbm, ⟨32, _⟩ => ⟨S8192x1024, .f32⟩
  | .hbm, ⟨33, _⟩ => ⟨S8192x1024, .f32⟩
  | .hbm, ⟨34, _⟩ => ⟨S8192x1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x1024, .bf16⟩
  | .hbm, ⟨44, _⟩ => ⟨S8192x1024, .bf16⟩
  | .hbm, ⟨45, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel19.lean ====
abbrev S8192x512 : Shape := ⟨2, ![8192, 512]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S512x512, .bf16⟩
  | .local _ .vmem, ⟨4, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S8192x512 : Shape := ⟨2, ![8192, 512]⟩
abbrev S256x1024 : Shape := ⟨2, ![256, 1024]⟩
abbrev S256x512 : Shape := ⟨2, ![256, 512]⟩
abbrev S256x4x128 : Shape := ⟨3, ![256, 4, 128]⟩
abbrev S8192x4x128 : Shape := ⟨3, ![8192, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S256x512, .f32⟩
  | .hbm, ⟨3, _⟩ => ⟨S256x4x128, .f32⟩
  | .hbm, ⟨4, _⟩ => ⟨S256x512, .f32⟩
  | .hbm, ⟨5, _⟩ => ⟨S256x4x128, .f32⟩
  | .hbm, ⟨6, _⟩ => ⟨S8192x4x128, .f32⟩
  | .hbm, ⟨7, _⟩ => ⟨S4x8192x256, .f32⟩
  | .hbm, ⟨8, _⟩ => ⟨S_, .f32⟩
  | .hbm, ⟨9, _⟩ => ⟨S4x8192x256, .f32⟩
  | .hbm, ⟨10, _⟩ => ⟨S4x8192x256, .f32⟩
  | .hbm, ⟨11, _⟩ => ⟨S_, .f32⟩
  | .hbm, ⟨12, _⟩ => ⟨S4x8192, .f32⟩
  | .hbm, ⟨13, _⟩ => ⟨S_, .f32⟩
  | .hbm, ⟨14, _⟩ => ⟨S4x8192, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .f32⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S4x8192x256, .f32⟩
  | .hbm, ⟨24, _⟩ => ⟨S4x8192x256, .f32⟩
  | .hbm, ⟨25, _⟩ => ⟨S4x128x8192, .f32⟩
  | .hbm, ⟨26, _⟩ => ⟨S8192x4x128, .f32⟩
  | .hbm, ⟨27, _⟩ => ⟨S8192x512, .f32⟩
  | .hbm, ⟨28, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel20.lean ====
abbrev S8192x768 : Shape := ⟨2, ![8192, 768]⟩
abbrev S8 : Shape := ⟨1, ![8]⟩
abbrev S8192x512 : Shape := ⟨2, ![8192, 512]⟩
abbrev S256x512 : Shape := ⟨2, ![256, 512]⟩
abbrev S128x128 : Shape := ⟨2, ![128, 128]⟩
abbrev S256x128 : Shape := ⟨2, ![256, 128]⟩
abbrev S384x128 : Shape := ⟨2, ![384, 128]⟩
abbrev S256x384 : Shape := ⟨2, ![256, 384]⟩
abbrev S1 : Shape := ⟨1, ![1]⟩
abbrev S256 : Shape := ⟨1, ![256]⟩
abbrev S256x1 : Shape := ⟨2, ![256, 1]⟩

abbrev nBuf : Space → Nat
  | .hbm => 3
  | .vmem => 12
  | .smem => 1
  | _ => 0

abbrev bufTy : (tb : Table) → Fin (tcTables nBuf tb) → BufTy
  | .hbm, ⟨0, _⟩ => ⟨S8192x768, .f32⟩
  | .hbm, ⟨1, _⟩ => ⟨S8, .f32⟩
  | .hbm, ⟨2, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S128x128, .f32⟩
  | .local _ .vmem, ⟨3, _⟩ => ⟨S128x128, .f32⟩
  | .local _ .vmem, ⟨4, _⟩ => ⟨S256x128, .f32⟩
  | .local _ .vmem, ⟨5, _⟩ => ⟨S256x128, .f32⟩
  | .local _ .vmem, ⟨6, _⟩ => ⟨S128x128, .f32⟩
  | .local _ .vmem, ⟨7, _⟩ => ⟨S128x128, .f32⟩
  | .local _ .vmem, ⟨8, _⟩ => ⟨S256x128, .f32⟩
  | .local _ .vmem, ⟨9, _⟩ => ⟨S256x128, .f32⟩
  | .local _ .vmem, ⟨10, _⟩ => ⟨S256x512, .bf16⟩
  | .local _ .vmem, ⟨11, _⟩ => ⟨S256x512, .bf16⟩
  | .local _ .smem, ⟨0, _⟩ => ⟨S8, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel20Ideal.lean ====
variable {F : FTy → Type} [FloatOps F] [Named F]
def κ : String → Option EReal := fun
  | "mask" => some ⊥
  | _ => none
-- ==== Reference20Ideal.lean ====
abbrev S8192x768 : Shape := ⟨2, ![8192, 768]⟩
abbrev S8 : Shape := ⟨1, ![8]⟩
abbrev S8192x512 : Shape := ⟨2, ![8192, 512]⟩
abbrev S8192x8x64 : Shape := ⟨3, ![8192, 8, 64]⟩
abbrev S8192x128 : Shape := ⟨2, ![8192, 128]⟩
abbrev S8192x2x64 : Shape := ⟨3, ![8192, 2, 64]⟩
abbrev S_ : Shape := ⟨0, ![]⟩
abbrev S8320x2x64 : Shape := ⟨3, ![8320, 2, 64]⟩
abbrev S130x64x2x64 : Shape := ⟨4, ![130, 64, 2, 64]⟩
abbrev S128x64x2x64 : Shape := ⟨4, ![128, 64, 2, 64]⟩
abbrev S128x192x2x64 : Shape := ⟨4, ![128, 192, 2, 64]⟩
abbrev S128x64x2x4x64 : Shape := ⟨5, ![128, 64, 2, 4, 64]⟩
abbrev S128x2x192x64x4 : Shape := ⟨5, ![128, 2, 192, 64, 4]⟩
abbrev S128x2x4x64x192 : Shape := ⟨5, ![128, 2, 4, 64, 192]⟩
abbrev S64 : Shape := ⟨1, ![64]⟩
abbrev S192 : Shape := ⟨1, ![192]⟩
abbrev S64x1 : Shape := ⟨2, ![64, 1]⟩
abbrev S1x192 : Shape := ⟨2, ![1, 192]⟩
abbrev S64x192 : Shape := ⟨2, ![64, 192]⟩
abbrev S1 : Shape := ⟨1, ![1]⟩
abbrev S2x4 : Shape := ⟨2, ![2, 4]⟩
abbrev S2x4x1x1 : Shape := ⟨4, ![2, 4, 1, 1]⟩
abbrev S1x1x64x192 : Shape := ⟨4, ![1, 1, 64, 192]⟩
abbrev S2x4x64x192 : Shape := ⟨4, ![2, 4, 64, 192]⟩
abbrev S1x2x4x64x192 : Shape := ⟨5, ![1, 2, 4, 64, 192]⟩
abbrev S128 : Shape := ⟨1, ![128]⟩
abbrev S128x1 : Shape := ⟨2, ![128, 1]⟩
abbrev S128x192 : Shape := ⟨2, ![128, 192]⟩
abbrev S128x1x1x1x192 : Shape := ⟨5, ![128, 1, 1, 1, 192]⟩
abbrev S1x2x4x1x1 : Shape := ⟨5, ![1, 2, 4, 1, 1]⟩
abbrev S128x2x4x64 : Shape := ⟨4, ![128, 2, 4, 64]⟩
abbrev S128x2x4x64x1 : Shape := ⟨5, ![128, 2, 4, 64, 1]⟩
abbrev S128x2x64x4x64 : Shape := ⟨5, ![128, 2, 64, 4, 64]⟩

abbrev nBuf : Space → Nat
  | .hbm => 127
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8, .f32⟩
  | .hbm, ⟨2, _⟩ => ⟨S8192x512, .f32⟩
  | .hbm, ⟨3, _⟩ => ⟨S8192x8x64, .f32⟩
  | .hbm, ⟨4, _⟩ => ⟨S8192x128, .f32⟩
  | .hbm, ⟨5, _⟩ => ⟨S8192x2x64, .f32⟩
  | .hbm, ⟨6, _⟩ => ⟨S8192x128, .f32⟩
  | .hbm, ⟨7, _⟩ => ⟨S8192x2x64, .f32⟩
  | .hbm, ⟨8, _⟩ => ⟨S_, .i32⟩
  | .hbm, ⟨9, _⟩ => ⟨S_, .f32⟩
  | .hbm, ⟨10, _⟩ => ⟨S8320x2x64, .f32⟩
  | .hbm, ⟨11, _⟩ => ⟨S130x64x2x64, .f32⟩
  | .hbm, ⟨12, _⟩ => ⟨S_, .i32⟩
  | .hbm, ⟨13, _⟩ => ⟨S_, .f32⟩
  | .hbm, ⟨14, _⟩ => ⟨S8320x2x64, .f32⟩
  | .hbm, ⟨15, _⟩ => ⟨S130x64x2x64, .f32⟩
  | .hbm, ⟨16, _⟩ => ⟨S128x64x2x64, .f32⟩
  | .hbm, ⟨17, _⟩ => ⟨S128x64x2x64, .f32⟩
  | .hbm, ⟨18, _⟩ => ⟨S128x64x2x64, .f32⟩
  | .hbm, ⟨19, _⟩ => ⟨S128x192x2x64, .f32⟩
  | .hbm, ⟨20, _⟩ => ⟨S128x64x2x64, .f32⟩
  | .hbm, ⟨21, _⟩ => ⟨S128x64x2x64, .f32⟩
  | .hbm, ⟨22, _⟩ => ⟨S128x64x2x64, .f32⟩
  | .hbm, ⟨23, _⟩ => ⟨S128x192x2x64, .f32⟩
  | .hbm, ⟨24, _⟩ => ⟨S128x64x2x4x64, .f32⟩
  | .hbm, ⟨25, _⟩ => ⟨S128x2x192x64x4, .f32⟩
  | .hbm, ⟨26, _⟩ => ⟨S128x2x4x64x192, .f32⟩
  | .hbm, ⟨27, _⟩ => ⟨S_, .f32⟩
  | .hbm, ⟨28, _⟩ => ⟨S128x2x4x64x192, .f32⟩
  | .hbm, ⟨29, _⟩ => ⟨S128x2x4x64x192, .f32⟩
  | .hbm, ⟨30, _⟩ => ⟨S64, .i32⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S192, .i32⟩
  | .hbm, ⟨35, _⟩ => ⟨S64x1, .i32⟩
  | .hbm, ⟨36, _⟩ => ⟨S1x192, .i32⟩
  | .hbm, ⟨37, _⟩ => ⟨S64x192, .i32⟩
  | .hbm, ⟨38, _⟩ => ⟨S64x192, .i32⟩
  | .hbm, ⟨39, _⟩ => ⟨S64x192, .i32⟩
  | .hbm, ⟨40, _⟩ => ⟨S64x192, .i32⟩
  | .hbm, ⟨41, _⟩ => ⟨S64x192, .f32⟩
  | .hbm, ⟨42, _⟩ => ⟨S_, .f32⟩
  | .hbm, ⟨43, _⟩ => ⟨S1, .f32⟩
  | .hbm, ⟨44, _⟩ => ⟨S_, .f32⟩
  | .hbm, ⟨45, _⟩ => ⟨S1, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S1, .f32⟩
  | .hbm, ⟨50, _⟩ => ⟨S_, .f32⟩
  | .hbm, ⟨51, _⟩ => ⟨S1, .f32⟩
  | .hbm, ⟨52, _⟩ => ⟨S_, .f32⟩
  | .hbm, ⟨53, _⟩ => ⟨S1, .f32⟩
  | .hbm, ⟨54, _⟩ => ⟨S_, .f32⟩
  | .hbm, ⟨55, _⟩ => ⟨S1, .f32⟩
  | .hbm, ⟨56, _⟩ => ⟨S_, .f32⟩
  | .hbm, ⟨57, _⟩ => ⟨S1, .f32⟩
  | .hbm, ⟨58, _⟩ => ⟨S8, .f32⟩
  | .hbm, ⟨59, _⟩ => ⟨S2x4, .f32⟩
  | .hbm, ⟨60, _⟩ => ⟨S2x4x1x1, .f32⟩
  | .hbm, ⟨61, _⟩ => ⟨S1x1x64x192, .f32⟩
  | .hbm, ⟨62, _⟩ => ⟨S2x4x64x192, .f32⟩
  | .hbm, ⟨63, _⟩ => ⟨S2x4x64x192, .f32⟩
  | .hbm, ⟨64, _⟩ => ⟨S2x4x64x192, .f32⟩
  | .hbm, ⟨65, _⟩ => ⟨S1x2x4x64x192, .f32⟩
  | .hbm, ⟨66, _⟩ => ⟨S128x2x4x64x192, .f32⟩
  | .hbm, ⟨67, _⟩ => ⟨S128x2x4x64x192, .f32⟩
  | .hbm, ⟨68, _⟩ => ⟨S128, .i32⟩
  | .hbm, ⟨69, _⟩ => ⟨S128x1, .i32⟩
  | .hbm, ⟨70, _⟩ => ⟨S_, .i32⟩
  | .hbm, ⟨71, _⟩ => ⟨S128x1, .i32⟩
  | .hbm, ⟨72, _⟩ => ⟨S128x1, .i32⟩
  | .hbm, ⟨73, _⟩ => ⟨S1x192, .i32⟩
  | .hbm, ⟨74, _⟩ => ⟨S_, .i32⟩
  | .hbm, ⟨75, _⟩ => ⟨S_, .i32⟩
  | .hbm, ⟨76, _⟩ => ⟨S1x192, .i32⟩
  | .hbm, ⟨77, _⟩ => ⟨S1x192, .i32⟩
  | .hbm, ⟨78, _⟩ => ⟨S1x192, .i32⟩
  | .hbm, ⟨79, _⟩ => ⟨S_, .i32⟩
  | .hbm, ⟨80, _⟩ => ⟨S1x192, .i32⟩
  | .hbm, ⟨81, _⟩ => ⟨S1x192, .i1⟩
  | .hbm, ⟨82, _⟩ => ⟨S1x192, .i32⟩
  | .hbm, ⟨83, _⟩ => ⟨S1x192, .i32⟩
  | .hbm, ⟨84, _⟩ => ⟨S_, .i32⟩
  | .hbm, ⟨85, _⟩ => ⟨S1x192, .i32⟩
  | .hbm, ⟨86, _⟩ => ⟨S1x192, .i1⟩
  | .hbm, ⟨87, _⟩ => ⟨S1x192, .i1⟩
  | .hbm, ⟨88, _⟩ => ⟨S_, .i32⟩
  | .hbm, ⟨89, _⟩ => ⟨S1x192, .i32⟩
  | .hbm, ⟨90, _⟩ => ⟨S1x192, .i32⟩
  | .hbm, ⟨91, _⟩ => ⟨S1x192, .i32⟩
  | .hbm, ⟨92, _⟩ => ⟨S128x192, .i32⟩
  | .hbm, ⟨93, _⟩ => ⟨S128x192, .i32⟩
  | .hbm, ⟨94, _⟩ => ⟨S128x192, .i32⟩
  | .hbm, ⟨95, _⟩ => ⟨S_, .i32⟩
  | .hbm, ⟨96, _⟩ => ⟨S128x192, .i32⟩
  | .hbm, ⟨97, _⟩ => ⟨S128x192, .i1⟩
  | .hbm, ⟨98, _⟩ => ⟨S128x1x1x1x192, .i1⟩
  | .hbm, ⟨99, _⟩ => ⟨S_, .f32⟩
  | .hbm, ⟨100, _⟩ => ⟨S_, .f32⟩
  | .hbm, ⟨101, _⟩ => ⟨S128x2x4x64x192, .i1⟩
  | .hbm, ⟨102, _⟩ => ⟨S128x2x4x64x192, .f32⟩
  | .hbm, ⟨103, _⟩ => ⟨S128x2x4x64x192, .f32⟩
  | .hbm, ⟨104, _⟩ => ⟨S2x4, .f32⟩
  | .hbm, ⟨105, _⟩ => ⟨S1x2x4x1x1, .f32⟩
  | .hbm, ⟨106, _⟩ => ⟨S_, .f32⟩
  | .hbm, ⟨107, _⟩ => ⟨S128x2x4x64, .f32⟩
  | .hbm, ⟨108, _⟩ => ⟨S128x2x4x64x1, .f32⟩
  | .hbm, ⟨109, _⟩ => ⟨S128x2x4x64x1, .f32⟩
  | .hbm, ⟨110, _⟩ => ⟨S128x2x4x64x1, .f32⟩
  | .hbm, ⟨111, _⟩ => ⟨S128x2x4x64x192, .f32⟩
  | .hbm, ⟨112, _⟩ => ⟨S128x2x4x64x192, .f32⟩
  | .hbm, ⟨113, _⟩ => ⟨S128x2x4x64x192, .f32⟩
  | .hbm, ⟨114, _⟩ => ⟨S_, .f32⟩
  | .hbm, ⟨115, _⟩ => ⟨S128x2x4x64, .f32⟩
  | .hbm, ⟨116, _⟩ => ⟨S128x2x4x64x1, .f32⟩
  | .hbm, ⟨117, _⟩ => ⟨S128x2x4x64x1, .f32⟩
  | .hbm, ⟨118, _⟩ => ⟨S128x2x4x64x1, .f32⟩
  | .hbm, ⟨119, _⟩ => ⟨S128x2x4x64x1, .f32⟩
  | .hbm, ⟨120, _⟩ => ⟨S128x2x4x64x1, .f32⟩
  | .hbm, ⟨121, _⟩ => ⟨S128x2x4x64x192, .f32⟩
  | .hbm, ⟨122, _⟩ => ⟨S128x2x4x64x192, .f32⟩
  | .hbm, ⟨123, _⟩ => ⟨S128x2x64x4x64, .f32⟩
  | .hbm, ⟨124, _⟩ => ⟨S128x64x2x4x64, .f32⟩
  | .hbm, ⟨125, _⟩ => ⟨S8192x512, .f32⟩
  | .hbm, ⟨126, _⟩ => ⟨S8192x512, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_c : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_0 : Ref sig .tc := ⟨.hbm, 88, rfl⟩
abbrev main_call2_v12 : Ref sig .tc := ⟨.hbm, 89, rfl⟩
abbrev main_call2_v13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_14 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_15 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩

abbrev nD : Nat := 1
abbrev τ : Topo := Topo.v7x

variable {F : FTy → Type} [FloatOps F]
-- ==== Kernel21.lean ====
abbrev S2816x1024 : Shape := ⟨2, ![2816, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel21Ideal.lean ====
abbrev S2816x1024 : Shape := ⟨2, ![2816, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S2816x1024 : Shape := ⟨2, ![2816, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S_, .f32⟩
  | .hbm, ⟨7, _⟩ => ⟨S2816x1024, .f32⟩
  | .hbm, ⟨8, _⟩ => ⟨S2816x1024, .f32⟩
  | .hbm, ⟨9, _⟩ => ⟨S_, .f32⟩
  | .hbm, ⟨10, _⟩ => ⟨S2816x1024, .f32⟩
  | .hbm, ⟨11, _⟩ => ⟨S2816x1024, .f32⟩
  | .hbm, ⟨12, _⟩ => ⟨S2816x1024, .f32⟩
  | .hbm, ⟨13, _⟩ => ⟨S_, .f32⟩
  | .hbm, ⟨14, _⟩ => ⟨S2816x1024, .f32⟩
  | .hbm, ⟨15, _⟩ => ⟨S2816x1024, .f32⟩
  | .hbm, ⟨16, _⟩ => ⟨S2816x1024, .f32⟩
  | .hbm, ⟨17, _⟩ => ⟨S_, .f32⟩
  | .hbm, ⟨18, _⟩ => ⟨S2816x1024, .f32⟩
  | .hbm, ⟨19, _⟩ => ⟨S2816x1024, .f32⟩
  | .hbm, ⟨20, _⟩ => ⟨S2816x1024, .f32⟩
  | .hbm, ⟨21, _⟩ => ⟨S_, .f32⟩
  | .hbm, ⟨22, _⟩ => ⟨S2816x1024, .f32⟩
  | .hbm, ⟨23, _⟩ => ⟨S2816x1024, .f32⟩
  | .hbm, ⟨24, _⟩ => ⟨S_, .f32⟩
  | .hbm, ⟨25, _⟩ => ⟨S2816x1024, .f32⟩
  | .hbm, ⟨26, _⟩ => ⟨S2816x1024, .f32⟩
  | .hbm, ⟨27, _⟩ => ⟨S2816x1024, .f32⟩
  | .hbm, ⟨28, _⟩ => ⟨S_, .f32⟩
  | .hbm, ⟨29, _⟩ => ⟨S2816x1024, .f32⟩
  | .hbm, ⟨30, _⟩ => ⟨S2816x1024, .f32⟩
  | .hbm, ⟨31, _⟩ => ⟨S2816x1024, .f32⟩
  | .hbm, ⟨32, _⟩ => ⟨S_, .f32⟩
  | .hbm, ⟨33, _⟩ => ⟨S2816x1024, .f32⟩
  | .hbm, ⟨34, _⟩ => ⟨S2816x1024, .f32⟩
  | .hbm, ⟨35, _⟩ => ⟨S2816x1024, .f32⟩
  | .hbm, ⟨36, _⟩ => ⟨S_, .f32⟩
  | .hbm, ⟨37, _⟩ => ⟨S2816x1024, .f32⟩
  | .hbm, ⟨38, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S6400x1024 : Shape := ⟨2, ![6400, 1024]⟩
abbrev S400x1024 : Shape := ⟨2, ![400, 1024]⟩

abbrev nBuf : Space → Nat
  | .hbm => 9
  | .vmem => 18
  | .smem => 0
  | _ => 0

abbrev bufTy : (tb : Table) → Fin (tcTables nBuf tb) → BufTy
  | .hbm, ⟨0, _⟩ => ⟨S6400x1024, .f32⟩
  | .hbm, ⟨1, _⟩ => ⟨S6400x1024, .f32⟩
  | .hbm, ⟨2, _⟩ => ⟨S6400x1024, .f32⟩
  | .hbm, ⟨3, _⟩ => ⟨S6400x1024, .f32⟩
  | .hbm, ⟨4, _⟩ => ⟨S6400x1024, .f32⟩
  | .hbm, ⟨5, _⟩ => ⟨S6400x1024, .f32⟩
  | .hbm, ⟨6, _⟩ => ⟨S6400x1024, .f32⟩
  | .hbm, ⟨7, _⟩ => ⟨S6400x1024, .f32⟩
  | .hbm, ⟨8, _⟩ => ⟨S6400x1024, .f32⟩
  | .local _ .vmem, ⟨0, _⟩ => ⟨S400x1024, .f32⟩
  | .local _ .vmem, ⟨1, _⟩ => ⟨S400x1024, .f32⟩
  | .local _ .vmem, ⟨2, _⟩ => ⟨S400x1024, .f32⟩
  | .local _ .vmem, ⟨3, _⟩ => ⟨S400x1024, .f32⟩
  | .local _ .vmem, ⟨4, _⟩ => ⟨S400x1024, .f32⟩
  | .local _ .vmem, ⟨5, _⟩ => ⟨S400x1024, .f32⟩
  | .local _ .vmem, ⟨6, _⟩ => ⟨S400x1024, .f32⟩
  | .local _ .vmem, ⟨7, _⟩ => ⟨S400x1024, .f32⟩
  | .local _ .vmem, ⟨8, _⟩ => ⟨S400x1024, .f32⟩
  | .local _ .vmem, ⟨9, _⟩ => ⟨S400x1024, .f32⟩
  | .local _ .vmem, ⟨10, _⟩ => ⟨S400x1024, .f32⟩
  | .local _ .vmem, ⟨11, _⟩ => ⟨S400x1024, .f32⟩
  | .local _ .vmem, ⟨12, _⟩ => ⟨S400x1024, .f32⟩
  | .local _ .vmem, ⟨13, _⟩ => ⟨S400x1024, .f32⟩
  | .local _ .vmem, ⟨14, _⟩ => ⟨S400x1024, .f32⟩
  | .local _ .vmem, ⟨15, _⟩ => ⟨S400x1024, .f32⟩
  | .local _ .vmem, ⟨16, _⟩ => ⟨S400x1024, .f32⟩
  | .local _ .vmem, ⟨17, _⟩ => ⟨S400x1024, .f32⟩
  | _, _ => ⟨S6400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel22Ideal.lean ====
abbrev S6400x1024 : Shape := ⟨2, ![6400, 1024]⟩
abbrev S400x1024 : Shape := ⟨2, ![400, 1024]⟩

abbrev nBuf : Space → Nat
  | .hbm => 9
  | .vmem => 18
  | .smem => 0
  | _ => 0

abbrev bufTy : (tb : Table) → Fin (tcTables nBuf tb) → BufTy
  | .hbm, ⟨0, _⟩ => ⟨S6400x1024, .f32⟩
  | .hbm, ⟨1, _⟩ => ⟨S6400x1024, .f32⟩
  | .hbm, ⟨2, _⟩ => ⟨S6400x1024, .f32⟩
  | .hbm, ⟨3, _⟩ => ⟨S6400x1024, .f32⟩
  | .hbm, ⟨4, _⟩ => ⟨S6400x1024, .f32⟩
  | .hbm, ⟨5, _⟩ => ⟨S6400x1024, .f32⟩
  | .hbm, ⟨6, _⟩ => ⟨S6400x1024, .f32⟩
  | .hbm, ⟨7, _⟩ => ⟨S6400x1024, .f32⟩
  | .hbm, ⟨8, _⟩ => ⟨S6400x1024, .f32⟩
  | .local _ .vmem, ⟨0, _⟩ => ⟨S400x1024, .f32⟩
  | .local _ .vmem, ⟨1, _⟩ => ⟨S400x1024, .f32⟩
  | .local _ .vmem, ⟨2, _⟩ => ⟨S400x1024, .f32⟩
  | .local _ .vmem, ⟨3, _⟩ => ⟨S400x1024, .f32⟩
  | .local _ .vmem, ⟨4, _⟩ => ⟨S400x1024, .f32⟩
  | .local _ .vmem, ⟨5, _⟩ => ⟨S400x1024, .f32⟩
  | .local _ .vmem, ⟨6, _⟩ => ⟨S400x1024, .f32⟩
  | .local _ .vmem, ⟨7, _⟩ => ⟨S400x1024, .f32⟩
  | .local _ .vmem, ⟨8, _⟩ => ⟨S400x1024, .f32⟩
  | .local _ .vmem, ⟨9, _⟩ => ⟨S400x1024, .f32⟩
  | .local _ .vmem, ⟨10, _⟩ => ⟨S400x1024, .f32⟩
  | .local _ .vmem, ⟨11, _⟩ => ⟨S400x1024, .f32⟩
  | .local _ .vmem, ⟨12, _⟩ => ⟨S400x1024, .f32⟩
  | .local _ .vmem, ⟨13, _⟩ => ⟨S400x1024, .f32⟩
  | .local _ .vmem, ⟨14, _⟩ => ⟨S400x1024, .f32⟩
  | .local _ .vmem, ⟨15, _⟩ => ⟨S400x1024, .f32⟩
  | .local _ .vmem, ⟨16, _⟩ => ⟨S400x1024, .f32⟩
  | .local _ .vmem, ⟨17, _⟩ => ⟨S400x1024, .f32⟩
  | _, _ => ⟨S6400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S6400x1024 : Shape := ⟨2, ![6400, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S6400x1024, .f32⟩
  | .hbm, ⟨1, _⟩ => ⟨S6400x1024, .f32⟩
  | .hbm, ⟨2, _⟩ => ⟨S6400x1024, .f32⟩
  | .hbm, ⟨3, _⟩ => ⟨S6400x1024, .f32⟩
  | .hbm, ⟨4, _⟩ => ⟨S6400x1024, .f32⟩
  | .hbm, ⟨5, _⟩ => ⟨S6400x1024, .f32⟩
  | .hbm, ⟨6, _⟩ => ⟨S_, .f32⟩
  | .hbm, ⟨7, _⟩ => ⟨S6400x1024, .f32⟩
  | .hbm, ⟨8, _⟩ => ⟨S6400x1024, .f32⟩
  | .hbm, ⟨9, _⟩ => ⟨S_, .f32⟩
  | .hbm, ⟨10, _⟩ => ⟨S6400x1024, .f32⟩
  | .hbm, ⟨11, _⟩ => ⟨S6400x1024, .f32⟩
  | .hbm, ⟨12, _⟩ => ⟨S6400x1024, .f32⟩
  | .hbm, ⟨13, _⟩ => ⟨S_, .f32⟩
  | .hbm, ⟨14, _⟩ => ⟨S6400x1024, .f32⟩
  | .hbm, ⟨15, _⟩ => ⟨S6400x1024, .f32⟩
  | .hbm, ⟨16, _⟩ => ⟨S6400x1024, .f32⟩
  | .hbm, ⟨17, _⟩ => ⟨S_, .f32⟩
  | .hbm, ⟨18, _⟩ => ⟨S6400x1024, .f32⟩
  | .hbm, ⟨19, _⟩ => ⟨S6400x1024, .f32⟩
  | .hbm, ⟨20, _⟩ => ⟨S6400x1024, .f32⟩
  | .hbm, ⟨21, _⟩ => ⟨S_, .f32⟩
  | .hbm, ⟨22, _⟩ => ⟨S6400x1024, .f32⟩
  | .hbm, ⟨23, _⟩ => ⟨S6400x1024, .f32⟩
  | .hbm, ⟨24, _⟩ => ⟨S_, .f32⟩
  | .hbm, ⟨25, _⟩ => ⟨S6400x1024, .f32⟩
  | .hbm, ⟨26, _⟩ => ⟨S6400x1024, .f32⟩
  | .hbm, ⟨27, _⟩ => ⟨S6400x1024, .f32⟩
  | .hbm, ⟨28, _⟩ => ⟨S_, .f32⟩
  | .hbm, ⟨29, _⟩ => ⟨S6400x1024, .f32⟩
  | .hbm, ⟨30, _⟩ => ⟨S6400x1024, .f32⟩
  | .hbm, ⟨31, _⟩ => ⟨S6400x1024, .f32⟩
  | .hbm, ⟨32, _⟩ => ⟨S_, .f32⟩
  | .hbm, ⟨33, _⟩ => ⟨S6400x1024, .f32⟩
  | .hbm, ⟨34, _⟩ => ⟨S6400x1024, .f32⟩
  | .hbm, ⟨35, _⟩ => ⟨S6400x1024, .f32⟩
  | .hbm, ⟨36, _⟩ => ⟨S_, .f32⟩
  | .hbm, ⟨37, _⟩ => ⟨S6400x1024, .f32⟩
  | .hbm, ⟨38, _⟩ => ⟨S6400x1024, .f32⟩
  | _, _ => ⟨S6400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S1024x1024 : Shape := ⟨2, ![1024, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel23Ideal.lean ====
abbrev S1024x1024 : Shape := ⟨2, ![1024, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S1024x512 : Shape := ⟨2, ![1024, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference24Ideal.lean ====
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S624x1024 : Shape := ⟨2, ![624, 1024]⟩
abbrev S8x624x1024 : Shape := ⟨3, ![8, 624, 1024]⟩
abbrev S208x1024 : Shape := ⟨2, ![208, 1024]⟩
abbrev S8x208x1024 : Shape := ⟨3, ![8, 208, 1024]⟩
abbrev S1x208x1024 : Shape := ⟨3, ![1, 208, 1024]⟩

abbrev nBuf : Space → Nat
  | .hbm => 8
  | .vmem => 16
  | .smem => 0
  | _ => 0

abbrev bufTy : (tb : Table) → Fin (tcTables nBuf tb) → BufTy
  | .hbm, ⟨0, _⟩ => ⟨S624x1024, .f32⟩
  | .hbm, ⟨1, _⟩ => ⟨S624x1024, .f32⟩
  | .hbm, ⟨2, _⟩ => ⟨S624x1024, .f32⟩
  | .hbm, ⟨3, _⟩ => ⟨S8x624x1024, .f32⟩
  | .hbm, ⟨4, _⟩ => ⟨S624x1024, .f32⟩
  | .hbm, ⟨5, _⟩ => ⟨S624x1024, .f32⟩
  | .hbm, ⟨6, _⟩ => ⟨S624x1024, .f32⟩
  | .hbm, ⟨7, _⟩ => ⟨S624x1024, .f32⟩
  | .local _ .vmem, ⟨0, _⟩ => ⟨S208x1024, .f32⟩
  | .local _ .vmem, ⟨1, _⟩ => ⟨S208x1024, .f32⟩
  | .local _ .vmem, ⟨2, _⟩ => ⟨S208x1024, .f32⟩
  | .local _ .vmem, ⟨3, _⟩ => ⟨S208x1024, .f32⟩
  | .local _ .vmem, ⟨4, _⟩ => ⟨S208x1024, .f32⟩
  | .local _ .vmem, ⟨5, _⟩ => ⟨S208x1024, .f32⟩
  | .local _ .vmem, ⟨6, _⟩ => ⟨S8x208x1024, .f32⟩
  | .local _ .vmem, ⟨7, _⟩ => ⟨S8x208x1024, .f32⟩
  | .local _ .vmem, ⟨8, _⟩ => ⟨S208x1024, .f32⟩
  | .local _ .vmem, ⟨9, _⟩ => ⟨S208x1024, .f32⟩
  | .local _ .vmem, ⟨10, _⟩ => ⟨S208x1024, .f32⟩
  | .local _ .vmem, ⟨11, _⟩ => ⟨S208x1024, .f32⟩
  | .local _ .vmem, ⟨12, _⟩ => ⟨S208x1024, .f32⟩
  | .local _ .vmem, ⟨13, _⟩ => ⟨S208x1024, .f32⟩
  | .local _ .vmem, ⟨14, _⟩ => ⟨S208x1024, .f32⟩
  | .local _ .vmem, ⟨15, _⟩ => ⟨S208x1024, .f32⟩
  | _, _ => ⟨S624x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S624x1024 : Shape := ⟨2, ![624, 1024]⟩
abbrev S8x624x1024 : Shape := ⟨3, ![8, 624, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S624x1024, .f32⟩
  | .hbm, ⟨1, _⟩ => ⟨S624x1024, .f32⟩
  | .hbm, ⟨2, _⟩ => ⟨S624x1024, .f32⟩
  | .hbm, ⟨3, _⟩ => ⟨S8x624x1024, .f32⟩
  | .hbm, ⟨4, _⟩ => ⟨S_, .f32⟩
  | .hbm, ⟨5, _⟩ => ⟨S624x1024, .f32⟩
  | .hbm, ⟨6, _⟩ => ⟨S_, .f32⟩
  | .hbm, ⟨7, _⟩ => ⟨S624x1024, .f32⟩
  | .hbm, ⟨8, _⟩ => ⟨S624x1024, .f32⟩
  | .hbm, ⟨9, _⟩ => ⟨S_, .f32⟩
  | .hbm, ⟨10, _⟩ => ⟨S624x1024, .f32⟩
  | .hbm, ⟨11, _⟩ => ⟨S624x1024, .f32⟩
  | .hbm, ⟨12, _⟩ => ⟨S624x1024, .f32⟩
  | .hbm, ⟨13, _⟩ => ⟨S_, .f32⟩
  | .hbm, ⟨14, _⟩ => ⟨S624x1024, .f32⟩
  | .hbm, ⟨15, _⟩ => ⟨S624x1024, .f32⟩
  | .hbm, ⟨16, _⟩ => ⟨S624x1024, .f32⟩
  | .hbm, ⟨17, _⟩ => ⟨S_, .f32⟩
  | .hbm, ⟨18, _⟩ => ⟨S624x1024, .f32⟩
  | .hbm, ⟨19, _⟩ => ⟨S624x1024, .f32⟩
  | .hbm, ⟨20, _⟩ => ⟨S624x1024, .f32⟩
  | .hbm, ⟨21, _⟩ => ⟨S_, .f32⟩
  | .hbm, ⟨22, _⟩ => ⟨S624x1024, .f32⟩
  | .hbm, ⟨23, _⟩ => ⟨S624x1024, .f32⟩
  | .hbm, ⟨24, _⟩ => ⟨S_, .f32⟩
  | .hbm, ⟨25, _⟩ => ⟨S624x1024, .f32⟩
  | .hbm, ⟨26, _⟩ => ⟨S624x1024, .f32⟩
  | .hbm, ⟨27, _⟩ => ⟨S624x1024, .f32⟩
  | .hbm, ⟨28, _⟩ => ⟨S_, .f32⟩
  | .hbm, ⟨29, _⟩ => ⟨S624x1024, .f32⟩
  | .hbm, ⟨30, _⟩ => ⟨S624x1024, .f32⟩
  | .hbm, ⟨31, _⟩ => ⟨S624x1024, .f32⟩
  | .hbm, ⟨32, _⟩ => ⟨S_, .f32⟩
  | .hbm, ⟨33, _⟩ => ⟨S624x1024, .f32⟩
  | .hbm, ⟨34, _⟩ => ⟨S624x1024, .f32⟩
  | .hbm, ⟨35, _⟩ => ⟨S624x1024, .f32⟩
  | .hbm, ⟨36, _⟩ => ⟨S_, .f32⟩
  | .hbm, ⟨37, _⟩ => ⟨S624x1024, .f32⟩
  | .hbm, ⟨38, _⟩ => ⟨S624x1024, .f32⟩
  | _, _ => ⟨S624x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel26.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x128, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference26Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel27.lean ====
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .hbm, ⟨3, _⟩ => ⟨S1024, .f32⟩
  | .hbm, ⟨4, _⟩ => ⟨S1x1024, .f32⟩
  | .hbm, ⟨5, _⟩ => ⟨S256x1024, .f32⟩
  | .hbm, ⟨6, _⟩ => ⟨S256x1024, .bf16⟩
  | .hbm, ⟨7, _⟩ => ⟨S1x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .bf16⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32_18 : BitVec 32 := 0#32
  let v38 : BitVec 1 := Scalar.cmpi .sgt arg0 c0_i32_18
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference27Ideal.lean ====
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S1024x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S1024, .f32⟩
  | .hbm, ⟨35, _⟩ => ⟨S256x1024, .f32⟩
  | .hbm, ⟨36, _⟩ => ⟨S_, .f32⟩
  | .hbm, ⟨37, _⟩ => ⟨S256, .f32⟩
  | .hbm, ⟨38, _⟩ => ⟨S256x1, .f32⟩
  | .hbm, ⟨39, _⟩ => ⟨S256x1024, .f32⟩
  | .hbm, ⟨40, _⟩ => ⟨S256x1024, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S_, .f32⟩
  | .hbm, ⟨46, _⟩ => ⟨S256, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S256x1024, .bf16⟩
  | .hbm, ⟨53, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel28.lean ====
abbrev S256x1024 : Shape := ⟨2, ![256, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .bf16⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | .local _ .vmem, ⟨3, _⟩ => ⟨S1024x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference28Ideal.lean ====
abbrev S256x1024 : Shape := ⟨2, ![256, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel29.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference29Ideal.lean ====
abbrev S256x1024 : Shape := ⟨2, ![256, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel30.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel30Ideal.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference30Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel31.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference31Ideal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel32.lean ====
abbrev S4x704x1024 : Shape := ⟨3, ![4, 704, 1024]⟩
abbrev S2816x1024 : Shape := ⟨2, ![2816, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S2816x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S4x352x1024, .bf16⟩
  | .local _ .vmem, ⟨3, _⟩ => ⟨S4x352x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S4x352x1024, .bf16⟩
  | .local _ .vmem, ⟨7, _⟩ => ⟨S4x352x1024, .bf16⟩
  | .local _ .vmem, ⟨8, _⟩ => ⟨S352x1024, .f32⟩
  | .local _ .vmem, ⟨9, _⟩ => ⟨S352x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel32Ideal.lean ====
abbrev S4x704x1024 : Shape := ⟨3, ![4, 704, 1024]⟩
abbrev S2816x1024 : Shape := ⟨2, ![2816, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S2816x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S4x352x1024, .bf16⟩
  | .local _ .vmem, ⟨3, _⟩ => ⟨S4x352x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S4x352x1024, .bf16⟩
  | .local _ .vmem, ⟨7, _⟩ => ⟨S4x352x1024, .bf16⟩
  | .local _ .vmem, ⟨8, _⟩ => ⟨S352x1024, .f32⟩
  | .local _ .vmem, ⟨9, _⟩ => ⟨S352x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference32Ideal.lean ====
abbrev S4x704x1024 : Shape := ⟨3, ![4, 704, 1024]⟩
abbrev S_ : Shape := ⟨0, ![]⟩
abbrev S704x1024 : Shape := ⟨2, ![704, 1024]⟩
abbrev S2816x1024 : Shape := ⟨2, ![2816, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .bf16⟩
  | .hbm, ⟨2, _⟩ => ⟨S4x704x1024, .bf16⟩
  | .hbm, ⟨3, _⟩ => ⟨S4x704x1024, .bf16⟩
  | .hbm, ⟨4, _⟩ => ⟨S4x704x1024, .f32⟩
  | .hbm, ⟨5, _⟩ => ⟨S_, .f32⟩
  | .hbm, ⟨6, _⟩ => ⟨S704x1024, .f32⟩
  | .hbm, ⟨7, _⟩ => ⟨S4x704x1024, .f32⟩
  | .hbm, ⟨8, _⟩ => ⟨S_, .f32⟩
  | .hbm, ⟨9, _⟩ => ⟨S704x1024, .f32⟩
  | .hbm, ⟨10, _⟩ => ⟨S4x704x1024, .f32⟩
  | .hbm, ⟨11, _⟩ => ⟨S_, .f32⟩
  | .hbm, ⟨12, _⟩ => ⟨S704x1024, .f32⟩
  | .hbm, ⟨13, _⟩ => ⟨S4x704x1024, .f32⟩
  | .hbm, ⟨14, _⟩ => ⟨S_, .f32⟩
  | .hbm, ⟨15, _⟩ => ⟨S704x1024, .f32⟩
  | .hbm, ⟨16, _⟩ => ⟨S2816x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Kernel33.lean ====
abbrev S4x1600x1024 : Shape := ⟨3, ![4, 1600, 1024]⟩
abbrev S6400x1024 : Shape := ⟨2, ![6400, 1024]⟩
abbrev S4x400x1024 : Shape := ⟨3, ![4, 400, 1024]⟩
abbrev S400x1024 : Shape := ⟨2, ![400, 1024]⟩
abbrev S1x400x1024 : Shape := ⟨3, ![1, 400, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4x1600x1024, .bf16⟩
  | .hbm, ⟨1, _⟩ => ⟨S4x1600x1024, .bf16⟩
  | .hbm, ⟨2, _⟩ => ⟨S4x1600x1024, .bf16⟩
  | .hbm, ⟨3, _⟩ => ⟨S4x1600x1024, .bf16⟩
  | .hbm, ⟨4, _⟩ => ⟨S6400x1024, .f32⟩
  | .local _ .vmem, ⟨0, _⟩ => ⟨S4x400x1024, .bf16⟩
  | .local _ .vmem, ⟨1, _⟩ => ⟨S4x400x1024, .bf16⟩
  | .local _ .vmem, ⟨2, _⟩ => ⟨S4x400x1024, .bf16⟩
  | .local _ .vmem, ⟨3, _⟩ => ⟨S4x400x1024, .bf16⟩
  | .local _ .vmem, ⟨4, _⟩ => ⟨S4x400x1024, .bf16⟩
  | .local _ .vmem, ⟨5, _⟩ => ⟨S4x400x1024, .bf16⟩
  | .local _ .vmem, ⟨6, _⟩ => ⟨S4x400x1024, .bf16⟩
  | .local _ .vmem, ⟨7, _⟩ => ⟨S4x400x1024, .bf16⟩
  | .local _ .vmem, ⟨8, _⟩ => ⟨S400x1024, .f32⟩
  | .local _ .vmem, ⟨9, _⟩ => ⟨S400x1024, .f32⟩
  | _, _ => ⟨S4x1600x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x400x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x400x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x400x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x400x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S400x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel33Ideal.lean ====
abbrev S4x1600x1024 : Shape := ⟨3, ![4, 1600, 1024]⟩
abbrev S6400x1024 : Shape := ⟨2, ![6400, 1024]⟩
abbrev S4x400x1024 : Shape := ⟨3, ![4, 400, 1024]⟩
abbrev S400x1024 : Shape := ⟨2, ![400, 1024]⟩
abbrev S1x400x1024 : Shape := ⟨3, ![1, 400, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4x1600x1024, .bf16⟩
  | .hbm, ⟨1, _⟩ => ⟨S4x1600x1024, .bf16⟩
  | .hbm, ⟨2, _⟩ => ⟨S4x1600x1024, .bf16⟩
  | .hbm, ⟨3, _⟩ => ⟨S4x1600x1024, .bf16⟩
  | .hbm, ⟨4, _⟩ => ⟨S6400x1024, .f32⟩
  | .local _ .vmem, ⟨0, _⟩ => ⟨S4x400x1024, .bf16⟩
  | .local _ .vmem, ⟨1, _⟩ => ⟨S4x400x1024, .bf16⟩
  | .local _ .vmem, ⟨2, _⟩ => ⟨S4x400x1024, .bf16⟩
  | .local _ .vmem, ⟨3, _⟩ => ⟨S4x400x1024, .bf16⟩
  | .local _ .vmem, ⟨4, _⟩ => ⟨S4x400x1024, .bf16⟩
  | .local _ .vmem, ⟨5, _⟩ => ⟨S4x400x1024, .bf16⟩
  | .local _ .vmem, ⟨6, _⟩ => ⟨S4x400x1024, .bf16⟩
  | .local _ .vmem, ⟨7, _⟩ => ⟨S4x400x1024, .bf16⟩
  | .local _ .vmem, ⟨8, _⟩ => ⟨S400x1024, .f32⟩
  | .local _ .vmem, ⟨9, _⟩ => ⟨S400x1024, .f32⟩
  | _, _ => ⟨S4x1600x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x400x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x400x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x400x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x400x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S400x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference33Ideal.lean ====
abbrev S4x1600x1024 : Shape := ⟨3, ![4, 1600, 1024]⟩
abbrev S_ : Shape := ⟨0, ![]⟩
abbrev S1600x1024 : Shape := ⟨2, ![1600, 1024]⟩
abbrev S6400x1024 : Shape := ⟨2, ![6400, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x1600x1024, .bf16⟩
  | .hbm, ⟨1, _⟩ => ⟨S4x1600x1024, .bf16⟩
  | .hbm, ⟨2, _⟩ => ⟨S4x1600x1024, .bf16⟩
  | .hbm, ⟨3, _⟩ => ⟨S4x1600x1024, .bf16⟩
  | .hbm, ⟨4, _⟩ => ⟨S4x1600x1024, .f32⟩
  | .hbm, ⟨5, _⟩ => ⟨S_, .f32⟩
  | .hbm, ⟨6, _⟩ => ⟨S1600x1024, .f32⟩
  | .hbm, ⟨7, _⟩ => ⟨S4x1600x1024, .f32⟩
  | .hbm, ⟨8, _⟩ => ⟨S_, .f32⟩
  | .hbm, ⟨9, _⟩ => ⟨S1600x1024, .f32⟩
  | .hbm, ⟨10, _⟩ => ⟨S4x1600x1024, .f32⟩
  | .hbm, ⟨11, _⟩ => ⟨S_, .f32⟩
  | .hbm, ⟨12, _⟩ => ⟨S1600x1024, .f32⟩
  | .hbm, ⟨13, _⟩ => ⟨S4x1600x1024, .f32⟩
  | .hbm, ⟨14, _⟩ => ⟨S_, .f32⟩
  | .hbm, ⟨15, _⟩ => ⟨S1600x1024, .f32⟩
  | .hbm, ⟨16, _⟩ => ⟨S6400x1024, .f32⟩
  | _, _ => ⟨S4x1600x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Kernel34.lean ====
abbrev S4x256x1024 : Shape := ⟨3, ![4, 256, 1024]⟩
abbrev S1024x1024 : Shape := ⟨2, ![1024, 1024]⟩
abbrev S256x1024 : Shape := ⟨2, ![256, 1024]⟩
abbrev S1x256x1024 : Shape := ⟨3, ![1, 256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S4x256x1024, .bf16⟩
  | .hbm, ⟨3, _⟩ => ⟨S4x256x1024, .bf16⟩
  | .hbm, ⟨4, _⟩ => ⟨S1024x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .bf16⟩
  | .local _ .vmem, ⟨7, _⟩ => ⟨S4x256x1024, .bf16⟩
  | .local _ .vmem, ⟨8, _⟩ => ⟨S256x1024, .f32⟩
  | .local _ .vmem, ⟨9, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel34Ideal.lean ====
abbrev S4x256x1024 : Shape := ⟨3, ![4, 256, 1024]⟩
abbrev S1024x1024 : Shape := ⟨2, ![1024, 1024]⟩
abbrev S256x1024 : Shape := ⟨2, ![256, 1024]⟩
abbrev S1x256x1024 : Shape := ⟨3, ![1, 256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S4x256x1024, .bf16⟩
  | .hbm, ⟨3, _⟩ => ⟨S4x256x1024, .bf16⟩
  | .hbm, ⟨4, _⟩ => ⟨S1024x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .bf16⟩
  | .local _ .vmem, ⟨7, _⟩ => ⟨S4x256x1024, .bf16⟩
  | .local _ .vmem, ⟨8, _⟩ => ⟨S256x1024, .f32⟩
  | .local _ .vmem, ⟨9, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference34Ideal.lean ====
abbrev S4x256x1024 : Shape := ⟨3, ![4, 256, 1024]⟩
abbrev S_ : Shape := ⟨0, ![]⟩
abbrev S256x1024 : Shape := ⟨2, ![256, 1024]⟩
abbrev S1024x1024 : Shape := ⟨2, ![1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S4x256x1024, .bf16⟩
  | .hbm, ⟨3, _⟩ => ⟨S4x256x1024, .bf16⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S4x256x1024, .f32⟩
  | .hbm, ⟨8, _⟩ => ⟨S_, .f32⟩
  | .hbm, ⟨9, _⟩ => ⟨S256x1024, .f32⟩
  | .hbm, ⟨10, _⟩ => ⟨S4x256x1024, .f32⟩
  | .hbm, ⟨11, _⟩ => ⟨S_, .f32⟩
  | .hbm, ⟨12, _⟩ => ⟨S256x1024, .f32⟩
  | .hbm, ⟨13, _⟩ => ⟨S4x256x1024, .f32⟩
  | .hbm, ⟨14, _⟩ => ⟨S_, .f32⟩
  | .hbm, ⟨15, _⟩ => ⟨S256x1024, .f32⟩
  | .hbm, ⟨16, _⟩ => ⟨S1024x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Kernel35.lean ====
abbrev S4x256x512 : Shape := ⟨3, ![4, 256, 512]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 5
  | .vmem => 10
  | .smem => 0
  | _ => 0

abbrev bufTy : (tb : Table) → Fin (tcTables nBuf tb) → BufTy
  | .hbm, ⟨0, _⟩ => ⟨S4x256x512, .bf16⟩
  | .hbm, ⟨1, _⟩ => ⟨S4x256x512, .bf16⟩
  | .hbm, ⟨2, _⟩ => ⟨S4x256x512, .bf16⟩
  | .hbm, ⟨3, _⟩ => ⟨S4x256x512, .bf16⟩
  | .hbm, ⟨4, _⟩ => ⟨S1024x512, .f32⟩
  | .local _ .vmem, ⟨0, _⟩ => ⟨S4x256x512, .bf16⟩
  | .local _ .vmem, ⟨1, _⟩ => ⟨S4x256x512, .bf16⟩
  | .local _ .vmem, ⟨2, _⟩ => ⟨S4x256x512, .bf16⟩
  | .local _ .vmem, ⟨3, _⟩ => ⟨S4x256x512, .bf16⟩
  | .local _ .vmem, ⟨4, _⟩ => ⟨S4x256x512, .bf16⟩
  | .local _ .vmem, ⟨5, _⟩ => ⟨S4x256x512, .bf16⟩
  | .local _ .vmem, ⟨6, _⟩ => ⟨S4x256x512, .bf16⟩
  | .local _ .vmem, ⟨7, _⟩ => ⟨S4x256x512, .bf16⟩
  | .local _ .vmem, ⟨8, _⟩ => ⟨S256x512, .f32⟩
  | .local _ .vmem, ⟨9, _⟩ => ⟨S256x512, .f32⟩
  | _, _ => ⟨S4x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference35Ideal.lean ====
abbrev S4x256x512 : Shape := ⟨3, ![4, 256, 512]⟩
abbrev S_ : Shape := ⟨0, ![]⟩
abbrev S256x512 : Shape := ⟨2, ![256, 512]⟩
abbrev S1024x512 : Shape := ⟨2, ![1024, 512]⟩

abbrev nBuf : Space → Nat
  | .hbm => 17
  | .vmem => 0
  | .smem => 0
  | _ => 0

abbrev bufTy : (tb : Table) → Fin (tcTables nBuf tb) → BufTy
  | .hbm, ⟨0, _⟩ => ⟨S4x256x512, .bf16⟩
  | .hbm, ⟨1, _⟩ => ⟨S4x256x512, .bf16⟩
  | .hbm, ⟨2, _⟩ => ⟨S4x256x512, .bf16⟩
  | .hbm, ⟨3, _⟩ => ⟨S4x256x512, .bf16⟩
  | .hbm, ⟨4, _⟩ => ⟨S4x256x512, .f32⟩
  | .hbm, ⟨5, _⟩ => ⟨S_, .f32⟩
  | .hbm, ⟨6, _⟩ => ⟨S256x512, .f32⟩
  | .hbm, ⟨7, _⟩ => ⟨S4x256x512, .f32⟩
  | .hbm, ⟨8, _⟩ => ⟨S_, .f32⟩
  | .hbm, ⟨9, _⟩ => ⟨S256x512, .f32⟩
  | .hbm, ⟨10, _⟩ => ⟨S4x256x512, .f32⟩
  | .hbm, ⟨11, _⟩ => ⟨S_, .f32⟩
  | .hbm, ⟨12, _⟩ => ⟨S256x512, .f32⟩
  | .hbm, ⟨13, _⟩ => ⟨S4x256x512, .f32⟩
  | .hbm, ⟨14, _⟩ => ⟨S_, .f32⟩
  | .hbm, ⟨15, _⟩ => ⟨S256x512, .f32⟩
  | .hbm, ⟨16, _⟩ => ⟨S1024x512, .f32⟩
  | _, _ => ⟨S4x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Kernel36.lean ====
abbrev S8192x1024 : Shape := ⟨2, ![8192, 1024]⟩
abbrev S4x1024 : Shape := ⟨2, ![4, 1024]⟩
abbrev S1024 : Shape := ⟨1, ![1024]⟩
abbrev S16x64x64 : Shape := ⟨3, ![16, 64, 64]⟩
abbrev S1x1024 : Shape := ⟨2, ![1, 1024]⟩
abbrev S_ : Shape := ⟨0, ![]⟩
abbrev S8x64x64 : Shape := ⟨3, ![8, 64, 64]⟩
abbrev S8x64x128 : Shape := ⟨3, ![8, 64, 128]⟩
abbrev S8x128x128 : Shape := ⟨3, ![8, 128, 128]⟩
abbrev S8x1024 : Shape := ⟨2, ![8, 1024]⟩
abbrev S256x1024 : Shape := ⟨2, ![256, 1024]⟩
abbrev S264x1024 : Shape := ⟨2, ![264, 1024]⟩
abbrev S256x128 : Shape := ⟨2, ![256, 128]⟩
abbrev S1x128x128 : Shape := ⟨3, ![1, 128, 128]⟩
abbrev S128x128 : Shape := ⟨2, ![128, 128]⟩
abbrev S256x1 : Shape := ⟨2, ![256, 1]⟩
abbrev S32x8x1024 : Shape := ⟨3, ![32, 8, 1024]⟩
abbrev S1x8x1 : Shape := ⟨3, ![1, 8, 1]⟩
abbrev S1x8x1024 : Shape := ⟨3, ![1, 8, 1024]⟩

abbrev nBuf : Space → Nat
  | .hbm => 46
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1024, .f32⟩
  | .hbm, ⟨3, _⟩ => ⟨S1024, .f32⟩
  | .hbm, ⟨4, _⟩ => ⟨S16x64x64, .f32⟩
  | .hbm, ⟨5, _⟩ => ⟨S1024, .f32⟩
  | .hbm, ⟨6, _⟩ => ⟨S16x64x64, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S_, .f32⟩
  | .hbm, ⟨11, _⟩ => ⟨S8x64x64, .f32⟩
  | .hbm, ⟨12, _⟩ => ⟨S8x64x64, .f32⟩
  | .hbm, ⟨13, _⟩ => ⟨S8x64x128, .f32⟩
  | .hbm, ⟨14, _⟩ => ⟨S8x64x64, .f32⟩
  | .hbm, ⟨15, _⟩ => ⟨S8x64x128, .f32⟩
  | .hbm, ⟨16, _⟩ => ⟨S8x128x128, .f32⟩
  | .hbm, ⟨17, _⟩ => ⟨S8x128x128, .bf16⟩
  | .hbm, ⟨18, _⟩ => ⟨S1x1024, .f32⟩
  | .hbm, ⟨19, _⟩ => ⟨S_, .f32⟩
  | .hbm, ⟨20, _⟩ => ⟨S8x64x64, .f32⟩
  | .hbm, ⟨21, _⟩ => ⟨S8x64x64, .f32⟩
  | .hbm, ⟨22, _⟩ => ⟨S8x64x128, .f32⟩
  | .hbm, ⟨23, _⟩ => ⟨S8x64x64, .f32⟩
  | .hbm, ⟨24, _⟩ => ⟨S8x64x128, .f32⟩
  | .hbm, ⟨25, _⟩ => ⟨S8x128x128, .f32⟩
  | .hbm, ⟨26, _⟩ => ⟨S8x128x128, .bf16⟩
  | .hbm, ⟨27, _⟩ => ⟨S1x1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .i1⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .bf16⟩
  | .local _ .vmem, ⟨0, _⟩ => ⟨S8x1024, .f32⟩
  | .local _ .vmem, ⟨1, _⟩ => ⟨S8x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x1024, .f32⟩
  | .local _ .vmem, ⟨7, _⟩ => ⟨S1x1024, .f32⟩
  | .local _ .vmem, ⟨8, _⟩ => ⟨S8x128x128, .bf16⟩
  | .local _ .vmem, ⟨9, _⟩ => ⟨S1x1024, .f32⟩
  | .local _ .vmem, ⟨10, _⟩ => ⟨S8x128x128, .bf16⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_v18 : Ref sig .tc := ⟨.hbm, 42, rfl⟩
abbrev main_v19 : Ref sig .tc := ⟨.hbm, 43, rfl⟩
abbrev main_v20_0 : Ref sig .tc := ⟨.hbm, 44, rfl⟩
abbrev main_v20_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference36Ideal.lean ====
abbrev S8192x1024 : Shape := ⟨2, ![8192, 1024]⟩
abbrev S4x1024 : Shape := ⟨2, ![4, 1024]⟩
abbrev S1024 : Shape := ⟨1, ![1024]⟩
abbrev S16x64x64 : Shape := ⟨3, ![16, 64, 64]⟩
abbrev S_ : Shape := ⟨0, ![]⟩
abbrev S8195x1024 : Shape := ⟨2, ![8195, 1024]⟩
abbrev S1x1024 : Shape := ⟨2, ![1, 1024]⟩
abbrev S8192x16x64 : Shape := ⟨3, ![8192, 16, 64]⟩
abbrev S16x64x8192 : Shape := ⟨3, ![16, 64, 8192]⟩
abbrev S8192 : Shape := ⟨1, ![8192]⟩
abbrev S8192x1 : Shape := ⟨2, ![8192, 1]⟩
abbrev S4096x1024 : Shape := ⟨2, ![4096, 1024]⟩
abbrev S2048x1024 : Shape := ⟨2, ![2048, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S2x1024 : Shape := ⟨2, ![2, 1024]⟩
abbrev S0x1024 : Shape := ⟨2, ![0, 1024]⟩
abbrev S3x1024 : Shape := ⟨2, ![3, 1024]⟩
abbrev S7x1024 : Shape := ⟨2, ![7, 1024]⟩
abbrev S15x1024 : Shape := ⟨2, ![15, 1024]⟩
abbrev S31x1024 : Shape := ⟨2, ![31, 1024]⟩
abbrev S63x1024 : Shape := ⟨2, ![63, 1024]⟩
abbrev S127x1024 : Shape := ⟨2, ![127, 1024]⟩
abbrev S255x1024 : Shape := ⟨2, ![255, 1024]⟩
abbrev S511x1024 : Shape := ⟨2, ![511, 1024]⟩
abbrev S1023x1024 : Shape := ⟨2, ![1023, 1024]⟩
abbrev S2047x1024 : Shape := ⟨2, ![2047, 1024]⟩
abbrev S4095x1024 : Shape := ⟨2, ![4095, 1024]⟩

abbrev nBuf : Space → Nat
  | .hbm => 502
  | .vmem => 0
  | .smem => 0
  | _ => 0

abbrev hbmTy0_0 (i : Nat) : BufTy := match i % 128 with
  | 0 => ⟨S8192x1024, .f32⟩
  | 1 => ⟨S8192x1024, .f32⟩
  | 2 => ⟨S4x1024, .f32⟩
  | 3 => ⟨S1024, .f32⟩
  | 4 => ⟨S16x64x64, .f32⟩
  | 5 => ⟨S1024, .f32⟩
  | 6 => ⟨S16x64x64, .f32⟩
  | 7 => ⟨S1024, .f32⟩
  | 8 => ⟨S1024, .f32⟩
  | 9 => ⟨S_, .i32⟩
  | 10 => ⟨S_, .f32⟩
  | 11 => ⟨S8195x1024, .f32⟩
  | 12 => ⟨S1x1024, .f32⟩
  | 13 => ⟨S1024, .f32⟩
  | 14 => ⟨S8192x1024, .f32⟩
  | 15 => ⟨S1x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S1x1024, .f32⟩
  | 22 => ⟨S1024, .f32⟩
  | 23 => ⟨S8192x1024, .f32⟩
  | 24 => ⟨S1x1024, .f32⟩
  | 25 => ⟨S8192x1024, .f32⟩
  | 26 => ⟨S8192x1024, .f32⟩
  | 27 => ⟨S8192x1024, .f32⟩
  | 28 => ⟨S1x1024, .f32⟩
  | 29 => ⟨S1024, .f32⟩
  | 30 => ⟨S8192x1024, .f32⟩
  | 31 => ⟨S1x1024, .f32⟩
  | 32 => ⟨S8192x1024, .f32⟩
  | 33 => ⟨S8192x1024, .f32⟩
  | 34 => ⟨S8192x1024, .f32⟩
  | 35 => ⟨S1x1024, .f32⟩
  | 36 => ⟨S1024, .f32⟩
  | 37 => ⟨S8192x1024, .f32⟩
  | 38 => ⟨S1x1024, .f32⟩
  | 39 => ⟨S8192x1024, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S8192x16x64, .f32⟩
  | 46 => ⟨S16x64x8192, .f32⟩
  | 47 => ⟨S8192x16x64, .f32⟩
  | 48 => ⟨S8192x1024, .f32⟩
  | 49 => ⟨S1x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S16x64x8192, .f32⟩
  | 61 => ⟨S8192x16x64, .f32⟩
  | 62 => ⟨S8192x1024, .f32⟩
  | 63 => ⟨S1x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S1024, .f32⟩
  | 78 => ⟨S_, .f32⟩
  | 79 => ⟨S1024, .f32⟩
  | 80 => ⟨S1024, .f32⟩
  | 81 => ⟨S1024, .f32⟩
  | 82 => ⟨S1024, .f32⟩
  | 83 => ⟨S1024, .i1⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1x1024, .f32⟩
  | 93 => ⟨S8192x1024, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S_, .f32⟩
  | 104 => ⟨S8192x1024, .f32⟩
  | 105 => ⟨S8192x1024, .f32⟩
  | 106 => ⟨S8192x1024, .f32⟩
  | 107 => ⟨S8192, .i32⟩
  | 108 => ⟨S8192x1, .i32⟩
  | 109 => ⟨S_, .i32⟩
  | 110 => ⟨S8192x1, .i32⟩
  | 111 => ⟨S8192x1, .i1⟩
  | 112 => ⟨S_, .f32⟩
  | 113 => ⟨S_, .f32⟩
  | 114 => ⟨S8192x1024, .i1⟩
  | 115 => ⟨S8192x1024, .f32⟩
  | 116 => ⟨S8192x1024, .f32⟩
  | 117 => ⟨S8192x1024, .f32⟩
  | 118 => ⟨S8192x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S2048x1024, .f32⟩
  | 127 => ⟨S2048x1024, .f32⟩
  | _ => ⟨S8192x1024, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S2048x1024, .f32⟩
  | 5 => ⟨S1024x1024, .f32⟩
  | 6 => ⟨S1024x1024, .f32⟩
  | 7 => ⟨S1024x1024, .f32⟩
  | 8 => ⟨S1024x1024, .f32⟩
  | 9 => ⟨S1024x1024, .f32⟩
  | 10 => ⟨S1024x1024, .f32⟩
  | 11 => ⟨S1024x1024, .f32⟩
  | 12 => ⟨S512x1024, .f32⟩
  | 13 => ⟨S512x1024, .f32⟩
  | 14 => ⟨S512x1024, .f32⟩
  | 15 => ⟨S512x1024, .f32⟩
  | 16 => ⟨S512x1024, .f32⟩
  | 17 => ⟨S512x1024, .f32⟩
  | 18 => ⟨S512x1024, .f32⟩
  | 19 => ⟨S256x1024, .f32⟩
  | 20 => ⟨S256x1024, .f32⟩
  | 21 => ⟨S256x1024, .f32⟩
  | 22 => ⟨S256x1024, .f32⟩
  | 23 => ⟨S256x1024, .f32⟩
  | 24 => ⟨S256x1024, .f32⟩
  | 25 => ⟨S256x1024, .f32⟩
  | 26 => ⟨S128x1024, .f32⟩
  | 27 => ⟨S128x1024, .f32⟩
  | 28 => ⟨S128x1024, .f32⟩
  | 29 => ⟨S128x1024, .f32⟩
  | 30 => ⟨S128x1024, .f32⟩
  | 31 => ⟨S128x1024, .f32⟩
  | 32 => ⟨S128x1024, .f32⟩
  | 33 => ⟨S64x1024, .f32⟩
  | 34 => ⟨S64x1024, .f32⟩
  | 35 => ⟨S64x1024, .f32⟩
  | 36 => ⟨S64x1024, .f32⟩
  | 37 => ⟨S64x1024, .f32⟩
  | 38 => ⟨S64x1024, .f32⟩
  | 39 => ⟨S64x1024, .f32⟩
  | 40 => ⟨S32x1024, .f32⟩
  | 41 => ⟨S32x1024, .f32⟩
  | 42 => ⟨S32x1024, .f32⟩
  | 43 => ⟨S32x1024, .f32⟩
  | 44 => ⟨S32x1024, .f32⟩
  | 45 => ⟨S32x1024, .f32⟩
  | 46 => ⟨S32x1024, .f32⟩
  | 47 => ⟨S16x1024, .f32⟩
  | 48 => ⟨S16x1024, .f32⟩
  | 49 => ⟨S16x1024, .f32⟩
  | 50 => ⟨S16x1024, .f32⟩
  | 51 => ⟨S16x1024, .f32⟩
  | 52 => ⟨S16x1024, .f32⟩
  | 53 => ⟨S16x1024, .f32⟩
  | 54 => ⟨S8x1024, .f32⟩
  | 55 => ⟨S8x1024, .f32⟩
  | 56 => ⟨S8x1024, .f32⟩
  | 57 => ⟨S8x1024, .f32⟩
  | 58 => ⟨S8x1024, .f32⟩
  | 59 => ⟨S8x1024, .f32⟩
  | 60 => ⟨S8x1024, .f32⟩
  | 61 => ⟨S4x1024, .f32⟩
  | 62 => ⟨S4x1024, .f32⟩
  | 63 => ⟨S4x1024, .f32⟩
  | 64 => ⟨S4x1024, .f32⟩
  | 65 => ⟨S4x1024, .f32⟩
  | 66 => ⟨S4x1024, .f32⟩
  | 67 => ⟨S4x1024, .f32⟩
  | 68 => ⟨S2x1024, .f32⟩
  | 69 => ⟨S2x1024, .f32⟩
  | 70 => ⟨S2x1024, .f32⟩
  | 71 => ⟨S2x1024, .f32⟩
  | 72 => ⟨S2x1024, .f32⟩
  | 73 => ⟨S2x1024, .f32⟩
  | 74 => ⟨S2x1024, .f32⟩
  | 75 => ⟨S1x1024, .f32⟩
  | 76 => ⟨S1x1024, .f32⟩
  | 77 => ⟨S1x1024, .f32⟩
  | 78 => ⟨S1x1024, .f32⟩
  | 79 => ⟨S1x1024, .f32⟩
  | 80 => ⟨S1x1024, .f32⟩
  | 81 => ⟨S1x1024, .f32⟩
  | 82 => ⟨S0x1024, .f32⟩
  | 83 => ⟨S0x1024, .f32⟩
  | 84 => ⟨S0x1024, .f32⟩
  | 85 => ⟨S0x1024, .f32⟩
  | 86 => ⟨S0x1024, .f32⟩
  | 87 => ⟨S0x1024, .f32⟩
  | 88 => ⟨S0x1024, .f32⟩
  | 89 => ⟨S1x1024, .f32⟩
  | 90 => ⟨S1x1024, .f32⟩
  | 91 => ⟨S1x1024, .f32⟩
  | 92 => ⟨S1x1024, .f32⟩
  | 93 => ⟨S_, .f32⟩
  | 94 => ⟨S2x1024, .f32⟩
  | 95 => ⟨S_, .f32⟩
  | 96 => ⟨S2x1024, .f32⟩
  | 97 => ⟨S2x1024, .f32⟩
  | 98 => ⟨S_, .f32⟩
  | 99 => ⟨S2x1024, .f32⟩
  | 100 => ⟨S_, .f32⟩
  | 101 => ⟨S2x1024, .f32⟩
  | 102 => ⟨S2x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S2x1024, .f32⟩
  | 112 => ⟨S1x1024, .f32⟩
  | 113 => ⟨S2x1024, .f32⟩
  | 114 => ⟨S_, .f32⟩
  | 115 => ⟨S4x1024, .f32⟩
  | 116 => ⟨S_, .f32⟩
  | 117 => ⟨S4x1024, .f32⟩
  | 118 => ⟨S4x1024, .f32⟩
  | 119 => ⟨S_, .f32⟩
  | 120 => ⟨S4x1024, .f32⟩
  | 121 => ⟨S_, .f32⟩
  | 122 => ⟨S4x1024, .f32⟩
  | 123 => ⟨S4x1024, .f32⟩
  | 124 => ⟨S3x1024, .f32⟩
  | 125 => ⟨S3x1024, .f32⟩
  | 126 => ⟨S3x1024, .f32⟩
  | 127 => ⟨S3x1024, .f32⟩
  | _ => ⟨S8192x1024, .f32⟩

abbrev hbmTy0_2 (i : Nat) : BufTy := match i % 128 with
  | 0 => ⟨S3x1024, .f32⟩
  | 1 => ⟨S3x1024, .f32⟩
  | 2 => ⟨S3x1024, .f32⟩
  | 3 => ⟨S1x1024, .f32⟩
  | 4 => ⟨S4x1024, .f32⟩
  | 5 => ⟨S1x1024, .f32⟩
  | 6 => ⟨S4x1024, .f32⟩
  | 7 => ⟨S_, .f32⟩
  | 8 => ⟨S8x1024, .f32⟩
  | 9 => ⟨S_, .f32⟩
  | 10 => ⟨S8x1024, .f32⟩
  | 11 => ⟨S8x1024, .f32⟩
  | 12 => ⟨S_, .f32⟩
  | 13 => ⟨S8x1024, .f32⟩
  | 14 => ⟨S_, .f32⟩
  | 15 => ⟨S8x1024, .f32⟩
  | 16 => ⟨S8x1024, .f32⟩
  | 17 => ⟨S7x1024, .f32⟩
  | 18 => ⟨S7x1024, .f32⟩
  | 19 => ⟨S7x1024, .f32⟩
  | 20 => ⟨S7x1024, .f32⟩
  | 21 => ⟨S7x1024, .f32⟩
  | 22 => ⟨S7x1024, .f32⟩
  | 23 => ⟨S7x1024, .f32⟩
  | 24 => ⟨S1x1024, .f32⟩
  | 25 => ⟨S8x1024, .f32⟩
  | 26 => ⟨S1x1024, .f32⟩
  | 27 => ⟨S8x1024, .f32⟩
  | 28 => ⟨S_, .f32⟩
  | 29 => ⟨S16x1024, .f32⟩
  | 30 => ⟨S_, .f32⟩
  | 31 => ⟨S16x1024, .f32⟩
  | 32 => ⟨S16x1024, .f32⟩
  | 33 => ⟨S_, .f32⟩
  | 34 => ⟨S16x1024, .f32⟩
  | 35 => ⟨S_, .f32⟩
  | 36 => ⟨S16x1024, .f32⟩
  | 37 => ⟨S16x1024, .f32⟩
  | 38 => ⟨S15x1024, .f32⟩
  | 39 => ⟨S15x1024, .f32⟩
  | 40 => ⟨S15x1024, .f32⟩
  | 41 => ⟨S15x1024, .f32⟩
  | 42 => ⟨S15x1024, .f32⟩
  | 43 => ⟨S15x1024, .f32⟩
  | 44 => ⟨S15x1024, .f32⟩
  | 45 => ⟨S1x1024, .f32⟩
  | 46 => ⟨S16x1024, .f32⟩
  | 47 => ⟨S1x1024, .f32⟩
  | 48 => ⟨S16x1024, .f32⟩
  | 49 => ⟨S_, .f32⟩
  | 50 => ⟨S32x1024, .f32⟩
  | 51 => ⟨S_, .f32⟩
  | 52 => ⟨S32x1024, .f32⟩
  | 53 => ⟨S32x1024, .f32⟩
  | 54 => ⟨S_, .f32⟩
  | 55 => ⟨S32x1024, .f32⟩
  | 56 => ⟨S_, .f32⟩
  | 57 => ⟨S32x1024, .f32⟩
  | 58 => ⟨S32x1024, .f32⟩
  | 59 => ⟨S31x1024, .f32⟩
  | 60 => ⟨S31x1024, .f32⟩
  | 61 => ⟨S31x1024, .f32⟩
  | 62 => ⟨S31x1024, .f32⟩
  | 63 => ⟨S31x1024, .f32⟩
  | 64 => ⟨S31x1024, .f32⟩
  | 65 => ⟨S31x1024, .f32⟩
  | 66 => ⟨S1x1024, .f32⟩
  | 67 => ⟨S32x1024, .f32⟩
  | 68 => ⟨S1x1024, .f32⟩
  | 69 => ⟨S32x1024, .f32⟩
  | 70 => ⟨S_, .f32⟩
  | 71 => ⟨S64x1024, .f32⟩
  | 72 => ⟨S_, .f32⟩
  | 73 => ⟨S64x1024, .f32⟩
  | 74 => ⟨S64x1024, .f32⟩
  | 75 => ⟨S_, .f32⟩
  | 76 => ⟨S64x1024, .f32⟩
  | 77 => ⟨S_, .f32⟩
  | 78 => ⟨S64x1024, .f32⟩
  | 79 => ⟨S64x1024, .f32⟩
  | 80 => ⟨S63x1024, .f32⟩
  | 81 => ⟨S63x1024, .f32⟩
  | 82 => ⟨S63x1024, .f32⟩
  | 83 => ⟨S63x1024, .f32⟩
  | 84 => ⟨S63x1024, .f32⟩
  | 85 => ⟨S63x1024, .f32⟩
  | 86 => ⟨S63x1024, .f32⟩
  | 87 => ⟨S1x1024, .f32⟩
  | 88 => ⟨S64x1024, .f32⟩
  | 89 => ⟨S1x1024, .f32⟩
  | 90 => ⟨S64x1024, .f32⟩
  | 91 => ⟨S_, .f32⟩
  | 92 => ⟨S128x1024, .f32⟩
  | 93 => ⟨S_, .f32⟩
  | 94 => ⟨S128x1024, .f32⟩
  | 95 => ⟨S128x1024, .f32⟩
  | 96 => ⟨S_, .f32⟩
  | 97 => ⟨S128x1024, .f32⟩
  | 98 => ⟨S_, .f32⟩
  | 99 => ⟨S128x1024, .f32⟩
  | 100 => ⟨S128x1024, .f32⟩
  | 101 => ⟨S127x1024, .f32⟩
  | 102 => ⟨S127x1024, .f32⟩
  | 103 => ⟨S127x1024, .f32⟩
  | 104 => ⟨S127x1024, .f32⟩
  | 105 => ⟨S127x1024, .f32⟩
  | 106 => ⟨S127x1024, .f32⟩
  | 107 => ⟨S127x1024, .f32⟩
  | 108 => ⟨S1x1024, .f32⟩
  | 109 => ⟨S128x1024, .f32⟩
  | 110 => ⟨S1x1024, .f32⟩
  | 111 => ⟨S128x1024, .f32⟩
  | 112 => ⟨S_, .f32⟩
  | 113 => ⟨S256x1024, .f32⟩
  | 114 => ⟨S_, .f32⟩
  | 115 => ⟨S256x1024, .f32⟩
  | 116 => ⟨S256x1024, .f32⟩
  | 117 => ⟨S_, .f32⟩
  | 118 => ⟨S256x1024, .f32⟩
  | 119 => ⟨S_, .f32⟩
  | 120 => ⟨S256x1024, .f32⟩
  | 121 => ⟨S256x1024, .f32⟩
  | 122 => ⟨S255x1024, .f32⟩
  | 123 => ⟨S255x1024, .f32⟩
  | 124 => ⟨S255x1024, .f32⟩
  | 125 => ⟨S255x1024, .f32⟩
  | 126 => ⟨S255x1024, .f32⟩
  | 127 => ⟨S255x1024, .f32⟩
  | _ => ⟨S8192x1024, .f32⟩

abbrev hbmTy0_3 (i : Nat) : BufTy := match i % 128 with
  | 0 => ⟨S255x1024, .f32⟩
  | 1 => ⟨S1x1024, .f32⟩
  | 2 => ⟨S256x1024, .f32⟩
  | 3 => ⟨S1x1024, .f32⟩
  | 4 => ⟨S256x1024, .f32⟩
  | 5 => ⟨S_, .f32⟩
  | 6 => ⟨S512x1024, .f32⟩
  | 7 => ⟨S_, .f32⟩
  | 8 => ⟨S512x1024, .f32⟩
  | 9 => ⟨S512x1024, .f32⟩
  | 10 => ⟨S_, .f32⟩
  | 11 => ⟨S512x1024, .f32⟩
  | 12 => ⟨S_, .f32⟩
  | 13 => ⟨S512x1024, .f32⟩
  | 14 => ⟨S512x1024, .f32⟩
  | 15 => ⟨S511x1024, .f32⟩
  | 16 => ⟨S511x1024, .f32⟩
  | 17 => ⟨S511x1024, .f32⟩
  | 18 => ⟨S511x1024, .f32⟩
  | 19 => ⟨S511x1024, .f32⟩
  | 20 => ⟨S511x1024, .f32⟩
  | 21 => ⟨S511x1024, .f32⟩
  | 22 => ⟨S1x1024, .f32⟩
  | 23 => ⟨S512x1024, .f32⟩
  | 24 => ⟨S1x1024, .f32⟩
  | 25 => ⟨S512x1024, .f32⟩
  | 26 => ⟨S_, .f32⟩
  | 27 => ⟨S1024x1024, .f32⟩
  | 28 => ⟨S_, .f32⟩
  | 29 => ⟨S1024x1024, .f32⟩
  | 30 => ⟨S1024x1024, .f32⟩
  | 31 => ⟨S_, .f32⟩
  | 32 => ⟨S1024x1024, .f32⟩
  | 33 => ⟨S_, .f32⟩
  | 34 => ⟨S1024x1024, .f32⟩
  | 35 => ⟨S1024x1024, .f32⟩
  | 36 => ⟨S1023x1024, .f32⟩
  | 37 => ⟨S1023x1024, .f32⟩
  | 38 => ⟨S1023x1024, .f32⟩
  | 39 => ⟨S1023x1024, .f32⟩
  | 40 => ⟨S1023x1024, .f32⟩
  | 41 => ⟨S1023x1024, .f32⟩
  | 42 => ⟨S1023x1024, .f32⟩
  | 43 => ⟨S1x1024, .f32⟩
  | 44 => ⟨S1024x1024, .f32⟩
  | 45 => ⟨S1x1024, .f32⟩
  | 46 => ⟨S1024x1024, .f32⟩
  | 47 => ⟨S_, .f32⟩
  | 48 => ⟨S2048x1024, .f32⟩
  | 49 => ⟨S_, .f32⟩
  | 50 => ⟨S2048x1024, .f32⟩
  | 51 => ⟨S2048x1024, .f32⟩
  | 52 => ⟨S_, .f32⟩
  | 53 => ⟨S2048x1024, .f32⟩
  | 54 => ⟨S_, .f32⟩
  | 55 => ⟨S2048x1024, .f32⟩
  | 56 => ⟨S2048x1024, .f32⟩
  | 57 => ⟨S2047x1024, .f32⟩
  | 58 => ⟨S2047x1024, .f32⟩
  | 59 => ⟨S2047x1024, .f32⟩
  | 60 => ⟨S2047x1024, .f32⟩
  | 61 => ⟨S2047x1024, .f32⟩
  | 62 => ⟨S2047x1024, .f32⟩
  | 63 => ⟨S2047x1024, .f32⟩
  | 64 => ⟨S1x1024, .f32⟩
  | 65 => ⟨S2048x1024, .f32⟩
  | 66 => ⟨S1x1024, .f32⟩
  | 67 => ⟨S2048x1024, .f32⟩
  | 68 => ⟨S_, .f32⟩
  | 69 => ⟨S4096x1024, .f32⟩
  | 70 => ⟨S_, .f32⟩
  | 71 => ⟨S4096x1024, .f32⟩
  | 72 => ⟨S4096x1024, .f32⟩
  | 73 => ⟨S_, .f32⟩
  | 74 => ⟨S4096x1024, .f32⟩
  | 75 => ⟨S_, .f32⟩
  | 76 => ⟨S4096x1024, .f32⟩
  | 77 => ⟨S4096x1024, .f32⟩
  | 78 => ⟨S4095x1024, .f32⟩
  | 79 => ⟨S4095x1024, .f32⟩
  | 80 => ⟨S4095x1024, .f32⟩
  | 81 => ⟨S4095x1024, .f32⟩
  | 82 => ⟨S4095x1024, .f32⟩
  | 83 => ⟨S4095x1024, .f32⟩
  | 84 => ⟨S4095x1024, .f32⟩
  | 85 => ⟨S1x1024, .f32⟩
  | 86 => ⟨S4096x1024, .f32⟩
  | 87 => ⟨S1x1024, .f32⟩
  | 88 => ⟨S4096x1024, .f32⟩
  | 89 => ⟨S_, .f32⟩
  | 90 => ⟨S8192x1024, .f32⟩
  | 91 => ⟨S_, .f32⟩
  | 92 => ⟨S8192x1024, .f32⟩
  | 93 => ⟨S8192x1024, .f32⟩
  | 94 => ⟨S_, .f32⟩
  | 95 => ⟨S8192x1024, .f32⟩
  | 96 => ⟨S_, .f32⟩
  | 97 => ⟨S8192x1024, .f32⟩
  | 98 => ⟨S8192x1024, .f32⟩
  | 99 => ⟨S8192x1024, .f32⟩
  | 100 => ⟨S8192x1024, .f32⟩
  | 101 => ⟨S_, .f32⟩
  | 102 => ⟨S8192x1024, .f32⟩
  | 103 => ⟨S8192x1024, .f32⟩
  | 104 => ⟨S8192x1024, .f32⟩
  | 105 => ⟨S_, .f32⟩
  | 106 => ⟨S8192x1024, .f32⟩
  | 107 => ⟨S8192x1024, .f32⟩
  | 108 => ⟨S8192x1024, .f32⟩
  | 109 => ⟨S_, .f32⟩
  | 110 => ⟨S8192x1024, .f32⟩
  | 111 => ⟨S8192x1024, .f32⟩
  | 112 => ⟨S_, .f32⟩
  | 113 => ⟨S8192x1024, .f32⟩
  | 114 => ⟨S8192x1024, .f32⟩
  | 115 => ⟨S8192x1024, .f32⟩
  | 116 => ⟨S8192x1024, .f32⟩
  | 117 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_0 : Ref sig .tc := ⟨.hbm, 54, rfl⟩
abbrev main_v42 : Ref sig .tc := ⟨.hbm, 55, rfl⟩
abbrev main_v43 : Ref sig .tc := ⟨.hbm, 56, rfl⟩
abbrev main_cst_1 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_cst_4 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_5 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_6 : Ref sig .tc := ⟨.hbm, 100, rfl⟩
abbrev main_v69 : Ref sig .tc := ⟨.hbm, 101, rfl⟩
abbrev main_v70 : Ref sig .tc := ⟨.hbm, 102, rfl⟩
abbrev main_cst_7 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_8 : Ref sig .tc := ⟨.hbm, 109, rfl⟩
abbrev main_v76 : Ref sig .tc := ⟨.hbm, 110, rfl⟩
abbrev main_v77 : Ref sig .tc := ⟨.hbm, 111, rfl⟩
abbrev main_cst_9 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_cst_10 : Ref sig .tc := ⟨.hbm, 221, rfl⟩
abbrev main_v183 : Ref sig .tc := ⟨.hbm, 222, rfl⟩
abbrev main_cst_11 : Ref sig .tc := ⟨.hbm, 223, rfl⟩
abbrev main_v184 : Ref sig .tc := ⟨.hbm, 224, rfl⟩
abbrev main_v185 : Ref sig .tc := ⟨.hbm, 225, rfl⟩
abbrev main_cst_12 : Ref sig .tc := ⟨.hbm, 226, rfl⟩
abbrev main_v186 : Ref sig .tc := ⟨.hbm, 227, rfl⟩
abbrev main_cst_13 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_cst_14 : Ref sig .tc := ⟨.hbm, 242, rfl⟩
abbrev main_v200 : Ref sig .tc := ⟨.hbm, 243, rfl⟩
abbrev main_cst_15 : Ref sig .tc := ⟨.hbm, 244, rfl⟩
abbrev main_v201 : Ref sig .tc := ⟨.hbm, 245, rfl⟩
abbrev main_v202 : Ref sig .tc := ⟨.hbm, 246, rfl⟩
abbrev main_cst_16 : Ref sig .tc := ⟨.hbm, 247, rfl⟩
abbrev main_v203 : Ref sig .tc := ⟨.hbm, 248, rfl⟩
abbrev main_cst_17 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_cst_18 : Ref sig .tc := ⟨.hbm, 263, rfl⟩
abbrev main_v217 : Ref sig .tc := ⟨.hbm, 264, rfl⟩
abbrev main_cst_19 : Ref sig .tc := ⟨.hbm, 265, rfl⟩
abbrev main_v218 : Ref sig .tc := ⟨.hbm, 266, rfl⟩
abbrev main_v219 : Ref sig .tc := ⟨.hbm, 267, rfl⟩
abbrev main_cst_20 : Ref sig .tc := ⟨.hbm, 268, rfl⟩
abbrev main_v220 : Ref sig .tc := ⟨.hbm, 269, rfl⟩
abbrev main_cst_21 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_cst_22 : Ref sig .tc := ⟨.hbm, 284, rfl⟩
abbrev main_v234 : Ref sig .tc := ⟨.hbm, 285, rfl⟩
abbrev main_cst_23 : Ref sig .tc := ⟨.hbm, 286, rfl⟩
abbrev main_v235 : Ref sig .tc := ⟨.hbm, 287, rfl⟩
abbrev main_v236 : Ref sig .tc := ⟨.hbm, 288, rfl⟩
abbrev main_cst_24 : Ref sig .tc := ⟨.hbm, 289, rfl⟩
abbrev main_v237 : Ref sig .tc := ⟨.hbm, 290, rfl⟩
abbrev main_cst_25 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_cst_26 : Ref sig .tc := ⟨.hbm, 305, rfl⟩
abbrev main_v251 : Ref sig .tc := ⟨.hbm, 306, rfl⟩
abbrev main_cst_27 : Ref sig .tc := ⟨.hbm, 307, rfl⟩
abbrev main_v252 : Ref sig .tc := ⟨.hbm, 308, rfl⟩
abbrev main_v253 : Ref sig .tc := ⟨.hbm, 309, rfl⟩
abbrev main_cst_28 : Ref sig .tc := ⟨.hbm, 310, rfl⟩
abbrev main_v254 : Ref sig .tc := ⟨.hbm, 311, rfl⟩
abbrev main_cst_29 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_cst_30 : Ref sig .tc := ⟨.hbm, 326, rfl⟩
abbrev main_v268 : Ref sig .tc := ⟨.hbm, 327, rfl⟩
abbrev main_cst_31 : Ref sig .tc := ⟨.hbm, 328, rfl⟩
abbrev main_v269 : Ref sig .tc := ⟨.hbm, 329, rfl⟩
abbrev main_v270 : Ref sig .tc := ⟨.hbm, 330, rfl⟩
abbrev main_cst_32 : Ref sig .tc := ⟨.hbm, 331, rfl⟩
abbrev main_v271 : Ref sig .tc := ⟨.hbm, 332, rfl⟩
abbrev main_cst_33 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_cst_34 : Ref sig .tc := ⟨.hbm, 347, rfl⟩
abbrev main_v285 : Ref sig .tc := ⟨.hbm, 348, rfl⟩
abbrev main_cst_35 : Ref sig .tc := ⟨.hbm, 349, rfl⟩
abbrev main_v286 : Ref sig .tc := ⟨.hbm, 350, rfl⟩
abbrev main_v287 : Ref sig .tc := ⟨.hbm, 351, rfl⟩
abbrev main_cst_36 : Ref sig .tc := ⟨.hbm, 352, rfl⟩
abbrev main_v288 : Ref sig .tc := ⟨.hbm, 353, rfl⟩
abbrev main_cst_37 : Ref sig .tc := ⟨.hbm, 354, rfl⟩
abbrev main_v289 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_cst_38 : Ref sig .tc := ⟨.hbm, 368, rfl⟩
abbrev main_v302 : Ref sig .tc := ⟨.hbm, 369, rfl⟩
abbrev main_cst_39 : Ref sig .tc := ⟨.hbm, 370, rfl⟩
abbrev main_v303 : Ref sig .tc := ⟨.hbm, 371, rfl⟩
abbrev main_v304 : Ref sig .tc := ⟨.hbm, 372, rfl⟩
abbrev main_cst_40 : Ref sig .tc := ⟨.hbm, 373, rfl⟩
abbrev main_v305 : Ref sig .tc := ⟨.hbm, 374, rfl⟩
abbrev main_cst_41 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩
abbrev main_v313 : Ref sig .tc := ⟨.hbm, 383, rfl⟩
abbrev main_v314 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_cst_42 : Ref sig .tc := ⟨.hbm, 389, rfl⟩
abbrev main_v319 : Ref sig .tc := ⟨.hbm, 390, rfl⟩
abbrev main_cst_43 : Ref sig .tc := ⟨.hbm, 391, rfl⟩
abbrev main_v320 : Ref sig .tc := ⟨.hbm, 392, rfl⟩
abbrev main_v321 : Ref sig .tc := ⟨.hbm, 393, rfl⟩
abbrev main_cst_44 : Ref sig .tc := ⟨.hbm, 394, rfl⟩
abbrev main_v322 : Ref sig .tc := ⟨.hbm, 395, rfl⟩
abbrev main_cst_45 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩
abbrev main_v330 : Ref sig .tc := ⟨.hbm, 404, rfl⟩
abbrev main_v331 : Ref sig .tc := ⟨.hbm, 405, rfl⟩
abbrev main_v332 : Ref sig .tc := ⟨.hbm, 406, rfl⟩
abbrev main_v333 : Ref sig .tc := ⟨.hbm, 407, rfl⟩
abbrev main_v334 : Ref sig .tc := ⟨.hbm, 408, rfl⟩
abbrev main_v335 : Ref sig .tc := ⟨.hbm, 409, rfl⟩
abbrev main_cst_46 : Ref sig .tc := ⟨.hbm, 410, rfl⟩
abbrev main_v336 : Ref sig .tc := ⟨.hbm, 411, rfl⟩
abbrev main_cst_47 : Ref sig .tc := ⟨.hbm, 412, rfl⟩
abbrev main_v337 : Ref sig .tc := ⟨.hbm, 413, rfl⟩
abbrev main_v338 : Ref sig .tc := ⟨.hbm, 414, rfl⟩
abbrev main_cst_48 : Ref sig .tc := ⟨.hbm, 415, rfl⟩
abbrev main_v339 : Ref sig .tc := ⟨.hbm, 416, rfl⟩
abbrev main_cst_49 : Ref sig .tc := ⟨.hbm, 417, rfl⟩
abbrev main_v340 : Ref sig .tc := ⟨.hbm, 418, rfl⟩
abbrev main_v341 : Ref sig .tc := ⟨.hbm, 419, rfl⟩
abbrev main_v342 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_v346 : Ref sig .tc := ⟨.hbm, 424, rfl⟩
abbrev main_v347 : Ref sig .tc := ⟨.hbm, 425, rfl⟩
abbrev main_v348 : Ref sig .tc := ⟨.hbm, 426, rfl⟩
abbrev main_v349 : Ref sig .tc := ⟨.hbm, 427, rfl⟩
abbrev main_v350 : Ref sig .tc := ⟨.hbm, 428, rfl⟩
abbrev main_v351 : Ref sig .tc := ⟨.hbm, 429, rfl⟩
abbrev main_v352 : Ref sig .tc := ⟨.hbm, 430, rfl⟩
abbrev main_cst_50 : Ref sig .tc := ⟨.hbm, 431, rfl⟩
abbrev main_v353 : Ref sig .tc := ⟨.hbm, 432, rfl⟩
abbrev main_cst_51 : Ref sig .tc := ⟨.hbm, 433, rfl⟩
abbrev main_v354 : Ref sig .tc := ⟨.hbm, 434, rfl⟩
abbrev main_v355 : Ref sig .tc := ⟨.hbm, 435, rfl⟩
abbrev main_cst_52 : Ref sig .tc := ⟨.hbm, 436, rfl⟩
abbrev main_v356 : Ref sig .tc := ⟨.hbm, 437, rfl⟩
abbrev main_cst_53 : Ref sig .tc := ⟨.hbm, 438, rfl⟩
abbrev main_v357 : Ref sig .tc := ⟨.hbm, 439, rfl⟩
abbrev main_v358 : Ref sig .tc := ⟨.hbm, 440, rfl⟩
abbrev main_v359 : Ref sig .tc := ⟨.hbm, 441, rfl⟩
abbrev main_v360 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_v364 : Ref sig .tc := ⟨.hbm, 446, rfl⟩
abbrev main_v365 : Ref sig .tc := ⟨.hbm, 447, rfl⟩
abbrev main_v366 : Ref sig .tc := ⟨.hbm, 448, rfl⟩
abbrev main_v367 : Ref sig .tc := ⟨.hbm, 449, rfl⟩
abbrev main_v368 : Ref sig .tc := ⟨.hbm, 450, rfl⟩
abbrev main_v369 : Ref sig .tc := ⟨.hbm, 451, rfl⟩
abbrev main_cst_54 : Ref sig .tc := ⟨.hbm, 452, rfl⟩
abbrev main_v370 : Ref sig .tc := ⟨.hbm, 453, rfl⟩
abbrev main_cst_55 : Ref sig .tc := ⟨.hbm, 454, rfl⟩
abbrev main_v371 : Ref sig .tc := ⟨.hbm, 455, rfl⟩
abbrev main_v372 : Ref sig .tc := ⟨.hbm, 456, rfl⟩
abbrev main_cst_56 : Ref sig .tc := ⟨.hbm, 457, rfl⟩
abbrev main_v373 : Ref sig .tc := ⟨.hbm, 458, rfl⟩
abbrev main_cst_57 : Ref sig .tc := ⟨.hbm, 459, rfl⟩
abbrev main_v374 : Ref sig .tc := ⟨.hbm, 460, rfl⟩
abbrev main_v375 : Ref sig .tc := ⟨.hbm, 461, rfl⟩
abbrev main_v376 : Ref sig .tc := ⟨.hbm, 462, rfl⟩
abbrev main_v377 : Ref sig .tc := ⟨.hbm, 463, rfl⟩
abbrev main_v378 : Ref sig .tc := ⟨.hbm, 464, rfl⟩
abbrev main_v379 : Ref sig .tc := ⟨.hbm, 465, rfl⟩
abbrev main_v380 : Ref sig .tc := ⟨.hbm, 466, rfl⟩
abbrev main_v381 : Ref sig .tc := ⟨.hbm, 467, rfl⟩
abbrev main_v382 : Ref sig .tc := ⟨.hbm, 468, rfl⟩
abbrev main_v383 : Ref sig .tc := ⟨.hbm, 469, rfl⟩
abbrev main_v384 : Ref sig .tc := ⟨.hbm, 470, rfl⟩
abbrev main_v385 : Ref sig .tc := ⟨.hbm, 471, rfl⟩
abbrev main_v386 : Ref sig .tc := ⟨.hbm, 472, rfl⟩
abbrev main_cst_58 : Ref sig .tc := ⟨.hbm, 473, rfl⟩
abbrev main_v387 : Ref sig .tc := ⟨.hbm, 474, rfl⟩
abbrev main_cst_59 : Ref sig .tc := ⟨.hbm, 475, rfl⟩
abbrev main_v388 : Ref sig .tc := ⟨.hbm, 476, rfl⟩
abbrev main_v389 : Ref sig .tc := ⟨.hbm, 477, rfl⟩
abbrev main_cst_60 : Ref sig .tc := ⟨.hbm, 478, rfl⟩
abbrev main_v390 : Ref sig .tc := ⟨.hbm, 479, rfl⟩
abbrev main_cst_61 : Ref sig .tc := ⟨.hbm, 480, rfl⟩
abbrev main_v391 : Ref sig .tc := ⟨.hbm, 481, rfl⟩
abbrev main_v392 : Ref sig .tc := ⟨.hbm, 482, rfl⟩
abbrev main_v393 : Ref sig .tc := ⟨.hbm, 483, rfl⟩
abbrev main_v394 : Ref sig .tc := ⟨.hbm, 484, rfl⟩
abbrev main_cst_62 : Ref sig .tc := ⟨.hbm, 485, rfl⟩
abbrev main_v395 : Ref sig .tc := ⟨.hbm, 486, rfl⟩
abbrev main_v396 : Ref sig .tc := ⟨.hbm, 487, rfl⟩
abbrev main_v397 : Ref sig .tc := ⟨.hbm, 488, rfl⟩
abbrev main_cst_63 : Ref sig .tc := ⟨.hbm, 489, rfl⟩
abbrev main_v398 : Ref sig .tc := ⟨.hbm, 490, rfl⟩
abbrev main_v399 : Ref sig .tc := ⟨.hbm, 491, rfl⟩
abbrev main_v400 : Ref sig .tc := ⟨.hbm, 492, rfl⟩
abbrev main_cst_64 : Ref sig .tc := ⟨.hbm, 493, rfl⟩
abbrev main_v401 : Ref sig .tc := ⟨.hbm, 494, rfl⟩
abbrev main_v402 : Ref sig .tc := ⟨.hbm, 495, rfl⟩
abbrev main_cst_65 : Ref sig .tc := ⟨.hbm, 496, rfl⟩
abbrev main_v403 : Ref sig .tc := ⟨.hbm, 497, rfl⟩
abbrev main_v404 : Ref sig .tc := ⟨.hbm, 498, rfl⟩
abbrev main_v405 : Ref sig .tc := ⟨.hbm, 499, rfl⟩
abbrev main_v406 : Ref sig .tc := ⟨.hbm, 500, rfl⟩
abbrev main_v407 : Ref sig .tc := ⟨.hbm, 501, rfl⟩

abbrev nD : Nat := 1
abbrev τ : Topo := Topo.v7x

variable {F : FTy → Type} [FloatOps F]
-- ==== Proof.SoftmaxGrad.lean ====
/- The gradient of a softmax on the extended reals: the form a fused kernel computes, `p (dp − Σ p dp)`, and the form
   a transposed softmax computes, `(dp / L − Σ dp e / L²) e`, agree wherever the scores are finite. -/
module

public import Idealize.ShloMosaic.PureOps.Ideal
public import Idealize.ShloMosaic.PureOps.Ideal.Laws

@[expose] public section

noncomputable section

namespace Cert.Softmax

open Idealize.ShloMosaic

/-- `x` is a real number. -/
def Fin' (x : EReal) : Prop := ∃ r : ℝ, x = r

/-- `x` is a positive real number. -/
def Pos (x : EReal) : Prop := ∃ r : ℝ, 0 < r ∧ x = r

theorem Fin'.of_lt {x : EReal} (h₁ : ⊥ < x) (h₂ : x < ⊤) : Fin' x :=
  ⟨x.toReal, (EReal.coe_toReal h₂.ne h₁.ne').symm⟩

theorem Fin'.bot_lt {x : EReal} : Fin' x → ⊥ < x := by rintro ⟨r, rfl⟩; exact EReal.bot_lt_coe r
theorem Fin'.lt_top {x : EReal} : Fin' x → x < ⊤ := by rintro ⟨r, rfl⟩; exact EReal.coe_lt_top r

theorem Fin'.mul {x y : EReal} : Fin' x → Fin' y → Fin' (x * y) := by
  rintro ⟨a, rfl⟩ ⟨b, rfl⟩; exact ⟨a * b, by push_cast; rfl⟩

theorem Fin'.add {x y : EReal} : Fin' x → Fin' y → Fin' (x + y) := by
  rintro ⟨a, rfl⟩ ⟨b, rfl⟩; exact ⟨a + b, by push_cast; rfl⟩

theorem Fin'.sub {x y : EReal} : Fin' x → Fin' y → Fin' (x - y) := by
  rintro ⟨a, rfl⟩ ⟨b, rfl⟩; exact ⟨a - b, by push_cast; rfl⟩

/-- A finite sum of real numbers is a real number. -/
theorem Fin'.sum {ι : Type*} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact (h a).add ih

/-- The largest of finitely many real numbers (at least one) is a real number. -/
theorem Fin'.fold_max {n : ℕ} [NeZero n] {f : Fin n → EReal} (h : ∀ i, Fin' (f i)) : Fin' (Finset.univ.fold max ⊥ f) :=
  .of_lt ((Finset.lt_fold_max _).2 (.inr ⟨0, Finset.mem_univ _, (h 0).bot_lt⟩))
    ((Finset.fold_max_lt _).2 ⟨bot_lt_top, fun i _ => (h i).lt_top⟩)

theorem Pos.fin' {x : EReal} : Pos x → Fin' x := by rintro ⟨r, -, rfl⟩; exact ⟨r, rfl⟩

theorem Pos.add {x y : EReal} : Pos x → Pos y → Pos (x + y) := by
  rintro ⟨a, ha, rfl⟩ ⟨b, hb, rfl⟩; exact ⟨a + b, by positivity, by push_cast; rfl⟩

/-- A nonempty finite sum of positive reals is a positive real. -/
theorem Pos.sum {n : ℕ} [NeZero n] {f : Fin n → EReal} (h : ∀ i, Pos (f i)) : Pos (∑ i, f i) := by
  have key : ∀ s : Finset (Fin n), s.Nonempty → Pos (∑ i ∈ s, f i) := fun s hs => by
    induction hs using Finset.Nonempty.cons_induction with
    | singleton a => simpa using h a
    | cons a s ha _ ih => rw [Finset.sum_cons]; exact (h a).add ih
  exact key _ ⟨0, Finset.mem_univ _⟩

/-- The exponential of a real number is a positive real. -/
theorem Pos.exp {x : EReal} : Fin' x → Pos (Ideal.exp x) := by
  rintro ⟨r, rfl⟩; exact ⟨Real.exp r, Real.exp_pos r, rfl⟩

/-- A division by a positive real is a product with the inverse. -/
theorem div_pos {L : ℝ} (hL : 0 < L) (x : EReal) : Ideal.div x (L : EReal) = x * ((L⁻¹ : ℝ) : EReal) := by
  rw [Ideal.div_coe hL.ne', one_div]

/-- A product with a nonnegative real distributes over every sum of extended reals. -/
theorem coe_mul_sum {ι : Type*} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

theorem coe_mul_add {a : ℝ} (ha : 0 ≤ a) (x y : EReal) : (a : EReal) * (x + y) = a * x + a * y :=
  EReal.left_distrib_of_nonneg_of_ne_top (by exact_mod_cast ha) (EReal.coe_ne_top a) _ _

variable {n : ℕ}

/-- The exponentials of the scores less their largest. -/
def expo (s : Fin n → EReal) (j : Fin n) : EReal := Ideal.exp (s j - Finset.univ.fold max ⊥ fun k => s k)

/-- The softmax of the scores. -/
def soft (s : Fin n → EReal) (j : Fin n) : EReal := Ideal.div (expo s j) (∑ k, expo s k)

/-- The gradient of the scores as the kernel computes it: `p (dp − Σ p dp)`. -/
def grad (s dp : Fin n → EReal) (j : Fin n) : EReal := soft s j * (dp j - ∑ k, soft s k * dp k)

/-- The gradient of the scores as the transposed softmax computes it: `(dp / L + (−Σ dp · (1 / L²) · e)) e`. -/
def gradT (s dp : Fin n → EReal) (j : Fin n) : EReal :=
  (Ideal.div (dp j) (∑ k, expo s k)
    + -∑ k, dp k * Ideal.div 1 ((∑ k, expo s k) * ∑ k, expo s k) * expo s k) * expo s j

/-- Where the scores are real numbers the two forms of the gradient agree, whatever `dp` holds. -/
theorem gradT_eq_grad [NeZero n] {s : Fin n → EReal} (hs : ∀ j, Fin' (s j)) (dp : Fin n → EReal) (j : Fin n) :
    gradT s dp j = grad s dp j := by
  have he : ∀ j, Pos (expo s j) := fun j => .exp ((hs j).sub (.fold_max hs))
  choose e he0 he using he
  obtain ⟨L, hL, hLe⟩ := Pos.sum fun j => ⟨e j, he0 j, he j⟩
  simp only [gradT, grad, soft]
  rw [hLe, ← EReal.coe_mul]
  simp only [he, div_pos hL, div_pos (mul_pos hL hL), one_mul]
  have h1 : ∑ k, dp k * (((L * L)⁻¹ : ℝ) : EReal) * (e k : EReal)
      = ((L⁻¹ : ℝ) : EReal) * ∑ k, (e k : EReal) * ((L⁻¹ : ℝ) : EReal) * dp k := by
    rw [coe_mul_sum _ (inv_nonneg.2 hL.le)]
    refine Finset.sum_congr rfl fun k _ => ?_
    rw [mul_inv, EReal.coe_mul]; ac_rfl
  rw [h1, ← mul_neg, mul_comm (dp j), ← coe_mul_add (inv_nonneg.2 hL.le), ← sub_eq_add_neg]
  ac_rfl

end Cert.Softmax

end
-- ==== Proof.MemSpec.lean ====
/- The gradient of the cross-attention into the memory tokens, written over plain rows and columns: head `h` owns the
   columns `128 h … 128 h + 127` of the queries, of the keys and (512 further) of the values. -/
module

public import proofs.«01_k».proof.Proof.SoftmaxGrad

@[expose] public section

noncomputable section

namespace Cert.Mem

open Idealize.ShloMosaic Cert.Softmax

/-- The scale of the scores, `128 ^ (-1/2)` as printed. -/
def sc : EReal := Ideal.ofBits .f32 0x3DB504F3#32

/-- The head a column belongs to, and the column's place in that head. -/
def hd (j : Fin 512) : Fin 4 := ⟨j.val / 128, by omega⟩
def ln (j : Fin 512) : Fin 128 := ⟨j.val % 128, by omega⟩

/-- Column `d` of head `h` of the queries (and of the outputs), of the keys and of the values. -/
def col (h : Fin 4) (d : Fin 128) : Fin 512 := ⟨128 * h.val + d.val, by omega⟩
def kcol (h : Fin 4) (d : Fin 128) : Fin 1024 := ⟨128 * h.val + d.val, by omega⟩
def vcol (h : Fin 4) (d : Fin 128) : Fin 1024 := ⟨512 + (128 * h.val + d.val), by omega⟩

variable {R : ℕ} (Q DO : Fin R → Fin 512 → EReal) (KV : Fin 256 → Fin 1024 → EReal)

/-- The scores of query `i` in head `h` against the memory tokens. -/
def score (h : Fin 4) (i : Fin R) (j : Fin 256) : EReal := (∑ d, Q i (col h d) * KV j (kcol h d)) * sc

/-- The gradient of the probabilities: the output's gradient against the values. -/
def dprob (h : Fin 4) (i : Fin R) (j : Fin 256) : EReal := ∑ d, DO i (col h d) * KV j (vcol h d)

/-- The gradient of the unscaled scores. -/
def dscore (h : Fin 4) (i : Fin R) (j : Fin 256) : EReal := grad (score Q KV h i) (dprob DO KV h i) j * sc

/-- The gradient of the queries. -/
def dq (i : Fin R) (h : Fin 4) (d : Fin 128) : EReal := ∑ j, dscore Q DO KV h i j * KV j (kcol h d)

/-- The gradient of the keys, summed over the rows at hand. -/
def dk (j : Fin 256) (h : Fin 4) (d : Fin 128) : EReal := ∑ i, dscore Q DO KV h i j * Q i (col h d)

/-- The gradient of the values, summed over the rows at hand. -/
def dv (j : Fin 256) (h : Fin 4) (d : Fin 128) : EReal := ∑ i, soft (score Q KV h i) j * DO i (col h d)

/-- The gradient of the memory projection at token `j`, column `e`: the keys' half, then the values'. -/
def dkv (j : Fin 256) (e : Fin 1024) : EReal :=
  if h : e.val < 512 then dk Q DO KV j (hd ⟨e.val, h⟩) (ln ⟨e.val, h⟩)
  else dv Q DO KV j (hd ⟨e.val - 512, by omega⟩) (ln ⟨e.val - 512, by omega⟩)

/-- Column `d` of head `h` in the keys' half, and in the values' half. -/
theorem dkv_keys (j : Fin 256) (h : Fin 4) (d : Fin 128) (e : Fin 1024) (he : e.val = 128 * h.val + d.val) :
    dkv Q DO KV j e = dk Q DO KV j h d := by
  have h1 : e.val < 512 := by omega
  rw [dkv, dif_pos h1, show hd ⟨e.val, h1⟩ = h from Fin.ext (by simp only [hd]; omega),
    show ln ⟨e.val, h1⟩ = d from Fin.ext (by simp only [ln]; omega)]

theorem dkv_vals (j : Fin 256) (h : Fin 4) (d : Fin 128) (e : Fin 1024) (he : e.val = 512 + (128 * h.val + d.val)) :
    dkv Q DO KV j e = dv Q DO KV j h d := by
  have h1 : ¬e.val < 512 := by omega
  rw [dkv, dif_neg h1, show hd ⟨e.val - 512, by omega⟩ = h from Fin.ext (by simp only [hd]; omega),
    show ln ⟨e.val - 512, by omega⟩ = d from Fin.ext (by simp only [ln]; omega)]

/-- Parts over blocks of rows that make up all the rows add up to the whole. -/
theorem dkv_sum {P n : ℕ} (r : Fin P → Fin n → Fin R) (hr : ∀ f : Fin R → EReal, ∑ p, ∑ i, f (r p i) = ∑ i, f i)
    (j : Fin 256) (e : Fin 1024) : ∑ p, dkv (fun i => Q (r p i)) (fun i => DO (r p i)) KV j e = dkv Q DO KV j e := by
  unfold dkv
  split
  · exact hr fun i => dscore Q DO KV _ i j * Q i (col _ _)
  · exact hr fun i => soft (score Q KV _ i) j * DO i (col _ _)

/-- The pattern of minus infinity is the bottom of the extended reals. -/
theorem ofBits_bot : Ideal.ofBits .f32 0xFF800000#32 = ⊥ := by simp [Ideal.ofBits, Ideal.ieee]

/-- The pattern of plus infinity is the top of the extended reals. -/
theorem ofBits_top : Ideal.ofBits .f32 0x7F800000#32 = ⊤ := by simp [Ideal.ofBits, Ideal.ieee]

end Cert.Mem

end
-- ==== Proof.MemBlock.lean ====
/- What one grid point of the memory-attention backward kernel leaves: its block of the queries' gradient, and its
   part of the memory projection's gradient added to what the point before left. -/
module

public import proofs.«01_k».proof.Proof.Gen.KernelIdeal.Value
public import proofs.«01_k».proof.Proof.MemSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.MemB

open Cert.KernelIdeal Cert.KernelIdeal.Gen Idealize.ShloMosaic Idealize.ShloMosaic.TcCoe Idealize.SL.Sem
open Cert.Mem Cert.Softmax

variable (m : (ℓ : Loc nD τ sig) → Buf (Elt Ideal) ℓ) (c : Dev nD)

/-- Grid point `t`'s block of the queries, of the output's gradient, and the memory projection, by row and column. -/
abbrev Qb (t : Fin cfg0.N) (i : Fin 512) (j : Fin 512) : EReal := (show FVec Ideal S512x512 .f32 from iblk m c 0 t) (ix2 i j)
abbrev Ob (t : Fin cfg0.N) (i : Fin 512) (j : Fin 512) : EReal := (show FVec Ideal S512x512 .bf16 from iblk m c 2 t) (ix2 i j)
abbrev Kb (t : Fin cfg0.N) (i : Fin 256) (j : Fin 1024) : EReal := (show FVec Ideal S256x1024 .f32 from iblk m c 1 t) (ix2 i j)

/-- The offsets of the heads, evaluated. -/
theorem offs : 128 * ((0 : Fin 4) : ℕ) = 0 ∧ 128 * ((1 : Fin 4) : ℕ) = 128 ∧ 128 * ((2 : Fin 4) : ℕ) = 256 ∧ 128 * ((3 : Fin 4) : ℕ) = 384
    ∧ (∀ d : ℕ, 512 + (128 + d) = 640 + d) ∧ (∀ d : ℕ, 512 + (256 + d) = 768 + d) ∧ (∀ d : ℕ, 512 + (384 + d) = 896 + d) ∧ ∀ d : ℕ, 0 + d = d := by
  refine ⟨rfl, rfl, rfl, rfl, ?_, ?_, ?_, ?_⟩ <;> intro d <;> omega

/-- Stores that cover an index hide the stores made before them. -/
theorem canon_drop {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], _, h => by simp at h
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' L y ?_
      obtain ⟨q, hq, hy⟩ := h
      rcases List.mem_cons.mp hq with rfl | hq'
      · exact absurd hy hm
      · exact ⟨q, hq', hy⟩

/-- A grid point's block of the queries' gradient. -/
theorem dq_block (t : Fin cfg0.N) (y : S512x512.Idx) :
    (outsAt0 m c t.val t.isLt).1 y = dq (Qb m c t) (Ob m c t) (Kb m c t) (y 0) (hd (y 1)) (ln (y 1)) := by
  by_cases h0 : t.val % 16 = 0
  · rw [outsAt0_A m c t h0]
    frame_out
    canon_tiles x h
    case piece0 =>
      rw [show y 0 = x 0 from Fin.ext h0, show hd (y 1) = 3 from Fin.ext (by show (y 1).val / 128 = 3; omega),
        show ln (y 1) = x 1 from Fin.ext (by show (y 1).val % 128 = (x 1).val; omega)]
      open_payloads; pointwise
      simp only [dq, dscore, grad, soft, expo, score, dprob, col, kcol, vcol, sc, ofBits_bot, Qb, Ob, Kb, offs]
    case piece1 =>
      rw [show y 0 = x 0 from Fin.ext h0, show hd (y 1) = 2 from Fin.ext (by show (y 1).val / 128 = 2; omega),
        show ln (y 1) = x 1 from Fin.ext (by show (y 1).val % 128 = (x 1).val; omega)]
      open_payloads; pointwise
      simp only [dq, dscore, grad, soft, expo, score, dprob, col, kcol, vcol, sc, ofBits_bot, Qb, Ob, Kb, offs]
    case piece2 =>
      rw [show y 0 = x 0 from Fin.ext h0, show hd (y 1) = 1 from Fin.ext (by show (y 1).val / 128 = 1; omega),
        show ln (y 1) = x 1 from Fin.ext (by show (y 1).val % 128 = (x 1).val; omega)]
      open_payloads; pointwise
      simp only [dq, dscore, grad, soft, expo, score, dprob, col, kcol, vcol, sc, ofBits_bot, Qb, Ob, Kb, offs]
    case piece3 =>
      rw [show y 0 = x 0 from Fin.ext h0, show hd (y 1) = 0 from Fin.ext (by show (y 1).val / 128 = 0; omega),
        show ln (y 1) = x 1 from Fin.ext (by show (y 1).val % 128 = (x 1).val; omega)]
      open_payloads; pointwise
      simp only [dq, dscore, grad, soft, expo, score, dprob, col, kcol, vcol, sc, ofBits_bot, Qb, Ob, Kb, offs]
  · rw [outsAt0_B m c t h0]
    frame_out
    canon_tiles x h
    case piece0 =>
      rw [show y 0 = x 0 from Fin.ext h0, show hd (y 1) = 3 from Fin.ext (by show (y 1).val / 128 = 3; omega),
        show ln (y 1) = x 1 from Fin.ext (by show (y 1).val % 128 = (x 1).val; omega)]
      open_payloads; pointwise
      simp only [dq, dscore, grad, soft, expo, score, dprob, col, kcol, vcol, sc, ofBits_bot, Qb, Ob, Kb, offs]
    case piece1 =>
      rw [show y 0 = x 0 from Fin.ext h0, show hd (y 1) = 2 from Fin.ext (by show (y 1).val / 128 = 2; omega),
        show ln (y 1) = x 1 from Fin.ext (by show (y 1).val % 128 = (x 1).val; omega)]
      open_payloads; pointwise
      simp only [dq, dscore, grad, soft, expo, score, dprob, col, kcol, vcol, sc, ofBits_bot, Qb, Ob, Kb, offs]
    case piece2 =>
      rw [show y 0 = x 0 from Fin.ext h0, show hd (y 1) = 1 from Fin.ext (by show (y 1).val / 128 = 1; omega),
        show ln (y 1) = x 1 from Fin.ext (by show (y 1).val % 128 = (x 1).val; omega)]
      open_payloads; pointwise
      simp only [dq, dscore, grad, soft, expo, score, dprob, col, kcol, vcol, sc, ofBits_bot, Qb, Ob, Kb, offs]
    case piece3 =>
      rw [show y 0 = x 0 from Fin.ext h0, show hd (y 1) = 0 from Fin.ext (by show (y 1).val / 128 = 0; omega),
        show ln (y 1) = x 1 from Fin.ext (by show (y 1).val % 128 = (x 1).val; omega)]
      open_payloads; pointwise
      simp only [dq, dscore, grad, soft, expo, score, dprob, col, kcol, vcol, sc, ofBits_bot, Qb, Ob, Kb, offs]

/-- A grid point after the first adds its part of the memory projection's gradient to what the point before left. -/
theorem dkv_step (t : Fin cfg0.N) (h0 : ¬t.val % 16 = 0) (y : S256x1024.Idx) :
    (outsAt0 m c t.val t.isLt).2 y = (outsAt0 m c (t.val - 1) (Nat.lt_of_le_of_lt (Nat.sub_le _ _) t.isLt)).2 y
      + dkv (Qb m c t) (Ob m c t) (Kb m c t) (y 0) (y 1) := by
  · rw [outsAt0_B m c t h0]
    frame_out
    canon_tiles x h
    case piece0 =>
      rw [show y 0 = x 0 from Fin.ext h0, dkv_vals _ _ _ (x 0) 3 (x 1) (y 1) (h1.trans (by show 896 + (x 1).val = 512 + (128 * 3 + (x 1).val); omega))]
      rw [show y = ix2 (x 0) ⟨896 + (x 1).val, by omega⟩ from by idx_vars y; exact congrArg₂ ix2 (Fin.ext h0) (Fin.ext h1)]
      open_payloads; pointwise
      simp only [dv, dscore, grad, soft, expo, score, dprob, col, kcol, vcol, sc, ofBits_bot, Qb, Ob, Kb, offs]
    case piece1 =>
      rw [show y 0 = x 0 from Fin.ext h0, dkv_keys _ _ _ (x 0) 3 (x 1) (y 1) (h1.trans (by show 384 + (x 1).val = 128 * 3 + (x 1).val; omega))]
      rw [show y = ix2 (x 0) ⟨384 + (x 1).val, by omega⟩ from by idx_vars y; exact congrArg₂ ix2 (Fin.ext h0) (Fin.ext h1)]
      open_payloads; pointwise
      simp only [dk, dscore, grad, soft, expo, score, dprob, col, kcol, vcol, sc, ofBits_bot, Qb, Ob, Kb, offs]
    case piece2 =>
      rw [show y 0 = x 0 from Fin.ext h0, dkv_vals _ _ _ (x 0) 2 (x 1) (y 1) (h1.trans (by show 768 + (x 1).val = 512 + (128 * 2 + (x 1).val); omega))]
      rw [show y = ix2 (x 0) ⟨768 + (x 1).val, by omega⟩ from by idx_vars y; exact congrArg₂ ix2 (Fin.ext h0) (Fin.ext h1)]
      open_payloads; pointwise
      simp only [dv, dscore, grad, soft, expo, score, dprob, col, kcol, vcol, sc, ofBits_bot, Qb, Ob, Kb, offs]
    case piece3 =>
      rw [show y 0 = x 0 from Fin.ext h0, dkv_keys _ _ _ (x 0) 2 (x 1) (y 1) (h1.trans (by show 256 + (x 1).val = 128 * 2 + (x 1).val; omega))]
      rw [show y = ix2 (x 0) ⟨256 + (x 1).val, by omega⟩ from by idx_vars y; exact congrArg₂ ix2 (Fin.ext h0) (Fin.ext h1)]
      open_payloads; pointwise
      simp only [dk, dscore, grad, soft, expo, score, dprob, col, kcol, vcol, sc, ofBits_bot, Qb, Ob, Kb, offs]
    case piece4 =>
      rw [show y 0 = x 0 from Fin.ext h0, dkv_vals _ _ _ (x 0) 1 (x 1) (y 1) (h1.trans (by show 640 + (x 1).val = 512 + (128 * 1 + (x 1).val); omega))]
      rw [show y = ix2 (x 0) ⟨640 + (x 1).val, by omega⟩ from by idx_vars y; exact congrArg₂ ix2 (Fin.ext h0) (Fin.ext h1)]
      open_payloads; pointwise
      simp only [dv, dscore, grad, soft, expo, score, dprob, col, kcol, vcol, sc, ofBits_bot, Qb, Ob, Kb, offs]
    case piece5 =>
      rw [show y 0 = x 0 from Fin.ext h0, dkv_keys _ _ _ (x 0) 1 (x 1) (y 1) (h1.trans (by show 128 + (x 1).val = 128 * 1 + (x 1).val; omega))]
      rw [show y = ix2 (x 0) ⟨128 + (x 1).val, by omega⟩ from by idx_vars y; exact congrArg₂ ix2 (Fin.ext h0) (Fin.ext h1)]
      open_payloads; pointwise
      simp only [dk, dscore, grad, soft, expo, score, dprob, col, kcol, vcol, sc, ofBits_bot, Qb, Ob, Kb, offs]
    case piece6 =>
      rw [show y 0 = x 0 from Fin.ext h0, dkv_vals _ _ _ (x 0) 0 (x 1) (y 1) (h1.trans (by show 512 + (x 1).val = 512 + (128 * 0 + (x 1).val); omega))]
      rw [show y = ix2 (x 0) ⟨512 + (x 1).val, by omega⟩ from by idx_vars y; exact congrArg₂ ix2 (Fin.ext h0) (Fin.ext h1)]
      open_payloads; pointwise
      simp only [dv, dscore, grad, soft, expo, score, dprob, col, kcol, vcol, sc, ofBits_bot, Qb, Ob, Kb, offs]
    case piece7 =>
      rw [show y 0 = x 0 from Fin.ext h0, dkv_keys _ _ _ (x 0) 0 (x 1) (y 1) (h1.trans (by show (x 1).val = 128 * 0 + (x 1).val; omega))]
      rw [show y = ix2 (x 0) ⟨(x 1).val, by omega⟩ from by idx_vars y; exact congrArg₂ ix2 (Fin.ext h0) (Fin.ext h1)]
      open_payloads; pointwise
      simp only [dk, dscore, grad, soft, expo, score, dprob, col, kcol, vcol, sc, ofBits_bot, Qb, Ob, Kb, offs]

/-- The first grid point leaves its part of the memory projection's gradient. -/
theorem dkv_first (t : Fin cfg0.N) (h0 : t.val % 16 = 0) (y : S256x1024.Idx) :
    (outsAt0 m c t.val t.isLt).2 y = dkv (Qb m c t) (Ob m c t) (Kb m c t) (y 0) (y 1) := by
  · rw [outsAt0_A m c t h0]
    frame_out
    simp (disch := decide) only [↓View.readCov_skip, ↓View.readCov_fill]
    refine (canon_drop [_] [_, _, _, _, _, _, _, _] y (View.cover_of_tiledL _ ![256, 128] rfl y)).trans ?_
    canon_tiles x h
    case piece0 =>
      rw [show y 0 = x 0 from Fin.ext h0, dkv_vals _ _ _ (x 0) 3 (x 1) (y 1) (h1.trans (by show 896 + (x 1).val = 512 + (128 * 3 + (x 1).val); omega))]
      open_payloads; pointwise
      simp only [dv, dscore, grad, soft, expo, score, dprob, col, kcol, vcol, sc, ofBits_bot, Qb, Ob, Kb, offs]
    case piece1 =>
      rw [show y 0 = x 0 from Fin.ext h0, dkv_keys _ _ _ (x 0) 3 (x 1) (y 1) (h1.trans (by show 384 + (x 1).val = 128 * 3 + (x 1).val; omega))]
      open_payloads; pointwise
      simp only [dk, dscore, grad, soft, expo, score, dprob, col, kcol, vcol, sc, ofBits_bot, Qb, Ob, Kb, offs]
    case piece2 =>
      rw [show y 0 = x 0 from Fin.ext h0, dkv_vals _ _ _ (x 0) 2 (x 1) (y 1) (h1.trans (by show 768 + (x 1).val = 512 + (128 * 2 + (x 1).val); omega))]
      open_payloads; pointwise
      simp only [dv, dscore, grad, soft, expo, score, dprob, col, kcol, vcol, sc, ofBits_bot, Qb, Ob, Kb, offs]
    case piece3 =>
      rw [show y 0 = x 0 from Fin.ext h0, dkv_keys _ _ _ (x 0) 2 (x 1) (y 1) (h1.trans (by show 256 + (x 1).val = 128 * 2 + (x 1).val; omega))]
      open_payloads; pointwise
      simp only [dk, dscore, grad, soft, expo, score, dprob, col, kcol, vcol, sc, ofBits_bot, Qb, Ob, Kb, offs]
    case piece4 =>
      rw [show y 0 = x 0 from Fin.ext h0, dkv_vals _ _ _ (x 0) 1 (x 1) (y 1) (h1.trans (by show 640 + (x 1).val = 512 + (128 * 1 + (x 1).val); omega))]
      open_payloads; pointwise
      simp only [dv, dscore, grad, soft, expo, score, dprob, col, kcol, vcol, sc, ofBits_bot, Qb, Ob, Kb, offs]
    case piece5 =>
      rw [show y 0 = x 0 from Fin.ext h0, dkv_keys _ _ _ (x 0) 1 (x 1) (y 1) (h1.trans (by show 128 + (x 1).val = 128 * 1 + (x 1).val; omega))]
      open_payloads; pointwise
      simp only [dk, dscore, grad, soft, expo, score, dprob, col, kcol, vcol, sc, ofBits_bot, Qb, Ob, Kb, offs]
    case piece6 =>
      rw [show y 0 = x 0 from Fin.ext h0, dkv_vals _ _ _ (x 0) 0 (x 1) (y 1) (h1.trans (by show 512 + (x 1).val = 512 + (128 * 0 + (x 1).val); omega))]
      open_payloads; pointwise
      simp only [dv, dscore, grad, soft, expo, score, dprob, col, kcol, vcol, sc, ofBits_bot, Qb, Ob, Kb, offs]
    case piece7 =>
      rw [show y 0 = x 0 from Fin.ext h0, dkv_keys _ _ _ (x 0) 0 (x 1) (y 1) (h1.trans (by show (x 1).val = 128 * 0 + (x 1).val; omega))]
      open_payloads; pointwise
      simp only [dk, dscore, grad, soft, expo, score, dprob, col, kcol, vcol, sc, ofBits_bot, Qb, Ob, Kb, offs]

end Cert.KernelIdeal.MemB

end
-- ==== Proof.MemArray.lean ====
/- The two arrays the memory-attention backward kernel leaves, by row and column: the queries' gradient, and the memory
   projection's gradient with the sum over all the rows. -/
module

public import proofs.«01_k».proof.Proof.MemBlock

@[expose] public section

set_option maxRecDepth 16384

noncomputable section

namespace Cert.KernelIdeal.MemB

open Cert.KernelIdeal Cert.KernelIdeal.Gen Idealize.ShloMosaic Idealize.ShloMosaic.TcCoe Idealize.SL.Sem
open Cert.Mem Cert.Softmax

variable (m : (ℓ : Loc nD τ sig) → Buf (Elt Ideal) ℓ) (c : Dev nD)

/-- The queries, the output's gradient and the memory projection as launched, by row and column. -/
abbrev Qf (i : Fin 8192) (j : Fin 512) : EReal := (show FVec Ideal S8192x512 .f32 from m ((c : Thread nD τ).loc main_arg0)) (ix2 i j)
abbrev Of (i : Fin 8192) (j : Fin 512) : EReal := (show FVec Ideal S8192x512 .bf16 from m ((c : Thread nD τ).loc main_arg2)) (ix2 i j)
abbrev Kf (i : Fin 256) (j : Fin 1024) : EReal := (show FVec Ideal S256x1024 .f32 from m ((c : Thread nD τ).loc main_arg1)) (ix2 i j)

/-- Where every window's block stands at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ t.val < 16 :=
  (by decide +kernel : ∀ t : Fin grid0.N, _)

/-- Row `i` of grid point `t`'s block, in the whole array. -/
def row (t : Fin cfg0.N) (i : Fin 512) : Fin 8192 := ⟨t.val * 512 + i.val, by have := (idx t).2.2.2.2.2; omega⟩

theorem Qb_eq (t : Fin cfg0.N) : Qb m c t = fun i => Qf m c (row t i) := by
  funext i j; simp only [Qb, Qf, row]; blk_ext [iblk, V, idx t]
theorem Ob_eq (t : Fin cfg0.N) : Ob m c t = fun i => Of m c (row t i) := by
  funext i j; simp only [Ob, Of, row]; blk_ext [iblk, V, idx t]
theorem Kb_eq (t : Fin cfg0.N) : Kb m c t = Kf m c := by
  funext i j; simp only [Kb, Kf]; blk_ext [iblk, V, idx t]

/-- The first result: every query's gradient. -/
theorem final_dq : (dats m 0 c).arrAt 3 cfg0.N = fun y : S8192x512.Idx =>
    dq (Qf m c) (Of m c) (Kf m c) (y 0) (hd (y 1)) (ln (y 1)) := by
  refine (dats m 0 c).arrAt_eq_of_covers 3 _ (by decide +kernel) fun t _ y => ?_
  blk_simp
  rw [after0_3, dq_block, Qb_eq, Ob_eq, Kb_eq]
  have e0 : ((win0_3.blk t).view.emb y 0 : Fin 8192) = row t (y 0) := Fin.ext (by blk_simp [idx t]; rfl)
  have e1 : ((win0_3.blk t).view.emb y 1 : Fin 512) = y 1 := Fin.ext (by blk_simp [idx t])
  rw [e0, e1]
  rfl

/-- The second result: the memory projection's gradient, summed over all the rows. -/
theorem final_dkv : (dats m 0 c).arrAt 4 cfg0.N = fun y : S256x1024.Idx =>
    dkv (Qf m c) (Of m c) (Kf m c) (y 0) (y 1) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0)
    (fun t y => dkv (Qb m c t) (Ob m c t) (Kb m c t) (y 0) (y 1))
    (fun t h y => by rw [zero_add]; exact dkv_first m c t h y) (fun t h y => dkv_step m c t h y) (le_of_eq N_0) t0_15 rfl, zero_add]
  simp only [Qb_eq, Ob_eq, Kb_eq]
  refine dkv_sum _ _ _ row (fun f => ?_) _ _
  exact Fin.sum_mul_add_congr (S := cfg0.N) (n := 512) (fun p i h => rfl) rfl

end Cert.KernelIdeal.MemB

end
-- ==== Proof.MemRef.lean ====
/- What the reference of the memory attention's backward pass computes, read at an index. -/
module

public import proofs.«01_k».proof.Proof.Gen.ReferenceIdeal.Read
public import proofs.«01_k».proof.Proof.MemSpec
public import Idealize.ShloMosaic.Lib.Pipeline.ValueKit
public import Idealize.ShloMosaic.Lib.Pointwise

@[expose] public section

set_option maxRecDepth 16384

noncomputable section

namespace Cert.ReferenceIdeal.MemR

open Cert.ReferenceIdeal Cert.ReferenceIdeal.Gen Cert.ReferenceIdeal.Read Idealize.ShloMosaic Idealize.ShloMosaic.TcCoe Idealize.SL.Sem
open Cert.Mem Cert.Softmax

variable (x0 : FVec Ideal S8192x512 .f32) (x1 : FVec Ideal S256x1024 .f32) (x2 : FVec Ideal S8192x512 .bf16)

/-- The arguments by row and column. -/
abbrev Qr (i : Fin 8192) (j : Fin 512) : EReal := x0 (ix2 i j)
abbrev Kr (i : Fin 256) (j : Fin 1024) : EReal := x1 (ix2 i j)
abbrev Or (i : Fin 8192) (j : Fin 512) : EReal := x2 (ix2 i j)

theorem v1_at (j : Fin 256) (h : Fin 4) (d : Fin 128) : val_main_v1 (F := Ideal) x1 (ix3 j h d) = Kr x1 j (kcol h d) := by
  pointwise [val_main_v1, val_main_v0]
  blk_ext [kcol]

theorem v3_at (j : Fin 256) (h : Fin 4) (d : Fin 128) : val_main_v3 (F := Ideal) x1 (ix3 j h d) = Kr x1 j (vcol h d) := by
  pointwise [val_main_v3, val_main_v2]
  blk_ext [vcol]

theorem v4_at (i : Fin 8192) (h : Fin 4) (d : Fin 128) : val_main_v4 (F := Ideal) x0 (ix3 i h d) = Qr x0 i (col h d) := by
  pointwise [val_main_v4]
  blk_ext [col]

theorem v41_at (h : Fin 4) (d : Fin 128) (i : Fin 8192) : val_main_v41 (F := Ideal) x2 (ix3 h d i) = Or x2 i (col h d) := by
  pointwise [val_main_v41, val_main_v40, val_main_v39]
  blk_ext [col]

/-- The scaled scores. -/
theorem v7_at (h : Fin 4) (i : Fin 8192) (j : Fin 256) : val_main_v7 (F := Ideal) x0 x1 (ix3 h i j) = score (Qr x0) (Kr x1) h i j := by
  pointwise [val_main_v7, val_main_v6, val_main_v5, val_main_cst]
  simp only [v1_at, v4_at, score, sc]

/-- The largest score of a row. -/
theorem v8_at (h : Fin 4) (i : Fin 8192) : val_main_v8 (F := Ideal) x0 x1 (ix2 h i) = Finset.univ.fold max ⊥ fun j => score (Qr x0) (Kr x1) h i j := by
  pointwise [val_main_v8, val_main_cst_0]
  simp only [v7_at, ofBits_bot]

theorem v15_at (h : Fin 4) (i : Fin 8192) : val_main_v15 (F := Ideal) x0 x1 (ix2 h i) = Finset.univ.fold max ⊥ fun j => score (Qr x0) (Kr x1) h i j := by
  rw [val_main_v15_apply, val_main_v14_apply, val_main_cst_2_apply, v8_at]
  show max (Ideal.ofBits .f32 0xFF800000#32) _ = _
  rw [ofBits_bot, max_bot_left]

theorem v26_at (h : Fin 4) (i : Fin 8192) (j : Fin 256) : val_main_v26 (F := Ideal) x0 x1 (ix3 h i j) = Finset.univ.fold max ⊥ fun j => score (Qr x0) (Kr x1) h i j := by
  rw [val_main_v26_apply, val_main_v25_apply, ← v15_at]
  refine congrArg _ (funext fun a => ?_)
  match a with
  | ⟨0, _⟩ => rfl
  | ⟨1, _⟩ => rfl

/-- The exponentials. -/
theorem v28_at (h : Fin 4) (i : Fin 8192) (j : Fin 256) : val_main_v28 (F := Ideal) x0 x1 (ix3 h i j) = expo (score (Qr x0) (Kr x1) h i) j := by
  rw [val_main_v28_apply, val_main_v27_apply, v7_at, v26_at]
  rfl

/-- Their sum. -/
theorem v29_at (h : Fin 4) (i : Fin 8192) : val_main_v29 (F := Ideal) x0 x1 (ix2 h i) = ∑ j, expo (score (Qr x0) (Kr x1) h i) j := by
  pointwise [val_main_v29, val_main_cst_8]
  simp only [v28_at]

theorem v32_at (h : Fin 4) (i : Fin 8192) (j : Fin 256) : val_main_v32 (F := Ideal) x0 x1 (ix3 h i j) = soft (score (Qr x0) (Kr x1) h i) j := by
  pointwise [val_main_v32, val_main_v31, val_main_v30]
  simp only [v28_at, v29_at, soft]

theorem v42_at (h : Fin 4) (i : Fin 8192) (j : Fin 256) : val_main_v42 (F := Ideal) x1 x2 (ix3 h i j) = dprob (Or x2) (Kr x1) h i j := by
  pointwise [val_main_v42]
  simp only [v41_at, v3_at, dprob]

/-- The gradient of the unscaled scores, in the transposed softmax's form. -/
theorem v58_at (h : Fin 4) (i : Fin 8192) (j : Fin 256) : val_main_v58 (F := Ideal) x0 x1 x2 (ix3 h i j)
    = gradT (score (Qr x0) (Kr x1) h i) (dprob (Or x2) (Kr x1) h i) j * sc := by
  pointwise [val_main_v58, val_main_v57, val_main_v56, val_main_v55, val_main_v54, val_main_v53, val_main_v52, val_main_v51, val_main_v50,
    val_main_v49, val_main_v48, val_main_v47, val_main_v46, val_main_v45, val_main_v35, val_main_v34, val_main_v33, val_main_v30,
    val_main_cst_9, val_main_cst_10, val_main_cst_11, val_main_cst_12]
  simp only [v28_at, v29_at, v42_at, gradT, sc, Finset.univ_unique, Finset.sum_const, Finset.card_singleton, one_smul]

/-- The first result, the softmax's gradient in its transposed form. -/
theorem v69_at (i : Fin 8192) (e : Fin 512) : val_main_v69 (F := Ideal) x0 x1 x2 (ix2 i e)
    = ∑ j, gradT (score (Qr x0) (Kr x1) (hd e) i) (dprob (Or x2) (Kr x1) (hd e) i) j * sc * Kr x1 j (kcol (hd e) (ln e)) := by
  pointwise [val_main_v69, val_main_v63, val_main_v62, val_main_v61]
  simp only [v58_at, v1_at, hd, ln]

/-- The second result. -/
theorem v68_at (j : Fin 256) (e : Fin 1024) : val_main_v68 (F := Ideal) x0 x1 x2 (ix2 j e)
    = if h : e.val < 512 then
        ∑ i, gradT (score (Qr x0) (Kr x1) (hd ⟨e.val, h⟩) i) (dprob (Or x2) (Kr x1) (hd ⟨e.val, h⟩) i) j * sc
          * Qr x0 i (col (hd ⟨e.val, h⟩) (ln ⟨e.val, h⟩))
      else dv (Qr x0) (Or x2) (Kr x1) j (hd ⟨e.val - 512, by omega⟩) (ln ⟨e.val - 512, by omega⟩) := by
  pointwise [val_main_v68, val_main_v67, val_main_v66, val_main_v65, val_main_v64, val_main_v60, val_main_v59, val_main_v44, val_main_v43,
    val_main_cst_13, val_main_cst_14]
  simp only [v58_at, v4_at, v41_at, v32_at, dv, hd, ln]
  have he := e.isLt
  by_cases h : e.val < 512
  · rw [dif_neg (by omega), dif_pos h, dif_pos h, zero_add]
  · rw [dif_pos (by omega), dif_neg h, dif_neg h, add_zero]
    exact Finset.sum_congr rfl fun i _ => mul_comm _ _

/-- Where the scores are real numbers, the first result is the queries' gradient. -/
theorem dq_ref (hs : ∀ h i j, Fin' (score (Qr x0) (Kr x1) h i j)) (y : S8192x512.Idx) : val_main_v69 (F := Ideal) x0 x1 x2 y
    = dq (Qr x0) (Or x2) (Kr x1) (y 0) (hd (y 1)) (ln (y 1)) := by
  idx_vars y
  rw [v69_at]
  simp only [gradT_eq_grad (hs _ _)]
  rfl

/-- Where the scores are real numbers, the second result is the memory projection's gradient. -/
theorem dkv_ref (hs : ∀ h i j, Fin' (score (Qr x0) (Kr x1) h i j)) (y : S256x1024.Idx) : val_main_v68 (F := Ideal) x0 x1 x2 y
    = dkv (Qr x0) (Or x2) (Kr x1) (y 0) (y 1) := by
  idx_vars y
  rw [v68_at]
  simp only [gradT_eq_grad (hs _ _)]
  rfl

end Cert.ReferenceIdeal.MemR

end
-- ==== Proof.Finite.lean ====
/- Reading a predicate: a conjunction of bits that is one, and a comparison of an absolute value with plus infinity. -/
module

public import proofs.«01_k».proof.Proof.MemSpec
public import Idealize.ShloMosaic.Lib.Pipeline.ValueKit
public import Idealize.ShloMosaic.Lib.Pointwise
public import Idealize.ShloMosaic.PureOps.Reduce

@[expose] public section

set_option maxRecDepth 16384

noncomputable section

namespace Cert.Finite

open Idealize.ShloMosaic Cert.Mem Cert.Softmax

/-- A conjunction of bits is one only where every bit is. -/
theorem andi_one (a b : BitVec 1) (h : IntOp.andi a b = 1#1) : a = 1#1 ∧ b = 1#1 := by
  revert a b; decide

theorem fold_andi {ι : Type*} (s : Finset ι) (f : ι → BitVec 1) (z : BitVec 1) :
    s.fold IntOp.andi z f = 1#1 → ∀ i ∈ s, f i = 1#1 := by
  classical
  induction s using Finset.induction_on with
  | empty => intro _ i hi; simp at hi
  | insert a s ha ih =>
    rw [Finset.fold_insert ha]
    intro h i hi
    obtain ⟨h1, h2⟩ := andi_one _ _ h
    rcases Finset.mem_insert.1 hi with rfl | hi
    · exact h1
    · exact ih h2 i hi

/-- A conjunction over a whole array is one only where every element is. -/
theorem reduce_andi {s u : Shape} {axes} (x : IVec s 1) (v : IVec u 1) (h : s.ReducesTo axes u) (hu : 0 < u.numel)
    (e : Host.reduce IntOp.andi x v h hu = fun _ => 1#1) (i : s.Idx) : x i = 1#1 := by
  have e' := congrFun e (h.drop i)
  rw [Host.reduce_eq_fold] at e'
  exact fold_andi _ _ _ e' i (by simp)

/-- An extended real below plus infinity in absolute value is a real number. -/
theorem fin_of_abs {x : EReal} (h : Ideal.cmp .olt (max x (-x)) (Ideal.ofBits .f32 0x7F800000#32) = 1#1) : Fin' x := by
  rw [ofBits_top] at h
  have h' : max x (-x) < ⊤ := by
    by_contra hc
    simp [Ideal.cmp, hc] at h
  refine .of_lt ?_ (lt_of_le_of_lt (le_max_left _ _) h')
  have := lt_of_le_of_lt (le_max_right _ _) h'
  rw [bot_lt_iff_ne_bot]
  rintro rfl
  simp at this

end Cert.Finite

end
-- ==== Proof.MemPre.lean ====
/- The precondition read: every query entry and every key entry is a real number, so every score is. -/
module

public import proofs.«01_k».proof.Pre_finite_scores
public import proofs.«01_k».proof.Proof.MemSpec
public import proofs.«01_k».proof.Proof.Finite
public import Idealize.ShloMosaic.Lib.Pipeline.ValueKit
public import Idealize.ShloMosaic.Lib.Pointwise
public import Idealize.ShloMosaic.PureOps.Reduce

@[expose] public section

set_option maxRecDepth 16384

noncomputable section

namespace Cert.MemP

open Cert.Pre_finite_scores Idealize.ShloMosaic Idealize.ShloMosaic.TcCoe
open Cert.Mem Cert.Softmax Cert.Finite

/-- The predicate's side conditions. -/
theorem facts : Cert.Pre_finite_scores.Facts where
  bcast_S_S8192x512 := by decide
  reducesTo_S8192x512_S_d0_1 := by decide
  h_S_ := by decide
  slices_S256x1024_S256x512_0_0 := by decide
  bcast_S_S256x512 := by decide
  reducesTo_S256x512_S_d0_1 := by decide

theorem fin_args [Facts] (x0 : FVec Ideal S8192x512 .f32) (x1 : FVec Ideal S256x1024 .f32) (x2 : FVec Ideal S8192x512 .bf16)
    (h : fn (F := Ideal) x0 x1 x2 = fun _ => 1#1) :
    (∀ i j, Fin' (x0 (ix2 i j))) ∧ ∀ (i : Fin 256) (j : Fin 512), Fin' (x1 (ix2 i ⟨j.val, by omega⟩)) := by
  unfold fn at h
  have h' := fun i => andi_one _ _ (congrFun h i)
  have h1 := reduce_andi _ _ _ _ (funext fun i => (h' i).1)
  have h2 := reduce_andi _ _ _ _ (funext fun i => (h' i).2)
  constructor
  · intro i j
    exact fin_of_abs (h1 (ix2 i j))
  · intro i j
    have e : extractStridedSlice S256x512 ![0, 0] x1 Facts.slices_S256x1024_S256x512_0_0 (ix2 i j) = x1 (ix2 i ⟨j.val, by omega⟩) := by
      pointwise
    exact e ▸ fin_of_abs (h2 (ix2 i j))

/-- The scale is a real number. -/
theorem fin_sc : Fin' sc := by
  rw [sc]
  simp only [Ideal.ofBits, Ideal.ieee]
  norm_num
  exact ⟨_, rfl⟩

/-- Every score of finite queries and keys is a real number. -/
theorem fin_score [Facts] (x0 : FVec Ideal S8192x512 .f32) (x1 : FVec Ideal S256x1024 .f32) (x2 : FVec Ideal S8192x512 .bf16)
    (h : fn (F := Ideal) x0 x1 x2 = fun _ => 1#1) (g : Fin 4) (i : Fin 8192) (j : Fin 256) :
    Fin' (score (fun i j => x0 (ix2 i j)) (fun i j => x1 (ix2 i j)) g i j) := by
  obtain ⟨h1, h2⟩ := fin_args x0 x1 x2 h
  refine .mul (.sum _ fun d => .mul (h1 _ _) (h2 j (col g d))) ?_
  exact fin_sc

end Cert.MemP

end
-- ==== Proof.FfnSpec.lean ====
/- The logistic function on the extended reals, in the two forms the programs use, and the two forms of the gradient of
   `silu(G) · U`: the kernel's factored one and the transposed derivative's sum agree where `dA · U` is a real number. -/
module

public import proofs.«01_k».proof.Proof.SoftmaxGrad

@[expose] public section

noncomputable section

namespace Cert.Ffn

open Idealize.ShloMosaic Cert.Softmax

/-- One half and one, as the two formats write them. -/
theorem half_lo : Ideal.ofBits .bf16 0x3F00#16 = ((1 / 2 : ℝ) : EReal) := by
  simp [Ideal.ofBits, Ideal.ieee, -EReal.coe_mul]; norm_num
theorem half_hi : Ideal.ofBits .f32 0x3F000000#32 = ((1 / 2 : ℝ) : EReal) := by
  simp [Ideal.ofBits, Ideal.ieee, -EReal.coe_mul]; norm_num
theorem one_hi : Ideal.ofBits .f32 0x3F800000#32 = 1 := by
  rw [← EReal.coe_one]; simp [Ideal.ofBits, Ideal.ieee, -EReal.coe_mul, -EReal.coe_one]; norm_num

/-- The logistic function by the hyperbolic tangent. -/
def sg (x : EReal) : EReal := ((1 / 2 : ℝ) : EReal) * Ideal.tanh (((1 / 2 : ℝ) : EReal) * x) + ((1 / 2 : ℝ) : EReal)

theorem sg_coe (r : ℝ) : sg r = (((1 + Real.exp (-r))⁻¹ : ℝ) : EReal) := by
  have h : 1 / 2 * Real.tanh (1 / 2 * r) + 1 / 2 = (1 + Real.exp (-r))⁻¹ := by
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [e1]
    have hp := Real.exp_pos (1 / 2 * r)
    have hq := Real.exp_pos (-(1 / 2 * r))
    generalize Real.exp (1 / 2 * r) = a at *
    generalize Real.exp (-(1 / 2 * r)) = b at *
    field_simp
    nlinarith [e2]
  rw [← h]
  simp only [sg, ← EReal.coe_mul, Ideal.tanh_coe, ← EReal.coe_add]

theorem sg_top : sg ⊤ = 1 := by
  rw [sg, EReal.coe_mul_top_of_pos (by norm_num), Ideal.tanh_top, mul_one, ← EReal.coe_add, ← EReal.coe_one]; norm_num
theorem sg_bot : sg ⊥ = 0 := by
  rw [sg, EReal.coe_mul_bot_of_pos (by norm_num), Ideal.tanh_bot, ← EReal.coe_one, ← EReal.coe_neg, ← EReal.coe_mul,
    ← EReal.coe_add, ← EReal.coe_zero]; norm_num

/-- The logistic function by the exponential is the same. -/
theorem logistic_eq (x : EReal) : Ideal.div 1 (1 + Ideal.exp (-x)) = sg x := by
  induction x using EReal.rec with
  | bot =>
    have h : (1 : EReal) + ⊤ = ⊤ := by rw [← EReal.coe_one]; exact EReal.coe_add_top 1
    rw [sg_bot]; simp [Ideal.div, h]
  | top => rw [sg_top]; simp [Ideal.div]
  | coe r =>
    rw [sg_coe, ← EReal.coe_neg, Ideal.exp_coe, ← EReal.coe_one, ← EReal.coe_add, Softmax.div_pos (by positivity), EReal.coe_one, one_mul]

/-- The logistic function of anything is a real number. -/
theorem fin_sg (x : EReal) : Fin' (sg x) := by
  induction x using EReal.rec with
  | bot => rw [sg_bot]; exact ⟨0, rfl⟩
  | top => rw [sg_top]; exact ⟨1, rfl⟩
  | coe r => exact ⟨_, sg_coe r⟩

/-- The activation's gradient: the scaled output's gradient against a row of the down projection. -/
def dact (h : EReal) {n : ℕ} (d w : Fin n → EReal) : EReal := ∑ k, h * d k * w k

/-- The kernel's gradient of the gate's pre-activation, `e = dA · U`. -/
def dgate (e G : EReal) : EReal := e * (sg G * (1 + G * (1 - sg G)))

/-- The transposed derivative's is the same where `e` is a real number. -/
theorem dgate_eq {e : EReal} (he : Fin' e) (G : EReal) :
    e * sg G + G * e * (sg G * (1 - sg G)) = dgate e G := by
  obtain ⟨e, rfl⟩ := he
  induction G using EReal.rec with
  | bot => simp [dgate, sg_bot]
  | top =>
    have : (1 : EReal) - 1 = 0 := by rw [← EReal.coe_one, ← EReal.coe_sub]; simp
    simp [dgate, sg_top, this]
  | coe r =>
    rw [dgate, sg_coe]
    generalize (1 + Real.exp (-r))⁻¹ = s
    rw [← EReal.coe_one]
    norm_cast
    ring

end Cert.Ffn

end
-- ==== Proof.FfnBlock.lean ====
/- The kernel of the two pre-activations' gradients: what a grid point leaves, and the two arrays after the run. -/
module

public import proofs.«01_k».proof.Proof.Gen.Kernel2Ideal.Value
public import proofs.«01_k».proof.Proof.FfnSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel2Ideal.Act

open Cert.Kernel2Ideal Cert.Kernel2Ideal.Gen Idealize.ShloMosaic Idealize.ShloMosaic.TcCoe Idealize.SL.Sem
open Cert.Ffn

variable (m : (ℓ : Loc nD τ sig) → Buf (Elt Ideal) ℓ) (c : Dev nD)

/-- Grid point `t`'s blocks: the half-step's factor, the output's gradient, the down projection, the gates, the up activations. -/
abbrev hb (t : Fin cfg0.N) : EReal := (show FVec Ideal S1 .f32 from iblk m c 0 t) (ix1 0)
abbrev Db (t : Fin cfg0.N) (i : Fin 512) (j : Fin 1024) : EReal := (show FVec Ideal S512x1024 .bf16 from iblk m c 1 t) (ix2 i j)
abbrev Wb (t : Fin cfg0.N) (i : Fin 2816) (j : Fin 1024) : EReal := (show FVec Ideal S2816x1024 .bf16 from iblk m c 2 t) (ix2 i j)
abbrev Gb (t : Fin cfg0.N) (i : Fin 512) (j : Fin 2816) : EReal := (show FVec Ideal S512x2816 .bf16 from iblk m c 3 t) (ix2 i j)
abbrev Ub (t : Fin cfg0.N) (i : Fin 512) (j : Fin 2816) : EReal := (show FVec Ideal S512x2816 .bf16 from iblk m c 4 t) (ix2 i j)

theorem fin_eq {n k : ℕ} (a : Fin n) (h : a.val = k) : a = ⟨k, h ▸ a.isLt⟩ := Fin.ext h

/-- A grid point's block of the gates' gradient. -/
theorem dg_block (t : Fin cfg0.N) (y : S512x2816.Idx) :
    (outsAt0 m c t).1 y = dgate (dact (hb m c t) (Db m c t (y 0)) (Wb m c t (y 1)) * Ub m c t (y 0) (y 1)) (Gb m c t (y 0) (y 1)) := by
  unfold Gen.outsAt0
  frame_out
  canon_tiles x h using View.cover_of_tiledBy _ ![512, 128] (by sl_kernel_rfl) y
  all_goals
    rw [show y 0 = x 0 from Fin.ext h0, fin_eq (y 1) h1]
    open_payloads; pointwise
    simp only [half_hi, one_hi, half_lo, dgate, dact, sg, hb, Db, Wb, Gb, Ub]

/-- A grid point's block of the up activations' gradient. -/
theorem du_block (t : Fin cfg0.N) (y : S512x2816.Idx) :
    (outsAt0 m c t).2 y = dact (hb m c t) (Db m c t (y 0)) (Wb m c t (y 1)) * (Gb m c t (y 0) (y 1) * sg (Gb m c t (y 0) (y 1))) := by
  unfold Gen.outsAt0
  frame_out
  canon_tiles x h using View.cover_of_tiledBy _ ![512, 128] (by sl_kernel_rfl) y
  all_goals
    rw [show y 0 = x 0 from Fin.ext h0, fin_eq (y 1) h1]
    open_payloads; pointwise
    simp only [half_hi, one_hi, half_lo, dact, sg, hb, Db, Wb, Gb, Ub]

/-- The arguments as launched, by row and column. -/
abbrev Df (i : Fin 8192) (j : Fin 1024) : EReal := (show FVec Ideal S8192x1024 .bf16 from m ((c : Thread nD τ).loc main_arg0)) (ix2 i j)
abbrev Wf (i : Fin 2816) (j : Fin 1024) : EReal := (show FVec Ideal S2816x1024 .bf16 from m ((c : Thread nD τ).loc main_arg1)) (ix2 i j)
abbrev Gf (i : Fin 8192) (j : Fin 2816) : EReal := (show FVec Ideal S8192x2816 .bf16 from m ((c : Thread nD τ).loc main_arg2)) (ix2 i j)
abbrev Uf (i : Fin 8192) (j : Fin 2816) : EReal := (show FVec Ideal S8192x2816 .bf16 from m ((c : Thread nD τ).loc main_arg3)) (ix2 i j)

/-- Where every window's block stands at a grid point. -/
theorem idx : ∀ t : Fin cfg0.N, win0_0.index t = ![0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0] ∧ t.val < 16 :=
  (by decide +kernel : ∀ t : Fin grid0.N, _)

/-- Row `i` of grid point `t`'s block, in the whole array. -/
def row (t : Fin cfg0.N) (i : Fin 512) : Fin 8192 := ⟨t.val * 512 + i.val, by have := (idx t).2.2.2.2.2.2.2; omega⟩

/-- The factor the host lines prepare is one half. -/
theorem hb_eq (t : Fin cfg0.N) : hb m c t = ((1 / 2 : ℝ) : EReal) := by
  simp only [hb]
  blk_simp [iblk, idx t]
  entry_read
  pointwise
  exact half_hi

theorem Db_eq (t : Fin cfg0.N) : Db m c t = fun i => Df m c (row t i) := by
  funext i j; simp only [Db, Df, row]; blk_ext [iblk, V_main_arg0, idx t]
theorem Wb_eq (t : Fin cfg0.N) : Wb m c t = Wf m c := by
  funext i j; simp only [Wb, Wf]; blk_ext [iblk, V_main_arg1, idx t]
theorem Gb_eq (t : Fin cfg0.N) : Gb m c t = fun i => Gf m c (row t i) := by
  funext i j; simp only [Gb, Gf, row]; blk_ext [iblk, V_main_arg2, idx t]
theorem Ub_eq (t : Fin cfg0.N) : Ub m c t = fun i => Uf m c (row t i) := by
  funext i j; simp only [Ub, Uf, row]; blk_ext [iblk, V_main_arg3, idx t]

/-- The first result: the gates' gradient. -/
theorem final_dg : (dats m 0 c).arrAt 5 cfg0.N = fun y : S8192x2816.Idx =>
    dgate (dact ((1 / 2 : ℝ) : EReal) (Df m c (y 0)) (Wf m c (y 1)) * Uf m c (y 0) (y 1)) (Gf m c (y 0) (y 1)) := by
  refine (dats m 0 c).arrAt_eq_of_covers 5 _ (by decide +kernel) fun t _ y => ?_
  blk_simp
  rw [after0_5, dg_block, hb_eq, Db_eq, Wb_eq, Gb_eq, Ub_eq]
  have e0 : ((win0_5.blk t).view.emb y 0 : Fin 8192) = row t (y 0) := Fin.ext (by blk_simp [idx t]; rfl)
  have e1 : ((win0_5.blk t).view.emb y 1 : Fin 2816) = y 1 := Fin.ext (by blk_simp [idx t])
  rw [e0, e1]

/-- The second result: the up activations' gradient. -/
theorem final_du : (dats m 0 c).arrAt 6 cfg0.N = fun y : S8192x2816.Idx =>
    dact ((1 / 2 : ℝ) : EReal) (Df m c (y 0)) (Wf m c (y 1)) * (Gf m c (y 0) (y 1) * sg (Gf m c (y 0) (y 1))) := by
  refine (dats m 0 c).arrAt_eq_of_covers 6 _ (by decide +kernel) fun t _ y => ?_
  blk_simp
  rw [after0_6, du_block, hb_eq, Db_eq, Wb_eq, Gb_eq]
  have e0 : ((win0_6.blk t).view.emb y 0 : Fin 8192) = row t (y 0) := Fin.ext (by blk_simp [idx t]; rfl)
  have e1 : ((win0_6.blk t).view.emb y 1 : Fin 2816) = y 1 := Fin.ext (by blk_simp [idx t])
  rw [e0, e1]

end Cert.Kernel2Ideal.Act

end
-- ==== Proof.FfnRef.lean ====
/- The reference's two results at an index: the derivative of `0.5 * ((silu(G) * U) @ w_down)` with respect to `G` and to `U`;
   and the precondition read. -/
module

public import proofs.«01_k».proof.Proof.Gen.Reference2Ideal.Read
public import proofs.«01_k».proof.Pre_finite_but_gates
public import proofs.«01_k».proof.Proof.FfnSpec
public import proofs.«01_k».proof.Proof.Finite

@[expose] public section

set_option maxRecDepth 16384

noncomputable section

namespace Cert.Reference2Ideal.Act

open Cert.Reference2Ideal Cert.Reference2Ideal.Read Idealize.ShloMosaic Idealize.ShloMosaic.TcCoe
open Cert.Ffn Cert.Softmax

variable (x0 : FVec Ideal S8192x1024 .bf16) (x1 : FVec Ideal S2816x1024 .bf16) (x2 x3 : FVec Ideal S8192x2816 .bf16)

/-- The logistic function of the gates. -/
theorem v2_2_at (i : Fin 8192) (f : Fin 2816) : val_main_v2_2 (F := Ideal) x2 (ix2 i f) = sg (x2 (ix2 i f)) := by
  rw [← logistic_eq]
  pointwise [val_main_v2_2, val_main_call0_v4, val_main_call0_cst_0, val_main_call0_v3, val_main_call0_v2, val_main_call0_cst,
    val_main_call0_v1, val_main_call0_v0, val_main_v0]

/-- Its derivative. -/
theorem v2_1_at (i : Fin 8192) (f : Fin 2816) :
    val_main_v2_1 (F := Ideal) x2 (ix2 i f) = sg (x2 (ix2 i f)) * (1 - sg (x2 (ix2 i f))) := by
  pointwise [val_main_v2_1, val_main_call0_v7, val_main_call0_v6, val_main_call0_cst_1]
  simp only [v2_2_at, one_hi]

/-- The activation's gradient. -/
theorem v11_at (i : Fin 8192) (f : Fin 2816) : val_main_v11 (F := Ideal) x0 x1 (ix2 i f)
    = dact ((1 / 2 : ℝ) : EReal) (fun k => x0 (ix2 i k)) (fun k => x1 (ix2 f k)) := by
  pointwise [val_main_v11, val_main_v10, val_main_v9, val_main_cst_0, val_main_v8, val_main_v4]
  simp only [half_hi, dact]

/-- The up activations' gradient. -/
theorem du_at (i : Fin 8192) (f : Fin 2816) : val_main_v16 (F := Ideal) x0 x1 x2 (ix2 i f)
    = dact ((1 / 2 : ℝ) : EReal) (fun k => x0 (ix2 i k)) (fun k => x1 (ix2 f k)) * (x2 (ix2 i f) * sg (x2 (ix2 i f))) := by
  pointwise [val_main_v16, val_main_v12, val_main_v2_0, val_main_v0]
  simp only [v11_at, v2_2_at, mul_comm]

/-- The gates' gradient, where the activation's gradient times the up activation is a real number. -/
theorem dg_at (i : Fin 8192) (f : Fin 2816)
    (h : Fin' (dact ((1 / 2 : ℝ) : EReal) (fun k => x0 (ix2 i k)) (fun k => x1 (ix2 f k)) * x3 (ix2 i f))) :
    val_main_v15 (F := Ideal) x0 x1 x2 x3 (ix2 i f)
    = dgate (dact ((1 / 2 : ℝ) : EReal) (fun k => x0 (ix2 i k)) (fun k => x1 (ix2 f k)) * x3 (ix2 i f)) (x2 (ix2 i f)) := by
  rw [← dgate_eq h]
  pointwise [val_main_v15, val_main_v14, val_main_call1_v1, val_main_call1_v2, val_main_call1_v0, val_main_v13, val_main_v0, val_main_v1]
  simp only [v11_at, v2_1_at, v2_2_at]

end Cert.Reference2Ideal.Act

namespace Cert.FfnP

open Cert.Pre_finite_but_gates Idealize.ShloMosaic Idealize.ShloMosaic.TcCoe
open Cert.Ffn Cert.Softmax Cert.Finite

/-- The predicate's side conditions. -/
theorem facts : Cert.Pre_finite_but_gates.Facts where
  bitsLt_bf16_f32 := by decide
  bcast_S_S8192x1024 := by decide
  reducesTo_S8192x1024_S_d0_1 := by decide
  h_S_ := by decide
  bcast_S_S2816x1024 := by decide
  reducesTo_S2816x1024_S_d0_1 := by decide
  bcast_S_S8192x2816 := by decide
  reducesTo_S8192x2816_S_d0_1 := by decide

/-- Under the precondition the activation's gradient times the up activation is a real number. -/
theorem fin_dact [Facts] (x0 : FVec Ideal S8192x1024 .bf16) (x1 : FVec Ideal S2816x1024 .bf16) (x2 x3 : FVec Ideal S8192x2816 .bf16)
    (h : fn (F := Ideal) x0 x1 x2 x3 = fun _ => 1#1) (i : Fin 8192) (f : Fin 2816) :
    Fin' (dact ((1 / 2 : ℝ) : EReal) (fun k => x0 (ix2 i k)) (fun k => x1 (ix2 f k)) * x3 (ix2 i f)) := by
  unfold fn at h
  have h' := fun i => andi_one _ _ (congrFun h i)
  have h'' := fun i => andi_one _ _ (h' i).1
  have h0 := reduce_andi _ _ _ _ (funext fun i => (h'' i).1)
  have h1 := reduce_andi _ _ _ _ (funext fun i => (h'' i).2)
  have h3 := reduce_andi _ _ _ _ (funext fun i => (h' i).2)
  exact .mul (.sum _ fun k => .mul (.mul ⟨_, rfl⟩ (fin_of_abs (h0 (ix2 i k)))) (fin_of_abs (h1 (ix2 f k)))) (fin_of_abs (h3 (ix2 i f)))

end Cert.FfnP

end
-- ==== Proof.FfnClaim.lean ====
/- The half-step's two pre-activations: the reference's frame, and the value claim. -/
module

public import proofs.«01_k».proof.Defs
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.FfnBlock
public import proofs.«01_k».proof.Proof.FfnRef
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref2 : Cert.quiescent_Reference2Ideal (hReference2Ideal := Cert.Reference2Ideal.Gen.facts) := by
  intro m g _
  exact (θ_run Cert.Reference2Ideal.defs _ _).mono (fun r h => ⟨fun c => ⟨(h c).2.2.1, (h c).2.2.2.1, (h c).2.2.2.2.1, (h c).2.2.2.2.2⟩,
      Idealize.ShloMosaic.sem_eq_zero_of_no_sems (by decide) r.2⟩)
    (Cert.Reference2Ideal.Value.run (F := Ideal) m g)

/-- The kernel and the reference leave equal results wherever the output's gradient, the down projection and the up activations are finite. -/
theorem value2 : Cert.algebraic_Kernel2Ideal_Reference2Ideal_pre_finite_but_gates (hKernel2Ideal := Cert.Kernel2Ideal.Gen.facts)
    (hReference2Ideal := Cert.Reference2Ideal.Gen.facts) (hPre_finite_but_gates := Cert.FfnP.facts) := by
  haveI := Cert.FfnP.facts
  pair_intro
  · run_from Cert.Kernel2Ideal.Gen.run_main m g
  · run_from Cert.Reference2Ideal.Value.run m' g'
    · rw [Cert.Reference2Ideal.Read.val_main_v15_eq]
      try rw [(hagree c).1, (hagree c).2.1, (hagree c).2.2.1, (hagree c).2.2.2]
      refine Eq.trans ?_ (Cert.Kernel2Ideal.Act.final_dg m c).symm
      funext y
      idx_vars y
      exact Cert.Reference2Ideal.Act.dg_at _ _ _ _ _ _ (Cert.FfnP.fin_dact _ _ _ _ (hpre c) _ _)
    · rw [Cert.Reference2Ideal.Read.val_main_v16_eq]
      try rw [(hagree c).1, (hagree c).2.1, (hagree c).2.2.1]
      refine Eq.trans ?_ (Cert.Kernel2Ideal.Act.final_du m c).symm
      funext y
      idx_vars y
      exact Cert.Reference2Ideal.Act.du_at _ _ _ _ _

end Cert.Proof

end
-- ==== Proof.NormSpec.lean ====
/- The gradient of a root-mean-square norm: the form the kernel computes, `r (dh g − x r · mean (dh g x r))`, and the form
   the transposed derivative computes agree where the normed row is finite, whatever the gradient and the gain hold. -/
module

public import proofs.«01_k».proof.Proof.FfnSpec

@[expose] public section

noncomputable section

namespace Cert.Norm

open Idealize.ShloMosaic Cert.Softmax Cert.Ffn

/-- The row's length and the norm's small constant, as printed. -/
def len : EReal := Ideal.ofBits .f32 0x44800000#32
def eps : EReal := Ideal.ofBits .f32 0x358637BD#32

theorem len_eq : len = ((1024 : ℝ) : EReal) := by
  simp [len, Ideal.ofBits, Ideal.ieee, -EReal.coe_mul]; norm_num
theorem eps_pos : Pos eps := by
  simp only [eps, Ideal.ofBits, Ideal.ieee]
  norm_num
  exact ⟨_, by positivity, (EReal.coe_mul _ _).symm⟩
theorem neg_half : Ideal.ofBits .f32 0xBF000000#32 = ((-(1 / 2) : ℝ) : EReal) := by
  simp [Ideal.ofBits, Ideal.ieee, -EReal.coe_mul, -EReal.coe_neg]; norm_num

variable {n : ℕ}

/-- The mean square of a row and the small constant; the norm's factor. -/
def ms (x : Fin n → EReal) : EReal := Ideal.div (∑ k, x k * x k) len + eps
def rs (x : Fin n → EReal) : EReal := Ideal.rsqrt (ms x)

/-- The row's gradient as the kernel computes it. -/
def dnorm (x g dh : Fin n → EReal) (j : Fin n) : EReal :=
  rs x * (dh j * g j - x j * rs x * Ideal.div (∑ k, dh k * g k * (x k * rs x)) len)

/-- The mean square's gradient as the transposed derivative computes it. -/
def dms (x g dh : Fin n → EReal) : EReal :=
  Ideal.div ((∑ k, x k * (dh k * g k)) * (((-(1 / 2) : ℝ) : EReal) * Ideal.div (rs x) (ms x))) len

/-- The gradient of a normed row, from those of the two products it went into. -/
def dh2 {F : ℕ} (G U : Fin F → EReal) (P R : Fin F → Fin 1024 → EReal) (j : Fin 1024) : EReal := (∑ f, G f * P f j) + ∑ f, U f * R f j

/-- A sum of squares of real numbers is a nonnegative real number. -/
theorem sq_sum {x : Fin n → EReal} (hx : ∀ k, Fin' (x k)) : ∃ r : ℝ, 0 ≤ r ∧ ∑ k, x k * x k = r := by
  refine Finset.sum_induction _ (fun y : EReal => ∃ r : ℝ, 0 ≤ r ∧ y = r) ?_ ⟨0, le_rfl, rfl⟩ fun k _ => ?_
  · rintro _ _ ⟨a, ha, rfl⟩ ⟨b, hb, rfl⟩; exact ⟨a + b, by positivity, (EReal.coe_add _ _).symm⟩
  · obtain ⟨a, ha⟩ := hx k; exact ⟨a * a, mul_self_nonneg a, by rw [ha, EReal.coe_mul]⟩

/-- Of a finite row the mean square is a positive real number and the factor its inverse root. -/
theorem ms_rs {x : Fin n → EReal} (hx : ∀ k, Fin' (x k)) : ∃ r : ℝ, 0 < r ∧ ms x = (((r * r)⁻¹ : ℝ) : EReal) ∧ rs x = r := by
  obtain ⟨s, hs, hse⟩ := sq_sum hx
  obtain ⟨e, he, hee⟩ := eps_pos
  have hm : ms x = ((s * (1024 : ℝ)⁻¹ + e : ℝ) : EReal) := by
    rw [ms, hse, len_eq, Softmax.div_pos (by norm_num), hee, ← EReal.coe_mul, ← EReal.coe_add]
  have hpos : 0 < s * (1024 : ℝ)⁻¹ + e := by positivity
  generalize s * (1024 : ℝ)⁻¹ + e = μ at hm hpos
  refine ⟨(Real.sqrt μ)⁻¹, by positivity, ?_, ?_⟩
  · rw [hm, ← mul_inv, Real.mul_self_sqrt hpos.le, inv_inv]
  · rw [rs, hm, Ideal.rsqrt_coe, if_neg hpos.le.not_gt, if_neg hpos.ne']

theorem add_self_eq (w : EReal) : w + w = ((2 : ℝ) : EReal) * w := by
  rw [show (2 : ℝ) = 1 + 1 by norm_num, EReal.coe_add, EReal.right_distrib_of_nonneg (by simp) (by simp)]
  simp

/-- The two forms agree where the row is finite. -/
theorem dnorm_eq {x : Fin n → EReal} (hx : ∀ k, Fin' (x k)) (g dh : Fin n → EReal) (j : Fin n) (dy : EReal) :
    dy + dh j * g j * rs x + x j * dms x g dh + dms x g dh * x j = dy + dnorm x g dh j := by
  obtain ⟨r, hr, hm, hre⟩ := ms_rs hx
  choose a ha using hx
  have hs : (∑ k, dh k * g k * (x k * rs x)) = (r : EReal) * ∑ k, x k * (dh k * g k) := by
    rw [coe_mul_sum _ hr.le]
    refine Finset.sum_congr rfl fun k _ => ?_
    rw [hre]; ac_rfl
  have hd : Ideal.div (rs x) (ms x) = ((r * (r * r) : ℝ) : EReal) := by
    rw [hre, hm, Softmax.div_pos (by positivity), inv_inv, ← EReal.coe_mul]
  rw [dnorm, hs, dms, hd, len_eq, Softmax.div_pos (by norm_num), Softmax.div_pos (by norm_num), hre, ha j]
  generalize (∑ k, x k * (dh k * g k)) = T
  generalize dh j * g j = d
  generalize a j = b
  rw [sub_eq_add_neg, coe_mul_add hr.le, add_assoc, add_assoc]
  have h1 : (b : EReal) * (T * (((-(1 / 2) : ℝ) : EReal) * ((r * (r * r) : ℝ) : EReal)) * (((1024 : ℝ)⁻¹ : ℝ) : EReal))
      = ((b * (-(1 / 2)) * (r * (r * r)) * (1024 : ℝ)⁻¹ : ℝ) : EReal) * T := by
    simp only [EReal.coe_mul]; ac_rfl
  have h2 : T * (((-(1 / 2) : ℝ) : EReal) * ((r * (r * r) : ℝ) : EReal)) * (((1024 : ℝ)⁻¹ : ℝ) : EReal) * (b : EReal)
      = ((b * (-(1 / 2)) * (r * (r * r)) * (1024 : ℝ)⁻¹ : ℝ) : EReal) * T := by
    simp only [EReal.coe_mul]; ac_rfl
  have h3 : (r : EReal) * -((b : EReal) * r * (r * T * (((1024 : ℝ)⁻¹ : ℝ) : EReal)))
      = ((2 * (b * (-(1 / 2)) * (r * (r * r)) * (1024 : ℝ)⁻¹) : ℝ) : EReal) * T := by
    rw [show 2 * (b * (-(1 / 2)) * (r * (r * r)) * (1024 : ℝ)⁻¹) = -(r * (b * r) * (r * (1024 : ℝ)⁻¹)) by ring, EReal.coe_neg,
      mul_neg, neg_mul]
    simp only [EReal.coe_mul]; congr 1; ac_rfl
  rw [h1, h2, h3, add_self_eq, EReal.coe_mul 2, mul_comm d, mul_assoc ((2 : ℝ) : EReal)]

end Cert.Norm

end
-- ==== Proof.NormBlock.lean ====
/- The kernel of a half-step's input gradient: what a grid point leaves, and the three arrays after the run. -/
module

public import proofs.«01_k».proof.Proof.Gen.Kernel3Ideal.Value
public import proofs.«01_k».proof.Proof.NormSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel3Ideal.Dx

open Cert.Kernel3Ideal Cert.Kernel3Ideal.Gen Idealize.ShloMosaic Idealize.ShloMosaic.TcCoe Idealize.SL.Sem
open Cert.Norm

variable (m : (ℓ : Loc nD τ sig) → Buf (Elt Ideal) ℓ) (c : Dev nD)

/-- Grid point `t`'s blocks: the gradients of the gates and of the up activations, the two projections (held transposed), the normed
    rows, the gain, and the gradient passed around the half-step. -/
abbrev Gb (t : Fin cfg0.N) (i : Fin 512) (j : Fin 2816) : EReal := (show FVec Ideal S512x2816 .bf16 from iblk m c 0 t) (ix2 i j)
abbrev Ub (t : Fin cfg0.N) (i : Fin 512) (j : Fin 2816) : EReal := (show FVec Ideal S512x2816 .bf16 from iblk m c 1 t) (ix2 i j)
abbrev Pb (t : Fin cfg0.N) (i : Fin 2816) (j : Fin 1024) : EReal := (show FVec Ideal S2816x1024 .bf16 from iblk m c 2 t) (ix2 i j)
abbrev Rb (t : Fin cfg0.N) (i : Fin 2816) (j : Fin 1024) : EReal := (show FVec Ideal S2816x1024 .bf16 from iblk m c 3 t) (ix2 i j)
abbrev Xb (t : Fin cfg0.N) (i : Fin 512) (j : Fin 1024) : EReal := (show FVec Ideal S512x1024 .f32 from iblk m c 4 t) (ix2 i j)
abbrev Nb (t : Fin cfg0.N) (j : Fin 1024) : EReal := (show FVec Ideal S1x1024 .f32 from iblk m c 5 t) (ix2 0 j)
abbrev Yb (t : Fin cfg0.N) (i : Fin 512) (j : Fin 1024) : EReal := (show FVec Ideal S512x1024 .f32 from iblk m c 6 t) (ix2 i j)

/-- A grid point's normed rows' gradient, at a row. -/
abbrev Hb (t : Fin cfg0.N) (i : Fin 512) : Fin 1024 → EReal := dh2 (Gb m c t i) (Ub m c t i) (Pb m c t) (Rb m c t)

theorem pay4_at (v0 : Vec Ideal S2816x1024 .bf16) (v1 : Vec Ideal S512x2816 .bf16) (v3 : Vec Ideal S2816x1024 .bf16) (v4 : Vec Ideal S512x2816 .bf16)
    (i : Fin 512) (j : Fin 1024) : k0_pay4 v0 v1 v3 v4 (ix2 i j)
    = dh2 (fun f => v1 (ix2 i f)) (fun f => v4 (ix2 i f)) (fun f j => v0 (ix2 f j)) (fun f j => v3 (ix2 f j)) j := by
  pointwise [k0_pay4]; simp only [dh2]

theorem pay5_at (v7 : Vec Ideal S512x1024 .f32) (i : Fin 512) : k0_pay5 v7 (ix2 i 0) = rs (fun k => v7 (ix2 i k)) := by
  pointwise [k0_pay5]; simp only [rs, ms, len, eps]

theorem pay6_at (v7 : Vec Ideal S512x1024 .f32) (i : Fin 512) (j : Fin 1024) :
    k0_pay6 v7 (ix2 i j) = v7 (ix2 i j) * rs (fun k => v7 (ix2 i k)) := by
  pointwise [k0_pay6]; rw [pay5_at]

theorem pay7_at (v0 : Vec Ideal S2816x1024 .bf16) (v1 : Vec Ideal S512x2816 .bf16) (v3 : Vec Ideal S2816x1024 .bf16) (v4 : Vec Ideal S512x2816 .bf16)
    (v7 : Vec Ideal S512x1024 .f32) (v18 : Vec Ideal S1x1024 .f32) (v32 : Vec Ideal S512x1024 .f32) (i : Fin 512) (j : Fin 1024) :
    k0_pay7 v0 v1 v3 v4 v7 v18 v32 (ix2 i j) = v32 (ix2 i j) + dnorm (fun k => v7 (ix2 i k)) (fun k => v18 (ix2 0 k))
      (dh2 (fun f => v1 (ix2 i f)) (fun f => v4 (ix2 i f)) (fun f j => v0 (ix2 f j)) (fun f j => v3 (ix2 f j))) j := by
  pointwise [k0_pay7]; simp only [pay4_at, pay5_at, pay6_at, dnorm, len]

theorem pay2_at (v6 v17 : FVec Ideal S512x1024 .f32) (i0 : Fin 1) (j : Fin 1024) : k0_pay2 v6 v17 (ix2 i0 j) = ∑ i : Fin 512, v6 (ix2 i j) * v17 (ix2 i j) := by
  pointwise [k0_pay2]

theorem fin_eq {n k : ℕ} (a : Fin n) (h : a.val = k) : a = ⟨k, h ▸ a.isLt⟩ := Fin.ext h

/-- A grid point that is a multiple of the grid's length is the first. -/
theorem first0 (t : Fin cfg0.N) (h0 : t.val % 16 = 0) : ¬1 ≤ t.val := by have h : t.val < 16 := t.isLt; omega

/-- A grid point's block of the input's gradient. -/
theorem dx_block (t : Fin cfg0.N) (y : S512x1024.Idx) :
    (outsAt0 m c t.val t.isLt).1 y = Yb m c t (y 0) (y 1) + dnorm (Xb m c t (y 0)) (Nb m c t) (Hb m c t (y 0)) (y 1) := by
  idx_vars y
  by_cases h0 : t.val % 16 = 0
  · rw [outsAt0_A m c t h0 (first0 t h0)]
    frame_out
    rw [pay7_at]
  · rw [outsAt0_B m c t h0 (by omega)]
    frame_out
    rw [pay7_at]

/-- The same block, held in the narrower format. -/
theorem lo_block (t : Fin cfg0.N) (y : S512x1024.Idx) :
    (outsAt0 m c t.val t.isLt).2.1 y = Yb m c t (y 0) (y 1) + dnorm (Xb m c t (y 0)) (Nb m c t) (Hb m c t (y 0)) (y 1) := by
  idx_vars y
  by_cases h0 : t.val % 16 = 0
  · rw [outsAt0_A m c t h0 (first0 t h0)]
    frame_out
    pointwise [k0_pay1]
    rw [pay7_at]
  · rw [outsAt0_B m c t h0 (by omega)]
    frame_out
    pointwise [k0_pay1]
    rw [pay7_at]

/-- A block's part of the gain's gradient. -/
def part (t : Fin cfg0.N) (j : Fin 1024) : EReal := ∑ i : Fin 512, Hb m c t i j * (Xb m c t i j * rs (Xb m c t i))

/-- The first grid point leaves its part of the gain's gradient. -/
theorem gain_first (t : Fin cfg0.N) (h0 : t.val % 16 = 0) (y : S1x1024.Idx) : (outsAt0 m c t.val t.isLt).2.2 y = part m c t (y 1) := by
  idx_vars y
  rw [outsAt0_A m c t h0 (first0 t h0)]
  frame_out
  rw [pay2_at]
  simp only [pay4_at, pay6_at, part, Hb, Gb, Ub, Pb, Rb, Xb]

/-- A later one adds its part to what the point before left. -/
theorem gain_step (t : Fin cfg0.N) (h0 : ¬t.val % 16 = 0) (y : S1x1024.Idx) : (outsAt0 m c t.val t.isLt).2.2 y
    = (outsAt0 m c (t.val - 1) (Nat.lt_of_le_of_lt (Nat.sub_le _ _) t.isLt)).2.2 y + part m c t (y 1) := by
  idx_vars y
  rw [outsAt0_B m c t h0 (by omega)]
  frame_out
  pointwise [k0_pay3]
  rw [pay2_at]
  simp only [pay4_at, pay6_at, part, Hb, Gb, Ub, Pb, Rb, Xb]

/-- The arguments as launched, by row and column. -/
abbrev Gf (i : Fin 8192) (j : Fin 2816) : EReal := (show FVec Ideal S8192x2816 .bf16 from m ((c : Thread nD τ).loc main_arg0)) (ix2 i j)
abbrev Uf (i : Fin 8192) (j : Fin 2816) : EReal := (show FVec Ideal S8192x2816 .bf16 from m ((c : Thread nD τ).loc main_arg1)) (ix2 i j)
abbrev Pf (i : Fin 2816) (j : Fin 1024) : EReal := (show FVec Ideal S2816x1024 .bf16 from m ((c : Thread nD τ).loc main_arg2)) (ix2 i j)
abbrev Rf (i : Fin 2816) (j : Fin 1024) : EReal := (show FVec Ideal S2816x1024 .bf16 from m ((c : Thread nD τ).loc main_arg3)) (ix2 i j)
abbrev Xf (i : Fin 8192) (j : Fin 1024) : EReal := (show FVec Ideal S8192x1024 .f32 from m ((c : Thread nD τ).loc main_arg4)) (ix2 i j)
abbrev Nf (j : Fin 1024) : EReal := (show FVec Ideal S1024 .f32 from m ((c : Thread nD τ).loc main_arg5)) (ix1 j)
abbrev Yf (i : Fin 8192) (j : Fin 1024) : EReal := (show FVec Ideal S8192x1024 .f32 from m ((c : Thread nD τ).loc main_arg6)) (ix2 i j)

/-- Where every window's block stands at a grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] ∧ t.val < 16 :=
  (by decide +kernel : ∀ t : Fin grid0.N, _)

/-- Row `i` of grid point `t`'s block, in the whole array. -/
def row (t : Fin cfg0.N) (i : Fin 512) : Fin 8192 := ⟨t.val * 512 + i.val, by have := (idx t).2.2.2.2.2.2.2.2.2.2; omega⟩

theorem Gb_eq (t : Fin cfg0.N) : Gb m c t = fun i => Gf m c (row t i) := by
  funext i j; simp only [Gb, Gf, row]; blk_ext [iblk, V_main_arg0, idx t]
theorem Ub_eq (t : Fin cfg0.N) : Ub m c t = fun i => Uf m c (row t i) := by
  funext i j; simp only [Ub, Uf, row]; blk_ext [iblk, V_main_arg1, idx t]
theorem Pb_eq (t : Fin cfg0.N) : Pb m c t = Pf m c := by
  funext i j; simp only [Pb, Pf]; blk_ext [iblk, V_main_arg2, idx t]
theorem Rb_eq (t : Fin cfg0.N) : Rb m c t = Rf m c := by
  funext i j; simp only [Rb, Rf]; blk_ext [iblk, V_main_arg3, idx t]
theorem Xb_eq (t : Fin cfg0.N) : Xb m c t = fun i => Xf m c (row t i) := by
  funext i j; simp only [Xb, Xf, row]; blk_ext [iblk, V_main_arg4, idx t]
theorem Yb_eq (t : Fin cfg0.N) : Yb m c t = fun i => Yf m c (row t i) := by
  funext i j; simp only [Yb, Yf, row]; blk_ext [iblk, V_main_arg6, idx t]
/-- The gain, which a host line reshapes to one row. -/
theorem Nb_eq (t : Fin cfg0.N) : Nb m c t = Nf m c := by
  funext j
  simp only [Nb, Nf]
  blk_simp [iblk, idx t]
  entry_read
  pointwise
  exact congrArg (m (c.tc.loc main_arg5)) (congrArg ix1 (Fin.ext (by blk_simp [idx t])))

/-- The normed rows' gradient, in the whole array. -/
abbrev Hf (i : Fin 8192) : Fin 1024 → EReal := dh2 (Gf m c i) (Uf m c i) (Pf m c) (Rf m c)

theorem Hb_eq (t : Fin cfg0.N) : Hb m c t = fun i => Hf m c (row t i) := by
  funext i; simp only [Hb, Hf, Gb_eq, Ub_eq, Pb_eq, Rb_eq]

/-- The first result: the input's gradient. -/
theorem final_dx : (dats m 0 c).arrAt 7 cfg0.N = fun y : S8192x1024.Idx =>
    Yf m c (y 0) (y 1) + dnorm (Xf m c (y 0)) (Nf m c) (Hf m c (y 0)) (y 1) := by
  refine (dats m 0 c).arrAt_eq_of_covers 7 _ (by decide +kernel) fun t _ y => ?_
  blk_simp
  rw [after0_7, dx_block, Hb_eq, Xb_eq, Yb_eq, Nb_eq]
  have e0 : ((win0_7.blk t).view.emb y 0 : Fin 8192) = row t (y 0) := Fin.ext (by blk_simp [idx t]; rfl)
  have e1 : ((win0_7.blk t).view.emb y 1 : Fin 1024) = y 1 := Fin.ext (by blk_simp [idx t])
  rw [e0, e1]

/-- The second result: the same, in the narrower format. -/
theorem final_lo : (dats m 0 c).arrAt 8 cfg0.N = fun y : S8192x1024.Idx =>
    Yf m c (y 0) (y 1) + dnorm (Xf m c (y 0)) (Nf m c) (Hf m c (y 0)) (y 1) := by
  refine (dats m 0 c).arrAt_eq_of_covers 8 _ (by decide +kernel) fun t _ y => ?_
  blk_simp
  rw [after0_8, lo_block, Hb_eq, Xb_eq, Yb_eq, Nb_eq]
  have e0 : ((win0_8.blk t).view.emb y 0 : Fin 8192) = row t (y 0) := Fin.ext (by blk_simp [idx t]; rfl)
  have e1 : ((win0_8.blk t).view.emb y 1 : Fin 1024) = y 1 := Fin.ext (by blk_simp [idx t])
  rw [e0, e1]

/-- A sum over the grid points and a block's rows is one over all the rows. -/
theorem row_sum (f : Fin 8192 → EReal) : ∑ t : Fin cfg0.N, ∑ i : Fin 512, f (row t i) = ∑ i, f i :=
  Fin.sum_mul_add_congr (S := cfg0.N) (n := 512) (fun _ _ _ => rfl) rfl

/-- The grid points' parts of the gain's gradient add up to the sum over all the rows. -/
theorem part_sum (k : Fin 1024) : ∑ t : Fin cfg0.N, part m c t k = ∑ i : Fin 8192, Hf m c i k * (Xf m c i k * rs (Xf m c i)) := by
  rw [← row_sum fun i => Hf m c i k * (Xf m c i k * rs (Xf m c i))]
  refine Finset.sum_congr rfl fun t _ => Finset.sum_congr rfl fun i _ => ?_
  rw [Hb_eq, Xb_eq]

/-- The third result: the gain's gradient, summed over all the rows. -/
theorem final_gain : (dats m 0 c).arrAt 9 cfg0.N = fun y : S1x1024.Idx =>
    ∑ i : Fin 8192, Hf m c i (y 1) * (Xf m c i (y 1) * rs (Xf m c i)) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0)
    (fun t y => part m c t (y 1)) (fun t h y => by rw [zero_add]; exact gain_first m c t h y) (fun t h y => gain_step m c t h y)
    (le_of_eq N_0) t0_15 rfl, zero_add]
  exact part_sum m c (j 1)

end Cert.Kernel3Ideal.Dx

end
-- ==== Proof.NormRef.lean ====
/- The reference's three results at an index: the derivative of the half-step's norm and of the two products it feeds; and the
   precondition read. -/
module

public import proofs.«01_k».proof.Proof.Gen.Reference3Ideal.Read
public import proofs.«01_k».proof.Pre_finite_x
public import proofs.«01_k».proof.Proof.NormSpec
public import proofs.«01_k».proof.Proof.Finite

@[expose] public section

set_option maxRecDepth 16384

noncomputable section

namespace Cert.Reference3Ideal.Dx

open Cert.Reference3Ideal Cert.Reference3Ideal.Read Idealize.ShloMosaic Idealize.ShloMosaic.TcCoe
open Cert.Norm Cert.Softmax

variable (x0 x1 : FVec Ideal S8192x2816 .bf16) (x2 x3 : FVec Ideal S2816x1024 .bf16) (x4 : FVec Ideal S8192x1024 .f32)
  (x5 : FVec Ideal S1024 .f32) (x6 : FVec Ideal S8192x1024 .f32)

/-- A row of the half-step's input; the gain; the normed row's gradient. -/
abbrev xr (i : Fin 8192) (k : Fin 1024) : EReal := x4 (ix2 i k)
abbrev gn (k : Fin 1024) : EReal := x5 (ix1 k)
abbrev hr (i : Fin 8192) : Fin 1024 → EReal :=
  dh2 (fun f => x0 (ix2 i f)) (fun f => x1 (ix2 i f)) (fun f j => x2 (ix2 f j)) (fun f j => x3 (ix2 f j))

theorem v6_at (i : Fin 8192) : val_main_v6 (F := Ideal) x4 (ix2 i 0) = ms (xr x4 i) := by
  pointwise [val_main_v6, val_main_v5, val_main_cst_1, val_main_v4, val_main_v3, val_main_cst_0, val_main_v2, val_main_v1, val_main_cst, val_main_v0]
  simp only [ms, len, eps, xr]

theorem v7_at (i : Fin 8192) : val_main_v7 (F := Ideal) x4 (ix2 i 0) = rs (xr x4 i) := by
  pointwise [val_main_v7]; simp only [v6_at, rs]

theorem v10_at (i : Fin 8192) : val_main_v10 (F := Ideal) x4 (ix2 i 0)
    = ((-(1 / 2) : ℝ) : EReal) * Ideal.div (rs (xr x4 i)) (ms (xr x4 i)) := by
  pointwise [val_main_v10, val_main_v9, val_main_cst_2, val_main_v8]; simp only [v6_at, v7_at, neg_half]

theorem v12_at (i : Fin 8192) (j : Fin 1024) : val_main_v12 (F := Ideal) x4 (ix2 i j) = xr x4 i j * rs (xr x4 i) := by
  pointwise [val_main_v12, val_main_v11]; simp only [v7_at, xr]

theorem v26_at (i : Fin 8192) (j : Fin 1024) : val_main_v26 (F := Ideal) x0 x1 x2 x3 (ix2 i j) = hr x0 x1 x2 x3 i j := by
  pointwise [val_main_v26, val_main_v25, val_main_v24, val_main_v23, val_main_v22, val_main_v20, val_main_v19, val_main_v17, val_main_v16]
  simp only [hr, dh2]; exact add_comm _ _

theorem v31_at (i : Fin 8192) (j : Fin 1024) : val_main_v31 (F := Ideal) x0 x1 x2 x3 x5 (ix2 i j) = hr x0 x1 x2 x3 i j * gn x5 j := by
  pointwise [val_main_v31, val_main_v30, val_main_v13]; simp only [v26_at, gn]

theorem v39_at (i : Fin 8192) : val_main_v39 (F := Ideal) x0 x1 x2 x3 x4 x5 (ix2 i 0)
    = (∑ k, xr x4 i k * (hr x0 x1 x2 x3 i k * gn x5 k)) * (((-(1 / 2) : ℝ) : EReal) * Ideal.div (rs (xr x4 i)) (ms (xr x4 i))) := by
  pointwise [val_main_v39, val_main_v35, val_main_v34, val_main_cst_5, val_main_v33]; simp only [v31_at, v10_at, xr]

theorem v43_at (i : Fin 8192) (j : Fin 1024) : val_main_v43 (F := Ideal) x0 x1 x2 x3 x4 x5 (ix2 i j)
    = dms (xr x4 i) (gn x5) (hr x0 x1 x2 x3 i) := by
  pointwise [val_main_v43, val_main_v42, val_main_cst_7, val_main_v41, val_main_v40, val_main_cst_6]
  rw [Fin.sum_univ_one]; simp only [v39_at, dms, len]

/-- The input's gradient, where the input is finite. -/
theorem dx_at (hx : ∀ i j, Fin' (x4 (ix2 i j))) (i : Fin 8192) (j : Fin 1024) : val_main_v47 (F := Ideal) x0 x1 x2 x3 x4 x5 x6 (ix2 i j)
    = x6 (ix2 i j) + dnorm (xr x4 i) (gn x5) (hr x0 x1 x2 x3 i) j := by
  rw [← dnorm_eq (fun k => hx i k)]
  pointwise [val_main_v47, val_main_v46, val_main_v45, val_main_v44, val_main_v38, val_main_v37, val_main_v36]
  simp only [v43_at, v31_at, v7_at, xr]

/-- The same, in the narrower format. -/
theorem lo_at (hx : ∀ i j, Fin' (x4 (ix2 i j))) (i : Fin 8192) (j : Fin 1024) : val_main_v48 (F := Ideal) x0 x1 x2 x3 x4 x5 x6 (ix2 i j)
    = x6 (ix2 i j) + dnorm (xr x4 i) (gn x5) (hr x0 x1 x2 x3 i) j := by
  rw [← dx_at x0 x1 x2 x3 x4 x5 x6 hx]
  pointwise [val_main_v48]

/-- The gain's gradient. -/
theorem gain_at (i : Fin 1) (j : Fin 1024) : val_main_v49 (F := Ideal) x0 x1 x2 x3 x4 (ix2 i j)
    = ∑ i, hr x0 x1 x2 x3 i j * (xr x4 i j * rs (xr x4 i)) := by
  pointwise [val_main_v49, val_main_v32, val_main_cst_4, val_main_v29, val_main_v28, val_main_cst_3, val_main_v27]
  rw [Fin.sum_univ_one]; simp only [v12_at, v26_at, mul_comm]

end Cert.Reference3Ideal.Dx

namespace Cert.DxP

open Idealize.ShloMosaic Idealize.ShloMosaic.TcCoe Cert.Pre_finite_x Cert.Finite Cert.Softmax

/-- The predicate's side conditions. -/
theorem facts : Cert.Pre_finite_x.Facts where
  bcast_S_S8192x1024 := by decide
  reducesTo_S8192x1024_S_d0_1 := by decide
  h_S_ := by decide

/-- Under the precondition the half-step's input is finite. -/
theorem fin_x [Facts] (x0 x1 : FVec Ideal S8192x2816 .bf16) (x2 x3 : FVec Ideal S2816x1024 .bf16) (x4 : FVec Ideal S8192x1024 .f32)
    (x5 : FVec Ideal S1024 .f32) (x6 : FVec Ideal S8192x1024 .f32) (h : fn (F := Ideal) x0 x1 x2 x3 x4 x5 x6 = fun _ => 1#1)
    (i : Fin 8192) (j : Fin 1024) : Fin' (x4 (ix2 i j)) := by
  unfold fn at h
  exact fin_of_abs (reduce_andi _ _ _ _ h (ix2 i j))

end Cert.DxP

end
-- ==== Proof.NormClaim.lean ====
/- The half-step's input: the reference's frame, and the value claim. -/
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.NormBlock
public import proofs.«01_k».proof.Proof.NormRef
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref3 : Cert.quiescent_Reference3Ideal (hReference3Ideal := Cert.Reference3Ideal.Gen.facts) := by
  intro m g _
  exact (θ_run Cert.Reference3Ideal.defs _ _).mono (fun r h => ⟨fun c => ⟨(h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩,
      Idealize.ShloMosaic.sem_eq_zero_of_no_sems (by decide) r.2⟩)
    (Cert.Reference3Ideal.Value.run (F := Ideal) m g)

/-- The kernel and the reference leave equal results wherever the half-step's input is finite. -/
theorem value3 : Cert.algebraic_Kernel3Ideal_Reference3Ideal_pre_finite_x (hKernel3Ideal := Cert.Kernel3Ideal.Gen.facts)
    (hReference3Ideal := Cert.Reference3Ideal.Gen.facts) (hPre_finite_x := Cert.DxP.facts) := by
  haveI := Cert.DxP.facts
  pair_intro
  · run_from Cert.Kernel3Ideal.Gen.run_main m g
  · run_from Cert.Reference3Ideal.Value.run m' g'
    · rw [Cert.Reference3Ideal.Read.val_main_v47_eq]
      try rw [(hagree c).1, (hagree c).2.1, (hagree c).2.2.1, (hagree c).2.2.2.1, (hagree c).2.2.2.2.1, (hagree c).2.2.2.2.2.1, (hagree c).2.2.2.2.2.2]
      refine Eq.trans ?_ (Cert.Kernel3Ideal.Dx.final_dx m c).symm
      funext y
      idx_vars y
      exact Cert.Reference3Ideal.Dx.dx_at _ _ _ _ _ _ _ (fun i j => Cert.DxP.fin_x _ _ _ _ _ _ _ (hpre c) i j) _ _
    · rw [Cert.Reference3Ideal.Read.val_main_v48_eq]
      try rw [(hagree c).1, (hagree c).2.1, (hagree c).2.2.1, (hagree c).2.2.2.1, (hagree c).2.2.2.2.1, (hagree c).2.2.2.2.2.1, (hagree c).2.2.2.2.2.2]
      refine Eq.trans ?_ (Cert.Kernel3Ideal.Dx.final_lo m c).symm
      funext y
      idx_vars y
      exact Cert.Reference3Ideal.Dx.lo_at _ _ _ _ _ _ _ (fun i j => Cert.DxP.fin_x _ _ _ _ _ _ _ (hpre c) i j) _ _
    · rw [Cert.Reference3Ideal.Read.val_main_v49_eq]
      try rw [(hagree c).1, (hagree c).2.1, (hagree c).2.2.1, (hagree c).2.2.2.1, (hagree c).2.2.2.2.1]
      refine Eq.trans ?_ (Cert.Kernel3Ideal.Dx.final_gain m c).symm
      funext y
      idx_vars y
      exact Cert.Reference3Ideal.Dx.gain_at _ _ _ _ _ _ _

end Cert.Proof

end
-- ==== Proof.DwDown.lean ====
/- The gradient of the down projection's weight: the kernel sums `A t k · (½ dy t n)` over the rows `t` in four tiles, a
   carried accumulator between them; the reference contracts all the rows at once. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Dw

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- One half, as the kernel's and as the reference's constant write it. -/
theorem half_lo : Ideal.ofBits .bf16 0x3F00#16 = ((1 / 2 : ℝ) : EReal) := by
  simp [Ideal.ofBits, Ideal.ieee, -EReal.coe_mul]; norm_num
theorem half_hi : Ideal.ofBits .f32 0x3F000000#32 = ((1 / 2 : ℝ) : EReal) := by
  simp [Ideal.ofBits, Ideal.ieee, -EReal.coe_mul]; norm_num

/-- The tile's contraction at an index. -/
theorem pay1_at (y : S1408x1024.Idx) (b : Vec Ideal S2048x1024 .bf16) (a : Vec Ideal S2048x1408 .bf16) :
    k0_pay1 (F := Ideal) b a y = ∑ l : Fin 2048, a (ix2 l (y 0)) * (((1 / 2 : ℝ) : EReal) * b (ix2 l (y 1))) := by
  pointwise [k0_pay1]
  simp only [half_lo]

/-- One tile's part of the sum at a point of the grid. -/
abbrev part (t : Fin cfg0.N) (y : S1408x1024.Idx) : EReal :=
  ∑ l : Fin 2048, (show FVec Ideal S2048x1408 .bf16 from iblk m c 0 t) (ix2 l (y 0))
    * (((1 / 2 : ℝ) : EReal) * (show FVec Ideal S2048x1024 .bf16 from iblk m c 1 t) (ix2 l (y 1)))

/-- At the first point of a run the accumulator is that tile's part. -/
theorem acc_first (t : Fin cfg0.N) (h : t.val % 4 = 0) (y : S1408x1024.Idx) :
    (outsAt0 m c t.val t.isLt).2 y = part m c t y := by
  rw [outsAt0_A m c t h (by omega) (by omega)]
  frame_out
  pointwise [k0_pay2]
  exact pay1_at y _ _

/-- At the others it is what the point before left and that tile's part. -/
theorem acc_step (t : Fin cfg0.N) (h : ¬ t.val % 4 = 0) (y : S1408x1024.Idx) :
    (outsAt0 m c t.val t.isLt).2 y
      = (outsAt0 m c (t.val - 1) (Nat.lt_of_le_of_lt (Nat.sub_le _ _) t.isLt)).2 y + part m c t y := by
  by_cases h3 : t.val % 4 = 3
  · rw [outsAt0_C m c t h (by omega) h3]
    frame_out
    pointwise [k0_pay3]
    rw [pay1_at, read_unread_whole]
  · rw [outsAt0_B m c t h (by omega) h3]
    frame_out
    pointwise [k0_pay3]
    rw [pay1_at, read_unread_whole]

/-- The last point of a run writes the accumulator. -/
theorem out_last (t : Fin cfg0.N) (h : t.val % 4 = 3) (y : S1408x1024.Idx) :
    (outsAt0 m c t.val t.isLt).1 y = (outsAt0 m c t.val t.isLt).2 y := by
  rw [outsAt0_C m c t (by omega) (by omega) h]
  frame_out
  pointwise [k0_pay4]

/-- The activations and the output's gradient as launched, by row and column. -/
abbrev Af (i : Fin 8192) (j : Fin 2816) : EReal := (show FVec Ideal S8192x2816 .bf16 from m ((c : Thread nD τ).loc main_arg0)) (ix2 i j)
abbrev Df (i : Fin 8192) (j : Fin 1024) : EReal := (show FVec Ideal S8192x1024 .bf16 from m ((c : Thread nD τ).loc main_arg1)) (ix2 i j)

/-- Where every window's block stands at a grid point. -/
theorem idx : ∀ t : Fin cfg0.N, win0_0.index t = ![t.val % 4, t.val / 4] ∧ win0_1.index t = ![t.val % 4, 0]
    ∧ win0_2.index t = ![t.val / 4, 0] ∧ t.val < 8 :=
  (by decide +kernel : ∀ t : Fin grid0.N, _)

/-- The kernel's array: at every row and column of the weight, the sum over all the rows of the batch. -/
theorem final (c : Dev nD) : (dats m 0 c).arrAt 2 cfg0.N = fun y : S2816x1024.Idx =>
    ∑ t : Fin 8192, Af m c t (y 0) * (((1 / 2 : ℝ) : EReal) * Df m c t (y 1)) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 4 (fun _ => 0)
    (fun t y => part m c t y) (fun t h y => by rw [zero_add]; exact acc_first m c t h y)
    (fun t h y => acc_step m c t h y) t h3, zero_add]
  refine Fin.sum_mul_add_congr fun s k hl => ?_
  have hi := idx ⟨_, Pipeline.run_point_lt_of_flush t h3 s⟩
  refine congrArg₂ (· * ·) ?_ (congrArg _ ?_) <;> blk_ext [iblk, V, Af, Df, idx t, hi]

end Cert.Kernel4Ideal.Dw

namespace Cert.Reference4Ideal.Dw

open Cert.Reference4Ideal Cert.Reference4Ideal.Read Idealize.ShloMosaic Idealize.ShloMosaic.TcCoe

/-- The reference's result at an index. -/
theorem ref_at (x0 : FVec Ideal S8192x2816 .bf16) (x1 : FVec Ideal S8192x1024 .bf16) (y : S2816x1024.Idx) :
    val_main_v10 (F := Ideal) x0 x1 y = ∑ t : Fin 8192, x0 (ix2 t (y 0)) * (((1 / 2 : ℝ) : EReal) * x1 (ix2 t (y 1))) := by
  pointwise [val_main_v10, val_main_v9, val_main_v8, val_main_v7, val_main_v6, val_main_cst_1, val_main_v5, val_main_v1]
  simp only [Cert.Kernel4Ideal.Dw.half_hi]
  exact Finset.sum_congr rfl fun t _ => mul_comm _ _

end Cert.Reference4Ideal.Dw

end
-- ==== Proof.DwDownClaim.lean ====
/- The down projection's weight: the reference's frame, and the value claim. -/
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.DwDown
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref4 : Cert.quiescent_Reference4Ideal (hReference4Ideal := Cert.Reference4Ideal.Gen.facts) := by
  intro m g _
  exact (θ_run Cert.Reference4Ideal.defs _ _).mono (fun r h => ⟨fun c => ⟨(h c).2.1, (h c).2.2⟩,
      Idealize.ShloMosaic.sem_eq_zero_of_no_sems (by decide) r.2⟩)
    (Cert.Reference4Ideal.Value.run (F := Ideal) m g)

/-- The kernel and the reference leave equal results. -/
theorem value4 : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    rw [Cert.Reference4Ideal.Read.val_main_v10_eq]
    try rw [(hagree c).1, (hagree c).2]
    refine Eq.trans ?_ (Cert.Kernel4Ideal.Dw.final m c).symm
    funext y
    exact Cert.Reference4Ideal.Dw.ref_at _ _ y

end Cert.Proof

end
-- ==== Proof.DwUp.lean ====
/- The gradient of the gate (or up) projection's weight, held transposed: the kernel sums `dG t k · h t n` over the rows
   `t` in four tiles, a carried accumulator between them; the reference contracts all the rows at once. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Dw

open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- The tile's contraction at an index. -/
theorem pay1_at (y : S1408x1024.Idx) (b : Vec Ideal S2048x1024 .bf16) (a : Vec Ideal S2048x1408 .bf16) :
    k0_pay1 (F := Ideal) b a y = ∑ l : Fin 2048, a (ix2 l (y 0)) * b (ix2 l (y 1)) := by
  pointwise [k0_pay1]

/-- One tile's part of the sum at a point of the grid. -/
abbrev part (t : Fin cfg0.N) (y : S1408x1024.Idx) : EReal :=
  ∑ l : Fin 2048, (show FVec Ideal S2048x1408 .bf16 from iblk m c 0 t) (ix2 l (y 0))
    * (show FVec Ideal S2048x1024 .bf16 from iblk m c 1 t) (ix2 l (y 1))

/-- At the first point of a run the accumulator is that tile's part. -/
theorem acc_first (t : Fin cfg0.N) (h : t.val % 4 = 0) (y : S1408x1024.Idx) :
    (outsAt0 m c t.val t.isLt).2 y = part m c t y := by
  rw [outsAt0_A m c t h (by omega) (by omega)]
  frame_out
  pointwise [k0_pay2]
  exact pay1_at y _ _

/-- At the others it is what the point before left and that tile's part. -/
theorem acc_step (t : Fin cfg0.N) (h : ¬ t.val % 4 = 0) (y : S1408x1024.Idx) :
    (outsAt0 m c t.val t.isLt).2 y
      = (outsAt0 m c (t.val - 1) (Nat.lt_of_le_of_lt (Nat.sub_le _ _) t.isLt)).2 y + part m c t y := by
  by_cases h3 : t.val % 4 = 3
  · rw [outsAt0_C m c t h (by omega) h3]
    frame_out
    pointwise [k0_pay3]
    rw [pay1_at, read_unread_whole]
  · rw [outsAt0_B m c t h (by omega) h3]
    frame_out
    pointwise [k0_pay3]
    rw [pay1_at, read_unread_whole]

/-- The last point of a run writes the accumulator. -/
theorem out_last (t : Fin cfg0.N) (h : t.val % 4 = 3) (y : S1408x1024.Idx) :
    (outsAt0 m c t.val t.isLt).1 y = (outsAt0 m c t.val t.isLt).2 y := by
  rw [outsAt0_C m c t (by omega) (by omega) h]
  frame_out
  pointwise [k0_pay4]

/-- The pre-activation's gradient and the normed input as launched, by row and column. -/
abbrev Gf (i : Fin 8192) (j : Fin 2816) : EReal := (show FVec Ideal S8192x2816 .bf16 from m ((c : Thread nD τ).loc main_arg0)) (ix2 i j)
abbrev Hf (i : Fin 8192) (j : Fin 1024) : EReal := (show FVec Ideal S8192x1024 .bf16 from m ((c : Thread nD τ).loc main_arg1)) (ix2 i j)

/-- Where every window's block stands at a grid point. -/
theorem idx : ∀ t : Fin cfg0.N, win0_0.index t = ![t.val % 4, t.val / 4] ∧ win0_1.index t = ![t.val % 4, 0]
    ∧ win0_2.index t = ![t.val / 4, 0] ∧ t.val < 8 :=
  (by decide +kernel : ∀ t : Fin grid0.N, _)

/-- The kernel's array: at every row and column of the weight, the sum over all the rows of the batch. -/
theorem final (c : Dev nD) : (dats m 0 c).arrAt 2 cfg0.N = fun y : S2816x1024.Idx =>
    ∑ t : Fin 8192, Gf m c t (y 0) * Hf m c t (y 1) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 4 (fun _ => 0)
    (fun t y => part m c t y) (fun t h y => by rw [zero_add]; exact acc_first m c t h y)
    (fun t h y => acc_step m c t h y) t h3, zero_add]
  refine Fin.sum_mul_add_congr fun s k hl => ?_
  have hi := idx ⟨_, Pipeline.run_point_lt_of_flush t h3 s⟩
  refine congrArg₂ (· * ·) ?_ ?_ <;> blk_ext [iblk, V, Gf, Hf, idx t, hi]

end Cert.Kernel5Ideal.Dw

namespace Cert.Reference5Ideal.Dw

open Cert.Reference5Ideal Cert.Reference5Ideal.Read Idealize.ShloMosaic Idealize.ShloMosaic.TcCoe

/-- The reference's result at an index. -/
theorem ref_at (x0 : FVec Ideal S8192x2816 .bf16) (x1 : FVec Ideal S8192x1024 .bf16) (y : S2816x1024.Idx) :
    val_main_v8 (F := Ideal) x0 x1 y = ∑ t : Fin 8192, x0 (ix2 t (y 0)) * x1 (ix2 t (y 1)) := by
  pointwise [val_main_v8, val_main_v7, val_main_v6, val_main_v5, val_main_v4, val_main_v1]

end Cert.Reference5Ideal.Dw

end
-- ==== Proof.DwUpClaim.lean ====
/- The gate projection's weight: the reference's frame, and the value claim. -/
module

public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.DwUp
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref5 : Cert.quiescent_Reference5Ideal (hReference5Ideal := Cert.Reference5Ideal.Gen.facts) := by
  intro m g _
  exact (θ_run Cert.Reference5Ideal.defs _ _).mono (fun r h => ⟨fun c => ⟨(h c).2.1, (h c).2.2⟩,
      Idealize.ShloMosaic.sem_eq_zero_of_no_sems (by decide) r.2⟩)
    (Cert.Reference5Ideal.Value.run (F := Ideal) m g)

/-- The kernel and the reference leave equal results. -/
theorem value5 : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · run_from Cert.Reference5Ideal.Value.run m' g'
    rw [Cert.Reference5Ideal.Read.val_main_v8_eq]
    try rw [(hagree c).1, (hagree c).2]
    refine Eq.trans ?_ (Cert.Kernel5Ideal.Dw.final m c).symm
    funext y
    exact Cert.Reference5Ideal.Dw.ref_at _ _ y

end Cert.Proof

end
-- ==== Proof.MergeSpec.lean ====
/- The merge's backward pass, at an index: the gated branches' gradients, the gates' pre-activations' gradient. -/
module

public import proofs.«01_k».proof.Proof.FfnSpec

@[expose] public section

noncomputable section

namespace Cert.Merge

open Cert.Ffn

/-- A column of the gates by its branch and its place in the branch, and back. -/
def cl (k : Fin 3) (j : Fin 1024) : Fin 3072 := ⟨k.val * 1024 + j.val, by omega⟩
def hd (q : Fin 3072) : Fin 3 := ⟨q.val / 1024, by omega⟩
def ln (q : Fin 3072) : Fin 1024 := ⟨q.val % 1024, by omega⟩

/-- The merged rows' gradient: the output's against a row of the out-projection. -/
def dm (d : Fin 1024 → EReal) (W : Fin 1024 → Fin 1024 → EReal) (j : Fin 1024) : EReal := ∑ k, d k * W j k

/-- A gate's pre-activation's gradient, from the merged row's `D`, the gate `s` and the branch `b`. -/
def dpre (D s b : EReal) : EReal := D * b * s * (1 - s)

/-- The transposed derivative's form of the same. -/
theorem dpre_eq (D s b : EReal) : D * b * (s * (1 - s)) = dpre D s b := by
  rw [dpre, mul_assoc (D * b)]

end Cert.Merge

end
-- ==== Proof.MergeBlock.lean ====
/- The merge's backward kernel: what a grid point leaves, and the eight arrays after the run. -/
module

public import proofs.«01_k».proof.Proof.Gen.Kernel6Ideal.Value
public import proofs.«01_k».proof.Proof.MergeSpec
public import proofs.«01_k».proof.Proof.MemBlock
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel6Ideal.Merge

open Cert.Kernel6Ideal Cert.Kernel6Ideal.Gen Idealize.ShloMosaic Idealize.ShloMosaic.TcCoe Idealize.SL.Sem
open Cert.Ffn Cert.Merge

variable (m : (ℓ : Loc nD τ sig) → Buf (Elt Ideal) ℓ) (c : Dev nD)

/-- Grid point `t`'s blocks: the output's gradient, the out-projection, the three branches' projections (the attention's and the
    memory's held transposed), the gates before their bias, the bias, and the three branches. -/
abbrev Yb (t : Fin cfg0.N) (i : Fin 256) (j : Fin 1024) : EReal := (show FVec Ideal S256x1024 .bf16 from iblk m c 0 t) (ix2 i j)
abbrev Wb (t : Fin cfg0.N) (i : Fin 1024) (j : Fin 1024) : EReal := (show FVec Ideal S1024x1024 .bf16 from iblk m c 1 t) (ix2 i j)
abbrev Ua (t : Fin cfg0.N) (i : Fin 1024) (j : Fin 512) : EReal := (show FVec Ideal S1024x512 .bf16 from iblk m c 2 t) (ix2 i j)
abbrev Ur (t : Fin cfg0.N) (i : Fin 1024) (j : Fin 1024) : EReal := (show FVec Ideal S1024x1024 .bf16 from iblk m c 3 t) (ix2 i j)
abbrev Uc (t : Fin cfg0.N) (i : Fin 1024) (j : Fin 512) : EReal := (show FVec Ideal S1024x512 .bf16 from iblk m c 4 t) (ix2 i j)
abbrev Gb (t : Fin cfg0.N) (i : Fin 256) (j : Fin 3072) : EReal := (show FVec Ideal S256x3072 .f32 from iblk m c 5 t) (ix2 i j)
abbrev Bb (t : Fin cfg0.N) (j : Fin 3072) : EReal := (show FVec Ideal S1x3072 .f32 from iblk m c 6 t) (ix2 0 j)
abbrev Ab (t : Fin cfg0.N) (i : Fin 256) (j : Fin 1024) : EReal := (show FVec Ideal S256x1024 .bf16 from iblk m c 7 t) (ix2 i j)
abbrev Lb (t : Fin cfg0.N) (i : Fin 256) (j : Fin 1024) : EReal := (show FVec Ideal S256x1024 .bf16 from iblk m c 8 t) (ix2 i j)
abbrev Mb (t : Fin cfg0.N) (i : Fin 256) (j : Fin 1024) : EReal := (show FVec Ideal S256x1024 .bf16 from iblk m c 9 t) (ix2 i j)

/-- A grid point's gates; a branch's gradient; a branch; a gate's pre-activation's gradient. -/
abbrev sb (t : Fin cfg0.N) (i : Fin 256) (q : Fin 3072) : EReal := sg (Gb m c t i q + Bb m c t q)
abbrev db (t : Fin cfg0.N) (k : Fin 3) (i : Fin 256) (j : Fin 1024) : EReal := dm (Yb m c t i) (Wb m c t) j * sb m c t i (cl k j)
abbrev br (t : Fin cfg0.N) (k : Fin 3) (i : Fin 256) (j : Fin 1024) : EReal := ![Ab m c t, Lb m c t, Mb m c t] k i j
abbrev pre (t : Fin cfg0.N) (k : Fin 3) (i : Fin 256) (j : Fin 1024) : EReal :=
  dpre (dm (Yb m c t i) (Wb m c t) j) (sb m c t i (cl k j)) (br m c t k i j)

theorem pay5_at (v3 : Vec Ideal S256x1024 .bf16) (v4 : Vec Ideal S1024x1024 .bf16) (i : Fin 256) (j : Fin 1024) :
    k0_pay5 v3 v4 (ix2 i j) = dm (fun k => v3 (ix2 i k)) (fun j k => v4 (ix2 j k)) j := by
  pointwise [k0_pay5]; simp only [dm]

theorem pay6_at (v6 : Vec Ideal S256x1024 .f32) (v7 : Vec Ideal S1x1024 .f32) (i : Fin 256) (j : Fin 1024) :
    k0_pay6 v6 v7 (ix2 i j) = sg (v6 (ix2 i j) + v7 (ix2 0 j)) := by
  pointwise [k0_pay6]; simp only [half_hi, sg]

theorem pay12_at (v6 : Vec Ideal S256x1024 .f32) (v7 : Vec Ideal S1x1024 .f32) (i : Fin 256) (j : Fin 1024) :
    k0_pay12 v6 v7 (ix2 i j) = sg (v6 (ix2 i j) + v7 (ix2 0 j)) := by
  pointwise [k0_pay12]; simp only [half_hi, sg]

theorem pay20_at (v6 : Vec Ideal S256x1024 .f32) (v7 : Vec Ideal S1x1024 .f32) (i : Fin 256) (j : Fin 1024) :
    k0_pay20 v6 v7 (ix2 i j) = sg (v6 (ix2 i j) + v7 (ix2 0 j)) := by
  pointwise [k0_pay20]; simp only [half_hi, sg]

theorem pay7_at (v3 : Vec Ideal S256x1024 .bf16) (v4 : Vec Ideal S1024x1024 .bf16) (v6 : Vec Ideal S256x1024 .f32) (v7 : Vec Ideal S1x1024 .f32)
    (i : Fin 256) (j : Fin 1024) : k0_pay7 v3 v4 v6 v7 (ix2 i j) = k0_pay5 v3 v4 (ix2 i j) * sg (v6 (ix2 i j) + v7 (ix2 0 j)) := by
  pointwise [k0_pay7]; rw [pay6_at]

theorem pay8_at (v3 : Vec Ideal S256x1024 .bf16) (v4 : Vec Ideal S1024x1024 .bf16) (v6 : Vec Ideal S256x1024 .f32) (v7 : Vec Ideal S1x1024 .f32)
    (v21 : Vec Ideal S1024x512 .bf16) (i : Fin 256) (e : Fin 512) : k0_pay8 v3 v4 v6 v7 v21 (ix2 i e)
    = ∑ j, k0_pay5 v3 v4 (ix2 i j) * sg (v6 (ix2 i j) + v7 (ix2 0 j)) * v21 (ix2 j e) := by
  pointwise [k0_pay8]; simp only [pay7_at]

theorem pay9_at (v3 : Vec Ideal S256x1024 .bf16) (v4 : Vec Ideal S1024x1024 .bf16) (v6 : Vec Ideal S256x1024 .f32) (v7 : Vec Ideal S1x1024 .f32)
    (v25 : Vec Ideal S256x1024 .bf16) (i : Fin 256) (j : Fin 1024) : k0_pay9 v3 v4 v6 v7 v25 (ix2 i j)
    = dpre (k0_pay5 v3 v4 (ix2 i j)) (sg (v6 (ix2 i j) + v7 (ix2 0 j))) (v25 (ix2 i j)) := by
  pointwise [k0_pay9]; simp only [pay6_at, one_hi, dpre]

theorem pay11_at (v31 : FVec Ideal S256x1024 .f32) (v34 : Vec Ideal S1x1024 .f32) (i0 : Fin 1) (j : Fin 1024) :
    k0_pay11 v31 v34 (ix2 i0 j) = v34 (ix2 i0 j) + ∑ i, v31 (ix2 i j) := by
  pointwise [k0_pay11]

theorem pay14_at (v5 : FVec Ideal S256x1024 .f32) (v6 : Vec Ideal S256x1024 .f32) (v7 : Vec Ideal S1x1024 .f32) (v55 : Vec Ideal S1024x1024 .bf16)
    (i : Fin 256) (e : Fin 1024) : k0_pay14 v5 v6 v7 v55 (ix2 i e)
    = ∑ j, v5 (ix2 i j) * sg (v6 (ix2 i j) + v7 (ix2 0 j)) * v55 (ix2 e j) := by
  pointwise [k0_pay14, k0_pay13]; simp only [pay12_at]

theorem pay22_at (v5 : FVec Ideal S256x1024 .f32) (v6 : Vec Ideal S256x1024 .f32) (v7 : Vec Ideal S1x1024 .f32) (v88 : Vec Ideal S1024x512 .bf16)
    (i : Fin 256) (e : Fin 512) : k0_pay22 v5 v6 v7 v88 (ix2 i e)
    = ∑ j, v5 (ix2 i j) * sg (v6 (ix2 i j) + v7 (ix2 0 j)) * v88 (ix2 j e) := by
  pointwise [k0_pay22, k0_pay21]; simp only [pay20_at]

/-- The second gate's pre-activation's gradient. -/
theorem pay17_at (v5 : FVec Ideal S256x1024 .f32) (v6 : Vec Ideal S256x1024 .f32) (v7 : Vec Ideal S1x1024 .f32) (v58 : Vec Ideal S256x1024 .bf16)
    (i : Fin 256) (j : Fin 1024) : k0_pay17 (k0_pay15 v5 v6 v7 v58) (k0_pay16 v6 v7) (ix2 i j)
    = dpre (v5 (ix2 i j)) (sg (v6 (ix2 i j) + v7 (ix2 0 j))) (v58 (ix2 i j)) := by
  pointwise [k0_pay17, k0_pay15, k0_pay16]; simp only [pay12_at, one_hi, dpre]

theorem pay19_at (v61 v63 : FVec Ideal S256x1024 .f32) (v67 : Vec Ideal S1x1024 .f32) (i0 : Fin 1) (j : Fin 1024) :
    k0_pay19 v61 v63 v67 (ix2 i0 j) = v67 (ix2 i0 j) + ∑ i, k0_pay17 v61 v63 (ix2 i j) := by
  pointwise [k0_pay19]

/-- The third's. -/
theorem pay1_at (v5 : FVec Ideal S256x1024 .f32) (v6 : Vec Ideal S256x1024 .f32) (v7 : Vec Ideal S1x1024 .f32) (v92 : Vec Ideal S256x1024 .bf16)
    (i : Fin 256) (j : Fin 1024) : k0_pay1 (k0_pay20 v6 v7) (k0_pay23 v5 v6 v7 v92) (Scalar.ofBits .f32 0x3F800000#32) (ix2 i j)
    = dpre (v5 (ix2 i j)) (sg (v6 (ix2 i j) + v7 (ix2 0 j))) (v92 (ix2 i j)) := by
  pointwise [k0_pay1, k0_pay23]; simp only [pay20_at, one_hi, dpre]

theorem pay2_at (v84 v95 : FVec Ideal S256x1024 .f32) (q : Ideal .f32) (i : Fin 256) (j : Fin 1024) :
    k0_pay2 v84 v95 q (ix2 i j) = k0_pay1 v84 v95 q (ix2 i j) := by
  pointwise [k0_pay2]

theorem pay3_at (v84 v95 : FVec Ideal S256x1024 .f32) (q : Ideal .f32) (v101 : Vec Ideal S1x1024 .f32) (i0 : Fin 1) (j : Fin 1024) :
    k0_pay3 v84 v95 q v101 (ix2 i0 j) = v101 (ix2 i0 j) + ∑ i, k0_pay1 v84 v95 q (ix2 i j) := by
  pointwise [k0_pay3]

theorem cl0 (j : Fin 1024) : cl 0 j = ⟨j.val, by omega⟩ := Fin.ext (by simp [cl])

/-- The attention branch's gradient, a block. -/
theorem db0_block (t : Fin cfg0.N) (y : S256x1024.Idx) : (outsAt0 m c t.val t.isLt).1 y = db m c t 0 (y 0) (y 1) := by
  idx_vars y
  by_cases h0 : t.val % 32 = 0
  · rw [outsAt0_A m c t h0]
    frame_out
    rw [pay7_at]; simp only [pay5_at, db, sb, cl0]; pointwise
  · rw [outsAt0_B m c t h0]
    frame_out
    rw [pay7_at]; simp only [pay5_at, db, sb, cl0]; pointwise

/-- The recurrence branch's gradient, a block. -/
theorem db1_block (t : Fin cfg0.N) (y : S256x1024.Idx) : (outsAt0 m c t.val t.isLt).2.1 y = db m c t 1 (y 0) (y 1) := by
  idx_vars y
  by_cases h0 : t.val % 32 = 0
  · rw [outsAt0_A m c t h0]
    frame_out
    pointwise [k0_pay13]; simp only [pay5_at, pay12_at]; pointwise; rfl
  · rw [outsAt0_B m c t h0]
    frame_out
    pointwise [k0_pay13]; simp only [pay5_at, pay12_at]; pointwise; rfl

/-- The memory branch's gradient, a block. -/
theorem db2_block (t : Fin cfg0.N) (y : S256x1024.Idx) : (outsAt0 m c t.val t.isLt).2.2.1 y = db m c t 2 (y 0) (y 1) := by
  idx_vars y
  by_cases h0 : t.val % 32 = 0
  · rw [outsAt0_A m c t h0]
    frame_out
    pointwise [k0_pay21]; simp only [pay5_at, pay20_at]; pointwise; rfl
  · rw [outsAt0_B m c t h0]
    frame_out
    pointwise [k0_pay21]; simp only [pay5_at, pay20_at]; pointwise; rfl

/-- The attention branch's mixer's gradient, a block. -/
theorem dx0_block (t : Fin cfg0.N) (y : S256x512.Idx) : (outsAt0 m c t.val t.isLt).2.2.2.1 y
    = ∑ j, db m c t 0 (y 0) j * Ua m c t j (y 1) := by
  idx_vars y
  by_cases h0 : t.val % 32 = 0
  · rw [outsAt0_A m c t h0]
    frame_out
    rw [pay8_at]; simp only [pay5_at, db, sb, cl0]; pointwise
  · rw [outsAt0_B m c t h0]
    frame_out
    rw [pay8_at]; simp only [pay5_at, db, sb, cl0]; pointwise

/-- The recurrence branch's mixer's gradient, a block. -/
theorem dx1_block (t : Fin cfg0.N) (y : S256x1024.Idx) : (outsAt0 m c t.val t.isLt).2.2.2.2.1 y
    = ∑ j, db m c t 1 (y 0) j * Ur m c t (y 1) j := by
  idx_vars y
  by_cases h0 : t.val % 32 = 0
  · rw [outsAt0_A m c t h0]
    frame_out
    rw [pay14_at]; simp only [pay5_at]; pointwise; rfl
  · rw [outsAt0_B m c t h0]
    frame_out
    rw [pay14_at]; simp only [pay5_at]; pointwise; rfl

/-- The memory branch's mixer's gradient, a block. -/
theorem dx2_block (t : Fin cfg0.N) (y : S256x512.Idx) : (outsAt0 m c t.val t.isLt).2.2.2.2.2.1 y
    = ∑ j, db m c t 2 (y 0) j * Uc m c t j (y 1) := by
  idx_vars y
  by_cases h0 : t.val % 32 = 0
  · rw [outsAt0_A m c t h0]
    frame_out
    rw [pay22_at]; simp only [pay5_at]; pointwise; rfl
  · rw [outsAt0_B m c t h0]
    frame_out
    rw [pay22_at]; simp only [pay5_at]; pointwise; rfl

theorem fin_eq {n k : ℕ} (a : Fin n) (h : a.val = k) : a = ⟨k, h ▸ a.isLt⟩ := Fin.ext h

/-- A gates' column that stands at place `x` of branch `k`. -/
theorem hd_ln {q : Fin 3072} {k : Fin 3} {x : Fin 1024} (h : q.val = k.val * 1024 + x.val) : hd q = k ∧ ln q = x :=
  ⟨Fin.ext (by show q.val / 1024 = k.val; omega), Fin.ext (by show q.val % 1024 = x.val; omega)⟩

/-- The gates' pre-activations' gradient, a block. -/
theorem dg_block (t : Fin cfg0.N) (y : S256x3072.Idx) : (outsAt0 m c t.val t.isLt).2.2.2.2.2.2.1 y = pre m c t (hd (y 1)) (y 0) (ln (y 1)) := by
  by_cases hz : t.val % 32 = 0
  · rw [outsAt0_A m c t hz]
    frame_out
    canon_tiles x h
    case piece0 =>
      rw [show y 0 = x 0 from Fin.ext h0, show hd (y 1) = 2 from (hd_ln (k := 2) (x := x 1) (by show (y 1).val = 2 * 1024 + (x 1).val; omega)).1,
        show ln (y 1) = x 1 from (hd_ln (k := 2) (x := x 1) (by show (y 1).val = 2 * 1024 + (x 1).val; omega)).2]
      idx_vars x
      rw [pay2_at, pay1_at]; simp only [pay5_at]; pointwise; rfl
    case piece1 =>
      rw [show y 0 = x 0 from Fin.ext h0, show hd (y 1) = 1 from (hd_ln (k := 1) (x := x 1) (by show (y 1).val = 1 * 1024 + (x 1).val; omega)).1,
        show ln (y 1) = x 1 from (hd_ln (k := 1) (x := x 1) (by show (y 1).val = 1 * 1024 + (x 1).val; omega)).2]
      idx_vars x
      pointwise [k0_pay18]; rw [pay17_at]; simp only [pay5_at]; pointwise; rfl
    case piece2 =>
      rw [show y 0 = x 0 from Fin.ext h0, show hd (y 1) = 0 from (hd_ln (k := 0) (x := x 1) (by show (y 1).val = 0 * 1024 + (x 1).val; omega)).1,
        show ln (y 1) = x 1 from (hd_ln (k := 0) (x := x 1) (by show (y 1).val = 0 * 1024 + (x 1).val; omega)).2]
      idx_vars x
      pointwise [k0_pay10]; rw [pay9_at]; simp only [pay5_at, pre, sb, cl0]; pointwise; rfl
  · rw [outsAt0_B m c t hz]
    frame_out
    canon_tiles x h
    case piece0 =>
      rw [show y 0 = x 0 from Fin.ext h0, show hd (y 1) = 2 from (hd_ln (k := 2) (x := x 1) (by show (y 1).val = 2 * 1024 + (x 1).val; omega)).1,
        show ln (y 1) = x 1 from (hd_ln (k := 2) (x := x 1) (by show (y 1).val = 2 * 1024 + (x 1).val; omega)).2]
      idx_vars x
      rw [pay2_at, pay1_at]; simp only [pay5_at]; pointwise; rfl
    case piece1 =>
      rw [show y 0 = x 0 from Fin.ext h0, show hd (y 1) = 1 from (hd_ln (k := 1) (x := x 1) (by show (y 1).val = 1 * 1024 + (x 1).val; omega)).1,
        show ln (y 1) = x 1 from (hd_ln (k := 1) (x := x 1) (by show (y 1).val = 1 * 1024 + (x 1).val; omega)).2]
      idx_vars x
      pointwise [k0_pay18]; rw [pay17_at]; simp only [pay5_at]; pointwise; rfl
    case piece2 =>
      rw [show y 0 = x 0 from Fin.ext h0, show hd (y 1) = 0 from (hd_ln (k := 0) (x := x 1) (by show (y 1).val = 0 * 1024 + (x 1).val; omega)).1,
        show ln (y 1) = x 1 from (hd_ln (k := 0) (x := x 1) (by show (y 1).val = 0 * 1024 + (x 1).val; omega)).2]
      idx_vars x
      pointwise [k0_pay10]; rw [pay9_at]; simp only [pay5_at, pre, sb, cl0]; pointwise; rfl

/-- A block's part of the bias's gradient. -/
def part (t : Fin cfg0.N) (q : Fin 3072) : EReal := ∑ i : Fin 256, pre m c t (hd q) i (ln q)

theorem part_at (t : Fin cfg0.N) (k : Fin 3) (x : Fin 1024) (q : Fin 3072) (h : q.val = k.val * 1024 + x.val) :
    part m c t q = ∑ i : Fin 256, pre m c t k i x := by
  simp only [part, (hd_ln h).1, (hd_ln h).2]

/-- A later grid point adds its part to what the point before left. -/
theorem bias_step (t : Fin cfg0.N) (hz : ¬t.val % 32 = 0) (y : S1x3072.Idx) : (outsAt0 m c t.val t.isLt).2.2.2.2.2.2.2 y
    = (outsAt0 m c (t.val - 1) (Nat.lt_of_le_of_lt (Nat.sub_le _ _) t.isLt)).2.2.2.2.2.2.2 y + part m c t (y 1) := by
  rw [outsAt0_B m c t hz]
  frame_out
  canon_tiles x h
  case piece0 =>
    rw [part_at m c t 2 (x 1) (y 1) (by show (y 1).val = 2 * 1024 + (x 1).val; omega)]
    rw [show y = ix2 (x 0) ⟨2048 + (x 1).val, by omega⟩ from by idx_vars y; exact congrArg₂ ix2 (Fin.ext h0) (Fin.ext h1)]
    idx_vars x
    obtain rfl : x0 = 0 := Subsingleton.elim _ _
    rw [pay3_at]; simp only [pay1_at, pay5_at]; pointwise; rfl
  case piece1 =>
    rw [part_at m c t 1 (x 1) (y 1) (by show (y 1).val = 1 * 1024 + (x 1).val; omega)]
    rw [show y = ix2 (x 0) ⟨1024 + (x 1).val, by omega⟩ from by idx_vars y; exact congrArg₂ ix2 (Fin.ext h0) (Fin.ext h1)]
    idx_vars x
    obtain rfl : x0 = 0 := Subsingleton.elim _ _
    rw [pay19_at]; simp only [pay17_at, pay5_at]; pointwise; rfl
  case piece2 =>
    rw [part_at m c t 0 (x 1) (y 1) (by show (y 1).val = 0 * 1024 + (x 1).val; omega)]
    rw [show y = ix2 (x 0) ⟨(x 1).val, by omega⟩ from by idx_vars y; exact congrArg₂ ix2 (Fin.ext h0) (Fin.ext h1)]
    idx_vars x
    obtain rfl : x0 = 0 := Subsingleton.elim _ _
    rw [pay11_at]; simp only [pay9_at, pay5_at, pre, sb, cl0]; pointwise; rfl

/-- The first leaves its part. -/
theorem bias_first (t : Fin cfg0.N) (hz : t.val % 32 = 0) (y : S1x3072.Idx) : (outsAt0 m c t.val t.isLt).2.2.2.2.2.2.2 y = part m c t (y 1) := by
  rw [outsAt0_A m c t hz]
  frame_out
  simp (disch := decide) only [↓View.readCov_skip, ↓View.readCov_fill]
  refine (Cert.KernelIdeal.MemB.canon_drop [_] [_, _, _] y (View.cover_of_tiledL _ ![1, 1024] rfl y)).trans ?_
  canon_tiles x h
  case piece0 =>
    rw [part_at m c t 2 (x 1) (y 1) (by show (y 1).val = 2 * 1024 + (x 1).val; omega)]
    idx_vars x
    obtain rfl : x0 = 0 := Subsingleton.elim _ _
    rw [pay3_at]; simp only [pay1_at, pay5_at]; pointwise [k0_pay4]; rfl
  case piece1 =>
    rw [part_at m c t 1 (x 1) (y 1) (by show (y 1).val = 1 * 1024 + (x 1).val; omega)]
    idx_vars x
    obtain rfl : x0 = 0 := Subsingleton.elim _ _
    rw [pay19_at]; simp only [pay17_at, pay5_at]; pointwise [k0_pay4]; rfl
  case piece2 =>
    rw [part_at m c t 0 (x 1) (y 1) (by show (y 1).val = 0 * 1024 + (x 1).val; omega)]
    idx_vars x
    obtain rfl : x0 = 0 := Subsingleton.elim _ _
    rw [pay11_at]; simp only [pay9_at, pay5_at, pre, sb, cl0]; pointwise [k0_pay4]; rfl

/-- The arguments as launched, by row and column. -/
abbrev Yf (i : Fin 8192) (j : Fin 1024) : EReal := (show FVec Ideal S8192x1024 .bf16 from m ((c : Thread nD τ).loc main_arg0)) (ix2 i j)
abbrev Wf (i : Fin 1024) (j : Fin 1024) : EReal := (show FVec Ideal S1024x1024 .bf16 from m ((c : Thread nD τ).loc main_arg1)) (ix2 i j)
abbrev Uaf (i : Fin 1024) (j : Fin 512) : EReal := (show FVec Ideal S1024x512 .bf16 from m ((c : Thread nD τ).loc main_arg2)) (ix2 i j)
abbrev Urf (i : Fin 1024) (j : Fin 1024) : EReal := (show FVec Ideal S1024x1024 .bf16 from m ((c : Thread nD τ).loc main_arg3)) (ix2 i j)
abbrev Ucf (i : Fin 1024) (j : Fin 512) : EReal := (show FVec Ideal S1024x512 .bf16 from m ((c : Thread nD τ).loc main_arg4)) (ix2 i j)
abbrev Gf (i : Fin 8192) (j : Fin 3072) : EReal := (show FVec Ideal S8192x3072 .f32 from m ((c : Thread nD τ).loc main_arg5)) (ix2 i j)
abbrev Bf (j : Fin 3072) : EReal := (show FVec Ideal S3072 .f32 from m ((c : Thread nD τ).loc main_arg6)) (ix1 j)
abbrev Af (i : Fin 8192) (j : Fin 1024) : EReal := (show FVec Ideal S8192x1024 .bf16 from m ((c : Thread nD τ).loc main_arg7)) (ix2 i j)
abbrev Lf (i : Fin 8192) (j : Fin 1024) : EReal := (show FVec Ideal S8192x1024 .bf16 from m ((c : Thread nD τ).loc main_arg8)) (ix2 i j)
abbrev Mf (i : Fin 8192) (j : Fin 1024) : EReal := (show FVec Ideal S8192x1024 .bf16 from m ((c : Thread nD τ).loc main_arg9)) (ix2 i j)

/-- Where every window's block stands at a grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![0, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![0, 0] ∧ t.val < 32 :=
  (by decide +kernel : ∀ t : Fin grid0.N, _)

/-- Row `i` of grid point `t`'s block, in the whole array. -/
def row (t : Fin cfg0.N) (i : Fin 256) : Fin 8192 := ⟨t.val * 256 + i.val, by have := (idx t).2.2.2.2.2.2.2.2.2.2.2.2.2.2.2.2.2.2; omega⟩

theorem Yb_eq (t : Fin cfg0.N) : Yb m c t = fun i => Yf m c (row t i) := by
  funext i j; simp only [Yb, Yf, row]; blk_ext [iblk, V_main_arg0, idx t]
theorem Wb_eq (t : Fin cfg0.N) : Wb m c t = Wf m c := by
  funext i j; simp only [Wb, Wf]; blk_ext [iblk, V_main_arg1, idx t]
theorem Ua_eq (t : Fin cfg0.N) : Ua m c t = Uaf m c := by
  funext i j; simp only [Ua, Uaf]; blk_ext [iblk, V_main_arg2, idx t]
theorem Ur_eq (t : Fin cfg0.N) : Ur m c t = Urf m c := by
  funext i j; simp only [Ur, Urf]; blk_ext [iblk, V_main_arg3, idx t]
theorem Uc_eq (t : Fin cfg0.N) : Uc m c t = Ucf m c := by
  funext i j; simp only [Uc, Ucf]; blk_ext [iblk, V_main_arg4, idx t]
theorem Gb_eq (t : Fin cfg0.N) : Gb m c t = fun i => Gf m c (row t i) := by
  funext i j; simp only [Gb, Gf, row]; blk_ext [iblk, V_main_arg5, idx t]
theorem Ab_eq (t : Fin cfg0.N) : Ab m c t = fun i => Af m c (row t i) := by
  funext i j; simp only [Ab, Af, row]; blk_ext [iblk, V_main_arg7, idx t]
theorem Lb_eq (t : Fin cfg0.N) : Lb m c t = fun i => Lf m c (row t i) := by
  funext i j; simp only [Lb, Lf, row]; blk_ext [iblk, V_main_arg8, idx t]
theorem Mb_eq (t : Fin cfg0.N) : Mb m c t = fun i => Mf m c (row t i) := by
  funext i j; simp only [Mb, Mf, row]; blk_ext [iblk, V_main_arg9, idx t]
/-- The bias, which two host lines reshape to one row and add nothing to. -/
theorem Bb_eq (t : Fin cfg0.N) : Bb m c t = Bf m c := by
  funext j
  simp only [Bb, Bf]
  blk_simp [iblk, idx t]
  entry_read
  pointwise
  exact congrArg (m (c.tc.loc main_arg6)) (congrArg ix1 (Fin.ext (by blk_simp [idx t])))

/-- The merged rows' gradient, a gate, a branch, in the whole arrays. -/
abbrev Df (i : Fin 8192) (j : Fin 1024) : EReal := dm (Yf m c i) (Wf m c) j
abbrev sf (i : Fin 8192) (q : Fin 3072) : EReal := sg (Gf m c i q + Bf m c q)
abbrev dbf (k : Fin 3) (i : Fin 8192) (j : Fin 1024) : EReal := Df m c i j * sf m c i (cl k j)
abbrev brf (k : Fin 3) (i : Fin 8192) (j : Fin 1024) : EReal := ![Af m c, Lf m c, Mf m c] k i j
abbrev pref (k : Fin 3) (i : Fin 8192) (j : Fin 1024) : EReal := dpre (Df m c i j) (sf m c i (cl k j)) (brf m c k i j)

theorem db_eq (t : Fin cfg0.N) (k : Fin 3) : db m c t k = fun i => dbf m c k (row t i) := by
  funext i j; simp only [db, dbf, sb, sf, Df, Yb_eq, Wb_eq, Gb_eq, Bb_eq]

theorem br_eq (t : Fin cfg0.N) (k : Fin 3) : br m c t k = fun i => brf m c k (row t i) := by
  funext i j
  fin_cases k
  · exact congrFun (congrFun (Ab_eq m c t) i) j
  · exact congrFun (congrFun (Lb_eq m c t) i) j
  · exact congrFun (congrFun (Mb_eq m c t) i) j

theorem pre_eq (t : Fin cfg0.N) (k : Fin 3) : pre m c t k = fun i => pref m c k (row t i) := by
  funext i j
  have hb := congrFun (congrFun (br_eq m c t k) i) j
  show dpre _ _ (br m c t k i j) = dpre _ _ (brf m c k (row t i) j)
  rw [hb]; simp only [sb, sf, Df, Yb_eq, Wb_eq, Gb_eq, Bb_eq]

/-- The attention branch's gradient, whole. -/
theorem final_db0 : (dats m 0 c).arrAt 10 cfg0.N = fun y : S8192x1024.Idx => dbf m c 0 (y 0) (y 1) := by
  refine (dats m 0 c).arrAt_eq_of_covers 10 _ (by decide +kernel) fun t _ y => ?_
  blk_simp
  rw [after0_10, db0_block, db_eq]
  have e0 : ((win0_10.blk t).view.emb y 0 : Fin 8192) = row t (y 0) := Fin.ext (by blk_simp [idx t]; rfl)
  have e1 : ((win0_10.blk t).view.emb y 1 : Fin 1024) = y 1 := Fin.ext (by blk_simp [idx t])
  rw [e0, e1]

/-- The recurrence branch's gradient, whole. -/
theorem final_db1 : (dats m 0 c).arrAt 11 cfg0.N = fun y : S8192x1024.Idx => dbf m c 1 (y 0) (y 1) := by
  refine (dats m 0 c).arrAt_eq_of_covers 11 _ (by decide +kernel) fun t _ y => ?_
  blk_simp
  rw [after0_11, db1_block, db_eq]
  have e0 : ((win0_11.blk t).view.emb y 0 : Fin 8192) = row t (y 0) := Fin.ext (by blk_simp [idx t]; rfl)
  have e1 : ((win0_11.blk t).view.emb y 1 : Fin 1024) = y 1 := Fin.ext (by blk_simp [idx t])
  rw [e0, e1]

/-- The memory branch's gradient, whole. -/
theorem final_db2 : (dats m 0 c).arrAt 12 cfg0.N = fun y : S8192x1024.Idx => dbf m c 2 (y 0) (y 1) := by
  refine (dats m 0 c).arrAt_eq_of_covers 12 _ (by decide +kernel) fun t _ y => ?_
  blk_simp
  rw [after0_12, db2_block, db_eq]
  have e0 : ((win0_12.blk t).view.emb y 0 : Fin 8192) = row t (y 0) := Fin.ext (by blk_simp [idx t]; rfl)
  have e1 : ((win0_12.blk t).view.emb y 1 : Fin 1024) = y 1 := Fin.ext (by blk_simp [idx t])
  rw [e0, e1]

/-- The attention branch's mixer's gradient, whole. -/
theorem final_dx0 : (dats m 0 c).arrAt 13 cfg0.N = fun y : S8192x512.Idx => ∑ j, dbf m c 0 (y 0) j * Uaf m c j (y 1) := by
  refine (dats m 0 c).arrAt_eq_of_covers 13 _ (by decide +kernel) fun t _ y => ?_
  blk_simp
  rw [after0_13, dx0_block, db_eq, Ua_eq]
  have e0 : ((win0_13.blk t).view.emb y 0 : Fin 8192) = row t (y 0) := Fin.ext (by blk_simp [idx t]; rfl)
  have e1 : ((win0_13.blk t).view.emb y 1 : Fin 512) = y 1 := Fin.ext (by blk_simp [idx t])
  rw [e0, e1]

/-- The recurrence branch's mixer's gradient, whole. -/
theorem final_dx1 : (dats m 0 c).arrAt 14 cfg0.N = fun y : S8192x1024.Idx => ∑ j, dbf m c 1 (y 0) j * Urf m c (y 1) j := by
  refine (dats m 0 c).arrAt_eq_of_covers 14 _ (by decide +kernel) fun t _ y => ?_
  blk_simp
  rw [after0_14, dx1_block, db_eq, Ur_eq]
  have e0 : ((win0_14.blk t).view.emb y 0 : Fin 8192) = row t (y 0) := Fin.ext (by blk_simp [idx t]; rfl)
  have e1 : ((win0_14.blk t).view.emb y 1 : Fin 1024) = y 1 := Fin.ext (by blk_simp [idx t])
  rw [e0, e1]

/-- The memory branch's mixer's gradient, whole. -/
theorem final_dx2 : (dats m 0 c).arrAt 15 cfg0.N = fun y : S8192x512.Idx => ∑ j, dbf m c 2 (y 0) j * Ucf m c j (y 1) := by
  refine (dats m 0 c).arrAt_eq_of_covers 15 _ (by decide +kernel) fun t _ y => ?_
  blk_simp
  rw [after0_15, dx2_block, db_eq, Uc_eq]
  have e0 : ((win0_15.blk t).view.emb y 0 : Fin 8192) = row t (y 0) := Fin.ext (by blk_simp [idx t]; rfl)
  have e1 : ((win0_15.blk t).view.emb y 1 : Fin 512) = y 1 := Fin.ext (by blk_simp [idx t])
  rw [e0, e1]

/-- The gates' pre-activations' gradient, whole. -/
theorem final_dg : (dats m 0 c).arrAt 16 cfg0.N = fun y : S8192x3072.Idx => pref m c (hd (y 1)) (y 0) (ln (y 1)) := by
  refine (dats m 0 c).arrAt_eq_of_covers 16 _ (by decide +kernel) fun t _ y => ?_
  blk_simp
  rw [after0_16, dg_block, pre_eq]
  have e0 : ((win0_16.blk t).view.emb y 0 : Fin 8192) = row t (y 0) := Fin.ext (by blk_simp [idx t]; rfl)
  have e1 : ((win0_16.blk t).view.emb y 1 : Fin 3072) = y 1 := Fin.ext (by blk_simp [idx t])
  rw [e0, e1]

/-- A sum over the grid points and a block's rows is one over all the rows. -/
theorem row_sum (f : Fin 8192 → EReal) : ∑ t : Fin cfg0.N, ∑ i : Fin 256, f (row t i) = ∑ i, f i :=
  Fin.sum_mul_add_congr (S := cfg0.N) (n := 256) (fun _ _ _ => rfl) rfl

theorem part_sum (q : Fin 3072) : ∑ t : Fin cfg0.N, part m c t q = ∑ i : Fin 8192, pref m c (hd q) i (ln q) := by
  rw [← row_sum fun i => pref m c (hd q) i (ln q)]
  refine Finset.sum_congr rfl fun t _ => ?_
  rw [part, pre_eq]

/-- The last grid point. -/
abbrev tl : Fin cfg0.N := ⟨31, by rw [show cfg0.N = 32 from N_0]; decide⟩

/-- The bias's gradient, summed over all the rows. -/
theorem final_bias : (dats m 0 c).arrAt 17 cfg0.N = fun y : S1x3072.Idx => ∑ i : Fin 8192, pref m c (hd (y 1)) i (ln (y 1)) := by
  refine (dats m 0 c).arrAt_eq_of_after_last 17 tl (by decide +kernel) _ fun j => ?_
  blk_simp
  rw [after0_17, Pipeline.eq_sum_fin_of_reset_step_apply_last (fun n h => (outsAt0 m c n h).2.2.2.2.2.2.2) 32 (fun _ => 0)
    (fun t y => part m c t (y 1)) (fun t h y => by rw [zero_add]; exact bias_first m c t h y) (fun t h y => bias_step m c t h y)
    (le_of_eq N_0) tl rfl, zero_add]
  exact part_sum m c (j 1)

end Cert.Kernel6Ideal.Merge

end
-- ==== Proof.MergeRef.lean ====
/- The reference's eight results at an index: the derivative of the gated merge, of its out-projection and of the three branches' own. -/
module

public import proofs.«01_k».proof.Proof.Gen.Reference6Ideal.Read
public import proofs.«01_k».proof.Proof.MergeSpec
public import Idealize.ShloMosaic.Lib.Pointwise

@[expose] public section

set_option maxRecDepth 16384

noncomputable section

namespace Cert.Reference6Ideal.Merge

open Cert.Reference6Ideal Cert.Reference6Ideal.Read Idealize.ShloMosaic Idealize.ShloMosaic.TcCoe
open Cert.Ffn Cert.Merge

variable (x0 : FVec Ideal S8192x1024 .bf16) (x1 : FVec Ideal S1024x1024 .bf16) (x2 : FVec Ideal S1024x512 .bf16) (x3 : FVec Ideal S1024x1024 .bf16)
  (x4 : FVec Ideal S1024x512 .bf16) (x5 : FVec Ideal S8192x3072 .f32) (x6 : FVec Ideal S3072 .f32) (x7 x8 x9 : FVec Ideal S8192x1024 .bf16)

/-- The merged rows' gradient, a gate, a branch, a gated branch's gradient. -/
abbrev D (i : Fin 8192) (j : Fin 1024) : EReal := dm (fun k => x0 (ix2 i k)) (fun j k => x1 (ix2 j k)) j
abbrev s (i : Fin 8192) (q : Fin 3072) : EReal := sg (x5 (ix2 i q) + x6 (ix1 q))
abbrev br (k : Fin 3) (i : Fin 8192) (j : Fin 1024) : EReal := ![fun i j => x7 (ix2 i j), fun i j => x8 (ix2 i j), fun i j => x9 (ix2 i j)] k i j
abbrev db (k : Fin 3) (i : Fin 8192) (j : Fin 1024) : EReal := D x0 x1 i j * s x5 x6 i (cl k j)

theorem v5_at (i : Fin 8192) (q : Fin 3072) : val_main_v5 (F := Ideal) x5 x6 (ix2 i q) = x5 (ix2 i q) + x6 (ix1 q) := by
  pointwise [val_main_v5, val_main_v4, val_main_v3]

theorem v11_at (i : Fin 8192) (q : Fin 3072) : val_main_v11 (F := Ideal) x5 x6 (ix2 i q) = s x5 x6 i q := by
  pointwise [val_main_v11, val_main_v10, val_main_cst_0, val_main_v9, val_main_v8, val_main_cst, val_main_v7, val_main_v6]
  simp only [v5_at, logistic_eq]

theorem v14_at (i : Fin 8192) (q : Fin 3072) : val_main_v14 (F := Ideal) x5 x6 (ix2 i q) = s x5 x6 i q * (1 - s x5 x6 i q) := by
  pointwise [val_main_v14, val_main_v13, val_main_v12, val_main_cst_1]
  simp only [v11_at]

theorem v15_at (i : Fin 8192) (k : Fin 3) (j : Fin 1024) : val_main_v15 (F := Ideal) x5 x6 (ix3 i k j) = s x5 x6 i (cl k j) := by
  pointwise [val_main_v15]
  rw [v11_at]; rfl

theorem v17_at (i : Fin 8192) (j : Fin 1024) : val_main_v17 (F := Ideal) x5 x6 (ix2 i j) = s x5 x6 i (cl 0 j) := by
  rw [← v15_at]; pointwise [val_main_v17, val_main_v16]

theorem v20_at (i : Fin 8192) (j : Fin 1024) : val_main_v20 (F := Ideal) x5 x6 (ix2 i j) = s x5 x6 i (cl 1 j) := by
  rw [← v15_at]; pointwise [val_main_v20, val_main_v19]

theorem v24_at (i : Fin 8192) (j : Fin 1024) : val_main_v24 (F := Ideal) x5 x6 (ix2 i j) = s x5 x6 i (cl 2 j) := by
  rw [← v15_at]; pointwise [val_main_v24, val_main_v23]

theorem v30_at (i : Fin 8192) (j : Fin 1024) : val_main_v30 (F := Ideal) x0 x1 (ix2 i j) = D x0 x1 i j := by
  pointwise [val_main_v30, val_main_v29, val_main_v27]; rfl

theorem v40_at (i : Fin 8192) (j : Fin 1024) : val_main_v40 (F := Ideal) x0 x1 x5 x6 (ix2 i j) = db x0 x1 x5 x6 0 i j := by
  pointwise [val_main_v40]; rw [v17_at, v30_at, mul_comm]

theorem v35_at (i : Fin 8192) (j : Fin 1024) : val_main_v35 (F := Ideal) x0 x1 x5 x6 (ix2 i j) = db x0 x1 x5 x6 1 i j := by
  pointwise [val_main_v35]; rw [v20_at, v30_at, mul_comm]

theorem v31_at (i : Fin 8192) (j : Fin 1024) : val_main_v31 (F := Ideal) x0 x1 x5 x6 (ix2 i j) = db x0 x1 x5 x6 2 i j := by
  pointwise [val_main_v31]; rw [v24_at, v30_at, mul_comm]

/-- The three gated branches' gradients. -/
theorem db0_at (i : Fin 8192) (j : Fin 1024) : val_main_v64 (F := Ideal) x0 x1 x5 x6 (ix2 i j) = db x0 x1 x5 x6 0 i j := by
  pointwise [val_main_v64]; rw [v40_at]

theorem db1_at (i : Fin 8192) (j : Fin 1024) : val_main_v65 (F := Ideal) x0 x1 x5 x6 (ix2 i j) = db x0 x1 x5 x6 1 i j := by
  pointwise [val_main_v65]; rw [v35_at]

theorem db2_at (i : Fin 8192) (j : Fin 1024) : val_main_v66 (F := Ideal) x0 x1 x5 x6 (ix2 i j) = db x0 x1 x5 x6 2 i j := by
  pointwise [val_main_v66]; rw [v31_at]

/-- The three mixers' gradients. -/
theorem dx0_at (i : Fin 8192) (j : Fin 512) : val_main_v67 (F := Ideal) x0 x1 x2 x5 x6 (ix2 i j)
    = ∑ k, db x0 x1 x5 x6 0 i k * x2 (ix2 k j) := by
  pointwise [val_main_v67, val_main_v63, val_main_v54, val_main_v53]; simp only [v40_at]

theorem dx1_at (i : Fin 8192) (j : Fin 1024) : val_main_v62 (F := Ideal) x0 x1 x3 x5 x6 (ix2 i j)
    = ∑ k, db x0 x1 x5 x6 1 i k * x3 (ix2 j k) := by
  pointwise [val_main_v62, val_main_v56]; simp only [v35_at]

theorem dx2_at (i : Fin 8192) (j : Fin 512) : val_main_v68 (F := Ideal) x0 x1 x4 x5 x6 (ix2 i j)
    = ∑ k, db x0 x1 x5 x6 2 i k * x4 (ix2 k j) := by
  pointwise [val_main_v68, val_main_v61, val_main_v59, val_main_v58]; simp only [v31_at]

theorem v34_at (i : Fin 8192) (k : Fin 3) (j : Fin 1024) : val_main_v34 (F := Ideal) x0 x1 x9 (ix3 i k j)
    = if k = 2 then D x0 x1 i j * x9 (ix2 i j) else 0 := by
  fin_cases k <;> pointwise [val_main_v34, val_main_cst_2, val_main_v33, val_main_v32, val_main_v2] <;> simp [v30_at]

theorem v38_at (i : Fin 8192) (k : Fin 3) (j : Fin 1024) : val_main_v38 (F := Ideal) x0 x1 x8 (ix3 i k j)
    = if k = 1 then D x0 x1 i j * x8 (ix2 i j) else 0 := by
  fin_cases k <;> pointwise [val_main_v38, val_main_cst_3, val_main_v37, val_main_v36, val_main_v1] <;> simp [v30_at]

theorem v43_at (i : Fin 8192) (k : Fin 3) (j : Fin 1024) : val_main_v43 (F := Ideal) x0 x1 x7 (ix3 i k j)
    = if k = 0 then D x0 x1 i j * x7 (ix2 i j) else 0 := by
  fin_cases k <;> pointwise [val_main_v43, val_main_cst_4, val_main_v42, val_main_v41, val_main_v0] <;> simp [v30_at]

theorem v44_at (i : Fin 8192) (k : Fin 3) (j : Fin 1024) : val_main_v44 (F := Ideal) x0 x1 x7 x8 x9 (ix3 i k j)
    = D x0 x1 i j * br x7 x8 x9 k i j := by
  pointwise [val_main_v44, val_main_v39]
  rw [v34_at, v38_at, v43_at]
  fin_cases k <;> simp <;> rfl

theorem cl_hd (q : Fin 3072) : cl (hd q) (ln q) = q := Fin.ext (by simp only [cl, hd, ln]; omega)

theorem v46_at (i : Fin 8192) (q : Fin 3072) : val_main_v46 (F := Ideal) x0 x1 x5 x6 x7 x8 x9 (ix2 i q)
    = dpre (D x0 x1 i (ln q)) (s x5 x6 i (cl (hd q) (ln q))) (br x7 x8 x9 (hd q) i (ln q)) := by
  have e : val_main_v45 (F := Ideal) x0 x1 x7 x8 x9 (ix2 i q) = val_main_v44 (F := Ideal) x0 x1 x7 x8 x9 (ix3 i (hd q) (ln q)) := by
    pointwise [val_main_v45]; rfl
  pointwise [val_main_v46]
  rw [e, v44_at, v14_at, dpre_eq, cl_hd]

/-- The gates' pre-activations' gradient. -/
theorem dg_at (i : Fin 8192) (q : Fin 3072) : val_main_v69 (F := Ideal) x0 x1 x5 x6 x7 x8 x9 (ix2 i q)
    = dpre (D x0 x1 i (ln q)) (s x5 x6 i (cl (hd q) (ln q))) (br x7 x8 x9 (hd q) i (ln q)) := by
  pointwise [val_main_v69]; rw [v46_at]

/-- The bias's gradient. -/
theorem bias_at (u : Fin 1) (q : Fin 3072) : val_main_v70 (F := Ideal) x0 x1 x5 x6 x7 x8 x9 (ix2 u q)
    = ∑ i, dpre (D x0 x1 i (ln q)) (s x5 x6 i (cl (hd q) (ln q))) (br x7 x8 x9 (hd q) i (ln q)) := by
  pointwise [val_main_v70, val_main_v49, val_main_cst_6, val_main_v48, val_main_v47, val_main_cst_5]
  rw [Fin.sum_univ_one]
  simp only [v46_at, zero_add]

end Cert.Reference6Ideal.Merge

end
-- ==== Proof.MergeClaim.lean ====
/- The gated merge: the reference's frame, and the value claim. -/
module

public import proofs.«01_k».proof.Defs
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.MergeBlock
public import proofs.«01_k».proof.Proof.MergeRef
public import Idealize.ShloMosaic.Adequacy
public import Idealize.ShloMosaic.Init
public import Idealize.ShloMosaic.Lib.Claim

@[expose] public section

set_option maxRecDepth 16384
set_option maxHeartbeats 1600000

noncomputable section

namespace Cert.Proof

open Idealize.ShloMosaic Idealize.SL.Sem Cert.Kernel

/-- The reference runs, its arguments unchanged and every counter at zero at the end. -/
theorem frame_ref6 : Cert.quiescent_Reference6Ideal (hReference6Ideal := Cert.Reference6Ideal.Gen.facts) := by
  intro m g _
  exact (θ_run Cert.Reference6Ideal.defs _ _).mono (fun r h => ⟨fun c => ⟨(h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2⟩,
      Idealize.ShloMosaic.sem_eq_zero_of_no_sems (by decide) r.2⟩)
    (Cert.Reference6Ideal.Value.run (F := Ideal) m g)

/-- The kernel and the reference leave equal results. -/
theorem value6 : Cert.algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
    · exact hc.1 16
    · exact hc.1 17
  · run_from Cert.Reference6Ideal.Value.run m' g'
    · rw [Cert.Reference6Ideal.Read.val_main_v64_eq]
      refine Eq.trans ?_ (Cert.Kernel6Ideal.Merge.final_db0 m c).symm
      funext y
      idx_vars y
      exact Cert.Reference6Ideal.Merge.db0_at (m (c.tc.loc Cert.Kernel6Ideal.main_arg0)) (m (c.tc.loc Cert.Kernel6Ideal.main_arg1)) (m (c.tc.loc Cert.Kernel6Ideal.main_arg5)) (m (c.tc.loc Cert.Kernel6Ideal.main_arg6)) _ _
    · rw [Cert.Reference6Ideal.Read.val_main_v65_eq]
      refine Eq.trans ?_ (Cert.Kernel6Ideal.Merge.final_db1 m c).symm
      funext y
      idx_vars y
      exact Cert.Reference6Ideal.Merge.db1_at (m (c.tc.loc Cert.Kernel6Ideal.main_arg0)) (m (c.tc.loc Cert.Kernel6Ideal.main_arg1)) (m (c.tc.loc Cert.Kernel6Ideal.main_arg5)) (m (c.tc.loc Cert.Kernel6Ideal.main_arg6)) _ _
    · rw [Cert.Reference6Ideal.Read.val_main_v66_eq]
      refine Eq.trans ?_ (Cert.Kernel6Ideal.Merge.final_db2 m c).symm
      funext y
      idx_vars y
      exact Cert.Reference6Ideal.Merge.db2_at (m (c.tc.loc Cert.Kernel6Ideal.main_arg0)) (m (c.tc.loc Cert.Kernel6Ideal.main_arg1)) (m (c.tc.loc Cert.Kernel6Ideal.main_arg5)) (m (c.tc.loc Cert.Kernel6Ideal.main_arg6)) _ _
    · rw [Cert.Reference6Ideal.Read.val_main_v67_eq]
      refine Eq.trans ?_ (Cert.Kernel6Ideal.Merge.final_dx0 m c).symm
      funext y
      idx_vars y
      exact Cert.Reference6Ideal.Merge.dx0_at (m (c.tc.loc Cert.Kernel6Ideal.main_arg0)) (m (c.tc.loc Cert.Kernel6Ideal.main_arg1)) (m (c.tc.loc Cert.Kernel6Ideal.main_arg2)) (m (c.tc.loc Cert.Kernel6Ideal.main_arg5)) (m (c.tc.loc Cert.Kernel6Ideal.main_arg6)) _ _
    · refine Eq.trans (b := Cert.Reference6Ideal.Read.val_main_v62 (F := Ideal) (m (c.tc.loc Cert.Kernel6Ideal.main_arg0)) (m (c.tc.loc Cert.Kernel6Ideal.main_arg1)) (m (c.tc.loc Cert.Kernel6Ideal.main_arg3)) (m (c.tc.loc Cert.Kernel6Ideal.main_arg5)) (m (c.tc.loc Cert.Kernel6Ideal.main_arg6))) ?_ ?_
      · exact Cert.Reference6Ideal.Read.val_main_v62_eq (F := Ideal) (m (c.tc.loc Cert.Kernel6Ideal.main_arg0)) (m (c.tc.loc Cert.Kernel6Ideal.main_arg1)) (m (c.tc.loc Cert.Kernel6Ideal.main_arg3)) (m (c.tc.loc Cert.Kernel6Ideal.main_arg5)) (m (c.tc.loc Cert.Kernel6Ideal.main_arg6))
      refine Eq.trans ?_ (Cert.Kernel6Ideal.Merge.final_dx1 m c).symm
      funext y
      idx_vars y
      exact Cert.Reference6Ideal.Merge.dx1_at (m (c.tc.loc Cert.Kernel6Ideal.main_arg0)) (m (c.tc.loc Cert.Kernel6Ideal.main_arg1)) (m (c.tc.loc Cert.Kernel6Ideal.main_arg3)) (m (c.tc.loc Cert.Kernel6Ideal.main_arg5)) (m (c.tc.loc Cert.Kernel6Ideal.main_arg6)) _ _
    · rw [Cert.Reference6Ideal.Read.val_main_v68_eq]
      refine Eq.trans ?_ (Cert.Kernel6Ideal.Merge.final_dx2 m c).symm
      funext y
      idx_vars y
      exact Cert.Reference6Ideal.Merge.dx2_at (m (c.tc.loc Cert.Kernel6Ideal.main_arg0)) (m (c.tc.loc Cert.Kernel6Ideal.main_arg1)) (m (c.tc.loc Cert.Kernel6Ideal.main_arg4)) (m (c.tc.loc Cert.Kernel6Ideal.main_arg5)) (m (c.tc.loc Cert.Kernel6Ideal.main_arg6)) _ _
    · rw [Cert.Reference6Ideal.Read.val_main_v69_eq]
      refine Eq.trans ?_ (Cert.Kernel6Ideal.Merge.final_dg m c).symm
      funext y
      idx_vars y
      exact Cert.Reference6Ideal.Merge.dg_at (m (c.tc.loc Cert.Kernel6Ideal.main_arg0)) (m (c.tc.loc Cert.Kernel6Ideal.main_arg1)) (m (c.tc.loc Cert.Kernel6Ideal.main_arg5)) (m (c.tc.loc Cert.Kernel6Ideal.main_arg6)) (m (c.tc.loc Cert.Kernel6Ideal.main_arg7)) (m (c.tc.loc Cert.Kernel6Ideal.main_arg8)) (m (c.tc.loc Cert.Kernel6Ideal.main_arg9)) _ _
    · rw [Cert.Reference6Ideal.Read.val_main_v70_eq]
      refine Eq.trans ?_ (Cert.Kernel6Ideal.Merge.final_bias m c).symm
      funext y
      idx_vars y
      exact Cert.Reference6Ideal.Merge.bias_at (m (c.tc.loc Cert.Kernel6Ideal.main_arg0)) (m (c.tc.loc Cert.Kernel6Ideal.main_arg1)) (m (c.tc.loc Cert.Kernel6Ideal.main_arg5)) (m (c.tc.loc Cert.Kernel6Ideal.main_arg6)) (m (c.tc.loc Cert.Kernel6Ideal.main_arg7)) (m (c.tc.loc Cert.Kernel6Ideal.main_arg8)) (m (c.tc.loc Cert.Kernel6Ideal.main_arg9)) _ _

end Cert.Proof

end
-- ==== Proof.MixSpec.lean ====
/- The mixing half-step's normed rows' gradient: one product with the five parts of the in-projection side by side, or five. -/
module

public import proofs.«01_k».proof.Proof.NormSpec

@[expose] public section

noncomputable section

namespace Cert.Mix

/-- A sum over a range in two parts, the second after the first. -/
theorem sum_split {a b n : ℕ} (h : n = a + b) (F : Fin n → EReal) :
    ∑ i, F i = (∑ i : Fin a, F ⟨i.val, by omega⟩) + ∑ j : Fin b, F ⟨a + j.val, by omega⟩ := by
  subst h
  exact Fin.sum_univ_add F

/-- A row's gradient through the five parts of the projection `W`, one after another along its rows. -/
def dh5 (a : Fin 768 → EReal) (b c : Fin 1024 → EReal) (d : Fin 512 → EReal) (e : Fin 3072 → EReal) (W : Fin 6400 → Fin 1024 → EReal)
    (j : Fin 1024) : EReal :=
  (∑ f : Fin 768, a f * W ⟨f.val, by omega⟩ j) + (∑ f : Fin 1024, b f * W ⟨768 + f.val, by omega⟩ j)
    + (∑ f : Fin 1024, c f * W ⟨1792 + f.val, by omega⟩ j) + (∑ f : Fin 512, d f * W ⟨2816 + f.val, by omega⟩ j)
    + ∑ f : Fin 3072, e f * W ⟨3328 + f.val, by omega⟩ j

/-- A sum over all the projection's rows, part by part. -/
theorem sum_five (F : Fin 6400 → EReal) : ∑ f, F f
    = (∑ f : Fin 768, F ⟨f.val, by omega⟩) + (∑ f : Fin 1024, F ⟨768 + f.val, by omega⟩) + (∑ f : Fin 1024, F ⟨1792 + f.val, by omega⟩)
      + (∑ f : Fin 512, F ⟨2816 + f.val, by omega⟩) + ∑ f : Fin 3072, F ⟨3328 + f.val, by omega⟩ := by
  rw [sum_split (a := 3328) (b := 3072) rfl F, sum_split (a := 2816) (b := 512) rfl, sum_split (a := 1792) (b := 1024) rfl,
    sum_split (a := 768) (b := 1024) rfl]

end Cert.Mix

end
-- ==== Proof.MixBlock.lean ====
/- The kernel of the mixing half-step's input gradient: what a grid point leaves, and the three arrays after the run. -/
module

public import proofs.«01_k».proof.Proof.Gen.Kernel7Ideal.Value
public import proofs.«01_k».proof.Proof.MixSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel7Ideal.Mix

open Cert.Kernel7Ideal Cert.Kernel7Ideal.Gen Idealize.ShloMosaic Idealize.ShloMosaic.TcCoe Idealize.SL.Sem
open Cert.Norm Cert.Mix

variable (m : (ℓ : Loc nD τ sig) → Buf (Elt Ideal) ℓ) (c : Dev nD)

/-- Grid point `t`'s blocks: the gradients of the five products of the in-projection (queries, keys and values; the recurrence's two
    inputs; the memory's queries; the gates), the projection (held transposed, the five one below another), the normed rows, the gain, and
    the gradient passed around the half-step. -/
abbrev Ab (t : Fin cfg0.N) (i : Fin 512) (j : Fin 768) : EReal := (show FVec Ideal S512x768 .bf16 from iblk m c 0 t) (ix2 i j)
abbrev Bb (t : Fin cfg0.N) (i : Fin 512) (j : Fin 1024) : EReal := (show FVec Ideal S512x1024 .bf16 from iblk m c 1 t) (ix2 i j)
abbrev Cb (t : Fin cfg0.N) (i : Fin 512) (j : Fin 1024) : EReal := (show FVec Ideal S512x1024 .bf16 from iblk m c 2 t) (ix2 i j)
abbrev Db (t : Fin cfg0.N) (i : Fin 512) (j : Fin 512) : EReal := (show FVec Ideal S512x512 .bf16 from iblk m c 3 t) (ix2 i j)
abbrev Eb (t : Fin cfg0.N) (i : Fin 512) (j : Fin 3072) : EReal := (show FVec Ideal S512x3072 .bf16 from iblk m c 4 t) (ix2 i j)
abbrev Pb (t : Fin cfg0.N) (i : Fin 6400) (j : Fin 1024) : EReal := (show FVec Ideal S6400x1024 .bf16 from iblk m c 5 t) (ix2 i j)
abbrev Xb (t : Fin cfg0.N) (i : Fin 512) (j : Fin 1024) : EReal := (show FVec Ideal S512x1024 .f32 from iblk m c 6 t) (ix2 i j)
abbrev Nb (t : Fin cfg0.N) (j : Fin 1024) : EReal := (show FVec Ideal S1x1024 .f32 from iblk m c 7 t) (ix2 0 j)
abbrev Yb (t : Fin cfg0.N) (i : Fin 512) (j : Fin 1024) : EReal := (show FVec Ideal S512x1024 .f32 from iblk m c 8 t) (ix2 i j)

/-- A grid point's normed rows' gradient, at a row. -/
abbrev Hb (t : Fin cfg0.N) (i : Fin 512) : Fin 1024 → EReal :=
  dh5 (Ab m c t i) (Bb m c t i) (Cb m c t i) (Db m c t i) (Eb m c t i) (Pb m c t)

theorem pay6_at (v0 : Vec Ideal S768x1024 .bf16) (v1 : Vec Ideal S512x768 .bf16) (v3 : Vec Ideal S1024x1024 .bf16) (v4 : Vec Ideal S512x1024 .bf16)
    (v7 : Vec Ideal S1024x1024 .bf16) (v8 : Vec Ideal S512x1024 .bf16) (v11 : Vec Ideal S512x1024 .bf16) (v12 : Vec Ideal S512x512 .bf16)
    (v15 : Vec Ideal S3072x1024 .bf16) (v16 : Vec Ideal S512x3072 .bf16) (i : Fin 512) (j : Fin 1024) :
    k0_pay6 v0 v1 v3 v4 v7 v8 v11 v12 v15 v16 (ix2 i j) = (∑ f : Fin 768, v1 (ix2 i f) * v0 (ix2 f j)) + (∑ f : Fin 1024, v4 (ix2 i f) * v3 (ix2 f j))
      + (∑ f : Fin 1024, v8 (ix2 i f) * v7 (ix2 f j)) + (∑ f : Fin 512, v12 (ix2 i f) * v11 (ix2 f j))
      + ∑ f : Fin 3072, v16 (ix2 i f) * v15 (ix2 f j) := by
  pointwise [k0_pay6]

theorem pay7_at (v7 : Vec Ideal S512x1024 .f32) (i : Fin 512) : k0_pay7 v7 (ix2 i 0) = rs (fun k => v7 (ix2 i k)) := by
  pointwise [k0_pay7]; simp only [rs, ms, len, eps]

theorem xn_at (v7 : Vec Ideal S512x1024 .f32) (i : Fin 512) (j : Fin 1024) :
    k0_pay1 v7 (k0_pay8 v7) (ix2 i j) = v7 (ix2 i j) * rs (fun k => v7 (ix2 i k)) := by
  pointwise [k0_pay1, k0_pay8]; rw [pay7_at]

theorem pay2_at (v18 : FVec Ideal S512x1024 .f32) (v19 : Vec Ideal S512x1024 .f32) (v30 : Vec Ideal S1x1024 .f32) (v44 : Vec Ideal S512x1024 .f32)
    (i : Fin 512) (j : Fin 1024) : k0_pay2 v18 v19 (k0_pay7 v19) (k0_pay8 v19) v30 v44 (ix2 i j)
    = v44 (ix2 i j) + dnorm (fun k => v19 (ix2 i k)) (fun k => v30 (ix2 0 k)) (fun k => v18 (ix2 i k)) j := by
  pointwise [k0_pay2]; simp only [xn_at, pay7_at, dnorm, len]

theorem pay4_at (v18 : FVec Ideal S512x1024 .f32) (v19 : Vec Ideal S512x1024 .f32) (i0 : Fin 1) (j : Fin 1024) :
    k0_pay4 v18 v19 (k0_pay8 v19) (ix2 i0 j) = ∑ i : Fin 512, v18 (ix2 i j) * (v19 (ix2 i j) * rs (fun k => v19 (ix2 i k))) := by
  pointwise [k0_pay4]; simp only [xn_at]

theorem fin_eq {n k : ℕ} (a : Fin n) (h : a.val = k) : a = ⟨k, h ▸ a.isLt⟩ := Fin.ext h

/-- A grid point that is a multiple of the grid's length is the first. -/
theorem first0 (t : Fin cfg0.N) (h0 : t.val % 16 = 0) : ¬1 ≤ t.val := by have h : t.val < 16 := t.isLt; omega

/-- A grid point's block of the input's gradient. -/
theorem dx_block (t : Fin cfg0.N) (y : S512x1024.Idx) :
    (outsAt0 m c t.val t.isLt).1 y = Yb m c t (y 0) (y 1) + dnorm (Xb m c t (y 0)) (Nb m c t) (Hb m c t (y 0)) (y 1) := by
  idx_vars y
  by_cases h0 : t.val % 16 = 0
  · rw [outsAt0_A m c t h0 (first0 t h0)]
    frame_out
    rw [pay2_at]; simp only [pay6_at]; pointwise; rfl
  · rw [outsAt0_B m c t h0 (by omega)]
    frame_out
    rw [pay2_at]; simp only [pay6_at]; pointwise; rfl

/-- The same block, held in the narrower format. -/
theorem lo_block (t : Fin cfg0.N) (y : S512x1024.Idx) :
    (outsAt0 m c t.val t.isLt).2.1 y = Yb m c t (y 0) (y 1) + dnorm (Xb m c t (y 0)) (Nb m c t) (Hb m c t (y 0)) (y 1) := by
  idx_vars y
  by_cases h0 : t.val % 16 = 0
  · rw [outsAt0_A m c t h0 (first0 t h0)]
    frame_out
    pointwise [k0_pay3]
    rw [pay2_at]; simp only [pay6_at]; pointwise; rfl
  · rw [outsAt0_B m c t h0 (by omega)]
    frame_out
    pointwise [k0_pay3]
    rw [pay2_at]; simp only [pay6_at]; pointwise; rfl

/-- A block's part of the gain's gradient. -/
def part (t : Fin cfg0.N) (j : Fin 1024) : EReal := ∑ i : Fin 512, Hb m c t i j * (Xb m c t i j * rs (Xb m c t i))

/-- The first grid point leaves its part of the gain's gradient. -/
theorem gain_first (t : Fin cfg0.N) (h0 : t.val % 16 = 0) (y : S1x1024.Idx) : (outsAt0 m c t.val t.isLt).2.2 y = part m c t (y 1) := by
  idx_vars y
  rw [outsAt0_A m c t h0 (first0 t h0)]
  frame_out
  rw [pay4_at]; simp only [pay6_at]; pointwise; rfl

/-- A later one adds its part to what the point before left. -/
theorem gain_step (t : Fin cfg0.N) (h0 : ¬t.val % 16 = 0) (y : S1x1024.Idx) : (outsAt0 m c t.val t.isLt).2.2 y
    = (outsAt0 m c (t.val - 1) (Nat.lt_of_le_of_lt (Nat.sub_le _ _) t.isLt)).2.2 y + part m c t (y 1) := by
  idx_vars y
  rw [outsAt0_B m c t h0 (by omega)]
  frame_out
  pointwise [k0_pay5]
  rw [pay4_at]; simp only [pay6_at]; pointwise; rfl

/-- The arguments as launched, by row and column. -/
abbrev Af (i : Fin 8192) (j : Fin 768) : EReal := (show FVec Ideal S8192x768 .bf16 from m ((c : Thread nD τ).loc main_arg0)) (ix2 i j)
abbrev Bf (i : Fin 8192) (j : Fin 1024) : EReal := (show FVec Ideal S8192x1024 .bf16 from m ((c : Thread nD τ).loc main_arg1)) (ix2 i j)
abbrev Cf (i : Fin 8192) (j : Fin 1024) : EReal := (show FVec Ideal S8192x1024 .bf16 from m ((c : Thread nD τ).loc main_arg2)) (ix2 i j)
abbrev Df (i : Fin 8192) (j : Fin 512) : EReal := (show FVec Ideal S8192x512 .bf16 from m ((c : Thread nD τ).loc main_arg3)) (ix2 i j)
abbrev Ef (i : Fin 8192) (j : Fin 3072) : EReal := (show FVec Ideal S8192x3072 .bf16 from m ((c : Thread nD τ).loc main_arg4)) (ix2 i j)
abbrev Pf (i : Fin 6400) (j : Fin 1024) : EReal := (show FVec Ideal S6400x1024 .bf16 from m ((c : Thread nD τ).loc main_arg5)) (ix2 i j)
abbrev Xf (i : Fin 8192) (j : Fin 1024) : EReal := (show FVec Ideal S8192x1024 .f32 from m ((c : Thread nD τ).loc main_arg6)) (ix2 i j)
abbrev Nf (j : Fin 1024) : EReal := (show FVec Ideal S1024 .f32 from m ((c : Thread nD τ).loc main_arg7)) (ix1 j)
abbrev Yf (i : Fin 8192) (j : Fin 1024) : EReal := (show FVec Ideal S8192x1024 .f32 from m ((c : Thread nD τ).loc main_arg8)) (ix2 i j)

/-- Where every window's block stands at a grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![t.val, 0]
    ∧ win0_7.index t = ![0, 0]
    ∧ win0_8.index t = ![t.val, 0]
    ∧ win0_9.index t = ![t.val, 0]
    ∧ win0_10.index t = ![t.val, 0]
    ∧ win0_11.index t = ![0, 0] ∧ t.val < 16 :=
  (by decide +kernel : ∀ t : Fin grid0.N, _)

/-- Row `i` of grid point `t`'s block, in the whole array. -/
def row (t : Fin cfg0.N) (i : Fin 512) : Fin 8192 := ⟨t.val * 512 + i.val, by have := (idx t).2.2.2.2.2.2.2.2.2.2.2.2; omega⟩

theorem Ab_eq (t : Fin cfg0.N) : Ab m c t = fun i => Af m c (row t i) := by
  funext i j; simp only [Ab, Af, row]; blk_ext [iblk, V_main_arg0, idx t]
theorem Bb_eq (t : Fin cfg0.N) : Bb m c t = fun i => Bf m c (row t i) := by
  funext i j; simp only [Bb, Bf, row]; blk_ext [iblk, V_main_arg1, idx t]
theorem Cb_eq (t : Fin cfg0.N) : Cb m c t = fun i => Cf m c (row t i) := by
  funext i j; simp only [Cb, Cf, row]; blk_ext [iblk, V_main_arg2, idx t]
theorem Db_eq (t : Fin cfg0.N) : Db m c t = fun i => Df m c (row t i) := by
  funext i j; simp only [Db, Df, row]; blk_ext [iblk, V_main_arg3, idx t]
theorem Eb_eq (t : Fin cfg0.N) : Eb m c t = fun i => Ef m c (row t i) := by
  funext i j; simp only [Eb, Ef, row]; blk_ext [iblk, V_main_arg4, idx t]
theorem Pb_eq (t : Fin cfg0.N) : Pb m c t = Pf m c := by
  funext i j; simp only [Pb, Pf]; blk_ext [iblk, V_main_arg5, idx t]
theorem Xb_eq (t : Fin cfg0.N) : Xb m c t = fun i => Xf m c (row t i) := by
  funext i j; simp only [Xb, Xf, row]; blk_ext [iblk, V_main_arg6, idx t]
theorem Yb_eq (t : Fin cfg0.N) : Yb m c t = fun i => Yf m c (row t i) := by
  funext i j; simp only [Yb, Yf, row]; blk_ext [iblk, V_main_arg8, idx t]
/-- The gain, which a host line reshapes to one row. -/
theorem Nb_eq (t : Fin cfg0.N) : Nb m c t = Nf m c := by
  funext j
  simp only [Nb, Nf]
  blk_simp [iblk, idx t]
  entry_read
  pointwise
  exact congrArg (m (c.tc.loc main_arg7)) (congrArg ix1 (Fin.ext (by blk_simp [idx t])))

/-- The normed rows' gradient, in the whole array. -/
abbrev Hf (i : Fin 8192) : Fin 1024 → EReal :=
  dh5 (Af m c i) (Bf m c i) (Cf m c i) (Df m c i) (Ef m c i) (Pf m c)

theorem Hb_eq (t : Fin cfg0.N) : Hb m c t = fun i => Hf m c (row t i) := by
  funext i; simp only [Hb, Hf, Ab_eq, Bb_eq, Cb_eq, Db_eq, Eb_eq, Pb_eq]

/-- The first result: the input's gradient. -/
theorem final_dx : (dats m 0 c).arrAt 9 cfg0.N = fun y : S8192x1024.Idx =>
    Yf m c (y 0) (y 1) + dnorm (Xf m c (y 0)) (Nf m c) (Hf m c (y 0)) (y 1) := by
  refine (dats m 0 c).arrAt_eq_of_covers 9 _ (by decide +kernel) fun t _ y => ?_
  blk_simp
  rw [after0_9, dx_block, Hb_eq, Xb_eq, Yb_eq, Nb_eq]
  have e0 : ((win0_9.blk t).view.emb y 0 : Fin 8192) = row t (y 0) := Fin.ext (by blk_simp [idx t]; rfl)
  have e1 : ((win0_9.blk t).view.emb y 1 : Fin 1024) = y 1 := Fin.ext (by blk_simp [idx t])
  rw [e0, e1]

/-- The second result: the same, in the narrower format. -/
theorem final_lo : (dats m 0 c).arrAt 10 cfg0.N = fun y : S8192x1024.Idx =>
    Yf m c (y 0) (y 1) + dnorm (Xf m c (y 0)) (Nf m c) (Hf m c (y 0)) (y 1) := by
  refine (dats m 0 c).arrAt_eq_of_covers 10 _ (by decide +kernel) fun t _ y => ?_
  blk_simp
  rw [after0_10, lo_block, Hb_eq, Xb_eq, Yb_eq, Nb_eq]
  have e0 : ((win0_10.blk t).view.emb y 0 : Fin 8192) = row t (y 0) := Fin.ext (by blk_simp [idx t]; rfl)
  have e1 : ((win0_10.blk t).view.emb y 1 : Fin 1024) = y 1 := Fin.ext (by blk_simp [idx t])
  rw [e0, e1]

/-- A sum over the grid points and a block's rows is one over all the rows. -/
theorem row_sum (f : Fin 8192 → EReal) : ∑ t : Fin cfg0.N, ∑ i : Fin 512, f (row t i) = ∑ i, f i :=
  Fin.sum_mul_add_congr (S := cfg0.N) (n := 512) (fun _ _ _ => rfl) rfl

/-- The grid points' parts of the gain's gradient add up to the sum over all the rows. -/
theorem part_sum (k : Fin 1024) : ∑ t : Fin cfg0.N, part m c t k = ∑ i : Fin 8192, Hf m c i k * (Xf m c i k * rs (Xf m c i)) := by
  rw [← row_sum fun i => Hf m c i k * (Xf m c i k * rs (Xf m c i))]
  refine Finset.sum_congr rfl fun t _ => Finset.sum_congr rfl fun i _ => ?_
  rw [Hb_eq, Xb_eq]

/-- The third result: the gain's gradient, summed over all the rows. -/
theorem final_gain : (dats m 0 c).arrAt 11 cfg0.N = fun y : S1x1024.Idx =>
    ∑ i : Fin 8192, Hf m c i (y 1) * (Xf m c i (y 1) * rs (Xf m c i)) := by
  refine (dats m 0 c).arrAt_eq_of_after_last 11 t0_15 (by decide +kernel) _ fun j => ?_
  blk_simp
  rw [after0_11, Pipeline.eq_sum_fin_of_reset_step_apply_last (fun n h => (outsAt0 m c n h).2.2) 16 (fun _ => 0)
    (fun t y => part m c t (y 1)) (fun t h y => by rw [zero_add]; exact gain_first m c t h y) (fun t h y => gain_step m c t h y)
    (le_of_eq N_0) t0_15 rfl, zero_add]
  exact part_sum m c (j 1)

end Cert.Kernel7Ideal.Mix

end
-- ==== Proof.MixRef.lean ====
/- The reference's three results at an index: the derivative of the mixing half-step's norm and of the in-projection it feeds, its five
   parts side by side; and the
   precondition read. -/
module

public import proofs.«01_k».proof.Proof.Gen.Reference7Ideal.Read
public import proofs.«01_k».proof.Pre_finite_x_mix
public import proofs.«01_k».proof.Proof.MixSpec
public import proofs.«01_k».proof.Proof.Finite

@[expose] public section

set_option maxRecDepth 16384

noncomputable section

namespace Cert.Reference7Ideal.Mix

open Cert.Reference7Ideal Cert.Reference7Ideal.Read Idealize.ShloMosaic Idealize.ShloMosaic.TcCoe
open Cert.Norm Cert.Mix Cert.Softmax

variable (x0 : FVec Ideal S8192x768 .bf16) (x1 x2 : FVec Ideal S8192x1024 .bf16) (x3 : FVec Ideal S8192x512 .bf16) (x4 : FVec Ideal S8192x3072 .bf16)
  (x5 : FVec Ideal S6400x1024 .bf16) (x6 : FVec Ideal S8192x1024 .f32) (x7 : FVec Ideal S1024 .f32) (x8 : FVec Ideal S8192x1024 .f32)

/-- A row of the half-step's input; the gain; the normed row's gradient. -/
abbrev xr (i : Fin 8192) (k : Fin 1024) : EReal := x6 (ix2 i k)
abbrev gn (k : Fin 1024) : EReal := x7 (ix1 k)
abbrev hr (i : Fin 8192) : Fin 1024 → EReal :=
  dh5 (fun f => x0 (ix2 i f)) (fun f => x1 (ix2 i f)) (fun f => x2 (ix2 i f)) (fun f => x3 (ix2 i f)) (fun f => x4 (ix2 i f)) (fun f j => x5 (ix2 f j))

theorem v7_at (i : Fin 8192) : val_main_v7 (F := Ideal) x6 (ix2 i 0) = ms (xr x6 i) := by
  pointwise [val_main_v7, val_main_v6, val_main_cst_1, val_main_v5, val_main_v4, val_main_cst_0, val_main_v3, val_main_v2, val_main_cst, val_main_v1]
  simp only [ms, len, eps, xr]

theorem v8_at (i : Fin 8192) : val_main_v8 (F := Ideal) x6 (ix2 i 0) = rs (xr x6 i) := by
  pointwise [val_main_v8]; simp only [v7_at, rs]

theorem v11_at (i : Fin 8192) : val_main_v11 (F := Ideal) x6 (ix2 i 0)
    = ((-(1 / 2) : ℝ) : EReal) * Ideal.div (rs (xr x6 i)) (ms (xr x6 i)) := by
  pointwise [val_main_v11, val_main_v10, val_main_cst_2, val_main_v9]; simp only [v7_at, v8_at, neg_half]

theorem v13_at (i : Fin 8192) (j : Fin 1024) : val_main_v13 (F := Ideal) x6 (ix2 i j) = xr x6 i j * rs (xr x6 i) := by
  pointwise [val_main_v13, val_main_v12]; simp only [v8_at, xr]

/-- The five parts side by side, at each part's columns. -/
theorem part0_at (i : Fin 8192) (f : Fin 768) : val_main_v0 (F := Ideal) x0 x1 x2 x3 x4 (ix2 i ⟨f.val, by omega⟩) = x0 (ix2 i f) := by
  pointwise [val_main_v0]
theorem part1_at (i : Fin 8192) (f : Fin 1024) : val_main_v0 (F := Ideal) x0 x1 x2 x3 x4 (ix2 i ⟨768 + f.val, by omega⟩) = x1 (ix2 i f) := by
  pointwise [val_main_v0]
theorem part2_at (i : Fin 8192) (f : Fin 1024) : val_main_v0 (F := Ideal) x0 x1 x2 x3 x4 (ix2 i ⟨1792 + f.val, by omega⟩) = x2 (ix2 i f) := by
  pointwise [val_main_v0]
  rw [dif_neg (by omega), dif_neg (by omega), dif_pos (by omega)]
  exact congrArg x2 (congrArg (ix2 i) (Fin.ext (by have := f.isLt; simp only; omega)))
theorem part3_at (i : Fin 8192) (f : Fin 512) : val_main_v0 (F := Ideal) x0 x1 x2 x3 x4 (ix2 i ⟨2816 + f.val, by omega⟩) = x3 (ix2 i f) := by
  pointwise [val_main_v0]
  rw [dif_neg (by omega), dif_neg (by omega), dif_neg (by omega), dif_pos (by omega)]
  exact congrArg x3 (congrArg (ix2 i) (Fin.ext (by have := f.isLt; simp only; omega)))
theorem part4_at (i : Fin 8192) (f : Fin 3072) : val_main_v0 (F := Ideal) x0 x1 x2 x3 x4 (ix2 i ⟨3328 + f.val, by omega⟩) = x4 (ix2 i f) := by
  pointwise [val_main_v0]
  rw [dif_neg (by omega), dif_neg (by omega), dif_neg (by omega), dif_neg (by omega)]
  exact congrArg x4 (congrArg (ix2 i) (Fin.ext (by have := f.isLt; simp only; omega)))

theorem v21_at (i : Fin 8192) (j : Fin 1024) : val_main_v21 (F := Ideal) x0 x1 x2 x3 x4 x5 (ix2 i j) = hr x0 x1 x2 x3 x4 x5 i j := by
  pointwise [val_main_v21, val_main_v20, val_main_v18, val_main_v17]
  rw [sum_five]
  simp only [part0_at, part1_at, part2_at, part3_at, part4_at, hr, dh5]

theorem v26_at (i : Fin 8192) (j : Fin 1024) : val_main_v26 (F := Ideal) x0 x1 x2 x3 x4 x5 x7 (ix2 i j) = hr x0 x1 x2 x3 x4 x5 i j * gn x7 j := by
  pointwise [val_main_v26, val_main_v25, val_main_v14]; simp only [v21_at, gn]

theorem v34_at (i : Fin 8192) : val_main_v34 (F := Ideal) x0 x1 x2 x3 x4 x5 x6 x7 (ix2 i 0)
    = (∑ k, xr x6 i k * (hr x0 x1 x2 x3 x4 x5 i k * gn x7 k)) * (((-(1 / 2) : ℝ) : EReal) * Ideal.div (rs (xr x6 i)) (ms (xr x6 i))) := by
  pointwise [val_main_v34, val_main_v30, val_main_v29, val_main_cst_5, val_main_v28]; simp only [v26_at, v11_at, xr]

theorem v38_at (i : Fin 8192) (j : Fin 1024) : val_main_v38 (F := Ideal) x0 x1 x2 x3 x4 x5 x6 x7 (ix2 i j)
    = dms (xr x6 i) (gn x7) (hr x0 x1 x2 x3 x4 x5 i) := by
  pointwise [val_main_v38, val_main_v37, val_main_cst_7, val_main_v36, val_main_v35, val_main_cst_6]
  rw [Fin.sum_univ_one]; simp only [v34_at, dms, len]

/-- The input's gradient, where the input is finite. -/
theorem dx_at (hx : ∀ i j, Fin' (x6 (ix2 i j))) (i : Fin 8192) (j : Fin 1024) : val_main_v42 (F := Ideal) x0 x1 x2 x3 x4 x5 x6 x7 x8 (ix2 i j)
    = x8 (ix2 i j) + dnorm (xr x6 i) (gn x7) (hr x0 x1 x2 x3 x4 x5 i) j := by
  rw [← dnorm_eq (fun k => hx i k)]
  pointwise [val_main_v42, val_main_v41, val_main_v40, val_main_v39, val_main_v33, val_main_v32, val_main_v31]
  simp only [v38_at, v26_at, v8_at, xr]

/-- The same, in the narrower format. -/
theorem lo_at (hx : ∀ i j, Fin' (x6 (ix2 i j))) (i : Fin 8192) (j : Fin 1024) : val_main_v43 (F := Ideal) x0 x1 x2 x3 x4 x5 x6 x7 x8 (ix2 i j)
    = x8 (ix2 i j) + dnorm (xr x6 i) (gn x7) (hr x0 x1 x2 x3 x4 x5 i) j := by
  rw [← dx_at x0 x1 x2 x3 x4 x5 x6 x7 x8 hx]
  pointwise [val_main_v43]

/-- The gain's gradient. -/
theorem gain_at (i : Fin 1) (j : Fin 1024) : val_main_v44 (F := Ideal) x0 x1 x2 x3 x4 x5 x6 (ix2 i j)
    = ∑ i, hr x0 x1 x2 x3 x4 x5 i j * (xr x6 i j * rs (xr x6 i)) := by
  pointwise [val_main_v44, val_main_v27, val_main_cst_4, val_main_v24, val_main_v23, val_main_cst_3, val_main_v22]
  rw [Fin.sum_univ_one]; simp only [v13_at, v21_at, mul_comm]

end Cert.Reference7Ideal.Mix

namespace Cert.MixP

open Idealize.ShloMosaic Idealize.ShloMosaic.TcCoe Cert.Pre_finite_x_mix Cert.Finite Cert.Softmax

/-- The predicate's side conditions. -/
theorem facts : Cert.Pre_finite_x_mix.Facts where
  bcast_S_S8192x1024 := by decide
  reducesTo_S8192x1024_S_d0_1 := by decide
  h_S_ := by decide

/-- Under the precondition the mixing half-step's input is finite. -/
theorem fin_x [Facts] (x0 : FVec Ideal S8192x768 .bf16) (x1 x2 : FVec Ideal S8192x1024 .bf16) (x3 : FVec Ideal S8192x512 .bf16) (x4 : FVec Ideal S8192x3072 .bf16)
    (x5 : FVec Ideal S6400x1024 .bf16) (x6 : FVec Ideal S8192x1024 .f32) (x7 : FVec Ideal S1024 .f32) (x8 : FVec Ideal S8192x1024 .f32) (h : fn (F := Ideal) x0 x1 x2 x3 x4 x5 x6 x7 x8 = fun _ => 1#1)
    (i : Fin 8192) (j : Fin 1024) : Fin' (x6 (ix2 i j)) := by
  unfold fn at h
  exact fin_of_abs (reduce_andi _ _ _ _ h (ix2 i j))

end Cert.MixP

end
-- ==== Proof.MixClaim.lean ====
/- The mixing half-step's input: the reference's frame, and the value claim. -/
module

public import proofs.«01_k».proof.Defs
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.MixBlock
public import proofs.«01_k».proof.Proof.MixRef
public import Idealize.ShloMosaic.Adequacy
public import Idealize.ShloMosaic.Init
public import Idealize.ShloMosaic.Lib.Claim

@[expose] public section

set_option maxRecDepth 16384
set_option maxHeartbeats 1600000

noncomputable section

namespace Cert.Proof

open Idealize.ShloMosaic Idealize.SL.Sem Cert.Kernel

/-- The reference runs, its arguments unchanged and every counter at zero at the end. -/
theorem frame_ref7 : Cert.quiescent_Reference7Ideal (hReference7Ideal := Cert.Reference7Ideal.Gen.facts) := by
  intro m g _
  exact (θ_run Cert.Reference7Ideal.defs _ _).mono (fun r h => ⟨fun c => ⟨(h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
      Idealize.ShloMosaic.sem_eq_zero_of_no_sems (by decide) r.2⟩)
    (Cert.Reference7Ideal.Value.run (F := Ideal) m g)

/-- A function of 9 equal arguments. -/
theorem congr_9 {α0 α1 α2 α3 α4 α5 α6 α7 α8 β : Type} (f : α0 → α1 → α2 → α3 → α4 → α5 → α6 → α7 → α8 → β)
    {a0 b0 : α0} {a1 b1 : α1} {a2 b2 : α2} {a3 b3 : α3} {a4 b4 : α4} {a5 b5 : α5} {a6 b6 : α6} {a7 b7 : α7} {a8 b8 : α8}
    (h0 : a0 = b0) (h1 : a1 = b1) (h2 : a2 = b2) (h3 : a3 = b3) (h4 : a4 = b4) (h5 : a5 = b5) (h6 : a6 = b6) (h7 : a7 = b7) (h8 : a8 = b8) :
    f a0 a1 a2 a3 a4 a5 a6 a7 a8 = f b0 b1 b2 b3 b4 b5 b6 b7 b8 := by
  subst h0 h1 h2 h3 h4 h5 h6 h7 h8; rfl

/-- The kernel and the reference leave equal results wherever the half-step's input is finite. -/
theorem value7 : Cert.algebraic_Kernel7Ideal_Reference7Ideal_pre_finite_x_mix (hKernel7Ideal := Cert.Kernel7Ideal.Gen.facts)
    (hReference7Ideal := Cert.Reference7Ideal.Gen.facts) (hPre_finite_x_mix := Cert.MixP.facts) := by
  haveI := Cert.MixP.facts
  pair_intro
  · run_from Cert.Kernel7Ideal.Gen.run_main m g
  · run_from Cert.Reference7Ideal.Value.run m' g'
    · rw [Cert.Reference7Ideal.Read.val_main_v42_eq]
      refine (congr_9 (Cert.Reference7Ideal.Read.val_main_v42 (F := Ideal)) (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2).trans ?_
      refine Eq.trans ?_ (Cert.Kernel7Ideal.Mix.final_dx m c).symm
      funext y
      idx_vars y
      have hx := Cert.MixP.fin_x (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)) (m (c.tc.loc Cert.Kernel7Ideal.main_arg7)) (m (c.tc.loc Cert.Kernel7Ideal.main_arg8)) (hpre c)
      exact Cert.Reference7Ideal.Mix.dx_at (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)) (m (c.tc.loc Cert.Kernel7Ideal.main_arg7)) (m (c.tc.loc Cert.Kernel7Ideal.main_arg8)) hx _ _
    · rw [Cert.Reference7Ideal.Read.val_main_v43_eq]
      refine (congr_9 (Cert.Reference7Ideal.Read.val_main_v43 (F := Ideal)) (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2).trans ?_
      refine Eq.trans ?_ (Cert.Kernel7Ideal.Mix.final_lo m c).symm
      funext y
      idx_vars y
      have hx := Cert.MixP.fin_x (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)) (m (c.tc.loc Cert.Kernel7Ideal.main_arg7)) (m (c.tc.loc Cert.Kernel7Ideal.main_arg8)) (hpre c)
      exact Cert.Reference7Ideal.Mix.lo_at (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)) (m (c.tc.loc Cert.Kernel7Ideal.main_arg7)) (m (c.tc.loc Cert.Kernel7Ideal.main_arg8)) hx _ _
    · rw [Cert.Reference7Ideal.Read.val_main_v44_eq]
      rw [(hagree c).2.2.2.2.1]
      refine Eq.trans ?_ (Cert.Kernel7Ideal.Mix.final_gain m c).symm
      funext y
      idx_vars y
      exact Cert.Reference7Ideal.Mix.gain_at (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)) _ _

end Cert.Proof

end
-- ==== Proof.DwQkv.lean ====
/- The gradient of the in-projection's weight for queries, keys and values: the kernel sums `g t k · h t n` over the rows
   `t` in four tiles, a carried accumulator between them; the reference contracts all the rows at once. -/
module

public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel8Ideal.Dw

open Cert.Kernel8Ideal Cert.Kernel8Ideal.Gen Idealize.ShloMosaic Idealize.ShloMosaic.TcCoe Idealize.SL.Sem

variable (m : (ℓ : Loc nD τ sig) → Buf (Elt Ideal) ℓ) (c : Dev nD)

/-- The tile's contraction at an index. -/
theorem pay1_at (y : S768x1024.Idx) (b : Vec Ideal S2048x1024 .bf16) (a : Vec Ideal S2048x768 .bf16) :
    k0_pay1 (F := Ideal) b a y = ∑ l : Fin 2048, a (ix2 l (y 0)) * b (ix2 l (y 1)) := by
  pointwise [k0_pay1]

/-- One tile's part of the sum at a point of the grid. -/
abbrev part (t : Fin cfg0.N) (y : S768x1024.Idx) : EReal :=
  ∑ l : Fin 2048, (show FVec Ideal S2048x768 .bf16 from iblk m c 0 t) (ix2 l (y 0))
    * (show FVec Ideal S2048x1024 .bf16 from iblk m c 1 t) (ix2 l (y 1))

/-- At the first point of a run the accumulator is that tile's part. -/
theorem acc_first (t : Fin cfg0.N) (h : t.val % 4 = 0) (y : S768x1024.Idx) :
    (outsAt0 m c t.val t.isLt).2 y = part m c t y := by
  have h4 : t.val < 4 := t.isLt
  rw [outsAt0_A m c t h (by omega) (by omega)]
  frame_out
  pointwise [k0_pay2]
  exact pay1_at y _ _

/-- At the others it is what the point before left and that tile's part. -/
theorem acc_step (t : Fin cfg0.N) (h : ¬ t.val % 4 = 0) (y : S768x1024.Idx) :
    (outsAt0 m c t.val t.isLt).2 y
      = (outsAt0 m c (t.val - 1) (Nat.lt_of_le_of_lt (Nat.sub_le _ _) t.isLt)).2 y + part m c t y := by
  by_cases h3 : t.val % 4 = 3
  · rw [outsAt0_C m c t h (by omega) h3]
    frame_out
    pointwise [k0_pay3]
    rw [pay1_at, read_unread_whole]
  · rw [outsAt0_B m c t h (by omega) h3]
    frame_out
    pointwise [k0_pay3]
    rw [pay1_at, read_unread_whole]

/-- The last point of a run writes the accumulator. -/
theorem out_last (t : Fin cfg0.N) (h : t.val % 4 = 3) (y : S768x1024.Idx) :
    (outsAt0 m c t.val t.isLt).1 y = (outsAt0 m c t.val t.isLt).2 y := by
  rw [outsAt0_C m c t (by omega) (by omega) h]
  frame_out
  pointwise [k0_pay4]

/-- The output's gradient and the input as launched, by row and column. -/
abbrev Gf (i : Fin 8192) (j : Fin 768) : EReal := (show FVec Ideal S8192x768 .bf16 from m ((c : Thread nD τ).loc main_arg0)) (ix2 i j)
abbrev Hf (i : Fin 8192) (j : Fin 1024) : EReal := (show FVec Ideal S8192x1024 .bf16 from m ((c : Thread nD τ).loc main_arg1)) (ix2 i j)

/-- Where every window's block stands at a grid point. -/
theorem idx : ∀ t : Fin cfg0.N, win0_0.index t = ![t.val % 4, 0] ∧ win0_1.index t = ![t.val % 4, 0]
    ∧ win0_2.index t = ![0, 0] ∧ t.val < 4 :=
  (by decide +kernel : ∀ t : Fin grid0.N, _)

/-- The kernel's array: at every row and column of the weight, the sum over all the rows of the batch. -/
theorem final (c : Dev nD) : (dats m 0 c).arrAt 2 cfg0.N = fun y : S768x1024.Idx =>
    ∑ t : Fin 8192, Gf m c t (y 0) * Hf m c t (y 1) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 4 (fun _ => 0)
    (fun t y => part m c t y) (fun t h y => by rw [zero_add]; exact acc_first m c t h y)
    (fun t h y => acc_step m c t h y) t h3, zero_add]
  refine Fin.sum_mul_add_congr fun s k hl => ?_
  have hi := idx ⟨_, Pipeline.run_point_lt_of_flush t h3 s⟩
  refine congrArg₂ (· * ·) ?_ ?_ <;> blk_ext [iblk, V, Gf, Hf, idx t, hi]

end Cert.Kernel8Ideal.Dw

namespace Cert.Reference8Ideal.Dw

open Cert.Reference8Ideal Cert.Reference8Ideal.Read Idealize.ShloMosaic Idealize.ShloMosaic.TcCoe

/-- The reference's result at an index. -/
theorem ref_at (x0 : FVec Ideal S8192x768 .bf16) (x1 : FVec Ideal S8192x1024 .bf16) (y : S768x1024.Idx) :
    val_main_v8 (F := Ideal) x0 x1 y = ∑ t : Fin 8192, x0 (ix2 t (y 0)) * x1 (ix2 t (y 1)) := by
  pointwise [val_main_v8, val_main_v7, val_main_v6, val_main_v5, val_main_v4, val_main_v1]

end Cert.Reference8Ideal.Dw

end
-- ==== Proof.DwQkvClaim.lean ====
/- The in-projection's weight for queries, keys and values: the reference's frame, and the value claim. -/
module

public import proofs.«01_k».proof.Defs
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.DwQkv
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref8 : Cert.quiescent_Reference8Ideal (hReference8Ideal := Cert.Reference8Ideal.Gen.facts) := by
  intro m g _
  exact (θ_run Cert.Reference8Ideal.defs _ _).mono (fun r h => ⟨fun c => ⟨(h c).2.1, (h c).2.2⟩,
      Idealize.ShloMosaic.sem_eq_zero_of_no_sems (by decide) r.2⟩)
    (Cert.Reference8Ideal.Value.run (F := Ideal) m g)

/-- The kernel and the reference leave equal results. -/
theorem value8 : Cert.algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · run_from Cert.Reference8Ideal.Value.run m' g'
    rw [Cert.Reference8Ideal.Read.val_main_v8_eq]
    try rw [(hagree c).1, (hagree c).2]
    refine Eq.trans ?_ (Cert.Kernel8Ideal.Dw.final m c).symm
    funext y
    exact Cert.Reference8Ideal.Dw.ref_at _ _ y

end Cert.Proof

end
-- ==== Proof.DwXr.lean ====
/- The gradient of the in-projection's weight for the recurrence's input: the kernel sums `g t k · h t n` over the rows
   `t` in four tiles, a carried accumulator between them; the reference contracts all the rows at once. -/
module

public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel9Ideal.Dw

open Cert.Kernel9Ideal Cert.Kernel9Ideal.Gen Idealize.ShloMosaic Idealize.ShloMosaic.TcCoe Idealize.SL.Sem

variable (m : (ℓ : Loc nD τ sig) → Buf (Elt Ideal) ℓ) (c : Dev nD)

/-- The tile's contraction at an index. -/
theorem pay1_at (y : S1024x1024.Idx) (b : Vec Ideal S2048x1024 .bf16) (a : Vec Ideal S2048x1024 .bf16) :
    k0_pay1 (F := Ideal) b a y = ∑ l : Fin 2048, a (ix2 l (y 0)) * b (ix2 l (y 1)) := by
  pointwise [k0_pay1]

/-- One tile's part of the sum at a point of the grid. -/
abbrev part (t : Fin cfg0.N) (y : S1024x1024.Idx) : EReal :=
  ∑ l : Fin 2048, (show FVec Ideal S2048x1024 .bf16 from iblk m c 0 t) (ix2 l (y 0))
    * (show FVec Ideal S2048x1024 .bf16 from iblk m c 1 t) (ix2 l (y 1))

/-- At the first point of a run the accumulator is that tile's part. -/
theorem acc_first (t : Fin cfg0.N) (h : t.val % 4 = 0) (y : S1024x1024.Idx) :
    (outsAt0 m c t.val t.isLt).2 y = part m c t y := by
  have h4 : t.val < 4 := t.isLt
  rw [outsAt0_A m c t h (by omega) (by omega)]
  frame_out
  pointwise [k0_pay2]
  exact pay1_at y _ _

/-- At the others it is what the point before left and that tile's part. -/
theorem acc_step (t : Fin cfg0.N) (h : ¬ t.val % 4 = 0) (y : S1024x1024.Idx) :
    (outsAt0 m c t.val t.isLt).2 y
      = (outsAt0 m c (t.val - 1) (Nat.lt_of_le_of_lt (Nat.sub_le _ _) t.isLt)).2 y + part m c t y := by
  by_cases h3 : t.val % 4 = 3
  · rw [outsAt0_C m c t h (by omega) h3]
    frame_out
    pointwise [k0_pay3]
    rw [pay1_at, read_unread_whole]
  · rw [outsAt0_B m c t h (by omega) h3]
    frame_out
    pointwise [k0_pay3]
    rw [pay1_at, read_unread_whole]

/-- The last point of a run writes the accumulator. -/
theorem out_last (t : Fin cfg0.N) (h : t.val % 4 = 3) (y : S1024x1024.Idx) :
    (outsAt0 m c t.val t.isLt).1 y = (outsAt0 m c t.val t.isLt).2 y := by
  rw [outsAt0_C m c t (by omega) (by omega) h]
  frame_out
  pointwise [k0_pay4]

/-- The output's gradient and the input as launched, by row and column. -/
abbrev Gf (i : Fin 8192) (j : Fin 1024) : EReal := (show FVec Ideal S8192x1024 .bf16 from m ((c : Thread nD τ).loc main_arg0)) (ix2 i j)
abbrev Hf (i : Fin 8192) (j : Fin 1024) : EReal := (show FVec Ideal S8192x1024 .bf16 from m ((c : Thread nD τ).loc main_arg1)) (ix2 i j)

/-- Where every window's block stands at a grid point. -/
theorem idx : ∀ t : Fin cfg0.N, win0_0.index t = ![t.val % 4, 0] ∧ win0_1.index t = ![t.val % 4, 0]
    ∧ win0_2.index t = ![0, 0] ∧ t.val < 4 :=
  (by decide +kernel : ∀ t : Fin grid0.N, _)

/-- The kernel's array: at every row and column of the weight, the sum over all the rows of the batch. -/
theorem final (c : Dev nD) : (dats m 0 c).arrAt 2 cfg0.N = fun y : S1024x1024.Idx =>
    ∑ t : Fin 8192, Gf m c t (y 0) * Hf m c t (y 1) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 4 (fun _ => 0)
    (fun t y => part m c t y) (fun t h y => by rw [zero_add]; exact acc_first m c t h y)
    (fun t h y => acc_step m c t h y) t h3, zero_add]
  refine Fin.sum_mul_add_congr fun s k hl => ?_
  have hi := idx ⟨_, Pipeline.run_point_lt_of_flush t h3 s⟩
  refine congrArg₂ (· * ·) ?_ ?_ <;> blk_ext [iblk, V, Gf, Hf, idx t, hi]

end Cert.Kernel9Ideal.Dw

namespace Cert.Reference9Ideal.Dw

open Cert.Reference9Ideal Cert.Reference9Ideal.Read Idealize.ShloMosaic Idealize.ShloMosaic.TcCoe

/-- The reference's result at an index. -/
theorem ref_at (x0 : FVec Ideal S8192x1024 .bf16) (x1 : FVec Ideal S8192x1024 .bf16) (y : S1024x1024.Idx) :
    val_main_v8 (F := Ideal) x0 x1 y = ∑ t : Fin 8192, x0 (ix2 t (y 0)) * x1 (ix2 t (y 1)) := by
  pointwise [val_main_v8, val_main_v7, val_main_v6, val_main_v5, val_main_v4, val_main_v1]

end Cert.Reference9Ideal.Dw

end
-- ==== Proof.DwXrClaim.lean ====
/- The in-projection's weight for the recurrence's input: the reference's frame, and the value claim. -/
module

public import proofs.«01_k».proof.Defs
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.DwXr
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref9 : Cert.quiescent_Reference9Ideal (hReference9Ideal := Cert.Reference9Ideal.Gen.facts) := by
  intro m g _
  exact (θ_run Cert.Reference9Ideal.defs _ _).mono (fun r h => ⟨fun c => ⟨(h c).2.1, (h c).2.2⟩,
      Idealize.ShloMosaic.sem_eq_zero_of_no_sems (by decide) r.2⟩)
    (Cert.Reference9Ideal.Value.run (F := Ideal) m g)

/-- The kernel and the reference leave equal results. -/
theorem value9 : Cert.algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
  · run_from Cert.Reference9Ideal.Value.run m' g'
    rw [Cert.Reference9Ideal.Read.val_main_v8_eq]
    try rw [(hagree c).1, (hagree c).2]
    refine Eq.trans ?_ (Cert.Kernel9Ideal.Dw.final m c).symm
    funext y
    exact Cert.Reference9Ideal.Dw.ref_at _ _ y

end Cert.Proof

end
-- ==== Proof.DwCq.lean ====
/- The gradient of the in-projection's weight for the memory's queries: the kernel sums `g t k · h t n` over the rows
   `t` in four tiles, a carried accumulator between them; the reference contracts all the rows at once. -/
module

public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel10Ideal.Dw

open Cert.Kernel10Ideal Cert.Kernel10Ideal.Gen Idealize.ShloMosaic Idealize.ShloMosaic.TcCoe Idealize.SL.Sem

variable (m : (ℓ : Loc nD τ sig) → Buf (Elt Ideal) ℓ) (c : Dev nD)

/-- The tile's contraction at an index. -/
theorem pay1_at (y : S512x1024.Idx) (b : Vec Ideal S2048x1024 .bf16) (a : Vec Ideal S2048x512 .bf16) :
    k0_pay1 (F := Ideal) b a y = ∑ l : Fin 2048, a (ix2 l (y 0)) * b (ix2 l (y 1)) := by
  pointwise [k0_pay1]

/-- One tile's part of the sum at a point of the grid. -/
abbrev part (t : Fin cfg0.N) (y : S512x1024.Idx) : EReal :=
  ∑ l : Fin 2048, (show FVec Ideal S2048x512 .bf16 from iblk m c 0 t) (ix2 l (y 0))
    * (show FVec Ideal S2048x1024 .bf16 from iblk m c 1 t) (ix2 l (y 1))

/-- At the first point of a run the accumulator is that tile's part. -/
theorem acc_first (t : Fin cfg0.N) (h : t.val % 4 = 0) (y : S512x1024.Idx) :
    (outsAt0 m c t.val t.isLt).2 y = part m c t y := by
  have h4 : t.val < 4 := t.isLt
  rw [outsAt0_A m c t h (by omega) (by omega)]
  frame_out
  pointwise [k0_pay2]
  exact pay1_at y _ _

/-- At the others it is what the point before left and that tile's part. -/
theorem acc_step (t : Fin cfg0.N) (h : ¬ t.val % 4 = 0) (y : S512x1024.Idx) :
    (outsAt0 m c t.val t.isLt).2 y
      = (outsAt0 m c (t.val - 1) (Nat.lt_of_le_of_lt (Nat.sub_le _ _) t.isLt)).2 y + part m c t y := by
  by_cases h3 : t.val % 4 = 3
  · rw [outsAt0_C m c t h (by omega) h3]
    frame_out
    pointwise [k0_pay3]
    rw [pay1_at, read_unread_whole]
  · rw [outsAt0_B m c t h (by omega) h3]
    frame_out
    pointwise [k0_pay3]
    rw [pay1_at, read_unread_whole]

/-- The last point of a run writes the accumulator. -/
theorem out_last (t : Fin cfg0.N) (h : t.val % 4 = 3) (y : S512x1024.Idx) :
    (outsAt0 m c t.val t.isLt).1 y = (outsAt0 m c t.val t.isLt).2 y := by
  rw [outsAt0_C m c t (by omega) (by omega) h]
  frame_out
  pointwise [k0_pay4]

/-- The output's gradient and the input as launched, by row and column. -/
abbrev Gf (i : Fin 8192) (j : Fin 512) : EReal := (show FVec Ideal S8192x512 .bf16 from m ((c : Thread nD τ).loc main_arg0)) (ix2 i j)
abbrev Hf (i : Fin 8192) (j : Fin 1024) : EReal := (show FVec Ideal S8192x1024 .bf16 from m ((c : Thread nD τ).loc main_arg1)) (ix2 i j)

/-- Where every window's block stands at a grid point. -/
theorem idx : ∀ t : Fin cfg0.N, win0_0.index t = ![t.val % 4, 0] ∧ win0_1.index t = ![t.val % 4, 0]
    ∧ win0_2.index t = ![0, 0] ∧ t.val < 4 :=
  (by decide +kernel : ∀ t : Fin grid0.N, _)

/-- The kernel's array: at every row and column of the weight, the sum over all the rows of the batch. -/
theorem final (c : Dev nD) : (dats m 0 c).arrAt 2 cfg0.N = fun y : S512x1024.Idx =>
    ∑ t : Fin 8192, Gf m c t (y 0) * Hf m c t (y 1) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 4 (fun _ => 0)
    (fun t y => part m c t y) (fun t h y => by rw [zero_add]; exact acc_first m c t h y)
    (fun t h y => acc_step m c t h y) t h3, zero_add]
  refine Fin.sum_mul_add_congr fun s k hl => ?_
  have hi := idx ⟨_, Pipeline.run_point_lt_of_flush t h3 s⟩
  refine congrArg₂ (· * ·) ?_ ?_ <;> blk_ext [iblk, V, Gf, Hf, idx t, hi]

end Cert.Kernel10Ideal.Dw

namespace Cert.Reference10Ideal.Dw

open Cert.Reference10Ideal Cert.Reference10Ideal.Read Idealize.ShloMosaic Idealize.ShloMosaic.TcCoe

/-- The reference's result at an index. -/
theorem ref_at (x0 : FVec Ideal S8192x512 .bf16) (x1 : FVec Ideal S8192x1024 .bf16) (y : S512x1024.Idx) :
    val_main_v8 (F := Ideal) x0 x1 y = ∑ t : Fin 8192, x0 (ix2 t (y 0)) * x1 (ix2 t (y 1)) := by
  pointwise [val_main_v8, val_main_v7, val_main_v6, val_main_v5, val_main_v4, val_main_v1]

end Cert.Reference10Ideal.Dw

end
-- ==== Proof.DwCqClaim.lean ====
/- The in-projection's weight for the memory's queries: the reference's frame, and the value claim. -/
module

public import proofs.«01_k».proof.Defs
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.DwCq
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref10 : Cert.quiescent_Reference10Ideal (hReference10Ideal := Cert.Reference10Ideal.Gen.facts) := by
  intro m g _
  exact (θ_run Cert.Reference10Ideal.defs _ _).mono (fun r h => ⟨fun c => ⟨(h c).2.1, (h c).2.2⟩,
      Idealize.ShloMosaic.sem_eq_zero_of_no_sems (by decide) r.2⟩)
    (Cert.Reference10Ideal.Value.run (F := Ideal) m g)

/-- The kernel and the reference leave equal results. -/
theorem value10 : Cert.algebraic_Kernel10Ideal_Reference10Ideal (hKernel10Ideal := Cert.Kernel10Ideal.Gen.facts)
    (hReference10Ideal := Cert.Reference10Ideal.Gen.facts) := by
  pair_intro
  · run_from Cert.Kernel10Ideal.Gen.run_main m g
  · run_from Cert.Reference10Ideal.Value.run m' g'
    rw [Cert.Reference10Ideal.Read.val_main_v8_eq]
    try rw [(hagree c).1, (hagree c).2]
    refine Eq.trans ?_ (Cert.Kernel10Ideal.Dw.final m c).symm
    funext y
    exact Cert.Reference10Ideal.Dw.ref_at _ _ y

end Cert.Proof

end
-- ==== Proof.DwGates.lean ====
/- The gradient of the in-projection's weight for the gates: the kernel sums `g t k · h t n` over the rows
   `t` in four tiles, a carried accumulator between them; the reference contracts all the rows at once. -/
module

public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel11Ideal.Dw

open Cert.Kernel11Ideal Cert.Kernel11Ideal.Gen Idealize.ShloMosaic Idealize.ShloMosaic.TcCoe Idealize.SL.Sem

variable (m : (ℓ : Loc nD τ sig) → Buf (Elt Ideal) ℓ) (c : Dev nD)

/-- The tile's contraction at an index. -/
theorem pay1_at (y : S1024x1024.Idx) (b : Vec Ideal S2048x1024 .bf16) (a : Vec Ideal S2048x1024 .bf16) :
    k0_pay1 (F := Ideal) b a y = ∑ l : Fin 2048, a (ix2 l (y 0)) * b (ix2 l (y 1)) := by
  pointwise [k0_pay1]

/-- One tile's part of the sum at a point of the grid. -/
abbrev part (t : Fin cfg0.N) (y : S1024x1024.Idx) : EReal :=
  ∑ l : Fin 2048, (show FVec Ideal S2048x1024 .bf16 from iblk m c 0 t) (ix2 l (y 0))
    * (show FVec Ideal S2048x1024 .bf16 from iblk m c 1 t) (ix2 l (y 1))

/-- At the first point of a run the accumulator is that tile's part. -/
theorem acc_first (t : Fin cfg0.N) (h : t.val % 4 = 0) (y : S1024x1024.Idx) :
    (outsAt0 m c t.val t.isLt).2 y = part m c t y := by
  rw [outsAt0_A m c t h (by omega) (by omega)]
  frame_out
  pointwise [k0_pay2]
  exact pay1_at y _ _

/-- At the others it is what the point before left and that tile's part. -/
theorem acc_step (t : Fin cfg0.N) (h : ¬ t.val % 4 = 0) (y : S1024x1024.Idx) :
    (outsAt0 m c t.val t.isLt).2 y
      = (outsAt0 m c (t.val - 1) (Nat.lt_of_le_of_lt (Nat.sub_le _ _) t.isLt)).2 y + part m c t y := by
  by_cases h3 : t.val % 4 = 3
  · rw [outsAt0_C m c t h (by omega) h3]
    frame_out
    pointwise [k0_pay3]
    rw [pay1_at, read_unread_whole]
  · rw [outsAt0_B m c t h (by omega) h3]
    frame_out
    pointwise [k0_pay3]
    rw [pay1_at, read_unread_whole]

/-- The last point of a run writes the accumulator. -/
theorem out_last (t : Fin cfg0.N) (h : t.val % 4 = 3) (y : S1024x1024.Idx) :
    (outsAt0 m c t.val t.isLt).1 y = (outsAt0 m c t.val t.isLt).2 y := by
  rw [outsAt0_C m c t (by omega) (by omega) h]
  frame_out
  pointwise [k0_pay4]

/-- The output's gradient and the input as launched, by row and column. -/
abbrev Gf (i : Fin 8192) (j : Fin 3072) : EReal := (show FVec Ideal S8192x3072 .bf16 from m ((c : Thread nD τ).loc main_arg0)) (ix2 i j)
abbrev Hf (i : Fin 8192) (j : Fin 1024) : EReal := (show FVec Ideal S8192x1024 .bf16 from m ((c : Thread nD τ).loc main_arg1)) (ix2 i j)

/-- Where every window's block stands at a grid point. -/
theorem idx : ∀ t : Fin cfg0.N, win0_0.index t = ![t.val % 4, t.val / 4] ∧ win0_1.index t = ![t.val % 4, 0]
    ∧ win0_2.index t = ![t.val / 4, 0] ∧ t.val < 12 :=
  (by decide +kernel : ∀ t : Fin grid0.N, _)

/-- The kernel's array: at every row and column of the weight, the sum over all the rows of the batch. -/
theorem final (c : Dev nD) : (dats m 0 c).arrAt 2 cfg0.N = fun y : S3072x1024.Idx =>
    ∑ t : Fin 8192, Gf m c t (y 0) * Hf m c t (y 1) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 4 (fun _ => 0)
    (fun t y => part m c t y) (fun t h y => by rw [zero_add]; exact acc_first m c t h y)
    (fun t h y => acc_step m c t h y) t h3, zero_add]
  refine Fin.sum_mul_add_congr fun s k hl => ?_
  have hi := idx ⟨_, Pipeline.run_point_lt_of_flush t h3 s⟩
  refine congrArg₂ (· * ·) ?_ ?_ <;> blk_ext [iblk, V, Gf, Hf, idx t, hi]

end Cert.Kernel11Ideal.Dw

namespace Cert.Reference11Ideal.Dw

open Cert.Reference11Ideal Cert.Reference11Ideal.Read Idealize.ShloMosaic Idealize.ShloMosaic.TcCoe

/-- The reference's result at an index. -/
theorem ref_at (x0 : FVec Ideal S8192x3072 .bf16) (x1 : FVec Ideal S8192x1024 .bf16) (y : S3072x1024.Idx) :
    val_main_v8 (F := Ideal) x0 x1 y = ∑ t : Fin 8192, x0 (ix2 t (y 0)) * x1 (ix2 t (y 1)) := by
  pointwise [val_main_v8, val_main_v7, val_main_v6, val_main_v5, val_main_v4, val_main_v1]

end Cert.Reference11Ideal.Dw

end
-- ==== Proof.DwGatesClaim.lean ====
/- The in-projection's weight for the gates: the reference's frame, and the value claim. -/
module

public import proofs.«01_k».proof.Defs
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.DwGates
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref11 : Cert.quiescent_Reference11Ideal (hReference11Ideal := Cert.Reference11Ideal.Gen.facts) := by
  intro m g _
  exact (θ_run Cert.Reference11Ideal.defs _ _).mono (fun r h => ⟨fun c => ⟨(h c).2.1, (h c).2.2⟩,
      Idealize.ShloMosaic.sem_eq_zero_of_no_sems (by decide) r.2⟩)
    (Cert.Reference11Ideal.Value.run (F := Ideal) m g)

/-- The kernel and the reference leave equal results. -/
theorem value11 : Cert.algebraic_Kernel11Ideal_Reference11Ideal (hKernel11Ideal := Cert.Kernel11Ideal.Gen.facts)
    (hReference11Ideal := Cert.Reference11Ideal.Gen.facts) := by
  pair_intro
  · run_from Cert.Kernel11Ideal.Gen.run_main m g
  · run_from Cert.Reference11Ideal.Value.run m' g'
    rw [Cert.Reference11Ideal.Read.val_main_v8_eq]
    try rw [(hagree c).1, (hagree c).2]
    refine Eq.trans ?_ (Cert.Kernel11Ideal.Dw.final m c).symm
    funext y
    exact Cert.Reference11Ideal.Dw.ref_at _ _ y

end Cert.Proof

end
-- ==== Proof.DwAttnOut.lean ====
/- The gradient of the attention branch's out-projection: the kernel sums `g t k · h t n` over the rows
   `t` in four tiles, a carried accumulator between them; the reference contracts all the rows at once. -/
module

public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel12Ideal.Dw

open Cert.Kernel12Ideal Cert.Kernel12Ideal.Gen Idealize.ShloMosaic Idealize.ShloMosaic.TcCoe Idealize.SL.Sem

variable (m : (ℓ : Loc nD τ sig) → Buf (Elt Ideal) ℓ) (c : Dev nD)

/-- The tile's contraction at an index. -/
theorem pay1_at (y : S1024x512.Idx) (b : Vec Ideal S2048x512 .bf16) (a : Vec Ideal S2048x1024 .bf16) :
    k0_pay1 (F := Ideal) b a y = ∑ l : Fin 2048, a (ix2 l (y 0)) * b (ix2 l (y 1)) := by
  pointwise [k0_pay1]

/-- One tile's part of the sum at a point of the grid. -/
abbrev part (t : Fin cfg0.N) (y : S1024x512.Idx) : EReal :=
  ∑ l : Fin 2048, (show FVec Ideal S2048x1024 .bf16 from iblk m c 0 t) (ix2 l (y 0))
    * (show FVec Ideal S2048x512 .bf16 from iblk m c 1 t) (ix2 l (y 1))

/-- At the first point of a run the accumulator is that tile's part. -/
theorem acc_first (t : Fin cfg0.N) (h : t.val % 4 = 0) (y : S1024x512.Idx) :
    (outsAt0 m c t.val t.isLt).2 y = part m c t y := by
  have h4 : t.val < 4 := t.isLt
  rw [outsAt0_A m c t h (by omega) (by omega)]
  frame_out
  pointwise [k0_pay2]
  exact pay1_at y _ _

/-- At the others it is what the point before left and that tile's part. -/
theorem acc_step (t : Fin cfg0.N) (h : ¬ t.val % 4 = 0) (y : S1024x512.Idx) :
    (outsAt0 m c t.val t.isLt).2 y
      = (outsAt0 m c (t.val - 1) (Nat.lt_of_le_of_lt (Nat.sub_le _ _) t.isLt)).2 y + part m c t y := by
  by_cases h3 : t.val % 4 = 3
  · rw [outsAt0_C m c t h (by omega) h3]
    frame_out
    pointwise [k0_pay3]
    rw [pay1_at, read_unread_whole]
  · rw [outsAt0_B m c t h (by omega) h3]
    frame_out
    pointwise [k0_pay3]
    rw [pay1_at, read_unread_whole]

/-- The last point of a run writes the accumulator. -/
theorem out_last (t : Fin cfg0.N) (h : t.val % 4 = 3) (y : S1024x512.Idx) :
    (outsAt0 m c t.val t.isLt).1 y = (outsAt0 m c t.val t.isLt).2 y := by
  rw [outsAt0_C m c t (by omega) (by omega) h]
  frame_out
  pointwise [k0_pay4]

/-- The output's gradient and the input as launched, by row and column. -/
abbrev Gf (i : Fin 8192) (j : Fin 1024) : EReal := (show FVec Ideal S8192x1024 .bf16 from m ((c : Thread nD τ).loc main_arg0)) (ix2 i j)
abbrev Hf (i : Fin 8192) (j : Fin 512) : EReal := (show FVec Ideal S8192x512 .bf16 from m ((c : Thread nD τ).loc main_arg1)) (ix2 i j)

/-- Where every window's block stands at a grid point. -/
theorem idx : ∀ t : Fin cfg0.N, win0_0.index t = ![t.val % 4, 0] ∧ win0_1.index t = ![t.val % 4, 0]
    ∧ win0_2.index t = ![0, 0] ∧ t.val < 4 :=
  (by decide +kernel : ∀ t : Fin grid0.N, _)

/-- The kernel's array: at every row and column of the weight, the sum over all the rows of the batch. -/
theorem final (c : Dev nD) : (dats m 0 c).arrAt 2 cfg0.N = fun y : S1024x512.Idx =>
    ∑ t : Fin 8192, Gf m c t (y 0) * Hf m c t (y 1) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 4 (fun _ => 0)
    (fun t y => part m c t y) (fun t h y => by rw [zero_add]; exact acc_first m c t h y)
    (fun t h y => acc_step m c t h y) t h3, zero_add]
  refine Fin.sum_mul_add_congr fun s k hl => ?_
  have hi := idx ⟨_, Pipeline.run_point_lt_of_flush t h3 s⟩
  refine congrArg₂ (· * ·) ?_ ?_ <;> blk_ext [iblk, V, Gf, Hf, idx t, hi]

end Cert.Kernel12Ideal.Dw

namespace Cert.Reference12Ideal.Dw

open Cert.Reference12Ideal Cert.Reference12Ideal.Read Idealize.ShloMosaic Idealize.ShloMosaic.TcCoe

/-- The reference's result at an index. -/
theorem ref_at (x0 : FVec Ideal S8192x1024 .bf16) (x1 : FVec Ideal S8192x512 .bf16) (y : S1024x512.Idx) :
    val_main_v8 (F := Ideal) x0 x1 y = ∑ t : Fin 8192, x0 (ix2 t (y 0)) * x1 (ix2 t (y 1)) := by
  pointwise [val_main_v8, val_main_v7, val_main_v6, val_main_v5, val_main_v4, val_main_v1]

end Cert.Reference12Ideal.Dw

end
-- ==== Proof.DwAttnOutClaim.lean ====
/- The attention branch's out-projection: the reference's frame, and the value claim. -/
module

public import proofs.«01_k».proof.Defs
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.DwAttnOut
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref12 : Cert.quiescent_Reference12Ideal (hReference12Ideal := Cert.Reference12Ideal.Gen.facts) := by
  intro m g _
  exact (θ_run Cert.Reference12Ideal.defs _ _).mono (fun r h => ⟨fun c => ⟨(h c).2.1, (h c).2.2⟩,
      Idealize.ShloMosaic.sem_eq_zero_of_no_sems (by decide) r.2⟩)
    (Cert.Reference12Ideal.Value.run (F := Ideal) m g)

/-- The kernel and the reference leave equal results. -/
theorem value12 : Cert.algebraic_Kernel12Ideal_Reference12Ideal (hKernel12Ideal := Cert.Kernel12Ideal.Gen.facts)
    (hReference12Ideal := Cert.Reference12Ideal.Gen.facts) := by
  pair_intro
  · run_from Cert.Kernel12Ideal.Gen.run_main m g
  · run_from Cert.Reference12Ideal.Value.run m' g'
    rw [Cert.Reference12Ideal.Read.val_main_v8_eq]
    try rw [(hagree c).1, (hagree c).2]
    refine Eq.trans ?_ (Cert.Kernel12Ideal.Dw.final m c).symm
    funext y
    exact Cert.Reference12Ideal.Dw.ref_at _ _ y

end Cert.Proof

end
-- ==== Proof.FwdSpec.lean ====
/- The forward products over plain rows and columns: a row against a matrix or its transpose, the residual sum, the norm of a row, and
   the gated activation. -/
module

public import proofs.«01_k».proof.Proof.FfnSpec
public import proofs.«01_k».proof.Proof.NormSpec

@[expose] public section

noncomputable section

namespace Cert.Fwd

open Idealize.ShloMosaic Cert.Ffn Cert.Norm

/-- A row against a column of a matrix, and against a row of a matrix held transposed. -/
def dot {n k : ℕ} (a : Fin n → EReal) (W : Fin n → Fin k → EReal) (j : Fin k) : EReal := ∑ f, a f * W f j
def dotT {n k : ℕ} (a : Fin n → EReal) (W : Fin k → Fin n → EReal) (j : Fin k) : EReal := ∑ f, a f * W j f

/-- A residual row plus `s` times a product. -/
def step (s : EReal) {n k : ℕ} (x : Fin k → EReal) (a : Fin n → EReal) (W : Fin n → Fin k → EReal) (j : Fin k) : EReal := x j + s * dot a W j

/-- A row of 1024 divided by its root mean square, times a gain. -/
def normed (x g : Fin 1024 → EReal) (j : Fin 1024) : EReal := x j * rs x * g j

/-- The gated activation `silu(G) · U`. -/
def gated (G U : EReal) : EReal := G * sg G * U

end Cert.Fwd

end
-- ==== Proof.Up.lean ====
/- The half-step's two pre-activations and their gated product: what a grid point leaves, the three arrays after the run, and the
   reference's results. -/
module

public import proofs.«01_k».proof.Proof.Gen.Kernel14Ideal.Value
public import proofs.«01_k».proof.Proof.Gen.Reference14Ideal.Read
public import proofs.«01_k».proof.Proof.FwdSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel14Ideal.Up

open Cert.Kernel14Ideal Cert.Kernel14Ideal.Gen Idealize.ShloMosaic Idealize.ShloMosaic.TcCoe Idealize.SL.Sem
open Cert.Ffn Cert.Fwd

variable (m : (ℓ : Loc nD τ sig) → Buf (Elt Ideal) ℓ) (c : Dev nD)

/-- Grid point `t`'s blocks, by row and column. -/
abbrev Hb (t : Fin cfg0.N) (i : Fin 512) (j : Fin 1024) : EReal := (show FVec Ideal S512x1024 .bf16 from iblk m c 0 t) (ix2 i j)
abbrev Gb (t : Fin cfg0.N) (i : Fin 1408) (j : Fin 1024) : EReal := (show FVec Ideal S1408x1024 .bf16 from iblk m c 1 t) (ix2 i j)
abbrev Ub (t : Fin cfg0.N) (i : Fin 1408) (j : Fin 1024) : EReal := (show FVec Ideal S1408x1024 .bf16 from iblk m c 2 t) (ix2 i j)

theorem pay1_at (v0 : Vec Ideal S512x1024 .bf16) (v1 : Vec Ideal S1408x1024 .bf16) (i : Fin 512) (j : Fin 1408) :
    k0_pay1 v0 v1 (ix2 i j) = dotT (fun k => v0 (ix2 i k)) (fun j k => v1 (ix2 j k)) j := by
  pointwise [k0_pay1]; simp only [dotT]
theorem pay2_at (v0 : Vec Ideal S512x1024 .bf16) (v1 : Vec Ideal S1408x1024 .bf16) (i : Fin 512) (j : Fin 1408) :
    k0_pay2 v0 v1 (ix2 i j) = dotT (fun k => v0 (ix2 i k)) (fun j k => v1 (ix2 j k)) j := by
  pointwise [k0_pay2]; simp only [dotT]

/-- A grid point's blocks of the gates, of the up activations and of their gated product. -/
theorem g_block (t : Fin cfg0.N) (y : S512x1408.Idx) :
    out0_3 (iblk m c 0 t) (iblk m c 1 t) (iblk m c 2 t) y = dotT (Hb m c t (y 0)) (Gb m c t) (y 1) := by
  idx_vars y
  unfold out0_3; frame_out
  pointwise [k0_pay3]; rw [pay1_at]
theorem u_block (t : Fin cfg0.N) (y : S512x1408.Idx) :
    out0_4 (iblk m c 0 t) (iblk m c 1 t) (iblk m c 2 t) y = dotT (Hb m c t (y 0)) (Ub m c t) (y 1) := by
  idx_vars y
  unfold out0_4; frame_out
  pointwise [k0_pay4]; rw [pay2_at]
theorem a_block (t : Fin cfg0.N) (y : S512x1408.Idx) :
    out0_5 (iblk m c 0 t) (iblk m c 1 t) (iblk m c 2 t) y = gated (dotT (Hb m c t (y 0)) (Gb m c t) (y 1)) (dotT (Hb m c t (y 0)) (Ub m c t) (y 1)) := by
  idx_vars y
  unfold out0_5; frame_out
  pointwise [k0_pay5]; simp only [pay1_at, pay2_at, gated, sg, half_hi, Hb, Gb, Ub]

/-- The arguments as launched, by row and column. -/
abbrev Hf (i : Fin 8192) (j : Fin 1024) : EReal := (show FVec Ideal S8192x1024 .bf16 from m ((c : Thread nD τ).loc main_arg0)) (ix2 i j)
abbrev Gf (i : Fin 2816) (j : Fin 1024) : EReal := (show FVec Ideal S2816x1024 .bf16 from m ((c : Thread nD τ).loc main_arg1)) (ix2 i j)
abbrev Uf (i : Fin 2816) (j : Fin 1024) : EReal := (show FVec Ideal S2816x1024 .bf16 from m ((c : Thread nD τ).loc main_arg2)) (ix2 i j)

/-- Where every window's block stands at a grid point. -/
theorem idx : ∀ t : Fin cfg0.N, win0_0.index t = ![t.val % 16, 0]
    ∧ win0_1.index t = ![t.val / 16, 0]
    ∧ win0_2.index t = ![t.val / 16, 0]
    ∧ win0_3.index t = ![t.val % 16, t.val / 16]
    ∧ win0_4.index t = ![t.val % 16, t.val / 16]
    ∧ win0_5.index t = ![t.val % 16, t.val / 16] ∧ t.val < 32 :=
  (by decide +kernel : ∀ t : Fin grid0.N, _)

/-- Row `i` of grid point `t`'s block, and column `j`, in the whole array. -/
def row (t : Fin cfg0.N) (i : Fin 512) : Fin 8192 := ⟨t.val % 16 * 512 + i.val, by omega⟩
def col (t : Fin cfg0.N) (j : Fin 1408) : Fin 2816 := ⟨t.val / 16 * 1408 + j.val, by have := (idx t).2.2.2.2.2.2; omega⟩

theorem Hb_eq (t : Fin cfg0.N) : Hb m c t = fun i => Hf m c (row t i) := by
  funext i j; simp only [Hb, Hf, row]; blk_ext [iblk, V_main_arg0, idx t]
theorem Gb_eq (t : Fin cfg0.N) : Gb m c t = fun i => Gf m c (col t i) := by
  funext i j; simp only [Gb, Gf, col]; blk_ext [iblk, V_main_arg1, idx t]
theorem Ub_eq (t : Fin cfg0.N) : Ub m c t = fun i => Uf m c (col t i) := by
  funext i j; simp only [Ub, Uf, col]; blk_ext [iblk, V_main_arg2, idx t]

/-- The first result: the gates. -/
theorem final_g : (dats m 0 c).arrAt 3 cfg0.N = fun y : S8192x2816.Idx =>
    dotT (Hf m c (y 0)) (Gf m c) (y 1) := by
  refine (dats m 0 c).arrAt_eq_of_covers 3 _ (by decide +kernel) fun t _ y => ?_
  blk_simp
  rw [after0_3, g_block, Hb_eq, Gb_eq]
  have e0 : ((win0_3.blk t).view.emb y 0 : Fin 8192) = row t (y 0) := Fin.ext (by blk_simp [idx t]; rfl)
  have e1 : ((win0_3.blk t).view.emb y 1 : Fin 2816) = col t (y 1) := Fin.ext (by blk_simp [idx t]; rfl)
  rw [e0, e1]
  rfl

/-- The second result: the up activations. -/
theorem final_u : (dats m 0 c).arrAt 4 cfg0.N = fun y : S8192x2816.Idx =>
    dotT (Hf m c (y 0)) (Uf m c) (y 1) := by
  refine (dats m 0 c).arrAt_eq_of_covers 4 _ (by decide +kernel) fun t _ y => ?_
  blk_simp
  rw [after0_4, u_block, Hb_eq, Ub_eq]
  have e0 : ((win0_4.blk t).view.emb y 0 : Fin 8192) = row t (y 0) := Fin.ext (by blk_simp [idx t]; rfl)
  have e1 : ((win0_4.blk t).view.emb y 1 : Fin 2816) = col t (y 1) := Fin.ext (by blk_simp [idx t]; rfl)
  rw [e0, e1]
  rfl

/-- The third result: their gated product. -/
theorem final_a : (dats m 0 c).arrAt 5 cfg0.N = fun y : S8192x2816.Idx =>
    gated (dotT (Hf m c (y 0)) (Gf m c) (y 1)) (dotT (Hf m c (y 0)) (Uf m c) (y 1)) := by
  refine (dats m 0 c).arrAt_eq_of_covers 5 _ (by decide +kernel) fun t _ y => ?_
  blk_simp
  rw [after0_5, a_block, Hb_eq, Gb_eq, Ub_eq]
  have e0 : ((win0_5.blk t).view.emb y 0 : Fin 8192) = row t (y 0) := Fin.ext (by blk_simp [idx t]; rfl)
  have e1 : ((win0_5.blk t).view.emb y 1 : Fin 2816) = col t (y 1) := Fin.ext (by blk_simp [idx t]; rfl)
  rw [e0, e1]
  rfl

end Cert.Kernel14Ideal.Up

namespace Cert.Reference14Ideal.Up

open Cert.Reference14Ideal Cert.Reference14Ideal.Read Idealize.ShloMosaic Idealize.ShloMosaic.TcCoe
open Cert.Ffn Cert.Fwd

variable (x0 : FVec Ideal S8192x1024 .bf16) (x1 x2 : FVec Ideal S2816x1024 .bf16)

/-- The reference's gates, up activations and gated product. -/
theorem v3_at (i : Fin 8192) (f : Fin 2816) : val_main_v3 (F := Ideal) x0 x1 (ix2 i f) = dotT (fun k => x0 (ix2 i k)) (fun f k => x1 (ix2 f k)) f := by
  pointwise [val_main_v3, val_main_v2, val_main_v1, val_main_v0]; simp only [dotT]
theorem v7_at (i : Fin 8192) (f : Fin 2816) : val_main_v7 (F := Ideal) x0 x2 (ix2 i f) = dotT (fun k => x0 (ix2 i k)) (fun f k => x2 (ix2 f k)) f := by
  pointwise [val_main_v7, val_main_v6, val_main_v5, val_main_v4]; simp only [dotT]
theorem v10_at (i : Fin 8192) (f : Fin 2816) : val_main_v10 (F := Ideal) x0 x1 (ix2 i f) = dotT (fun k => x0 (ix2 i k)) (fun f k => x1 (ix2 f k)) f := by
  pointwise [val_main_v10]; rw [v3_at]
theorem v11_at (i : Fin 8192) (f : Fin 2816) : val_main_v11 (F := Ideal) x0 x2 (ix2 i f) = dotT (fun k => x0 (ix2 i k)) (fun f k => x2 (ix2 f k)) f := by
  pointwise [val_main_v11]; rw [v7_at]
theorem v12_at (i : Fin 8192) (f : Fin 2816) : val_main_v12 (F := Ideal) x0 x1 x2 (ix2 i f)
    = gated (dotT (fun k => x0 (ix2 i k)) (fun f k => x1 (ix2 f k)) f) (dotT (fun k => x0 (ix2 i k)) (fun f k => x2 (ix2 f k)) f) := by
  rw [gated, ← logistic_eq]
  pointwise [val_main_v12, val_main_v9, val_main_v8, val_main_call0_v5, val_main_call0_v4, val_main_call0_cst_0, val_main_call0_v3, val_main_call0_v2,
    val_main_call0_cst, val_main_call0_v1, val_main_call0_v0]
  simp only [v3_at, v7_at]

end Cert.Reference14Ideal.Up

end
-- ==== Proof.UpClaim.lean ====
/- The FFN's up projections: the reference's frame, and the value claim. -/
module

public import proofs.«01_k».proof.Defs
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Up
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref14 : Cert.quiescent_Reference14Ideal (hReference14Ideal := Cert.Reference14Ideal.Gen.facts) := by
  intro m g _
  exact (θ_run Cert.Reference14Ideal.defs _ _).mono (fun r h => ⟨fun c => ⟨(h c).2.2.2.1, (h c).2.2.2.2.1, (h c).2.2.2.2.2⟩,
      Idealize.ShloMosaic.sem_eq_zero_of_no_sems (by decide) r.2⟩)
    (Cert.Reference14Ideal.Value.run (F := Ideal) m g)

/-- The kernel and the reference leave equal results. -/
theorem value14 : Cert.algebraic_Kernel14Ideal_Reference14Ideal (hKernel14Ideal := Cert.Kernel14Ideal.Gen.facts)
    (hReference14Ideal := Cert.Reference14Ideal.Gen.facts) := by
  pair_intro
  · run_from Cert.Kernel14Ideal.Gen.run_main m g
  · run_from Cert.Reference14Ideal.Value.run m' g'
    · rw [Cert.Reference14Ideal.Read.val_main_v10_eq]
      try rw [(hagree c).1, (hagree c).2.1]
      refine Eq.trans ?_ (Cert.Kernel14Ideal.Up.final_g m c).symm
      funext y
      rw [eq_ix2 y]
      exact Cert.Reference14Ideal.Up.v10_at _ _ (y 0) (y 1)
    · rw [Cert.Reference14Ideal.Read.val_main_v11_eq]
      try rw [(hagree c).1, (hagree c).2.2]
      refine Eq.trans ?_ (Cert.Kernel14Ideal.Up.final_u m c).symm
      funext y
      rw [eq_ix2 y]
      exact Cert.Reference14Ideal.Up.v11_at _ _ (y 0) (y 1)
    · rw [Cert.Reference14Ideal.Read.val_main_v12_eq]
      try rw [(hagree c).1, (hagree c).2.1, (hagree c).2.2]
      refine Eq.trans ?_ (Cert.Kernel14Ideal.Up.final_a m c).symm
      funext y
      rw [eq_ix2 y]
      exact Cert.Reference14Ideal.Up.v12_at _ _ _ (y 0) (y 1)

end Cert.Proof

end
-- ==== Proof.Down.lean ====
/- The half-step's down projection, its residual sum and the next norm: what a grid point leaves, the two arrays after the run, and the
   reference's results. -/
module

public import proofs.«01_k».proof.Proof.Gen.Kernel15Ideal.Value
public import proofs.«01_k».proof.Proof.Gen.Reference15Ideal.Read
public import proofs.«01_k».proof.Proof.FwdSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel15Ideal.Down

open Cert.Kernel15Ideal Cert.Kernel15Ideal.Gen Idealize.ShloMosaic Idealize.ShloMosaic.TcCoe Idealize.SL.Sem
open Cert.Ffn Cert.Norm Cert.Fwd

variable (m : (ℓ : Loc nD τ sig) → Buf (Elt Ideal) ℓ) (c : Dev nD)

/-- Grid point `t`'s blocks, by row and column. -/
abbrev Ab (t : Fin cfg0.N) (i : Fin 512) (j : Fin 2816) : EReal := (show FVec Ideal S512x2816 .bf16 from iblk m c 0 t) (ix2 i j)
abbrev Wb (t : Fin cfg0.N) (i : Fin 2816) (j : Fin 1024) : EReal := (show FVec Ideal S2816x1024 .bf16 from iblk m c 1 t) (ix2 i j)
abbrev Xb (t : Fin cfg0.N) (i : Fin 512) (j : Fin 1024) : EReal := (show FVec Ideal S512x1024 .f32 from iblk m c 2 t) (ix2 i j)
abbrev Nb (t : Fin cfg0.N) (j : Fin 1024) : EReal := (show FVec Ideal S1x1024 .f32 from iblk m c 3 t) (ix2 0 j)

theorem pay1_at (v0 : Vec Ideal S512x2816 .bf16) (v1 : Vec Ideal S2816x1024 .bf16) (v3 : Vec Ideal S512x1024 .f32) (i : Fin 512) (j : Fin 1024) :
    k0_pay1 v0 v1 v3 (ix2 i j) = step ((1 / 2 : ℝ) : EReal) (fun k => v3 (ix2 i k)) (fun f => v0 (ix2 i f)) (fun f j => v1 (ix2 f j)) j := by
  pointwise [k0_pay1]; simp only [step, dot, half_hi]

theorem pay2_at (v0 : Vec Ideal S512x2816 .bf16) (v1 : Vec Ideal S2816x1024 .bf16) (v3 : Vec Ideal S512x1024 .f32) (v17 : Vec Ideal S1x1024 .f32)
    (i : Fin 512) (j : Fin 1024) : k0_pay2 v0 v1 v3 v17 (ix2 i j)
    = normed (step ((1 / 2 : ℝ) : EReal) (fun k => v3 (ix2 i k)) (fun f => v0 (ix2 i f)) (fun f j => v1 (ix2 f j))) (fun k => v17 (ix2 0 k)) j := by
  pointwise [k0_pay2]; simp only [pay1_at, normed, rs, ms, len, eps]

/-- A grid point's block of the residual sum, and of its norm. -/
theorem y_block (t : Fin cfg0.N) (y : S512x1024.Idx) : out0_4 (iblk m c 0 t) (iblk m c 1 t) (iblk m c 2 t) (iblk m c 3 t) y = step ((1 / 2 : ℝ) : EReal) (Xb m c t (y 0)) (Ab m c t (y 0)) (Wb m c t) (y 1) := by
  idx_vars y
  unfold out0_4; frame_out
  rw [pay1_at]
theorem h_block (t : Fin cfg0.N) (y : S512x1024.Idx) : out0_5 (iblk m c 0 t) (iblk m c 1 t) (iblk m c 2 t) (iblk m c 3 t) y
    = normed (step ((1 / 2 : ℝ) : EReal) (Xb m c t (y 0)) (Ab m c t (y 0)) (Wb m c t)) (Nb m c t) (y 1) := by
  idx_vars y
  unfold out0_5; frame_out
  rw [pay2_at]

/-- The arguments as launched, by row and column. -/
abbrev Af (i : Fin 8192) (j : Fin 2816) : EReal := (show FVec Ideal S8192x2816 .bf16 from m ((c : Thread nD τ).loc main_arg0)) (ix2 i j)
abbrev Wf (i : Fin 2816) (j : Fin 1024) : EReal := (show FVec Ideal S2816x1024 .bf16 from m ((c : Thread nD τ).loc main_arg1)) (ix2 i j)
abbrev Xf (i : Fin 8192) (j : Fin 1024) : EReal := (show FVec Ideal S8192x1024 .f32 from m ((c : Thread nD τ).loc main_arg2)) (ix2 i j)
abbrev Nf (j : Fin 1024) : EReal := (show FVec Ideal S1024 .f32 from m ((c : Thread nD τ).loc main_arg3)) (ix1 j)

/-- Where every window's block stands at a grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] ∧ t.val < 16 :=
  (by decide +kernel : ∀ t : Fin grid0.N, _)

/-- Row `i` of grid point `t`'s block, in the whole array. -/
def row (t : Fin cfg0.N) (i : Fin 512) : Fin 8192 := ⟨t.val * 512 + i.val, by have := (idx t).2.2.2.2.2.2; omega⟩

theorem Ab_eq (t : Fin cfg0.N) : Ab m c t = fun i => Af m c (row t i) := by
  funext i j; simp only [Ab, Af, row]; blk_ext [iblk, V_main_arg0, idx t]
theorem Wb_eq (t : Fin cfg0.N) : Wb m c t = Wf m c := by
  funext i j; simp only [Wb, Wf]; blk_ext [iblk, V_main_arg1, idx t]
theorem Xb_eq (t : Fin cfg0.N) : Xb m c t = fun i => Xf m c (row t i) := by
  funext i j; simp only [Xb, Xf, row]; blk_ext [iblk, V_main_arg2, idx t]
theorem Nb_eq (t : Fin cfg0.N) : Nb m c t = Nf m c := by
  funext j; simp only [Nb, Nf]
  blk_simp [iblk, idx t]
  entry_read
  pointwise
  exact congrArg (m (c.tc.loc main_arg3)) (congrArg ix1 (Fin.ext (by blk_simp [idx t])))

/-- The first result: the residual sum. -/
theorem final_y : (dats m 0 c).arrAt 4 cfg0.N = fun y : S8192x1024.Idx =>
    step ((1 / 2 : ℝ) : EReal) (Xf m c (y 0)) (Af m c (y 0)) (Wf m c) (y 1) := by
  refine (dats m 0 c).arrAt_eq_of_covers 4 _ (by decide +kernel) fun t _ y => ?_
  blk_simp
  rw [after0_4, y_block, Xb_eq, Ab_eq, Wb_eq]
  have e0 : ((win0_4.blk t).view.emb y 0 : Fin 8192) = row t (y 0) := Fin.ext (by blk_simp [idx t]; rfl)
  have e1 : ((win0_4.blk t).view.emb y 1 : Fin 1024) = y 1 := Fin.ext (by blk_simp [idx t])
  rw [e0, e1]

/-- The second result: its norm. -/
theorem final_h : (dats m 0 c).arrAt 5 cfg0.N = fun y : S8192x1024.Idx =>
    normed (step ((1 / 2 : ℝ) : EReal) (Xf m c (y 0)) (Af m c (y 0)) (Wf m c)) (Nf m c) (y 1) := by
  refine (dats m 0 c).arrAt_eq_of_covers 5 _ (by decide +kernel) fun t _ y => ?_
  blk_simp
  rw [after0_5, h_block, Xb_eq, Ab_eq, Wb_eq, Nb_eq]
  have e0 : ((win0_5.blk t).view.emb y 0 : Fin 8192) = row t (y 0) := Fin.ext (by blk_simp [idx t]; rfl)
  have e1 : ((win0_5.blk t).view.emb y 1 : Fin 1024) = y 1 := Fin.ext (by blk_simp [idx t])
  rw [e0, e1]

end Cert.Kernel15Ideal.Down

namespace Cert.Reference15Ideal.Down

open Cert.Reference15Ideal Cert.Reference15Ideal.Read Idealize.ShloMosaic Idealize.ShloMosaic.TcCoe
open Cert.Ffn Cert.Norm Cert.Fwd

variable (x0 : FVec Ideal S8192x2816 .bf16) (x1 : FVec Ideal S2816x1024 .bf16) (x2 : FVec Ideal S8192x1024 .f32) (x3 : FVec Ideal S1024 .f32)

/-- The reference's residual sum, its rows' factors, and its norm. -/
theorem v5_at (i : Fin 8192) (j : Fin 1024) : val_main_v5 (F := Ideal) x0 x1 x2 (ix2 i j) = step ((1 / 2 : ℝ) : EReal) (fun k => x2 (ix2 i k)) (fun f => x0 (ix2 i f)) (fun f j => x1 (ix2 f j)) j := by
  pointwise [val_main_v5, val_main_v4, val_main_v3, val_main_cst, val_main_v2, val_main_v1, val_main_v0]; simp only [step, dot, half_hi]
theorem v13_at (i : Fin 8192) : val_main_v13 (F := Ideal) x0 x1 x2 (ix2 i 0) = rs (step ((1 / 2 : ℝ) : EReal) (fun k => x2 (ix2 i k)) (fun f => x0 (ix2 i f)) (fun f j => x1 (ix2 f j))) := by
  pointwise [val_main_v13, val_main_v12, val_main_v11, val_main_cst_2, val_main_v10, val_main_v9, val_main_cst_1, val_main_v8, val_main_v7, val_main_cst_0, val_main_v6]; simp only [v5_at, rs, ms, len, eps]
theorem v19_at (i : Fin 8192) (j : Fin 1024) : val_main_v19 (F := Ideal) x0 x1 x2 x3 (ix2 i j)
    = normed (step ((1 / 2 : ℝ) : EReal) (fun k => x2 (ix2 i k)) (fun f => x0 (ix2 i f)) (fun f j => x1 (ix2 f j))) (fun k => x3 (ix1 k)) j := by
  pointwise [val_main_v19, val_main_v18, val_main_v17, val_main_v16, val_main_v15, val_main_v14]; simp only [v5_at, v13_at, normed]

end Cert.Reference15Ideal.Down

end
-- ==== Proof.DownClaim.lean ====
/- The FFN's down projection: the reference's frame, and the value claim. -/
module

public import proofs.«01_k».proof.Defs
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Down
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref15 : Cert.quiescent_Reference15Ideal (hReference15Ideal := Cert.Reference15Ideal.Gen.facts) := by
  intro m g _
  exact (θ_run Cert.Reference15Ideal.defs _ _).mono (fun r h => ⟨fun c => ⟨(h c).2.2.1, (h c).2.2.2.1, (h c).2.2.2.2.1, (h c).2.2.2.2.2⟩,
      Idealize.ShloMosaic.sem_eq_zero_of_no_sems (by decide) r.2⟩)
    (Cert.Reference15Ideal.Value.run (F := Ideal) m g)

/-- The kernel and the reference leave equal results. -/
theorem value15 : Cert.algebraic_Kernel15Ideal_Reference15Ideal (hKernel15Ideal := Cert.Kernel15Ideal.Gen.facts)
    (hReference15Ideal := Cert.Reference15Ideal.Gen.facts) := by
  pair_intro
  · run_from Cert.Kernel15Ideal.Gen.run_main m g
  · run_from Cert.Reference15Ideal.Value.run m' g'
    · rw [Cert.Reference15Ideal.Read.val_main_v5_eq]
      try rw [(hagree c).1, (hagree c).2.1, (hagree c).2.2.1]
      refine Eq.trans ?_ (Cert.Kernel15Ideal.Down.final_y m c).symm
      funext y
      rw [eq_ix2 y]
      exact Cert.Reference15Ideal.Down.v5_at _ _ _ (y 0) (y 1)
    · rw [Cert.Reference15Ideal.Read.val_main_v19_eq]
      try rw [(hagree c).1, (hagree c).2.1, (hagree c).2.2.1, (hagree c).2.2.2]
      refine Eq.trans ?_ (Cert.Kernel15Ideal.Down.final_h m c).symm
      funext y
      rw [eq_ix2 y]
      exact Cert.Reference15Ideal.Down.v19_at _ _ _ _ (y 0) (y 1)

end Cert.Proof

end
-- ==== Proof.MixOut.lean ====
/- The mixing stage's output projection, its residual sum and the next norm: what a grid point leaves, the two arrays after the run, and the
   reference's results. -/
module

public import proofs.«01_k».proof.Proof.Gen.Kernel16Ideal.Value
public import proofs.«01_k».proof.Proof.Gen.Reference16Ideal.Read
public import proofs.«01_k».proof.Proof.FwdSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel16Ideal.MixOut

open Cert.Kernel16Ideal Cert.Kernel16Ideal.Gen Idealize.ShloMosaic Idealize.ShloMosaic.TcCoe Idealize.SL.Sem
open Cert.Ffn Cert.Norm Cert.Fwd

variable (m : (ℓ : Loc nD τ sig) → Buf (Elt Ideal) ℓ) (c : Dev nD)

/-- Grid point `t`'s blocks, by row and column. -/
abbrev Ab (t : Fin cfg0.N) (i : Fin 512) (j : Fin 1024) : EReal := (show FVec Ideal S512x1024 .bf16 from iblk m c 0 t) (ix2 i j)
abbrev Wb (t : Fin cfg0.N) (i : Fin 1024) (j : Fin 1024) : EReal := (show FVec Ideal S1024x1024 .bf16 from iblk m c 1 t) (ix2 i j)
abbrev Xb (t : Fin cfg0.N) (i : Fin 512) (j : Fin 1024) : EReal := (show FVec Ideal S512x1024 .f32 from iblk m c 2 t) (ix2 i j)
abbrev Nb (t : Fin cfg0.N) (j : Fin 1024) : EReal := (show FVec Ideal S1x1024 .f32 from iblk m c 3 t) (ix2 0 j)

theorem pay1_at (v0 : Vec Ideal S512x1024 .bf16) (v1 : Vec Ideal S1024x1024 .bf16) (v3 : Vec Ideal S512x1024 .f32) (i : Fin 512) (j : Fin 1024) :
    k0_pay1 v0 v1 v3 (ix2 i j) = step 1 (fun k => v3 (ix2 i k)) (fun f => v0 (ix2 i f)) (fun f j => v1 (ix2 f j)) j := by
  pointwise [k0_pay1]; simp only [step, dot, one_hi, one_mul]

theorem pay2_at (v0 : Vec Ideal S512x1024 .bf16) (v1 : Vec Ideal S1024x1024 .bf16) (v3 : Vec Ideal S512x1024 .f32) (v17 : Vec Ideal S1x1024 .f32)
    (i : Fin 512) (j : Fin 1024) : k0_pay2 v0 v1 v3 v17 (ix2 i j)
    = normed (step 1 (fun k => v3 (ix2 i k)) (fun f => v0 (ix2 i f)) (fun f j => v1 (ix2 f j))) (fun k => v17 (ix2 0 k)) j := by
  pointwise [k0_pay2]; simp only [pay1_at, normed, rs, ms, len, eps]

/-- A grid point's block of the residual sum, and of its norm. -/
theorem y_block (t : Fin cfg0.N) (y : S512x1024.Idx) : out0_4 (iblk m c 0 t) (iblk m c 1 t) (iblk m c 2 t) (iblk m c 3 t) y = step 1 (Xb m c t (y 0)) (Ab m c t (y 0)) (Wb m c t) (y 1) := by
  idx_vars y
  unfold out0_4; frame_out
  rw [pay1_at]
theorem h_block (t : Fin cfg0.N) (y : S512x1024.Idx) : out0_5 (iblk m c 0 t) (iblk m c 1 t) (iblk m c 2 t) (iblk m c 3 t) y
    = normed (step 1 (Xb m c t (y 0)) (Ab m c t (y 0)) (Wb m c t)) (Nb m c t) (y 1) := by
  idx_vars y
  unfold out0_5; frame_out
  rw [pay2_at]

/-- The arguments as launched, by row and column. -/
abbrev Af (i : Fin 8192) (j : Fin 1024) : EReal := (show FVec Ideal S8192x1024 .bf16 from m ((c : Thread nD τ).loc main_arg0)) (ix2 i j)
abbrev Wf (i : Fin 1024) (j : Fin 1024) : EReal := (show FVec Ideal S1024x1024 .bf16 from m ((c : Thread nD τ).loc main_arg1)) (ix2 i j)
abbrev Xf (i : Fin 8192) (j : Fin 1024) : EReal := (show FVec Ideal S8192x1024 .f32 from m ((c : Thread nD τ).loc main_arg2)) (ix2 i j)
abbrev Nf (j : Fin 1024) : EReal := (show FVec Ideal S1024 .f32 from m ((c : Thread nD τ).loc main_arg3)) (ix1 j)

/-- Where every window's block stands at a grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] ∧ t.val < 16 :=
  (by decide +kernel : ∀ t : Fin grid0.N, _)

/-- Row `i` of grid point `t`'s block, in the whole array. -/
def row (t : Fin cfg0.N) (i : Fin 512) : Fin 8192 := ⟨t.val * 512 + i.val, by have := (idx t).2.2.2.2.2.2; omega⟩

theorem Ab_eq (t : Fin cfg0.N) : Ab m c t = fun i => Af m c (row t i) := by
  funext i j; simp only [Ab, Af, row]; blk_ext [iblk, V_main_arg0, idx t]
theorem Wb_eq (t : Fin cfg0.N) : Wb m c t = Wf m c := by
  funext i j; simp only [Wb, Wf]; blk_ext [iblk, V_main_arg1, idx t]
theorem Xb_eq (t : Fin cfg0.N) : Xb m c t = fun i => Xf m c (row t i) := by
  funext i j; simp only [Xb, Xf, row]; blk_ext [iblk, V_main_arg2, idx t]
theorem Nb_eq (t : Fin cfg0.N) : Nb m c t = Nf m c := by
  funext j; simp only [Nb, Nf]
  blk_simp [iblk, idx t]
  entry_read
  pointwise
  exact congrArg (m (c.tc.loc main_arg3)) (congrArg ix1 (Fin.ext (by blk_simp [idx t])))

/-- The first result: the residual sum. -/
theorem final_y : (dats m 0 c).arrAt 4 cfg0.N = fun y : S8192x1024.Idx =>
    step 1 (Xf m c (y 0)) (Af m c (y 0)) (Wf m c) (y 1) := by
  refine (dats m 0 c).arrAt_eq_of_covers 4 _ (by decide +kernel) fun t _ y => ?_
  blk_simp
  rw [after0_4, y_block, Xb_eq, Ab_eq, Wb_eq]
  have e0 : ((win0_4.blk t).view.emb y 0 : Fin 8192) = row t (y 0) := Fin.ext (by blk_simp [idx t]; rfl)
  have e1 : ((win0_4.blk t).view.emb y 1 : Fin 1024) = y 1 := Fin.ext (by blk_simp [idx t])
  rw [e0, e1]

/-- The second result: its norm. -/
theorem final_h : (dats m 0 c).arrAt 5 cfg0.N = fun y : S8192x1024.Idx =>
    normed (step 1 (Xf m c (y 0)) (Af m c (y 0)) (Wf m c)) (Nf m c) (y 1) := by
  refine (dats m 0 c).arrAt_eq_of_covers 5 _ (by decide +kernel) fun t _ y => ?_
  blk_simp
  rw [after0_5, h_block, Xb_eq, Ab_eq, Wb_eq, Nb_eq]
  have e0 : ((win0_5.blk t).view.emb y 0 : Fin 8192) = row t (y 0) := Fin.ext (by blk_simp [idx t]; rfl)
  have e1 : ((win0_5.blk t).view.emb y 1 : Fin 1024) = y 1 := Fin.ext (by blk_simp [idx t])
  rw [e0, e1]

end Cert.Kernel16Ideal.MixOut

namespace Cert.Reference16Ideal.MixOut

open Cert.Reference16Ideal Cert.Reference16Ideal.Read Idealize.ShloMosaic Idealize.ShloMosaic.TcCoe
open Cert.Ffn Cert.Norm Cert.Fwd

variable (x0 : FVec Ideal S8192x1024 .bf16) (x1 : FVec Ideal S1024x1024 .bf16) (x2 : FVec Ideal S8192x1024 .f32) (x3 : FVec Ideal S1024 .f32)

/-- The reference's residual sum, its rows' factors, and its norm. -/
theorem v3_at (i : Fin 8192) (j : Fin 1024) : val_main_v3 (F := Ideal) x0 x1 x2 (ix2 i j) = step 1 (fun k => x2 (ix2 i k)) (fun f => x0 (ix2 i f)) (fun f j => x1 (ix2 f j)) j := by
  pointwise [val_main_v3, val_main_v2, val_main_v1, val_main_v0]; simp only [step, dot, one_mul]
theorem v11_at (i : Fin 8192) : val_main_v11 (F := Ideal) x0 x1 x2 (ix2 i 0) = rs (step 1 (fun k => x2 (ix2 i k)) (fun f => x0 (ix2 i f)) (fun f j => x1 (ix2 f j))) := by
  pointwise [val_main_v11, val_main_v10, val_main_v9, val_main_cst_1, val_main_v8, val_main_v7, val_main_cst_0, val_main_v6, val_main_v5, val_main_cst, val_main_v4]; simp only [v3_at, rs, ms, len, eps]
theorem v17_at (i : Fin 8192) (j : Fin 1024) : val_main_v17 (F := Ideal) x0 x1 x2 x3 (ix2 i j)
    = normed (step 1 (fun k => x2 (ix2 i k)) (fun f => x0 (ix2 i f)) (fun f j => x1 (ix2 f j))) (fun k => x3 (ix1 k)) j := by
  pointwise [val_main_v17, val_main_v16, val_main_v15, val_main_v14, val_main_v13, val_main_v12]; simp only [v3_at, v11_at, normed]

end Cert.Reference16Ideal.MixOut

end
-- ==== Proof.MixOutClaim.lean ====
/- The mix's out projection: the reference's frame, and the value claim. -/
module

public import proofs.«01_k».proof.Defs
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.MixOut
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref16 : Cert.quiescent_Reference16Ideal (hReference16Ideal := Cert.Reference16Ideal.Gen.facts) := by
  intro m g _
  exact (θ_run Cert.Reference16Ideal.defs _ _).mono (fun r h => ⟨fun c => ⟨(h c).2.2.1, (h c).2.2.2.1, (h c).2.2.2.2.1, (h c).2.2.2.2.2⟩,
      Idealize.ShloMosaic.sem_eq_zero_of_no_sems (by decide) r.2⟩)
    (Cert.Reference16Ideal.Value.run (F := Ideal) m g)

/-- The kernel and the reference leave equal results. -/
theorem value16 : Cert.algebraic_Kernel16Ideal_Reference16Ideal (hKernel16Ideal := Cert.Kernel16Ideal.Gen.facts)
    (hReference16Ideal := Cert.Reference16Ideal.Gen.facts) := by
  pair_intro
  · run_from Cert.Kernel16Ideal.Gen.run_main m g
  · run_from Cert.Reference16Ideal.Value.run m' g'
    · rw [Cert.Reference16Ideal.Read.val_main_v3_eq]
      try rw [(hagree c).1, (hagree c).2.1, (hagree c).2.2.1]
      refine Eq.trans ?_ (Cert.Kernel16Ideal.MixOut.final_y m c).symm
      funext y
      rw [eq_ix2 y]
      exact Cert.Reference16Ideal.MixOut.v3_at _ _ _ (y 0) (y 1)
    · rw [Cert.Reference16Ideal.Read.val_main_v17_eq]
      try rw [(hagree c).1, (hagree c).2.1, (hagree c).2.2.1, (hagree c).2.2.2]
      refine Eq.trans ?_ (Cert.Kernel16Ideal.MixOut.final_h m c).symm
      funext y
      rw [eq_ix2 y]
      exact Cert.Reference16Ideal.MixOut.v17_at _ _ _ _ (y 0) (y 1)

end Cert.Proof

end
-- ==== Proof.Proj.lean ====
/- The combined input projection in its five segments: what a grid point leaves, the five arrays after the run, and the
   reference's results. -/
module

public import proofs.«01_k».proof.Proof.Gen.Kernel17Ideal.Value
public import proofs.«01_k».proof.Proof.Gen.Reference17Ideal.Read
public import proofs.«01_k».proof.Proof.FwdSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel17Ideal.Proj

open Cert.Kernel17Ideal Cert.Kernel17Ideal.Gen Idealize.ShloMosaic Idealize.ShloMosaic.TcCoe Idealize.SL.Sem
open Cert.Fwd

variable (m : (ℓ : Loc nD τ sig) → Buf (Elt Ideal) ℓ) (c : Dev nD)

/-- Grid point `t`'s blocks, by row and column. -/
abbrev Hb (t : Fin cfg0.N) (i : Fin 256) (j : Fin 1024) : EReal := (show FVec Ideal S256x1024 .bf16 from iblk m c 0 t) (ix2 i j)
abbrev Wb (t : Fin cfg0.N) (i : Fin 6400) (j : Fin 1024) : EReal := (show FVec Ideal S6400x1024 .bf16 from iblk m c 1 t) (ix2 i j)

/-- A segment's columns of the projection (rows of its transpose), from `lo` on; the first segment's. -/
def seg {n : ℕ} (lo : ℕ) (h : lo + n ≤ 6400) (j : Fin n) : Fin 6400 := ⟨lo + j.val, by omega⟩
def seg0 (j : Fin 768) : Fin 6400 := ⟨j.val, by omega⟩

theorem pay1_at (v0 : Vec Ideal S256x1024 .bf16) (v1 : Vec Ideal S768x1024 .bf16) (i : Fin 256) (j : Fin 768) :
    k0_pay1 v0 v1 (ix2 i j) = ∑ k, v0 (ix2 i k) * v1 (ix2 j k) := by
  pointwise [k0_pay1]
theorem pay2_at (v0 : Vec Ideal S256x1024 .bf16) (v1 : Vec Ideal S1024x1024 .bf16) (i : Fin 256) (j : Fin 1024) :
    k0_pay2 v0 v1 (ix2 i j) = ∑ k, v0 (ix2 i k) * v1 (ix2 j k) := by
  pointwise [k0_pay2]
theorem pay3_at (v0 : Vec Ideal S256x1024 .bf16) (v1 : Vec Ideal S1024x1024 .bf16) (i : Fin 256) (j : Fin 1024) :
    k0_pay3 v0 v1 (ix2 i j) = ∑ k, v0 (ix2 i k) * v1 (ix2 j k) := by
  pointwise [k0_pay3]
theorem pay4_at (v0 : Vec Ideal S256x1024 .bf16) (v1 : Vec Ideal S512x1024 .bf16) (i : Fin 256) (j : Fin 512) :
    k0_pay4 v0 v1 (ix2 i j) = ∑ k, v0 (ix2 i k) * v1 (ix2 j k) := by
  pointwise [k0_pay4]
theorem pay5_at (v0 : Vec Ideal S256x1024 .bf16) (v1 : Vec Ideal S3072x1024 .bf16) (i : Fin 256) (j : Fin 3072) :
    k0_pay5 v0 v1 (ix2 i j) = ∑ k, v0 (ix2 i k) * v1 (ix2 j k) := by
  pointwise [k0_pay5]

/-- A grid point's block of segment 1. -/
theorem qkv_block (t : Fin cfg0.N) (y : S256x768.Idx) : out0_2 (iblk m c 0 t) (iblk m c 1 t) y
    = dotT (Hb m c t (y 0)) (fun j => Wb m c t (seg0 j)) (y 1) := by
  idx_vars y
  unfold out0_2; frame_out
  rw [pay1_at]; simp only [dotT, seg0]; pointwise

/-- A grid point's block of segment 2. -/
theorem xr_block (t : Fin cfg0.N) (y : S256x1024.Idx) : out0_3 (iblk m c 0 t) (iblk m c 1 t) y
    = dotT (Hb m c t (y 0)) (fun j => Wb m c t (seg (n := 1024) 768 (by decide) j)) (y 1) := by
  idx_vars y
  unfold out0_3; frame_out
  rw [pay2_at]; simp only [dotT, seg]; pointwise

/-- A grid point's block of segment 3. -/
theorem yr_block (t : Fin cfg0.N) (y : S256x1024.Idx) : out0_4 (iblk m c 0 t) (iblk m c 1 t) y
    = dotT (Hb m c t (y 0)) (fun j => Wb m c t (seg (n := 1024) 1792 (by decide) j)) (y 1) := by
  idx_vars y
  unfold out0_4; frame_out
  rw [pay3_at]; simp only [dotT, seg]; pointwise

/-- A grid point's block of segment 4. -/
theorem cq_block (t : Fin cfg0.N) (y : S256x512.Idx) : out0_5 (iblk m c 0 t) (iblk m c 1 t) y
    = dotT (Hb m c t (y 0)) (fun j => Wb m c t (seg (n := 512) 2816 (by decide) j)) (y 1) := by
  idx_vars y
  unfold out0_5; frame_out
  rw [pay4_at]; simp only [dotT, seg]; pointwise

/-- A grid point's block of segment 5. -/
theorem gates_block (t : Fin cfg0.N) (y : S256x3072.Idx) : out0_6 (iblk m c 0 t) (iblk m c 1 t) y
    = dotT (Hb m c t (y 0)) (fun j => Wb m c t (seg (n := 3072) 3328 (by decide) j)) (y 1) := by
  idx_vars y
  unfold out0_6; frame_out
  rw [pay5_at]; simp only [dotT, seg]; pointwise

/-- The arguments as launched, by row and column. -/
abbrev Hf (i : Fin 8192) (j : Fin 1024) : EReal := (show FVec Ideal S8192x1024 .bf16 from m ((c : Thread nD τ).loc main_arg0)) (ix2 i j)
abbrev Wf (i : Fin 6400) (j : Fin 1024) : EReal := (show FVec Ideal S6400x1024 .bf16 from m ((c : Thread nD τ).loc main_arg1)) (ix2 i j)

/-- Where every window's block stands at a grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![t.val, 0] ∧ t.val < 32 :=
  (by decide +kernel : ∀ t : Fin grid0.N, _)

/-- Row `i` of grid point `t`'s block, in the whole array. -/
def row (t : Fin cfg0.N) (i : Fin 256) : Fin 8192 := ⟨t.val * 256 + i.val, by have := (idx t).2.2.2.2.2.2.2; omega⟩

theorem Hb_eq (t : Fin cfg0.N) : Hb m c t = fun i => Hf m c (row t i) := by
  funext i j; simp only [Hb, Hf, row]; blk_ext [iblk, V_main_arg0, idx t]
theorem Wb_eq (t : Fin cfg0.N) : Wb m c t = Wf m c := by
  funext i j; simp only [Wb, Wf]; blk_ext [iblk, V_main_arg1, idx t]

/-- Result 1: the segment `qkv`. -/
theorem final_qkv : (dats m 0 c).arrAt 2 cfg0.N = fun y : S8192x768.Idx =>
    dotT (Hf m c (y 0)) (fun j => Wf m c (seg0 j)) (y 1) := by
  refine (dats m 0 c).arrAt_eq_of_covers 2 _ (by decide +kernel) fun t _ y => ?_
  blk_simp
  rw [after0_2, qkv_block, Hb_eq, Wb_eq]
  have e0 : ((win0_2.blk t).view.emb y 0 : Fin 8192) = row t (y 0) := Fin.ext (by blk_simp [idx t]; rfl)
  have e1 : ((win0_2.blk t).view.emb y 1 : Fin 768) = y 1 := Fin.ext (by blk_simp [idx t])
  rw [e0, e1]

/-- Result 2: the segment `xr`. -/
theorem final_xr : (dats m 0 c).arrAt 3 cfg0.N = fun y : S8192x1024.Idx =>
    dotT (Hf m c (y 0)) (fun j => Wf m c (seg (n := 1024) 768 (by decide) j)) (y 1) := by
  refine (dats m 0 c).arrAt_eq_of_covers 3 _ (by decide +kernel) fun t _ y => ?_
  blk_simp
  rw [after0_3, xr_block, Hb_eq, Wb_eq]
  have e0 : ((win0_3.blk t).view.emb y 0 : Fin 8192) = row t (y 0) := Fin.ext (by blk_simp [idx t]; rfl)
  have e1 : ((win0_3.blk t).view.emb y 1 : Fin 1024) = y 1 := Fin.ext (by blk_simp [idx t])
  rw [e0, e1]

/-- Result 3: the segment `yr`. -/
theorem final_yr : (dats m 0 c).arrAt 4 cfg0.N = fun y : S8192x1024.Idx =>
    dotT (Hf m c (y 0)) (fun j => Wf m c (seg (n := 1024) 1792 (by decide) j)) (y 1) := by
  refine (dats m 0 c).arrAt_eq_of_covers 4 _ (by decide +kernel) fun t _ y => ?_
  blk_simp
  rw [after0_4, yr_block, Hb_eq, Wb_eq]
  have e0 : ((win0_4.blk t).view.emb y 0 : Fin 8192) = row t (y 0) := Fin.ext (by blk_simp [idx t]; rfl)
  have e1 : ((win0_4.blk t).view.emb y 1 : Fin 1024) = y 1 := Fin.ext (by blk_simp [idx t])
  rw [e0, e1]

/-- Result 4: the segment `cq`. -/
theorem final_cq : (dats m 0 c).arrAt 5 cfg0.N = fun y : S8192x512.Idx =>
    dotT (Hf m c (y 0)) (fun j => Wf m c (seg (n := 512) 2816 (by decide) j)) (y 1) := by
  refine (dats m 0 c).arrAt_eq_of_covers 5 _ (by decide +kernel) fun t _ y => ?_
  blk_simp
  rw [after0_5, cq_block, Hb_eq, Wb_eq]
  have e0 : ((win0_5.blk t).view.emb y 0 : Fin 8192) = row t (y 0) := Fin.ext (by blk_simp [idx t]; rfl)
  have e1 : ((win0_5.blk t).view.emb y 1 : Fin 512) = y 1 := Fin.ext (by blk_simp [idx t])
  rw [e0, e1]

/-- Result 5: the segment `gates`. -/
theorem final_gates : (dats m 0 c).arrAt 6 cfg0.N = fun y : S8192x3072.Idx =>
    dotT (Hf m c (y 0)) (fun j => Wf m c (seg (n := 3072) 3328 (by decide) j)) (y 1) := by
  refine (dats m 0 c).arrAt_eq_of_covers 6 _ (by decide +kernel) fun t _ y => ?_
  blk_simp
  rw [after0_6, gates_block, Hb_eq, Wb_eq]
  have e0 : ((win0_6.blk t).view.emb y 0 : Fin 8192) = row t (y 0) := Fin.ext (by blk_simp [idx t]; rfl)
  have e1 : ((win0_6.blk t).view.emb y 1 : Fin 3072) = y 1 := Fin.ext (by blk_simp [idx t])
  rw [e0, e1]

end Cert.Kernel17Ideal.Proj

namespace Cert.Reference17Ideal.Proj

open Cert.Reference17Ideal Cert.Reference17Ideal.Read Idealize.ShloMosaic Idealize.ShloMosaic.TcCoe
open Cert.Fwd Cert.Kernel17Ideal.Proj

variable (x0 : FVec Ideal S8192x1024 .bf16) (x1 : FVec Ideal S6400x1024 .bf16)

/-- The reference's projection, and its five segments. -/
theorem v3_at (i : Fin 8192) (f : Fin 6400) : val_main_v3 (F := Ideal) x0 x1 (ix2 i f) = ∑ k, x0 (ix2 i k) * x1 (ix2 f k) := by
  pointwise [val_main_v3, val_main_v2, val_main_v1, val_main_v0]
theorem qkv_at (i : Fin 8192) (j : Fin 768) : val_main_v4 (F := Ideal) x0 x1 (ix2 i j)
    = dotT (fun k => x0 (ix2 i k)) (fun j => (fun f k => x1 (ix2 f k)) (seg0 j)) j := by
  pointwise [val_main_v4]; rw [v3_at]; rfl
theorem xr_at (i : Fin 8192) (j : Fin 1024) : val_main_v5 (F := Ideal) x0 x1 (ix2 i j)
    = dotT (fun k => x0 (ix2 i k)) (fun j => (fun f k => x1 (ix2 f k)) (seg (n := 1024) 768 (by decide) j)) j := by
  pointwise [val_main_v5]; rw [v3_at]; rfl
theorem yr_at (i : Fin 8192) (j : Fin 1024) : val_main_v6 (F := Ideal) x0 x1 (ix2 i j)
    = dotT (fun k => x0 (ix2 i k)) (fun j => (fun f k => x1 (ix2 f k)) (seg (n := 1024) 1792 (by decide) j)) j := by
  pointwise [val_main_v6]; rw [v3_at]; rfl
theorem cq_at (i : Fin 8192) (j : Fin 512) : val_main_v7 (F := Ideal) x0 x1 (ix2 i j)
    = dotT (fun k => x0 (ix2 i k)) (fun j => (fun f k => x1 (ix2 f k)) (seg (n := 512) 2816 (by decide) j)) j := by
  pointwise [val_main_v7]; rw [v3_at]; rfl
theorem gates_at (i : Fin 8192) (j : Fin 3072) : val_main_v8 (F := Ideal) x0 x1 (ix2 i j)
    = dotT (fun k => x0 (ix2 i k)) (fun j => (fun f k => x1 (ix2 f k)) (seg (n := 3072) 3328 (by decide) j)) j := by
  pointwise [val_main_v8]; rw [v3_at]; rfl

end Cert.Reference17Ideal.Proj

end
-- ==== Proof.ProjClaim.lean ====
/- The combined input projection: the reference's frame, and the value claim. -/
module

public import proofs.«01_k».proof.Defs
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Proj
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref17 : Cert.quiescent_Reference17Ideal (hReference17Ideal := Cert.Reference17Ideal.Gen.facts) := by
  intro m g _
  exact (θ_run Cert.Reference17Ideal.defs _ _).mono (fun r h => ⟨fun c => ⟨(h c).2.2.2.2.2.1, (h c).2.2.2.2.2.2⟩,
      Idealize.ShloMosaic.sem_eq_zero_of_no_sems (by decide) r.2⟩)
    (Cert.Reference17Ideal.Value.run (F := Ideal) m g)

/-- The kernel and the reference leave equal results. -/
theorem value17 : Cert.algebraic_Kernel17Ideal_Reference17Ideal (hKernel17Ideal := Cert.Kernel17Ideal.Gen.facts)
    (hReference17Ideal := Cert.Reference17Ideal.Gen.facts) := by
  pair_intro
  · run_from Cert.Kernel17Ideal.Gen.run_main m g
  · run_from Cert.Reference17Ideal.Value.run m' g'
    · rw [Cert.Reference17Ideal.Read.val_main_v4_eq]
      try rw [(hagree c).1, (hagree c).2]
      refine Eq.trans ?_ (Cert.Kernel17Ideal.Proj.final_qkv m c).symm
      funext y
      rw [eq_ix2 y]
      exact Cert.Reference17Ideal.Proj.qkv_at _ _ (y 0) (y 1)
    · rw [Cert.Reference17Ideal.Read.val_main_v5_eq]
      try rw [(hagree c).1, (hagree c).2]
      refine Eq.trans ?_ (Cert.Kernel17Ideal.Proj.final_xr m c).symm
      funext y
      rw [eq_ix2 y]
      exact Cert.Reference17Ideal.Proj.xr_at _ _ (y 0) (y 1)
    · rw [Cert.Reference17Ideal.Read.val_main_v6_eq]
      try rw [(hagree c).1, (hagree c).2]
      refine Eq.trans ?_ (Cert.Kernel17Ideal.Proj.final_yr m c).symm
      funext y
      rw [eq_ix2 y]
      exact Cert.Reference17Ideal.Proj.yr_at _ _ (y 0) (y 1)
    · rw [Cert.Reference17Ideal.Read.val_main_v7_eq]
      try rw [(hagree c).1, (hagree c).2]
      refine Eq.trans ?_ (Cert.Kernel17Ideal.Proj.final_cq m c).symm
      funext y
      rw [eq_ix2 y]
      exact Cert.Reference17Ideal.Proj.cq_at _ _ (y 0) (y 1)
    · rw [Cert.Reference17Ideal.Read.val_main_v8_eq]
      try rw [(hagree c).1, (hagree c).2]
      refine Eq.trans ?_ (Cert.Kernel17Ideal.Proj.final_gates m c).symm
      funext y
      rw [eq_ix2 y]
      exact Cert.Reference17Ideal.Proj.gates_at _ _ (y 0) (y 1)

end Cert.Proof

end
-- ==== Proof.MergeF.lean ====
/- The gated merge: what a grid point leaves, the four arrays after the run, and the reference's results. -/
module

public import proofs.«01_k».proof.Proof.Gen.Kernel18Ideal.Value
public import proofs.«01_k».proof.Proof.Gen.Reference18Ideal.Read
public import proofs.«01_k».proof.Proof.FwdSpec
public import proofs.«01_k».proof.Proof.MergeSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel18Ideal.MergeF

open Cert.Kernel18Ideal Cert.Kernel18Ideal.Gen Idealize.ShloMosaic Idealize.ShloMosaic.TcCoe Idealize.SL.Sem
open Cert.Ffn Cert.Fwd Cert.Merge

variable (m : (ℓ : Loc nD τ sig) → Buf (Elt Ideal) ℓ) (c : Dev nD)

/-- Grid point `t`'s blocks, by row and column. -/
abbrev Ab (t : Fin cfg0.N) (i : Fin 512) (j : Fin 512) : EReal := (show FVec Ideal S512x512 .bf16 from iblk m c 0 t) (ix2 i j)
abbrev Rb (t : Fin cfg0.N) (i : Fin 512) (j : Fin 1024) : EReal := (show FVec Ideal S512x1024 .bf16 from iblk m c 1 t) (ix2 i j)
abbrev Cb (t : Fin cfg0.N) (i : Fin 512) (j : Fin 512) : EReal := (show FVec Ideal S512x512 .bf16 from iblk m c 2 t) (ix2 i j)
abbrev Wab (t : Fin cfg0.N) (i : Fin 1024) (j : Fin 512) : EReal := (show FVec Ideal S1024x512 .bf16 from iblk m c 3 t) (ix2 i j)
abbrev Wrb (t : Fin cfg0.N) (i : Fin 1024) (j : Fin 1024) : EReal := (show FVec Ideal S1024x1024 .bf16 from iblk m c 4 t) (ix2 i j)
abbrev Wcb (t : Fin cfg0.N) (i : Fin 1024) (j : Fin 512) : EReal := (show FVec Ideal S1024x512 .bf16 from iblk m c 5 t) (ix2 i j)
abbrev Gb (t : Fin cfg0.N) (i : Fin 512) (j : Fin 3072) : EReal := (show FVec Ideal S512x3072 .f32 from iblk m c 6 t) (ix2 i j)
abbrev Bb (t : Fin cfg0.N) (j : Fin 3072) : EReal := (show FVec Ideal S1x3072 .f32 from iblk m c 7 t) (ix2 0 j)

/-- The three gated branches' sum. -/
def merged (s : Fin 3072 → EReal) (a r c : EReal) (j : Fin 1024) : EReal := s (cl 0 j) * a + s (cl 1 j) * r + s (cl 2 j) * c

theorem pay4_at (v0 : Vec Ideal S512x512 .bf16) (v1 : Vec Ideal S1024x512 .bf16) (i : Fin 512) (j : Fin 1024) :
    k0_pay4 v0 v1 (ix2 i j) = dotT (fun k => v0 (ix2 i k)) (fun j k => v1 (ix2 j k)) j := by
  pointwise [k0_pay4]; simp only [dotT]
theorem pay7_at (v0 : Vec Ideal S512x1024 .bf16) (v1 : Vec Ideal S1024x1024 .bf16) (i : Fin 512) (j : Fin 1024) :
    k0_pay7 v0 v1 (ix2 i j) = dot (fun k => v0 (ix2 i k)) (fun k j => v1 (ix2 k j)) j := by
  pointwise [k0_pay7]; simp only [dot]
theorem pay1_at (v0 : Vec Ideal S512x512 .bf16) (v1 : Vec Ideal S1024x512 .bf16) (i : Fin 512) (j : Fin 1024) :
    k0_pay1 v0 v1 (ix2 i j) = dotT (fun k => v0 (ix2 i k)) (fun j k => v1 (ix2 j k)) j := by
  pointwise [k0_pay1]; simp only [dotT]
theorem pay6_at (v0 : Vec Ideal S512x512 .bf16) (v1 : Vec Ideal S1024x512 .bf16) (v5 : Vec Ideal S512x1024 .f32) (v6 : Vec Ideal S1x1024 .f32)
    (i : Fin 512) (j : Fin 1024) : k0_pay6 v0 v1 v5 v6 (ix2 i j)
    = sg (v5 (ix2 i j) + v6 (ix2 0 j)) * dotT (fun k => v0 (ix2 i k)) (fun j k => v1 (ix2 j k)) j := by
  pointwise [k0_pay6]; simp only [pay4_at, half_hi, sg]
theorem pay3_at (v17 v20 : FVec Ideal S512x1024 .f32) (v23 : Vec Ideal S512x1024 .f32) (v24 : Vec Ideal S1x1024 .f32)
    (v37 : Vec Ideal S512x512 .bf16) (v38 : Vec Ideal S1024x512 .bf16) (v42 : Vec Ideal S512x1024 .f32) (v43 : Vec Ideal S1x1024 .f32)
    (i : Fin 512) (j : Fin 1024) : k0_pay3 v17 v20 (k0_pay9 v23 v24) v37 v38 v42 v43 (ix2 i j)
    = v17 (ix2 i j) + sg (v23 (ix2 i j) + v24 (ix2 0 j)) * v20 (ix2 i j)
      + sg (v42 (ix2 i j) + v43 (ix2 0 j)) * dotT (fun k => v37 (ix2 i k)) (fun j k => v38 (ix2 j k)) j := by
  pointwise [k0_pay3, k0_pay9]; simp only [pay1_at, half_hi, sg]

theorem cl0 (j : Fin 1024) : cl 0 j = ⟨j.val, by omega⟩ := Fin.ext (by simp [cl])

/-- A grid point's blocks: the merged rows, and the three branches. -/
theorem m_block (t : Fin cfg0.N) (y : S512x1024.Idx) : out0_8 (iblk m c 0 t) (iblk m c 1 t) (iblk m c 2 t) (iblk m c 3 t) (iblk m c 4 t) (iblk m c 5 t) (iblk m c 6 t) (iblk m c 7 t) y
    = merged (fun q => sg (Gb m c t (y 0) q + Bb m c t q)) (dotT (Ab m c t (y 0)) (Wab m c t) (y 1)) (dot (Rb m c t (y 0)) (Wrb m c t) (y 1)) (dotT (Cb m c t (y 0)) (Wcb m c t) (y 1)) (y 1) := by
  idx_vars y
  unfold out0_8; frame_out
  rw [pay3_at, pay6_at, pay7_at]
  simp only [merged, cl0]; pointwise; rfl
theorem a_block (t : Fin cfg0.N) (y : S512x1024.Idx) : out0_9 (iblk m c 0 t) (iblk m c 1 t) (iblk m c 2 t) (iblk m c 3 t) (iblk m c 4 t) (iblk m c 5 t) (iblk m c 6 t) (iblk m c 7 t) y = dotT (Ab m c t (y 0)) (Wab m c t) (y 1) := by
  idx_vars y
  unfold out0_9; frame_out
  pointwise [k0_pay5]; rw [pay4_at]
theorem r_block (t : Fin cfg0.N) (y : S512x1024.Idx) : out0_10 (iblk m c 0 t) (iblk m c 1 t) (iblk m c 2 t) (iblk m c 3 t) (iblk m c 4 t) (iblk m c 5 t) (iblk m c 6 t) (iblk m c 7 t) y = dot (Rb m c t (y 0)) (Wrb m c t) (y 1) := by
  idx_vars y
  unfold out0_10; frame_out
  pointwise [k0_pay8]; rw [pay7_at]
theorem c_block (t : Fin cfg0.N) (y : S512x1024.Idx) : out0_11 (iblk m c 0 t) (iblk m c 1 t) (iblk m c 2 t) (iblk m c 3 t) (iblk m c 4 t) (iblk m c 5 t) (iblk m c 6 t) (iblk m c 7 t) y = dotT (Cb m c t (y 0)) (Wcb m c t) (y 1) := by
  idx_vars y
  unfold out0_11; frame_out
  pointwise [k0_pay2]; rw [pay1_at]

/-- The arguments as launched, by row and column. -/
abbrev Af (i : Fin 8192) (j : Fin 512) : EReal := (show FVec Ideal S8192x512 .bf16 from m ((c : Thread nD τ).loc main_arg0)) (ix2 i j)
abbrev Rf (i : Fin 8192) (j : Fin 1024) : EReal := (show FVec Ideal S8192x1024 .bf16 from m ((c : Thread nD τ).loc main_arg1)) (ix2 i j)
abbrev Cf (i : Fin 8192) (j : Fin 512) : EReal := (show FVec Ideal S8192x512 .bf16 from m ((c : Thread nD τ).loc main_arg2)) (ix2 i j)
abbrev Waf (i : Fin 1024) (j : Fin 512) : EReal := (show FVec Ideal S1024x512 .bf16 from m ((c : Thread nD τ).loc main_arg3)) (ix2 i j)
abbrev Wrf (i : Fin 1024) (j : Fin 1024) : EReal := (show FVec Ideal S1024x1024 .bf16 from m ((c : Thread nD τ).loc main_arg4)) (ix2 i j)
abbrev Wcf (i : Fin 1024) (j : Fin 512) : EReal := (show FVec Ideal S1024x512 .bf16 from m ((c : Thread nD τ).loc main_arg5)) (ix2 i j)
abbrev Gf (i : Fin 8192) (j : Fin 3072) : EReal := (show FVec Ideal S8192x3072 .f32 from m ((c : Thread nD τ).loc main_arg6)) (ix2 i j)
abbrev Bf (j : Fin 3072) : EReal := (show FVec Ideal S3072 .f32 from m ((c : Thread nD τ).loc main_arg7)) (ix1 j)

/-- Where every window's block stands at a grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![t.val, 0]
    ∧ win0_7.index t = ![0, 0]
    ∧ win0_8.index t = ![t.val, 0]
    ∧ win0_9.index t = ![t.val, 0]
    ∧ win0_10.index t = ![t.val, 0]
    ∧ win0_11.index t = ![t.val, 0] ∧ t.val < 16 :=
  (by decide +kernel : ∀ t : Fin grid0.N, _)

/-- Row `i` of grid point `t`'s block, in the whole array. -/
def row (t : Fin cfg0.N) (i : Fin 512) : Fin 8192 := ⟨t.val * 512 + i.val, by have := (idx t).2.2.2.2.2.2.2.2.2.2.2.2; omega⟩

theorem Ab_eq (t : Fin cfg0.N) : Ab m c t = fun i => Af m c (row t i) := by
  funext i j; simp only [Ab, Af, row]; blk_ext [iblk, V_main_arg0, idx t]
theorem Rb_eq (t : Fin cfg0.N) : Rb m c t = fun i => Rf m c (row t i) := by
  funext i j; simp only [Rb, Rf, row]; blk_ext [iblk, V_main_arg1, idx t]
theorem Cb_eq (t : Fin cfg0.N) : Cb m c t = fun i => Cf m c (row t i) := by
  funext i j; simp only [Cb, Cf, row]; blk_ext [iblk, V_main_arg2, idx t]
theorem Wab_eq (t : Fin cfg0.N) : Wab m c t = Waf m c := by
  funext i j; simp only [Wab, Waf]; blk_ext [iblk, V_main_arg3, idx t]
theorem Wrb_eq (t : Fin cfg0.N) : Wrb m c t = Wrf m c := by
  funext i j; simp only [Wrb, Wrf]; blk_ext [iblk, V_main_arg4, idx t]
theorem Wcb_eq (t : Fin cfg0.N) : Wcb m c t = Wcf m c := by
  funext i j; simp only [Wcb, Wcf]; blk_ext [iblk, V_main_arg5, idx t]
theorem Gb_eq (t : Fin cfg0.N) : Gb m c t = fun i => Gf m c (row t i) := by
  funext i j; simp only [Gb, Gf, row]; blk_ext [iblk, V_main_arg6, idx t]
theorem Bb_eq (t : Fin cfg0.N) : Bb m c t = Bf m c := by
  funext j; simp only [Bb, Bf]
  blk_simp [iblk, idx t]
  entry_read
  pointwise
  exact congrArg (m (c.tc.loc main_arg7)) (congrArg ix1 (Fin.ext (by blk_simp [idx t])))

/-- The first result: the merged rows. -/
theorem final_m : (dats m 0 c).arrAt 8 cfg0.N = fun y : S8192x1024.Idx =>
    merged (fun q => sg (Gf m c (y 0) q + Bf m c q)) (dotT (Af m c (y 0)) (Waf m c) (y 1)) (dot (Rf m c (y 0)) (Wrf m c) (y 1)) (dotT (Cf m c (y 0)) (Wcf m c) (y 1)) (y 1) := by
  refine (dats m 0 c).arrAt_eq_of_covers 8 _ (by decide +kernel) fun t _ y => ?_
  blk_simp
  rw [after0_8, m_block, Ab_eq, Rb_eq, Cb_eq, Wab_eq, Wrb_eq, Wcb_eq, Gb_eq, Bb_eq]
  have e0 : ((win0_8.blk t).view.emb y 0 : Fin 8192) = row t (y 0) := Fin.ext (by blk_simp [idx t]; rfl)
  have e1 : ((win0_8.blk t).view.emb y 1 : Fin 1024) = y 1 := Fin.ext (by blk_simp [idx t])
  rw [e0, e1]

/-- A branch. -/
theorem final_a : (dats m 0 c).arrAt 9 cfg0.N = fun y : S8192x1024.Idx =>
    dotT (Af m c (y 0)) (Waf m c) (y 1) := by
  refine (dats m 0 c).arrAt_eq_of_covers 9 _ (by decide +kernel) fun t _ y => ?_
  blk_simp
  rw [after0_9, a_block, Ab_eq, Wab_eq]
  have e0 : ((win0_9.blk t).view.emb y 0 : Fin 8192) = row t (y 0) := Fin.ext (by blk_simp [idx t]; rfl)
  have e1 : ((win0_9.blk t).view.emb y 1 : Fin 1024) = y 1 := Fin.ext (by blk_simp [idx t])
  rw [e0, e1]

/-- A branch. -/
theorem final_r : (dats m 0 c).arrAt 10 cfg0.N = fun y : S8192x1024.Idx =>
    dot (Rf m c (y 0)) (Wrf m c) (y 1) := by
  refine (dats m 0 c).arrAt_eq_of_covers 10 _ (by decide +kernel) fun t _ y => ?_
  blk_simp
  rw [after0_10, r_block, Rb_eq, Wrb_eq]
  have e0 : ((win0_10.blk t).view.emb y 0 : Fin 8192) = row t (y 0) := Fin.ext (by blk_simp [idx t]; rfl)
  have e1 : ((win0_10.blk t).view.emb y 1 : Fin 1024) = y 1 := Fin.ext (by blk_simp [idx t])
  rw [e0, e1]

/-- A branch. -/
theorem final_c : (dats m 0 c).arrAt 11 cfg0.N = fun y : S8192x1024.Idx =>
    dotT (Cf m c (y 0)) (Wcf m c) (y 1) := by
  refine (dats m 0 c).arrAt_eq_of_covers 11 _ (by decide +kernel) fun t _ y => ?_
  blk_simp
  rw [after0_11, c_block, Cb_eq, Wcb_eq]
  have e0 : ((win0_11.blk t).view.emb y 0 : Fin 8192) = row t (y 0) := Fin.ext (by blk_simp [idx t]; rfl)
  have e1 : ((win0_11.blk t).view.emb y 1 : Fin 1024) = y 1 := Fin.ext (by blk_simp [idx t])
  rw [e0, e1]

end Cert.Kernel18Ideal.MergeF

namespace Cert.Reference18Ideal.MergeF

open Cert.Reference18Ideal Cert.Reference18Ideal.Read Idealize.ShloMosaic Idealize.ShloMosaic.TcCoe
open Cert.Ffn Cert.Fwd Cert.Merge Cert.Kernel18Ideal.MergeF

variable (x0 : FVec Ideal S8192x512 .bf16) (x1 : FVec Ideal S8192x1024 .bf16) (x2 : FVec Ideal S8192x512 .bf16) (x3 : FVec Ideal S1024x512 .bf16)
  (x4 : FVec Ideal S1024x1024 .bf16) (x5 : FVec Ideal S1024x512 .bf16) (x6 : FVec Ideal S8192x3072 .f32) (x7 : FVec Ideal S3072 .f32)

/-- A gate. -/
abbrev s (i : Fin 8192) (q : Fin 3072) : EReal := sg (x6 (ix2 i q) + x7 (ix1 q))

theorem v8_at (i : Fin 8192) (q : Fin 3072) : val_main_v8 (F := Ideal) x6 x7 (ix2 i q) = s x6 x7 i q := by
  rw [s, ← logistic_eq]
  pointwise [val_main_v8, val_main_v7, val_main_cst_0, val_main_v6, val_main_v5, val_main_cst, val_main_v4, val_main_v3, val_main_v2, val_main_v1, val_main_v0]

theorem v9_at (i : Fin 8192) (k : Fin 3) (j : Fin 1024) : val_main_v9 (F := Ideal) x6 x7 (ix3 i k j) = s x6 x7 i (cl k j) := by
  pointwise [val_main_v9]
  rw [v8_at]; rfl
theorem v22_at (i : Fin 8192) (j : Fin 1024) : val_main_v22 (F := Ideal) x6 x7 (ix2 i j) = s x6 x7 i (cl 0 j) := by
  rw [← v9_at]; pointwise [val_main_v22, val_main_v21]
theorem v25_at (i : Fin 8192) (j : Fin 1024) : val_main_v25 (F := Ideal) x6 x7 (ix2 i j) = s x6 x7 i (cl 1 j) := by
  rw [← v9_at]; pointwise [val_main_v25, val_main_v24]
theorem v29_at (i : Fin 8192) (j : Fin 1024) : val_main_v29 (F := Ideal) x6 x7 (ix2 i j) = s x6 x7 i (cl 2 j) := by
  rw [← v9_at]; pointwise [val_main_v29, val_main_v28]

/-- The branches. -/
theorem v13_at (i : Fin 8192) (j : Fin 1024) : val_main_v13 (F := Ideal) x0 x3 (ix2 i j) = dotT (fun k => x0 (ix2 i k)) (fun j k => x3 (ix2 j k)) j := by
  pointwise [val_main_v13, val_main_v12, val_main_v11, val_main_v10]; simp only [dotT]
theorem v16_at (i : Fin 8192) (j : Fin 1024) : val_main_v16 (F := Ideal) x1 x4 (ix2 i j) = dot (fun k => x1 (ix2 i k)) (fun k j => x4 (ix2 k j)) j := by
  pointwise [val_main_v16, val_main_v15, val_main_v14]; simp only [dot]
theorem v20_at (i : Fin 8192) (j : Fin 1024) : val_main_v20 (F := Ideal) x2 x5 (ix2 i j) = dotT (fun k => x2 (ix2 i k)) (fun j k => x5 (ix2 j k)) j := by
  pointwise [val_main_v20, val_main_v19, val_main_v18, val_main_v17]; simp only [dotT]
theorem v33_at (i : Fin 8192) (j : Fin 1024) : val_main_v33 (F := Ideal) x0 x3 (ix2 i j) = dotT (fun k => x0 (ix2 i k)) (fun j k => x3 (ix2 j k)) j := by
  pointwise [val_main_v33]; rw [v13_at]
theorem v34_at (i : Fin 8192) (j : Fin 1024) : val_main_v34 (F := Ideal) x1 x4 (ix2 i j) = dot (fun k => x1 (ix2 i k)) (fun k j => x4 (ix2 k j)) j := by
  pointwise [val_main_v34]; rw [v16_at]
theorem v35_at (i : Fin 8192) (j : Fin 1024) : val_main_v35 (F := Ideal) x2 x5 (ix2 i j) = dotT (fun k => x2 (ix2 i k)) (fun j k => x5 (ix2 j k)) j := by
  pointwise [val_main_v35]; rw [v20_at]
/-- The merged rows. -/
theorem v32_at (i : Fin 8192) (j : Fin 1024) : val_main_v32 (F := Ideal) x0 x1 x2 x3 x4 x5 x6 x7 (ix2 i j)
    = merged (s x6 x7 i) (dotT (fun k => x0 (ix2 i k)) (fun j k => x3 (ix2 j k)) j) (dot (fun k => x1 (ix2 i k)) (fun k j => x4 (ix2 k j)) j)
      (dotT (fun k => x2 (ix2 i k)) (fun j k => x5 (ix2 j k)) j) j := by
  pointwise [val_main_v32, val_main_v31, val_main_v30, val_main_v27, val_main_v26, val_main_v23]
  rw [v22_at, v25_at, v29_at, v13_at, v16_at, v20_at, merged]

end Cert.Reference18Ideal.MergeF

end
-- ==== Proof.MergeFClaim.lean ====
/- The gated merge: the reference's frame, and the value claim. -/
module

public import proofs.«01_k».proof.Defs
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.MergeF
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref18 : Cert.quiescent_Reference18Ideal (hReference18Ideal := Cert.Reference18Ideal.Gen.facts) := by
  intro m g _
  exact (θ_run Cert.Reference18Ideal.defs _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
      Idealize.ShloMosaic.sem_eq_zero_of_no_sems (by decide) r.2⟩)
    (Cert.Reference18Ideal.Value.run (F := Ideal) m g)

/-- The kernel and the reference leave equal results. -/
theorem value18 : Cert.algebraic_Kernel18Ideal_Reference18Ideal (hKernel18Ideal := Cert.Kernel18Ideal.Gen.facts)
    (hReference18Ideal := Cert.Reference18Ideal.Gen.facts) := by
  pair_intro
  · run_from Cert.Kernel18Ideal.Gen.run_main m g
  · run_from Cert.Reference18Ideal.Value.run m' g'
    · rw [Cert.Reference18Ideal.Read.val_main_v32_eq]
      try rw [(hagree c).1, (hagree c).2.1, (hagree c).2.2.1, (hagree c).2.2.2.1, (hagree c).2.2.2.2.1, (hagree c).2.2.2.2.2.1, (hagree c).2.2.2.2.2.2.1, (hagree c).2.2.2.2.2.2.2]
      refine Eq.trans ?_ (Cert.Kernel18Ideal.MergeF.final_m m c).symm
      funext y
      rw [eq_ix2 y]
      exact Cert.Reference18Ideal.MergeF.v32_at _ _ _ _ _ _ _ _ (y 0) (y 1)
    · rw [Cert.Reference18Ideal.Read.val_main_v33_eq]
      try rw [(hagree c).1, (hagree c).2.2.2.1]
      refine Eq.trans ?_ (Cert.Kernel18Ideal.MergeF.final_a m c).symm
      funext y
      rw [eq_ix2 y]
      exact Cert.Reference18Ideal.MergeF.v33_at _ _ (y 0) (y 1)
    · rw [Cert.Reference18Ideal.Read.val_main_v34_eq]
      try rw [(hagree c).2.1, (hagree c).2.2.2.2.1]
      refine Eq.trans ?_ (Cert.Kernel18Ideal.MergeF.final_r m c).symm
      funext y
      rw [eq_ix2 y]
      exact Cert.Reference18Ideal.MergeF.v34_at _ _ (y 0) (y 1)
    · rw [Cert.Reference18Ideal.Read.val_main_v35_eq]
      try rw [(hagree c).2.2.1, (hagree c).2.2.2.2.2.1]
      refine Eq.trans ?_ (Cert.Kernel18Ideal.MergeF.final_c m c).symm
      funext y
      rw [eq_ix2 y]
      exact Cert.Reference18Ideal.MergeF.v35_at _ _ (y 0) (y 1)

end Cert.Proof

end
-- ==== Proof.MemF.lean ====
/- The memory attention: what a grid point leaves, the array after the run, and the reference's result. -/
module

public import proofs.«01_k».proof.Proof.Gen.Kernel19Ideal.Value
public import proofs.«01_k».proof.Proof.Gen.Reference19Ideal.Read
public import proofs.«01_k».proof.Proof.MemBlock
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel19Ideal.MemF

open Cert.Kernel19Ideal Cert.Kernel19Ideal.Gen Idealize.ShloMosaic Idealize.ShloMosaic.TcCoe Idealize.SL.Sem
open Cert.Mem Cert.Softmax

variable (m : (ℓ : Loc nD τ sig) → Buf (Elt Ideal) ℓ) (c : Dev nD)

/-- Grid point `t`'s blocks, by row and column. -/
abbrev Qb (t : Fin cfg0.N) (i : Fin 512) (j : Fin 512) : EReal := (show FVec Ideal S512x512 .f32 from iblk m c 0 t) (ix2 i j)
abbrev Kb (t : Fin cfg0.N) (i : Fin 256) (j : Fin 1024) : EReal := (show FVec Ideal S256x1024 .f32 from iblk m c 1 t) (ix2 i j)

/-- The attended values. -/
def out {R : ℕ} (Q : Fin R → Fin 512 → EReal) (KV : Fin 256 → Fin 1024 → EReal) (i : Fin R) (h : Fin 4) (d : Fin 128) : EReal :=
  ∑ j, soft (score Q KV h i) j * KV j (vcol h d)

/-- A grid point's block. -/
theorem o_block (t : Fin cfg0.N) (y : S512x512.Idx) : out0_2 (iblk m c 0 t) (iblk m c 1 t) y
    = out (Qb m c t) (Kb m c t) (y 0) (hd (y 1)) (ln (y 1)) := by
  unfold out0_2
  canon_tiles x h
  case piece0 =>
    rw [show y 0 = x 0 from Fin.ext h0, show hd (y 1) = 3 from Fin.ext (by show (y 1).val / 128 = 3; omega),
      show ln (y 1) = x 1 from Fin.ext (by show (y 1).val % 128 = (x 1).val; omega)]
    open_payloads; pointwise
    simp only [out, soft, expo, score, col, kcol, vcol, sc, ofBits_bot, Qb, Kb, Cert.KernelIdeal.MemB.offs]
  case piece1 =>
    rw [show y 0 = x 0 from Fin.ext h0, show hd (y 1) = 2 from Fin.ext (by show (y 1).val / 128 = 2; omega),
      show ln (y 1) = x 1 from Fin.ext (by show (y 1).val % 128 = (x 1).val; omega)]
    open_payloads; pointwise
    simp only [out, soft, expo, score, col, kcol, vcol, sc, ofBits_bot, Qb, Kb, Cert.KernelIdeal.MemB.offs]
  case piece2 =>
    rw [show y 0 = x 0 from Fin.ext h0, show hd (y 1) = 1 from Fin.ext (by show (y 1).val / 128 = 1; omega),
      show ln (y 1) = x 1 from Fin.ext (by show (y 1).val % 128 = (x 1).val; omega)]
    open_payloads; pointwise
    simp only [out, soft, expo, score, col, kcol, vcol, sc, ofBits_bot, Qb, Kb, Cert.KernelIdeal.MemB.offs]
  case piece3 =>
    rw [show y 0 = x 0 from Fin.ext h0, show hd (y 1) = 0 from Fin.ext (by show (y 1).val / 128 = 0; omega),
      show ln (y 1) = x 1 from Fin.ext (by show (y 1).val % 128 = (x 1).val; omega)]
    open_payloads; pointwise
    simp only [out, soft, expo, score, col, kcol, vcol, sc, ofBits_bot, Qb, Kb, Cert.KernelIdeal.MemB.offs]

/-- The arguments as launched, by row and column. -/
abbrev Qf (i : Fin 8192) (j : Fin 512) : EReal := (show FVec Ideal S8192x512 .f32 from m ((c : Thread nD τ).loc main_arg0)) (ix2 i j)
abbrev Kf (i : Fin 256) (j : Fin 1024) : EReal := (show FVec Ideal S256x1024 .f32 from m ((c : Thread nD τ).loc main_arg1)) (ix2 i j)

/-- Where every window's block stands at a grid point. -/
theorem idx : ∀ t : Fin cfg0.N, win0_0.index t = ![t.val, 0]
    ∧ win0_1.index t = ![0, 0]
    ∧ win0_2.index t = ![t.val, 0] ∧ t.val < 16 :=
  (by decide +kernel : ∀ t : Fin grid0.N, _)

/-- Row `i` of grid point `t`'s block, in the whole array. -/
def row (t : Fin cfg0.N) (i : Fin 512) : Fin 8192 := ⟨t.val * 512 + i.val, by have := (idx t).2.2.2; omega⟩

theorem Qb_eq (t : Fin cfg0.N) : Qb m c t = fun i => Qf m c (row t i) := by
  funext i j; simp only [Qb, Qf, row]; blk_ext [iblk, V_main_arg0, idx t]
theorem Kb_eq (t : Fin cfg0.N) : Kb m c t = Kf m c := by
  funext i j; simp only [Kb, Kf]; blk_ext [iblk, V_main_arg1, idx t]

/-- The result: the attended values. -/
theorem final_o : (dats m 0 c).arrAt 2 cfg0.N = fun y : S8192x512.Idx =>
    out (Qf m c) (Kf m c) (y 0) (hd (y 1)) (ln (y 1)) := by
  refine (dats m 0 c).arrAt_eq_of_covers 2 _ (by decide +kernel) fun t _ y => ?_
  blk_simp
  rw [after0_2, o_block, Qb_eq, Kb_eq]
  have e0 : ((win0_2.blk t).view.emb y 0 : Fin 8192) = row t (y 0) := Fin.ext (by blk_simp [idx t]; rfl)
  have e1 : ((win0_2.blk t).view.emb y 1 : Fin 512) = y 1 := Fin.ext (by blk_simp [idx t])
  rw [e0, e1]
  rfl

end Cert.Kernel19Ideal.MemF

namespace Cert.Reference19Ideal.MemF

open Cert.Reference19Ideal Cert.Reference19Ideal.Read Idealize.ShloMosaic Idealize.ShloMosaic.TcCoe
open Cert.Mem Cert.Softmax Cert.Kernel19Ideal.MemF

variable (x0 : FVec Ideal S8192x512 .f32) (x1 : FVec Ideal S256x1024 .f32)

/-- The arguments by row and column. -/
abbrev Qr (i : Fin 8192) (j : Fin 512) : EReal := x0 (ix2 i j)
abbrev Kr (i : Fin 256) (j : Fin 1024) : EReal := x1 (ix2 i j)

theorem v1_at (j : Fin 256) (h : Fin 4) (d : Fin 128) : val_main_v1 (F := Ideal) x1 (ix3 j h d) = Kr x1 j (kcol h d) := by
  pointwise [val_main_v1, val_main_v0]
  blk_ext [kcol]
theorem v3_at (j : Fin 256) (h : Fin 4) (d : Fin 128) : val_main_v3 (F := Ideal) x1 (ix3 j h d) = Kr x1 j (vcol h d) := by
  pointwise [val_main_v3, val_main_v2]
  blk_ext [vcol]
theorem v4_at (i : Fin 8192) (h : Fin 4) (d : Fin 128) : val_main_v4 (F := Ideal) x0 (ix3 i h d) = Qr x0 i (col h d) := by
  pointwise [val_main_v4]
  blk_ext [col]

/-- The scaled scores, the largest of a row, the exponentials, the probabilities. -/
theorem v7_at (h : Fin 4) (i : Fin 8192) (j : Fin 256) : val_main_v7 (F := Ideal) x0 x1 (ix3 h i j) = score (Qr x0) (Kr x1) h i j := by
  pointwise [val_main_v7, val_main_v6, val_main_v5, val_main_cst]
  simp only [v1_at, v4_at, score, sc]
theorem v8_at (h : Fin 4) (i : Fin 8192) : val_main_v8 (F := Ideal) x0 x1 (ix2 h i) = Finset.univ.fold max ⊥ fun j => score (Qr x0) (Kr x1) h i j := by
  pointwise [val_main_v8, val_main_cst_0]
  simp only [v7_at, ofBits_bot]
theorem v10_at (h : Fin 4) (i : Fin 8192) : val_main_v10 (F := Ideal) x0 x1 (ix2 h i) = Finset.univ.fold max ⊥ fun j => score (Qr x0) (Kr x1) h i j := by
  rw [val_main_v10_apply, val_main_v9_apply, val_main_cst_1_apply, v8_at]
  show max (Ideal.ofBits .f32 0xFF800000#32) _ = _
  rw [ofBits_bot, max_bot_left]
theorem v12_at (h : Fin 4) (i : Fin 8192) (j : Fin 256) : val_main_v12 (F := Ideal) x0 x1 (ix3 h i j) = Finset.univ.fold max ⊥ fun j => score (Qr x0) (Kr x1) h i j := by
  rw [val_main_v12_apply, val_main_v11_apply, ← v10_at]
  refine congrArg _ (funext fun a => ?_)
  match a with
  | ⟨0, _⟩ => rfl
  | ⟨1, _⟩ => rfl
theorem v14_at (h : Fin 4) (i : Fin 8192) (j : Fin 256) : val_main_v14 (F := Ideal) x0 x1 (ix3 h i j) = expo (score (Qr x0) (Kr x1) h i) j := by
  rw [val_main_v14_apply, val_main_v13_apply, v7_at, v12_at]
  rfl
theorem v15_at (h : Fin 4) (i : Fin 8192) : val_main_v15 (F := Ideal) x0 x1 (ix2 h i) = ∑ j, expo (score (Qr x0) (Kr x1) h i) j := by
  pointwise [val_main_v15, val_main_cst_2]
  simp only [v14_at]
theorem v18_at (h : Fin 4) (i : Fin 8192) (j : Fin 256) : val_main_v18 (F := Ideal) x0 x1 (ix3 h i j) = soft (score (Qr x0) (Kr x1) h i) j := by
  pointwise [val_main_v18, val_main_v17, val_main_v16]
  simp only [v14_at, v15_at, soft]

/-- The attended values. -/
theorem v22_at (i : Fin 8192) (j : Fin 512) : val_main_v22 (F := Ideal) x0 x1 (ix2 i j) = out (Qr x0) (Kr x1) i (hd j) (ln j) := by
  pointwise [val_main_v22, val_main_v21, val_main_v20, val_main_v19]
  refine Finset.sum_congr rfl fun k _ => ?_
  rw [v18_at, v3_at, mul_comm]; rfl

end Cert.Reference19Ideal.MemF

end
-- ==== Proof.MemFClaim.lean ====
/- The memory attention: the reference's frame, and the value claim. -/
module

public import proofs.«01_k».proof.Defs
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.MemF
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref19 : Cert.quiescent_Reference19Ideal (hReference19Ideal := Cert.Reference19Ideal.Gen.facts) := by
  intro m g _
  exact (θ_run Cert.Reference19Ideal.defs _ _).mono (fun r h => ⟨fun c => ⟨(h c).2.1, (h c).2.2⟩,
      Idealize.ShloMosaic.sem_eq_zero_of_no_sems (by decide) r.2⟩)
    (Cert.Reference19Ideal.Value.run (F := Ideal) m g)

/-- The kernel and the reference leave equal results. -/
theorem value19 : Cert.algebraic_Kernel19Ideal_Reference19Ideal (hKernel19Ideal := Cert.Kernel19Ideal.Gen.facts)
    (hReference19Ideal := Cert.Reference19Ideal.Gen.facts) := by
  pair_intro
  · run_from Cert.Kernel19Ideal.Gen.run_main m g
  · run_from Cert.Reference19Ideal.Value.run m' g'
    rw [Cert.Reference19Ideal.Read.val_main_v22_eq]
    try rw [(hagree c).1, (hagree c).2]
    refine Eq.trans ?_ (Cert.Kernel19Ideal.MemF.final_o m c).symm
    funext y
    rw [eq_ix2 y]
    exact Cert.Reference19Ideal.MemF.v22_at _ _ (y 0) (y 1)

end Cert.Proof

end
-- ==== Proof.AttnSpec.lean ====
/- A softmax with a sink over masked scores: the form a fused kernel computes, with the reciprocal of the normaliser, over
   every key it holds, and the form over a band of keys. -/
module

public import proofs.«01_k».proof.Proof.SoftmaxGrad
public import proofs.«01_k».proof.Proof.MemSpec
public import Idealize.ShloMosaic.Lib.IdealHost

@[expose] public section

noncomputable section

namespace Cert.Attn

open Idealize.ShloMosaic Cert.Softmax

/-- The larger of a row's largest score and its sink. -/
def peak {n : ℕ} (S : Fin n → EReal) (σ : EReal) : EReal := max (Finset.univ.fold max ⊥ fun c => S c) σ

/-- The exponentials of the scores less the row's peak. -/
def ex {n : ℕ} (S : Fin n → EReal) (σ : EReal) (c : Fin n) : EReal := Ideal.exp (S c - peak S σ)

/-- The normaliser: the exponentials' sum and the sink's. -/
def den {n : ℕ} (S : Fin n → EReal) (σ : EReal) : EReal := (∑ c, ex S σ c) + Ideal.exp (σ - peak S σ)

/-- The probabilities by the reciprocal of the normaliser. -/
def pk {n : ℕ} (S : Fin n → EReal) (σ : EReal) (c : Fin n) : EReal := ex S σ c * Ideal.div 1 (den S σ)

/-- The probabilities by a quotient. -/
def pr {n : ℕ} (S : Fin n → EReal) (σ : EReal) (c : Fin n) : EReal := Ideal.div (ex S σ c) (den S σ)

/-- A score, or minus infinity where the mask's bit is not set. -/
def masked (b : BitVec 1) (s : EReal) : EReal := if b = 1#1 then s else ⊥

theorem masked_eq (b : BitVec 1) (s t : EReal) (ht : t = ⊥) : Scalar.select b s t = masked b s := by
  subst ht; rfl

theorem exp_bot_sub (m : EReal) : Ideal.exp (⊥ - m) = 0 := by
  rw [EReal.bot_sub]; rfl

theorem exp_nonneg (x : EReal) : 0 ≤ Ideal.exp x := by
  induction x using EReal.rec with
  | bot => exact le_refl _
  | top => exact le_top
  | coe r => exact EReal.coe_nonneg.2 (Real.exp_pos r).le

/-- The normaliser of scores that are real numbers or minus infinity, with a real sink, is not zero. -/
theorem den_ne_zero {n : ℕ} {S : Fin n → EReal} {σ : EReal} (hS : ∀ c, S c < ⊤) (hσ : Fin' σ) : den S σ ≠ 0 := by
  have hp : Fin' (peak S σ) := .of_lt (lt_of_lt_of_le hσ.bot_lt (le_max_right _ _))
    (max_lt ((Finset.fold_max_lt _).2 ⟨bot_lt_top, fun i _ => hS i⟩) hσ.lt_top)
  have h : 0 < Ideal.exp (σ - peak S σ) := by
    obtain ⟨r, hr, e⟩ := Pos.exp (hσ.sub hp)
    rw [e]; exact_mod_cast hr
  have h2 : 0 ≤ ∑ c, ex S σ c := Finset.sum_nonneg fun c _ => exp_nonneg _
  exact (lt_of_lt_of_le h (le_add_of_nonneg_left h2)).ne'

theorem pk_eq_pr {n : ℕ} {S : Fin n → EReal} {σ : EReal} (hS : ∀ c, S c < ⊤) (hσ : Fin' σ) (c : Fin n) : pk S σ c = pr S σ c :=
  Ideal.mul_one_div (den_ne_zero hS hσ)

section Band

variable {n w : ℕ} (e : Fin w ↪ Fin n) (S : Fin n → EReal) (σ : EReal)

/-- A sum whose terms outside a band are zero is the sum over the band. -/
theorem sum_band (f : Fin n → EReal) (h : ∀ c, c ∉ Set.range e → f c = 0) : ∑ c, f c = ∑ t, f (e t) := by
  rw [← Finset.sum_map Finset.univ e f]
  symm
  refine Finset.sum_subset (Finset.subset_univ _) fun c _ hc => h c fun hr => hc ?_
  obtain ⟨t, rfl⟩ := hr
  simp

variable (hS : ∀ c, c ∉ Set.range e → S c = ⊥)
include hS

/-- The largest of scores that are minus infinity outside a band is the largest of the band. -/
theorem peak_band : peak S σ = peak (fun t => S (e t)) σ := by
  unfold peak
  congr 1
  apply le_antisymm
  · rw [Finset.fold_max_le]
    refine ⟨bot_le, fun c _ => ?_⟩
    by_cases hc : c ∈ Set.range e
    · obtain ⟨t, rfl⟩ := hc
      exact (Finset.le_fold_max _).2 (.inr ⟨t, Finset.mem_univ _, le_refl _⟩)
    · rw [hS c hc]; exact bot_le
  · rw [Finset.fold_max_le]
    exact ⟨bot_le, fun t _ => (Finset.le_fold_max _).2 (.inr ⟨e t, Finset.mem_univ _, le_refl _⟩)⟩

theorem ex_band (t : Fin w) : ex S σ (e t) = ex (fun t => S (e t)) σ t := by
  unfold ex; rw [peak_band e S σ hS]

theorem ex_out (c : Fin n) (hc : c ∉ Set.range e) : ex S σ c = 0 := by
  unfold ex; rw [hS c hc, exp_bot_sub]

theorem den_band : den S σ = den (fun t => S (e t)) σ := by
  unfold den
  rw [peak_band e S σ hS, sum_band e _ (ex_out e S σ hS)]
  simp only [ex_band e S σ hS]

/-- Values weighted by the probabilities: over every key, or over the band alone. -/
theorem attend_band (V : Fin n → EReal) : ∑ c, pk S σ c * V c = ∑ t, pk (fun t => S (e t)) σ t * V (e t) := by
  rw [sum_band e _ fun c hc => by rw [pk, ex_out e S σ hS c hc, zero_mul, zero_mul]]
  refine Finset.sum_congr rfl fun t _ => ?_
  rw [pk, ex_band e S σ hS, den_band e S σ hS, pk]

end Band

end Cert.Attn

end
-- ==== Proof.AttnPay.lean ====
/- The windowed attention's payloads, read at an index. -/
module

public import proofs.«01_k».proof.Proof.Gen.Kernel20Ideal.Value
public import proofs.«01_k».proof.Proof.AttnSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel20Ideal.AttnPay

open Cert.Kernel20Ideal Cert.Kernel20Ideal.Gen Idealize.ShloMosaic Idealize.ShloMosaic.TcCoe Idealize.SL.Sem
open Cert.Attn Cert.Softmax

/-- The mask's constant denotes minus infinity. -/
theorem mask_val : Named.named (F := Ideal) Cert.Kernel20Ideal.κ "mask" (φ := .f32) 0xF149F2CA#32 = (⊥ : EReal) :=
  IdealRules.named_const.ideal_named_scalar _ _ _ _ rfl

/-- A head's masked scores: the scaled products less the slope times the distance. -/
def scv (β : EReal) (q : FVec Ideal S256x128 .bf16) (k : FVec Ideal S384x128 .bf16) (b : IVec S256x384 1) (D : FVec Ideal S256x384 .f32)
    (i : Fin 256) (c : Fin 384) : EReal :=
  masked (b (ix2 i c)) ((∑ l : Fin 128, q (ix2 i l) * k (ix2 c l)) * Ideal.ofBits .f32 0x3E000000#32 - β * D (ix2 i c))

/-- The rows of the previous block before those of the current one. -/
def cat (P : FVec Ideal S128x128 .f32) (C : FVec Ideal S256x128 .f32) (c : Fin 384) (l : Fin 128) : EReal :=
  if h : c.val < 128 then P (ix2 ⟨c.val, h⟩ l) else C (ix2 ⟨c.val - 128, by omega⟩ l)

/-- A half of a row's lanes. -/
def half (P : FVec Ideal S128x128 .f32) (C : FVec Ideal S256x128 .f32) (j : Fin 2) (c : Fin 384) (d : Fin 64) : EReal :=
  cat P C c ⟨64 * j.val + d.val, by omega⟩

/-- Sixty-four values in the low lanes, or in the high lanes, zeros in the others. -/
def low (f : Fin 64 → EReal) (l : Fin 128) : EReal := if h : l.val < 64 then f ⟨l.val, h⟩ else 0
def high (f : Fin 64 → EReal) (l : Fin 128) : EReal := if h : l.val < 64 then 0 else f ⟨l.val - 64, by omega⟩

theorem sum_low (q : Fin 128 → EReal) (f : Fin 64 → EReal) : ∑ l, q l * low f l = ∑ d : Fin 64, q ⟨d.val, by omega⟩ * f d := by
  rw [Fin.sum_univ_two_halves 64 64 rfl]
  have e : ∑ k : Fin 64, q ⟨64 + k.val, by omega⟩ * low f ⟨64 + k.val, by omega⟩ = 0 := Finset.sum_eq_zero fun k _ => by simp [low]
  refine Eq.trans (congrArg _ e) ?_
  rw [add_zero]
  exact Finset.sum_congr rfl fun d _ => by rw [low, dif_pos d.isLt]

theorem sum_high (q : Fin 128 → EReal) (f : Fin 64 → EReal) : ∑ l, q l * high f l = ∑ d : Fin 64, q ⟨64 + d.val, by omega⟩ * f d := by
  rw [Fin.sum_univ_two_halves 64 64 rfl]
  have e : ∑ k : Fin 64, q ⟨k.val, by omega⟩ * high f ⟨k.val, by omega⟩ = 0 := Finset.sum_eq_zero fun k _ => by simp [high]
  refine Eq.trans (congrArg (· + _) e) ?_
  show 0 + _ = _
  rw [zero_add]
  exact Finset.sum_congr rfl fun d _ => by simp [high]

theorem lane_low : ∀ l : Fin 128, IntOp.cmpi .slt (BitVec.ofNat 32 l.val) 64#32 = if l.val < 64 then 1#1 else 0#1 := by decide +kernel
theorem lane_high : ∀ l : Fin 128, IntOp.xori (IntOp.cmpi .slt (BitVec.ofNat 32 l.val) 64#32) 1#1 = if l.val < 64 then 0#1 else 1#1 := by
  decide +kernel

/-- A word's quotient by 64, rounded down, as the mask computes it. -/
def quo (u : ArithUnit) (x : BitVec 32) : BitVec 32 :=
  Scalar.select
    (IntOp.andi (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi u x 64#32) 0#32))
    (IntOp.subi (IntOp.divsi u x 64#32) 1#32) (IntOp.divsi u x 64#32)

theorem quo_eq : ∀ n : Fin 384, quo .vector (BitVec.ofNat 32 n.val) = BitVec.ofNat 32 (n.val / 64) := by
  decide +kernel

/-- The mask's bit of a query's and a key's chunk at a grid point. -/
def bit (t x y : BitVec 32) : BitVec 1 :=
  IntOp.andi (IntOp.andi (IntOp.cmpi .sle (IntOp.subi y 2#32) x) (IntOp.cmpi .sge (IntOp.subi y 2#32) (IntOp.subi x 2#32)))
    (IntOp.cmpi .sge (IntOp.subi y 2#32) (Scalar.select (Scalar.cmpi .sgt t 0#32) 4294967294#32 0#32))

theorem bit_eq : ∀ (t : Fin 32) (a : Fin 4) (b : Fin 6), bit (BitVec.ofNat 32 t.val) (BitVec.ofNat 32 a.val) (BitVec.ofNat 32 b.val) = 1#1
    ↔ a.val ≤ b.val ∧ b.val ≤ a.val + 2 ∧ (0 < t.val ∨ 2 ≤ b.val) := by
  decide +kernel

/-- The mask: a key counts where its chunk is one of the query's and the two before it, and is not before the first row. -/
theorem pay21_at (t : Fin 32) (i : Fin 256) (c : Fin 384) :
    k0_pay21 (BitVec.ofNat 32 t.val) (iota .tc S256x384 32 [1] iota_S256x384_d1_w32) k0_pay17 64#32 k0_pay18 k0_pay19 k0_pay20 (ix2 i c) = 1#1
      ↔ i.val / 64 ≤ c.val / 64 ∧ c.val / 64 ≤ i.val / 64 + 2 ∧ (0 < t.val ∨ 2 ≤ c.val / 64) := by
  have e : k0_pay21 (BitVec.ofNat 32 t.val) (iota .tc S256x384 32 [1] iota_S256x384_d1_w32) k0_pay17 64#32 k0_pay18 k0_pay19 k0_pay20 (ix2 i c)
      = bit (BitVec.ofNat 32 t.val) (quo .vector (BitVec.ofNat 32 i.val)) (quo .vector (BitVec.ofNat 32 c.val)) := by
    pointwise [k0_pay21, k0_pay17, k0_pay18, k0_pay19, k0_pay20]
    rfl
  rw [e, quo_eq c, quo_eq ⟨i.val, by omega⟩]
  exact bit_eq t ⟨i.val / 64, by omega⟩ ⟨c.val / 64, by omega⟩

/-- A distance of a query from a key, by their numbers. -/
def kdist (x y : ℕ) : EReal :=
  ((IntOp.absi (IntOp.subi (IntOp.addi (BitVec.ofNat 32 x) 128#32) (BitVec.ofNat 32 y))).toInt : ℝ)

theorem pay22_at (i : Fin 256) (c : Fin 384) :
    k0_pay22 (F := Ideal) (iota .tc S256x384 32 [0] iota_S256x384_d0_w32) (iota .tc S256x384 32 [1] iota_S256x384_d1_w32) (ix2 i c)
      = kdist i.val c.val := by
  pointwise [k0_pay22]
  rfl

/-! The four placements of the keys and of the values: a half of the row in the low or in the high lanes. -/

theorem pay5_at (P : FVec Ideal S128x128 .f32) (C : FVec Ideal S256x128 .f32) (c : Fin 384) (l : Fin 128) :
    (show FVec Ideal S384x128 .bf16 from k0_pay5 (F := Ideal) P C) (ix2 c l) = low (half P C 0 c) l := by
  pointwise [k0_pay5, k0_pay4, k0_pay3, k0_pay2]
  rw [lane_low l]
  unfold low half cat
  by_cases h : l.val < 64
  · simp [Scalar.select, h]
    try simp only [show (l.val + 64) % 128 = 64 + l.val by omega]
  · simp [Scalar.select, h]

theorem pay6_at (P : FVec Ideal S128x128 .f32) (C : FVec Ideal S256x128 .f32) (c : Fin 384) (l : Fin 128) :
    (show FVec Ideal S384x128 .bf16 from k0_pay6 (F := Ideal) P C) (ix2 c l) = high (half P C 0 c) l := by
  pointwise [k0_pay6, k0_pay4, k0_pay3, k0_pay2]
  rw [lane_high l]
  unfold high half cat
  by_cases h : l.val < 64
  · simp [Scalar.select, h]
  · simp [Scalar.select, h]
    try simp only [show (l.val + 64) % 128 = l.val - 64 by omega]
    try simp only [show 64 + (l.val - 64) = l.val by omega]

theorem pay7_at (P : FVec Ideal S128x128 .f32) (C : FVec Ideal S256x128 .f32) (c : Fin 384) (l : Fin 128) :
    (show FVec Ideal S384x128 .bf16 from k0_pay7 (F := Ideal) P C) (ix2 c l) = low (half P C 1 c) l := by
  pointwise [k0_pay7, k0_pay4, k0_pay3, k0_pay2]
  rw [lane_low l]
  unfold low half cat
  by_cases h : l.val < 64
  · simp [Scalar.select, h]
    try simp only [show (l.val + 64) % 128 = 64 + l.val by omega]
  · simp [Scalar.select, h]

theorem pay8_at (P : FVec Ideal S128x128 .f32) (C : FVec Ideal S256x128 .f32) (c : Fin 384) (l : Fin 128) :
    (show FVec Ideal S384x128 .bf16 from k0_pay8 (F := Ideal) P C) (ix2 c l) = high (half P C 1 c) l := by
  pointwise [k0_pay8, k0_pay4, k0_pay3, k0_pay2]
  rw [lane_high l]
  unfold high half cat
  by_cases h : l.val < 64
  · simp [Scalar.select, h]
  · simp [Scalar.select, h]
    try simp only [show (l.val + 64) % 128 = l.val - 64 by omega]
    try simp only [show 64 + (l.val - 64) = l.val by omega]

theorem pay12_at (P : FVec Ideal S128x128 .f32) (C : FVec Ideal S256x128 .f32) (c : Fin 384) (l : Fin 128) :
    (show FVec Ideal S384x128 .bf16 from k0_pay12 (F := Ideal) P C) (ix2 c l) = low (half P C 0 c) l := by
  pointwise [k0_pay12, k0_pay11, k0_pay10, k0_pay9]
  rw [lane_low l]
  unfold low half cat
  by_cases h : l.val < 64
  · simp [Scalar.select, h]
    try simp only [show (l.val + 64) % 128 = 64 + l.val by omega]
  · simp [Scalar.select, h]

theorem pay13_at (P : FVec Ideal S128x128 .f32) (C : FVec Ideal S256x128 .f32) (c : Fin 384) (l : Fin 128) :
    (show FVec Ideal S384x128 .bf16 from k0_pay13 (F := Ideal) P C) (ix2 c l) = high (half P C 0 c) l := by
  pointwise [k0_pay13, k0_pay11, k0_pay10, k0_pay9]
  rw [lane_high l]
  unfold high half cat
  by_cases h : l.val < 64
  · simp [Scalar.select, h]
  · simp [Scalar.select, h]
    try simp only [show (l.val + 64) % 128 = l.val - 64 by omega]
    try simp only [show 64 + (l.val - 64) = l.val by omega]

theorem pay15_at (P : FVec Ideal S128x128 .f32) (C : FVec Ideal S256x128 .f32) (c : Fin 384) (l : Fin 128) :
    (show FVec Ideal S384x128 .bf16 from k0_pay15 (F := Ideal) (k0_pay14 P C)) (ix2 c l) = low (half P C 1 c) l := by
  pointwise [k0_pay15, k0_pay14, k0_pay11, k0_pay10, k0_pay9]
  rw [lane_low l]
  unfold low half cat
  by_cases h : l.val < 64
  · simp [Scalar.select, h]
    try simp only [show (l.val + 64) % 128 = 64 + l.val by omega]
  · simp [Scalar.select, h]

theorem pay16_at (P : FVec Ideal S128x128 .f32) (C : FVec Ideal S256x128 .f32) (c : Fin 384) (l : Fin 128) :
    (show FVec Ideal S384x128 .bf16 from k0_pay16 (F := Ideal) (k0_pay9 P C) k0_pay10) (ix2 c l) = high (half P C 1 c) l := by
  pointwise [k0_pay16, k0_pay11, k0_pay10, k0_pay9]
  rw [lane_high l]
  unfold high half cat
  by_cases h : l.val < 64
  · simp [Scalar.select, h]
  · simp [Scalar.select, h]
    try simp only [show (l.val + 64) % 128 = l.val - 64 by omega]
    try simp only [show 64 + (l.val - 64) = l.val by omega]

/-! The four tiles: two heads each. -/

theorem tile0_at (a : BitVec 32) (v43 v67 v69 v76 v82 v42 : IVec S256x384 32) (w : BitVec 32) (q : Vec Ideal S256x128 .f32) (k k' v v' : FVec Ideal S384x128 .bf16) (σ σ' : Elt Ideal .f32) (b : IVec S256x384 1) (D : FVec Ideal S256x384 .f32)
    (hb : k0_pay21 a v43 v67 w v69 v76 v82 = b) (hD : k0_pay22 (F := Ideal) v42 v43 = D) (i : Fin 256) (l : Fin 128) :
    k0_pay27 (F := Ideal) k' v v' b D (k0_pay23 q) σ (k0_pay25 a k v42 v43 v67 w v69 v76 v82 q σ) (k0_pay26 a k v42 v43 v67 w v69 v76 v82 q σ) σ' (ix2 i l)
      = (∑ c, pk (scv (Ideal.ofBits .f32 0x3F000000#32) (k0_pay23 q) k b D i) σ c * v (ix2 c l)) + ∑ c, pk (scv (Ideal.ofBits .f32 0x3E800000#32) (k0_pay23 q) k' b D i) σ' c * v' (ix2 c l) := by
  pointwise [k0_pay27, k0_pay26, k0_pay25, k0_pay24, hb, hD]
  simp only [scv, pk, ex, den, peak, masked_eq _ _ _ mask_val, Cert.Mem.ofBits_bot]

theorem tile1_at (q : Vec Ideal S256x128 .f32) (k k' v v' : FVec Ideal S384x128 .bf16) (σ σ' : Elt Ideal .f32) (b : IVec S256x384 1) (D : FVec Ideal S256x384 .f32) (i : Fin 256) (l : Fin 128) :
    k0_pay33 (F := Ideal) v' (k0_pay29 k v b D q σ) σ' (k0_pay31 k' b D q σ') (k0_pay32 k' b D q σ') (ix2 i l)
      = (∑ c, pk (scv (Ideal.ofBits .f32 0x3E000000#32) (k0_pay28 q) k b D i) σ c * v (ix2 c l)) + ∑ c, pk (scv (Ideal.ofBits .f32 0x3D800000#32) (k0_pay28 q) k' b D i) σ' c * v' (ix2 c l) := by
  pointwise [k0_pay33, k0_pay32, k0_pay31, k0_pay30, k0_pay29]
  simp only [scv, pk, ex, den, peak, masked_eq _ _ _ mask_val, Cert.Mem.ofBits_bot]

theorem tile2_at (q : Vec Ideal S256x128 .f32) (k k' v v' : FVec Ideal S384x128 .bf16) (σ σ' : Elt Ideal .f32) (b : IVec S256x384 1) (D : FVec Ideal S256x384 .f32) (i : Fin 256) (l : Fin 128) :
    k0_pay36 (F := Ideal) k' v v' b D (k0_pay34 q) (k0_pay35 k b D q σ) σ' (ix2 i l)
      = (∑ c, pk (scv (Ideal.ofBits .f32 0x3D000000#32) (k0_pay34 q) k b D i) σ c * v (ix2 c l)) + ∑ c, pk (scv (Ideal.ofBits .f32 0x3C800000#32) (k0_pay34 q) k' b D i) σ' c * v' (ix2 c l) := by
  pointwise [k0_pay36, k0_pay35]
  simp only [scv, pk, ex, den, peak, masked_eq _ _ _ mask_val, Cert.Mem.ofBits_bot]

theorem tile3_at (q : Vec Ideal S256x128 .f32) (k k' v v' : FVec Ideal S384x128 .bf16) (σ σ' : Elt Ideal .f32) (b : IVec S256x384 1) (D : FVec Ideal S256x384 .f32) (i : Fin 256) (l : Fin 128) :
    k0_pay1 (F := Ideal) v' (k0_pay40 v b σ (k0_pay38 k q) (k0_pay39 D)) (k0_pay43 k' b D (k0_pay37 q) σ') (k0_pay44 k' b D (k0_pay37 q) σ') (ix2 i l)
      = (∑ c, pk (scv (Ideal.ofBits .f32 0x3C000000#32) (k0_pay37 q) k b D i) σ c * v (ix2 c l)) + ∑ c, pk (scv (Ideal.ofBits .f32 0x3B800000#32) (k0_pay37 q) k' b D i) σ' c * v' (ix2 c l) := by
  pointwise [k0_pay1, k0_pay38, k0_pay39, k0_pay40, k0_pay41, k0_pay42, k0_pay43, k0_pay44]
  simp only [scv, pk, ex, den, peak, masked_eq _ _ _ mask_val, Cert.Mem.ofBits_bot]

end Cert.Kernel20Ideal.AttnPay

end
-- ==== Proof.AttnBlock.lean ====
/- The windowed attention's output block. -/
module

public import proofs.«01_k».proof.Proof.AttnPay

@[expose] public section

set_option maxRecDepth 16384

noncomputable section

namespace Cert.Kernel20Ideal.AttnBlock

open Cert.Kernel20Ideal Cert.Kernel20Ideal.Gen Idealize.ShloMosaic Idealize.ShloMosaic.TcCoe Idealize.SL.Sem
open Cert.Attn Cert.Softmax Cert.Kernel20Ideal.AttnPay

/-- The slopes of the eight heads. -/
def hslope : Fin 8 → EReal := ![Ideal.ofBits .f32 0x3F000000#32, Ideal.ofBits .f32 0x3E800000#32, Ideal.ofBits .f32 0x3E000000#32,
  Ideal.ofBits .f32 0x3D800000#32, Ideal.ofBits .f32 0x3D000000#32, Ideal.ofBits .f32 0x3C800000#32, Ideal.ofBits .f32 0x3C000000#32,
  Ideal.ofBits .f32 0x3B800000#32]

/-- A head's masked scores of one query: the scaled products less the slope times the distance. -/
def hsc {n : ℕ} (β : EReal) (q : Fin 64 → EReal) (K : Fin n → Fin 64 → EReal) (b : Fin n → BitVec 1) (D : Fin n → EReal) (c : Fin n) : EReal :=
  masked (b c) ((∑ d, q d * K c d) * Ideal.ofBits .f32 0x3E000000#32 - β * D c)

/-- A column's head and its place in it, a head's column, its key head. -/
def hd (j : Fin 512) : Fin 8 := ⟨j.val / 64, by omega⟩
def ln (j : Fin 512) : Fin 64 := ⟨j.val % 64, by omega⟩
def col (h : Fin 8) (d : Fin 64) : Fin 512 := ⟨64 * h.val + d.val, by omega⟩
def kvh (h : Fin 8) : Fin 2 := ⟨h.val / 4, by omega⟩

/-- A pair's tile: the low lanes are the first head's, the high lanes the second's. -/
theorem pair (P P' : FVec Ideal S128x128 .f32) (C C' : FVec Ideal S256x128 .f32) (j : Fin 2) (β β' σ σ' : EReal)
    (q : FVec Ideal S256x128 .bf16) (k k' v v' : FVec Ideal S384x128 .bf16) (b : IVec S256x384 1) (D : FVec Ideal S256x384 .f32)
    (hk : ∀ c l, k (ix2 c l) = low (half P C j c) l) (hk' : ∀ c l, k' (ix2 c l) = high (half P C j c) l)
    (hv : ∀ c l, v (ix2 c l) = low (half P' C' j c) l) (hv' : ∀ c l, v' (ix2 c l) = high (half P' C' j c) l)
    (i : Fin 256) (l : Fin 128) :
    (∑ c, pk (scv β q k b D i) σ c * v (ix2 c l)) + (∑ c, pk (scv β' q k' b D i) σ' c * v' (ix2 c l))
      = if h : l.val < 64 then
          ∑ c, pk (hsc β (fun d => q (ix2 i ⟨d.val, by omega⟩)) (half P C j) (fun c => b (ix2 i c)) fun c => D (ix2 i c)) σ c * half P' C' j c ⟨l.val, h⟩
        else
          ∑ c, pk (hsc β' (fun d => q (ix2 i ⟨64 + d.val, by omega⟩)) (half P C j) (fun c => b (ix2 i c)) fun c => D (ix2 i c)) σ' c
            * half P' C' j c ⟨l.val - 64, by omega⟩ := by
  have e : scv β q k b D i = hsc β (fun d => q (ix2 i ⟨d.val, by omega⟩)) (half P C j) (fun c => b (ix2 i c)) fun c => D (ix2 i c) := by
    funext c
    rw [scv, hsc, ← sum_low (fun l => q (ix2 i l))]
    simp only [hk]
  have e' : scv β' q k' b D i = hsc β' (fun d => q (ix2 i ⟨64 + d.val, by omega⟩)) (half P C j) (fun c => b (ix2 i c)) fun c => D (ix2 i c) := by
    funext c
    rw [scv, hsc, ← sum_high (fun l => q (ix2 i l))]
    simp only [hk']
  rw [e, e']
  simp only [hv, hv', low, high]
  by_cases h : l.val < 64
  · simp only [h, dite_true, mul_zero, Finset.sum_const_zero, add_zero]
  · simp only [h, dite_false, mul_zero, Finset.sum_const_zero, zero_add]

/-- The mask's bits and the distances at a grid point. -/
abbrev bits (a : BitVec 32) : IVec S256x384 1 :=
  k0_pay21 a (iota Kind.tc S256x384 32 [1] iota_S256x384_d1_w32) k0_pay17 64#32 k0_pay18 k0_pay19 k0_pay20
abbrev dis : FVec Ideal S256x384 .f32 :=
  k0_pay22 (F := Ideal) (iota Kind.tc S256x384 32 [0] iota_S256x384_d0_w32) (iota Kind.tc S256x384 32 [1] iota_S256x384_d1_w32)

/-- A grid point's block: row `i`, head `h`, place `d`. -/
def bout (a : BitVec 32) (s : Vec Ideal S8 .f32) (q : FVec Ideal S256x512 .f32) (P P' : FVec Ideal S128x128 .f32) (C C' : FVec Ideal S256x128 .f32)
    (i : Fin 256) (h : Fin 8) (d : Fin 64) : EReal :=
  ∑ c, pk (hsc (hslope h) (fun d => q (ix2 i (col h d))) (half P C (kvh h)) (fun c => bits a (ix2 i c)) fun c => dis (ix2 i c)) (s (ix1 h)) c
    * half P' C' (kvh h) c d

theorem bout_of {a : BitVec 32} {s : Vec Ideal S8 .f32} {q : FVec Ideal S256x512 .f32} {P P' : FVec Ideal S128x128 .f32} {C C' : FVec Ideal S256x128 .f32}
    {i : Fin 256} (h : Fin 8) {j : Fin 2} {d : Fin 64} {β σ : EReal} {r : Fin 64 → EReal} (hj : kvh h = j) (hβ : hslope h = β)
    (hr : ∀ d, r d = q (ix2 i (col h d))) (hσ : σ = s (ix1 h)) :
    ∑ c, pk (hsc β r (half P C j) (fun c => bits a (ix2 i c)) fun c => dis (ix2 i c)) σ c * half P' C' j c d
      = bout a s q P P' C C' i h d := by
  subst hj hβ hσ
  rw [show r = fun d => q (ix2 i (col h d)) from funext hr]
  rfl

section Queries

variable (q : Vec Ideal S256x512 .f32) (i : Fin 256) (l : Fin 128)

theorem q0_at : (show FVec Ideal S256x128 .bf16 from k0_pay23 (F := Ideal) (View.ld q (Rect.unit ![0, 0] ![256, 128] inb_S256x512_S256x128_0_0))) (ix2 i l)
    = q (ix2 i ⟨l.val, by omega⟩) := by
  pointwise [k0_pay23]
  blk_ext []
theorem q1_at : (show FVec Ideal S256x128 .bf16 from k0_pay28 (F := Ideal) (View.ld q (Rect.unit ![0, 128] ![256, 128] inb_S256x512_S256x128_0_128))) (ix2 i l)
    = q (ix2 i ⟨128 + l.val, by omega⟩) := by
  pointwise [k0_pay28]
  blk_ext []
theorem q2_at : (show FVec Ideal S256x128 .bf16 from k0_pay34 (F := Ideal) (View.ld q (Rect.unit ![0, 256] ![256, 128] inb_S256x512_S256x128_0_256))) (ix2 i l)
    = q (ix2 i ⟨256 + l.val, by omega⟩) := by
  pointwise [k0_pay34]
  blk_ext []
theorem q3_at : (show FVec Ideal S256x128 .bf16 from k0_pay37 (F := Ideal) (View.ld q (Rect.unit ![0, 384] ![256, 128] inb_S256x512_S256x128_0_384))) (ix2 i l)
    = q (ix2 i ⟨384 + l.val, by omega⟩) := by
  pointwise [k0_pay37]
  blk_ext []

end Queries

section Sinks

variable (s : Vec Ideal S8 .f32)

theorem s0_at (hp) : View.ld s (Rect.unit ![0] ![1] inb_S8_S1_0) (Shape.Idx.first hp) = s (ix1 0) :=
  congrArg s (funext fun a => by match a with | ⟨0, _⟩ => rfl)
theorem s1_at (hp) : View.ld s (Rect.unit ![1] ![1] inb_S8_S1_1) (Shape.Idx.first hp) = s (ix1 1) :=
  congrArg s (funext fun a => by match a with | ⟨0, _⟩ => rfl)
theorem s2_at (hp) : View.ld s (Rect.unit ![2] ![1] inb_S8_S1_2) (Shape.Idx.first hp) = s (ix1 2) :=
  congrArg s (funext fun a => by match a with | ⟨0, _⟩ => rfl)
theorem s3_at (hp) : View.ld s (Rect.unit ![3] ![1] inb_S8_S1_3) (Shape.Idx.first hp) = s (ix1 3) :=
  congrArg s (funext fun a => by match a with | ⟨0, _⟩ => rfl)
theorem s4_at (hp) : View.ld s (Rect.unit ![4] ![1] inb_S8_S1_4) (Shape.Idx.first hp) = s (ix1 4) :=
  congrArg s (funext fun a => by match a with | ⟨0, _⟩ => rfl)
theorem s5_at (hp) : View.ld s (Rect.unit ![5] ![1] inb_S8_S1_5) (Shape.Idx.first hp) = s (ix1 5) :=
  congrArg s (funext fun a => by match a with | ⟨0, _⟩ => rfl)
theorem s6_at (hp) : View.ld s (Rect.unit ![6] ![1] inb_S8_S1_6) (Shape.Idx.first hp) = s (ix1 6) :=
  congrArg s (funext fun a => by match a with | ⟨0, _⟩ => rfl)
theorem s7_at (hp) : View.ld s (Rect.unit ![7] ![1] inb_S8_S1_7) (Shape.Idx.first hp) = s (ix1 7) :=
  congrArg s (funext fun a => by match a with | ⟨0, _⟩ => rfl)

end Sinks

variable (m : (ℓ : Loc nD τ sig) → Buf (Elt Ideal) ℓ) (c : Dev nD)

/-- A grid point's block, by row, head and place. -/
theorem o_block (t : Fin cfg0.N) (y : S256x512.Idx) : outsAt0 m c t y
    = bout (BitVec.ofNat 32 (grid0.coords t 0).val) (iblk m c 0 t) (X0_1 m c t) (iblk m c 2 t) (iblk m c 4 t) (iblk m c 3 t) (iblk m c 5 t)
        (y 0) (hd (y 1)) (ln (y 1)) := by
  unfold outsAt0; frame_out
  canon_tiles x h
  case piece0 =>
    rw [eq_ix2 x]
    refine (tile3_at _ _ _ _ _ _ _ _ _ _ _).trans ?_
    refine (pair (iblk m c 2 t) (iblk m c 4 t) (iblk m c 3 t) (iblk m c 5 t) 1 _ _ _ _ _ _ _ _ _ _ _
      (fun c l => pay7_at _ _ c l) (fun c l => pay8_at _ _ c l) (fun c l => pay15_at _ _ c l) (fun c l => pay16_at _ _ c l) _ _).trans ?_
    split
    · rename_i hl
      rw [show y 0 = x 0 from Fin.ext h0, show hd (y 1) = 6 from Fin.ext (by show (y 1).val / 64 = 6; omega),
        show ln (y 1) = ⟨(x 1).val, hl⟩ from Fin.ext (by show (y 1).val % 64 = (x 1).val; omega)]
      exact bout_of 6 rfl rfl (fun d => (q3_at _ _ _).trans (congrArg (fun l => X0_1 m c t (ix2 (x 0) l)) (Fin.ext (by show _ = 64 * 6 + d.val; simp; try omega)))) (s6_at _ _)
    · rename_i hl
      rw [show y 0 = x 0 from Fin.ext h0, show hd (y 1) = 7 from Fin.ext (by show (y 1).val / 64 = 7; omega),
        show ln (y 1) = ⟨(x 1).val - 64, by omega⟩ from Fin.ext (by show (y 1).val % 64 = (x 1).val - 64; omega)]
      exact bout_of 7 rfl rfl (fun d => (q3_at _ _ _).trans (congrArg (fun l => X0_1 m c t (ix2 (x 0) l)) (Fin.ext (by show _ = 64 * 7 + d.val; simp; try omega)))) (s7_at _ _)
  case piece1 =>
    rw [eq_ix2 x]
    refine (tile2_at _ _ _ _ _ _ _ _ _ _ _).trans ?_
    refine (pair (iblk m c 2 t) (iblk m c 4 t) (iblk m c 3 t) (iblk m c 5 t) 1 _ _ _ _ _ _ _ _ _ _ _
      (fun c l => pay7_at _ _ c l) (fun c l => pay8_at _ _ c l) (fun c l => pay15_at _ _ c l) (fun c l => pay16_at _ _ c l) _ _).trans ?_
    split
    · rename_i hl
      rw [show y 0 = x 0 from Fin.ext h0, show hd (y 1) = 4 from Fin.ext (by show (y 1).val / 64 = 4; omega),
        show ln (y 1) = ⟨(x 1).val, hl⟩ from Fin.ext (by show (y 1).val % 64 = (x 1).val; omega)]
      exact bout_of 4 rfl rfl (fun d => (q2_at _ _ _).trans (congrArg (fun l => X0_1 m c t (ix2 (x 0) l)) (Fin.ext (by show _ = 64 * 4 + d.val; simp; try omega)))) (s4_at _ _)
    · rename_i hl
      rw [show y 0 = x 0 from Fin.ext h0, show hd (y 1) = 5 from Fin.ext (by show (y 1).val / 64 = 5; omega),
        show ln (y 1) = ⟨(x 1).val - 64, by omega⟩ from Fin.ext (by show (y 1).val % 64 = (x 1).val - 64; omega)]
      exact bout_of 5 rfl rfl (fun d => (q2_at _ _ _).trans (congrArg (fun l => X0_1 m c t (ix2 (x 0) l)) (Fin.ext (by show _ = 64 * 5 + d.val; simp; try omega)))) (s5_at _ _)
  case piece2 =>
    rw [eq_ix2 x]
    refine (tile1_at _ _ _ _ _ _ _ _ _ _ _).trans ?_
    refine (pair (iblk m c 2 t) (iblk m c 4 t) (iblk m c 3 t) (iblk m c 5 t) 0 _ _ _ _ _ _ _ _ _ _ _
      (fun c l => pay5_at _ _ c l) (fun c l => pay6_at _ _ c l) (fun c l => pay12_at _ _ c l) (fun c l => pay13_at _ _ c l) _ _).trans ?_
    split
    · rename_i hl
      rw [show y 0 = x 0 from Fin.ext h0, show hd (y 1) = 2 from Fin.ext (by show (y 1).val / 64 = 2; omega),
        show ln (y 1) = ⟨(x 1).val, hl⟩ from Fin.ext (by show (y 1).val % 64 = (x 1).val; omega)]
      exact bout_of 2 rfl rfl (fun d => (q1_at _ _ _).trans (congrArg (fun l => X0_1 m c t (ix2 (x 0) l)) (Fin.ext (by show _ = 64 * 2 + d.val; simp; try omega)))) (s2_at _ _)
    · rename_i hl
      rw [show y 0 = x 0 from Fin.ext h0, show hd (y 1) = 3 from Fin.ext (by show (y 1).val / 64 = 3; omega),
        show ln (y 1) = ⟨(x 1).val - 64, by omega⟩ from Fin.ext (by show (y 1).val % 64 = (x 1).val - 64; omega)]
      exact bout_of 3 rfl rfl (fun d => (q1_at _ _ _).trans (congrArg (fun l => X0_1 m c t (ix2 (x 0) l)) (Fin.ext (by show _ = 64 * 3 + d.val; simp; try omega)))) (s3_at _ _)
  case piece3 =>
    rw [eq_ix2 x]
    refine (tile0_at _ _ _ _ _ _ _ _ _ _ _ _ _ _ _ _ _ rfl rfl _ _).trans ?_
    refine (pair (iblk m c 2 t) (iblk m c 4 t) (iblk m c 3 t) (iblk m c 5 t) 0 _ _ _ _ _ _ _ _ _ _ _
      (fun c l => pay5_at _ _ c l) (fun c l => pay6_at _ _ c l) (fun c l => pay12_at _ _ c l) (fun c l => pay13_at _ _ c l) _ _).trans ?_
    split
    · rename_i hl
      rw [show y 0 = x 0 from Fin.ext h0, show hd (y 1) = 0 from Fin.ext (by show (y 1).val / 64 = 0; omega),
        show ln (y 1) = ⟨(x 1).val, hl⟩ from Fin.ext (by show (y 1).val % 64 = (x 1).val; omega)]
      exact bout_of 0 rfl rfl (fun d => (q0_at _ _ _).trans (congrArg (fun l => X0_1 m c t (ix2 (x 0) l)) (Fin.ext (by show _ = 64 * 0 + d.val; simp; try omega)))) (s0_at _ _)
    · rename_i hl
      rw [show y 0 = x 0 from Fin.ext h0, show hd (y 1) = 1 from Fin.ext (by show (y 1).val / 64 = 1; omega),
        show ln (y 1) = ⟨(x 1).val - 64, by omega⟩ from Fin.ext (by show (y 1).val % 64 = (x 1).val - 64; omega)]
      exact bout_of 1 rfl rfl (fun d => (q0_at _ _ _).trans (congrArg (fun l => X0_1 m c t (ix2 (x 0) l)) (Fin.ext (by show _ = 64 * 1 + d.val; simp; try omega)))) (s1_at _ _)

end Cert.Kernel20Ideal.AttnBlock

end
-- ==== Proof.AttnArray.lean ====
/- The windowed attention's array after the run. -/
module

public import proofs.«01_k».proof.Proof.AttnBlock

@[expose] public section

set_option maxRecDepth 16384

noncomputable section

namespace Cert.Attn

open Idealize.ShloMosaic Cert.Kernel20Ideal.AttnBlock Cert.Kernel20Ideal.AttnPay

/-- A place of the band of keys of a query: its row among the keys, where it is not before the first. -/
def krow (r : Fin 8192) (t : Fin 192) (h : 128 ≤ 64 * (r.val / 64) + t.val) : Fin 8192 := ⟨64 * (r.val / 64) + t.val - 128, by omega⟩

/-- The columns of the keys and of the values. -/
def kcol (j : Fin 2) (d : Fin 64) : Fin 768 := ⟨512 + 64 * j.val + d.val, by omega⟩
def vcol (j : Fin 2) (d : Fin 64) : Fin 768 := ⟨640 + 64 * j.val + d.val, by omega⟩
def qcol (h : Fin 8) (d : Fin 64) : Fin 768 := ⟨64 * h.val + d.val, by omega⟩

/-- The scores of a query's head over its band of keys; minus infinity before the first key. -/
def bscore (X : Fin 8192 → Fin 768 → EReal) (r : Fin 8192) (h : Fin 8) (t : Fin 192) : EReal :=
  if hv : 128 ≤ 64 * (r.val / 64) + t.val then
    (∑ d, X r (qcol h d) * X (krow r t hv) (kcol (kvh h) d)) * Ideal.ofBits .f32 0x3E000000#32 - hslope h * kdist (r.val % 64) t.val
  else ⊥

/-- The values of a band; zero before the first. -/
def bval (X : Fin 8192 → Fin 768 → EReal) (r : Fin 8192) (h : Fin 8) (d : Fin 64) (t : Fin 192) : EReal :=
  if hv : 128 ≤ 64 * (r.val / 64) + t.val then X (krow r t hv) (vcol (kvh h) d) else 0

/-- The attended values of a query's head. -/
def attn (X : Fin 8192 → Fin 768 → EReal) (s : Fin 8 → EReal) (r : Fin 8192) (h : Fin 8) (d : Fin 64) : EReal :=
  ∑ t, pk (bscore X r h) (s h) t * bval X r h d t

theorem dist_shift (a x y : ℕ) (ha : a < 4) (hx : x < 64) (hy : y < 192) : kdist (64 * a + x) (64 * a + y) = kdist x y := by
  have e : IntOp.subi (IntOp.addi (BitVec.ofNat 32 (64 * a + x)) 128#32) (BitVec.ofNat 32 (64 * a + y))
      = IntOp.subi (IntOp.addi (BitVec.ofNat 32 x) 128#32) (BitVec.ofNat 32 y) := by
    unfold IntOp.subi IntOp.addi
    apply BitVec.eq_of_toNat_eq
    simp only [BitVec.toNat_sub, BitVec.toNat_add, BitVec.toNat_ofNat]
    omega
  rw [kdist, kdist, e]

theorem pk_bot {n : ℕ} (S : Fin n → EReal) (σ : EReal) (t : Fin n) (h : S t = ⊥) : pk S σ t = 0 := by
  rw [pk, ex, h, exp_bot_sub, zero_mul]

end Cert.Attn

namespace Cert.Kernel20Ideal.AttnArray

open Cert.Kernel20Ideal Cert.Kernel20Ideal.Gen Idealize.ShloMosaic Idealize.ShloMosaic.TcCoe Idealize.SL.Sem
open Cert.Attn Cert.Softmax Cert.Kernel20Ideal.AttnPay Cert.Kernel20Ideal.AttnBlock

variable (m : (ℓ : Loc nD τ sig) → Buf (Elt Ideal) ℓ) (c : Dev nD)

/-- The arguments as launched. -/
abbrev Xf (i : Fin 8192) (j : Fin 768) : EReal := (show FVec Ideal S8192x768 .f32 from m ((c : Thread nD τ).loc main_arg0)) (ix2 i j)
abbrev Sf (h : Fin 8) : EReal := (show FVec Ideal S8 .f32 from m ((c : Thread nD τ).loc main_arg1)) (ix1 h)

/-- Where every window's block stands at a grid point. -/
theorem idx : ∀ t : Fin cfg0.N, win0_0.index t = ![0]
    ∧ win0_1.index t = ![t.val, 0]
    ∧ win0_2.index t = ![2 * t.val - 1, 4] ∧ win0_3.index t = ![t.val, 4]
    ∧ win0_4.index t = ![2 * t.val - 1, 5] ∧ win0_5.index t = ![t.val, 5]
    ∧ win0_6.index t = ![t.val, 0] ∧ t.val < 32 ∧ (grid0.coords t 0).val = t.val :=
  (by decide +kernel : ∀ t : Fin grid0.N, _)

theorem lt32 (t : Fin cfg0.N) : t.val < 32 := (idx t).2.2.2.2.2.2.2.1

/-- Row `i` of grid point `t`'s block, in the whole array. -/
def row (t : Fin cfg0.N) (i : Fin 256) : Fin 8192 := ⟨t.val * 256 + i.val, by have := lt32 t; omega⟩

theorem s_eq (t : Fin cfg0.N) (h : Fin 8) : (show FVec Ideal S8 .f32 from iblk m c 0 t) (ix1 h) = Sf m c h := by
  simp only [Sf]; blk_ext [iblk, V_main_arg1, idx t]
theorem q_eq (t : Fin cfg0.N) (i : Fin 256) (j : Fin 512) :
    (show FVec Ideal S256x512 .f32 from X0_1 m c t) (ix2 i j) = Xf m c (row t i) ⟨j.val, by omega⟩ := by
  show X0_1 m c t (ix2 i j) = _
  unfold X0_1 Pipeline.Window.fill
  rw [dif_pos (moved0_1 t _)]
  simp only [Xf, row]; blk_ext [iblk, V_main_arg0, idx t]
theorem kp_eq (t : Fin cfg0.N) (i : Fin 128) (j : Fin 128) :
    (show FVec Ideal S128x128 .f32 from iblk m c 2 t) (ix2 i j)
      = Xf m c ⟨(2 * t.val - 1) * 128 + i.val, by have := lt32 t; omega⟩ ⟨512 + j.val, by omega⟩ := by
  simp only [Xf]; blk_ext [iblk, V_main_arg0, idx t]
theorem kc_eq (t : Fin cfg0.N) (i : Fin 256) (j : Fin 128) :
    (show FVec Ideal S256x128 .f32 from iblk m c 3 t) (ix2 i j) = Xf m c (row t i) ⟨512 + j.val, by omega⟩ := by
  simp only [Xf, row]; blk_ext [iblk, V_main_arg0, idx t]
theorem vp_eq (t : Fin cfg0.N) (i : Fin 128) (j : Fin 128) :
    (show FVec Ideal S128x128 .f32 from iblk m c 4 t) (ix2 i j)
      = Xf m c ⟨(2 * t.val - 1) * 128 + i.val, by have := lt32 t; omega⟩ ⟨640 + j.val, by omega⟩ := by
  simp only [Xf]; blk_ext [iblk, V_main_arg0, idx t]
theorem vc_eq (t : Fin cfg0.N) (i : Fin 256) (j : Fin 128) :
    (show FVec Ideal S256x128 .f32 from iblk m c 5 t) (ix2 i j) = Xf m c (row t i) ⟨640 + j.val, by omega⟩ := by
  simp only [Xf, row]; blk_ext [iblk, V_main_arg0, idx t]

/-- A query's band of keys, among those a grid point holds. -/
def band (i : Fin 256) : Fin 192 ↪ Fin 384 where
  toFun t := ⟨64 * (i.val / 64) + t.val, by omega⟩
  inj' a b h := Fin.ext (by have := congrArg Fin.val h; simpa using this)

/-- The keys and the values of a band, where they are not before the first. -/
theorem khalf_eq (t : Fin cfg0.N) (i : Fin 256) (k : Fin 192) (j : Fin 2) (d : Fin 64) (hv : 128 ≤ 64 * ((row t i).val / 64) + k.val) :
    half (iblk m c 2 t) (iblk m c 3 t) j (band i k) d = Xf m c (krow (row t i) k hv) (kcol j d) := by
  have ht := lt32 t
  have hr : (row t i).val = t.val * 256 + i.val := rfl
  unfold half cat
  split
  · rename_i h
    change 64 * (i.val / 64) + k.val < 128 at h
    refine (kp_eq m c t _ _).trans ?_
    refine congrArg₂ (Xf m c) (Fin.ext ?_) (Fin.ext ?_)
    · show (2 * t.val - 1) * 128 + (64 * (i.val / 64) + k.val) = 64 * ((row t i).val / 64) + k.val - 128
      omega
    · show 512 + (64 * j.val + d.val) = 512 + 64 * j.val + d.val
      omega
  · rename_i h
    change ¬ 64 * (i.val / 64) + k.val < 128 at h
    refine (kc_eq m c t _ _).trans ?_
    refine congrArg₂ (Xf m c) (Fin.ext ?_) (Fin.ext ?_)
    · show t.val * 256 + (64 * (i.val / 64) + k.val - 128) = 64 * ((row t i).val / 64) + k.val - 128
      omega
    · show 512 + (64 * j.val + d.val) = 512 + 64 * j.val + d.val
      omega
theorem vhalf_eq (t : Fin cfg0.N) (i : Fin 256) (k : Fin 192) (j : Fin 2) (d : Fin 64) (hv : 128 ≤ 64 * ((row t i).val / 64) + k.val) :
    half (iblk m c 4 t) (iblk m c 5 t) j (band i k) d = Xf m c (krow (row t i) k hv) (vcol j d) := by
  have ht := lt32 t
  have hr : (row t i).val = t.val * 256 + i.val := rfl
  unfold half cat
  split
  · rename_i h
    change 64 * (i.val / 64) + k.val < 128 at h
    refine (vp_eq m c t _ _).trans ?_
    refine congrArg₂ (Xf m c) (Fin.ext ?_) (Fin.ext ?_)
    · show (2 * t.val - 1) * 128 + (64 * (i.val / 64) + k.val) = 64 * ((row t i).val / 64) + k.val - 128
      omega
    · show 640 + (64 * j.val + d.val) = 640 + 64 * j.val + d.val
      omega
  · rename_i h
    change ¬ 64 * (i.val / 64) + k.val < 128 at h
    refine (vc_eq m c t _ _).trans ?_
    refine congrArg₂ (Xf m c) (Fin.ext ?_) (Fin.ext ?_)
    · show t.val * 256 + (64 * (i.val / 64) + k.val - 128) = 64 * ((row t i).val / 64) + k.val - 128
      omega
    · show 640 + (64 * j.val + d.val) = 640 + 64 * j.val + d.val
      omega

/-- The mask at a grid point. -/
theorem bits_at (t : Fin cfg0.N) (i : Fin 256) (k : Fin 384) : bits (BitVec.ofNat 32 (grid0.coords t 0).val) (ix2 i k) = 1#1
    ↔ i.val / 64 ≤ k.val / 64 ∧ k.val / 64 ≤ i.val / 64 + 2 ∧ (0 < t.val ∨ 2 ≤ k.val / 64) := by
  rw [(idx t).2.2.2.2.2.2.2.2]
  exact pay21_at ⟨t.val, lt32 t⟩ i k

/-- A grid point's block is the attention over the band. -/
theorem bout_eq (t : Fin cfg0.N) (i : Fin 256) (h : Fin 8) (d : Fin 64) :
    bout (BitVec.ofNat 32 (grid0.coords t 0).val) (iblk m c 0 t) (X0_1 m c t) (iblk m c 2 t) (iblk m c 4 t) (iblk m c 3 t) (iblk m c 5 t) i h d
      = attn (Xf m c) (Sf m c) (row t i) h d := by
  have ht := lt32 t
  have hr : (row t i).val = t.val * 256 + i.val := rfl
  unfold bout attn
  rw [attend_band (band i)]
  · have e : (fun k => hsc (hslope h) (fun d => X0_1 m c t (ix2 i (col h d))) (half (iblk m c 2 t) (iblk m c 3 t) (kvh h))
        (fun k => bits (BitVec.ofNat 32 (grid0.coords t 0).val) (ix2 i k)) (fun k => dis (ix2 i k)) (band i k)) = bscore (Xf m c) (row t i) h := by
      funext k
      have hb := bits_at t i (band i k)
      have hbv : (band i k).val = 64 * (i.val / 64) + k.val := rfl
      unfold hsc masked bscore
      by_cases hv : 128 ≤ 64 * ((row t i).val / 64) + k.val
      · rw [dif_pos hv, if_pos (hb.mpr (by omega))]
        have ed : dis (ix2 i (band i k)) = kdist ((row t i).val % 64) k.val := by
          refine (pay22_at i (band i k)).trans ?_
          rw [hbv, ← dist_shift (i.val / 64) ((row t i).val % 64) k.val (by omega) (by omega) k.isLt]
          refine congrArg (fun n => kdist n _) ?_
          omega
        beta_reduce
        rw [ed]
        refine congrArg (fun z => z * _ - _) (Finset.sum_congr rfl fun d _ => ?_)
        rw [khalf_eq m c t i k _ d hv]
        exact congrArg (· * _) (q_eq m c t i (col h d))
      · rw [dif_neg hv, if_neg (fun hh => by have := hb.mp hh; omega)]
    have es : iblk m c 0 t (ix1 h) = Sf m c h := s_eq m c t h
    rw [e, es]
    refine Finset.sum_congr rfl fun k _ => ?_
    unfold bval
    split
    · rename_i hv
      rw [vhalf_eq m c t i k _ d hv]
    · rename_i hv
      rw [pk_bot _ _ _ (by unfold bscore; rw [dif_neg hv]), zero_mul, zero_mul]
  · intro k hk
    unfold hsc masked
    rw [if_neg]
    intro hh
    have hb := (bits_at t i k).mp hh
    exact hk ⟨⟨k.val - 64 * (i.val / 64), by omega⟩, Fin.ext (by show 64 * (i.val / 64) + (k.val - 64 * (i.val / 64)) = k.val; omega)⟩

/-- The result: the attention over the bands. -/
theorem final_o : (dats m 0 c).arrAt 6 cfg0.N = fun y : S8192x512.Idx =>
    attn (Xf m c) (Sf m c) (y 0) (hd (y 1)) (ln (y 1)) := by
  refine (dats m 0 c).arrAt_eq_of_covers 6 _ (by decide +kernel) fun t _ y => ?_
  blk_simp
  rw [after0_6, o_block]
  refine (bout_eq m c t _ _ _).trans ?_
  have e0 : ((win0_6.blk t).view.emb y 0 : Fin 8192) = row t (y 0) := Fin.ext (by blk_simp [idx t]; rfl)
  have e1 : ((win0_6.blk t).view.emb y 1 : Fin 512) = y 1 := Fin.ext (by blk_simp [idx t])
  rw [e0, e1]

end Cert.Kernel20Ideal.AttnArray

end
-- ==== Proof.AttnRef.lean ====
/- The windowed attention's reference, read at an index. -/
module

public import proofs.«01_k».proof.Proof.Gen.Reference20Ideal.Read
public import proofs.«01_k».proof.Proof.AttnArray

@[expose] public section

set_option maxRecDepth 16384

noncomputable section

namespace Cert.Reference20Ideal.AttnRef

open Cert.Reference20Ideal Cert.Reference20Ideal.Read Idealize.ShloMosaic Idealize.ShloMosaic.TcCoe
open Cert.Attn Cert.Softmax Cert.Kernel20Ideal.AttnBlock Cert.Kernel20Ideal.AttnPay

variable (x0 : FVec Ideal S8192x768 .f32) (x1 : FVec Ideal S8 .f32)

/-- The arguments by row and column. -/
abbrev Xr (i : Fin 8192) (j : Fin 768) : EReal := x0 (ix2 i j)
abbrev Sr (h : Fin 8) : EReal := x1 (ix1 h)

/-- A chunk's query, and a key head's query head. -/
def rq (n : Fin 128) (q : Fin 64) : Fin 8192 := ⟨64 * n.val + q.val, by omega⟩
def hq (j : Fin 2) (g : Fin 4) : Fin 8 := ⟨4 * j.val + g.val, by omega⟩

theorem v18_at (n : Fin 128) (q : Fin 64) (j : Fin 2) (g : Fin 4) (d : Fin 64) :
    val_main_v18 (F := Ideal) x0 (ix5 n q j g d) = Xr x0 (rq n q) (qcol (hq j g) d) := by
  pointwise [val_main_v18, val_main_v1, val_main_v0]
  blk_ext [rq, hq, qcol]

theorem v3_at (r : Fin 8192) (j : Fin 2) (d : Fin 64) : val_main_v3 (F := Ideal) x0 (ix3 r j d) = Xr x0 r (kcol j d) := by
  pointwise [val_main_v3, val_main_v2]
  blk_ext [kcol]
theorem v5_at (r : Fin 8192) (j : Fin 2) (d : Fin 64) : val_main_v5 (F := Ideal) x0 (ix3 r j d) = Xr x0 r (vcol j d) := by
  pointwise [val_main_v5, val_main_v4]
  blk_ext [vcol]

theorem v6_at (r : Fin 8320) (j : Fin 2) (d : Fin 64) : val_main_v6 (F := Ideal) x0 (ix3 r j d) =
    if h : 128 ≤ r.val then Xr x0 ⟨r.val - 128, by omega⟩ (kcol j d) else 0 := by
  pointwise [val_main_v6, val_main_call0_v0, val_main_c]
  have e0 : (FloatOps.sitofp (F := Ideal) FTy.f32 (0#32) : EReal) = 0 := by
    show (((0#32 : BitVec 32).toInt : ℝ) : EReal) = 0
    simp
  by_cases h : 128 ≤ r.val
  · rw [dif_pos ⟨h, by omega⟩, dif_pos h, v3_at]
  · rw [dif_neg (fun hh => h hh.1), dif_neg h, e0]
theorem v8_at (r : Fin 8320) (j : Fin 2) (d : Fin 64) : val_main_v8 (F := Ideal) x0 (ix3 r j d) =
    if h : 128 ≤ r.val then Xr x0 ⟨r.val - 128, by omega⟩ (vcol j d) else 0 := by
  pointwise [val_main_v8, val_main_call1_v0, val_main_c_0]
  have e0 : (FloatOps.sitofp (F := Ideal) FTy.f32 (0#32) : EReal) = 0 := by
    show (((0#32 : BitVec 32).toInt : ℝ) : EReal) = 0
    simp
  by_cases h : 128 ≤ r.val
  · rw [dif_pos ⟨h, by omega⟩, dif_pos h, v5_at]
  · rw [dif_neg (fun hh => h hh.1), dif_neg h, e0]

/-- The bands of keys and of values. -/
theorem v13_at (n : Fin 128) (t : Fin 192) (j : Fin 2) (d : Fin 64) : val_main_v13 (F := Ideal) x0 (ix4 n t j d) =
    val_main_v6 (F := Ideal) x0 (ix3 ⟨64 * n.val + t.val, by omega⟩ j d) := by
  pointwise [val_main_v13, val_main_v12, val_main_v11, val_main_v10, val_main_v7]
  split
  · exact congrArg (fun r => val_main_v6 (F := Ideal) x0 (ix3 r j d)) (Fin.ext (by show n.val * 64 + t.val = 64 * n.val + t.val; omega))
  · split
    · exact congrArg (fun r => val_main_v6 (F := Ideal) x0 (ix3 r j d)) (Fin.ext (by show (1 + n.val) * 64 + (t.val - 64) = 64 * n.val + t.val; omega))
    · exact congrArg (fun r => val_main_v6 (F := Ideal) x0 (ix3 r j d)) (Fin.ext (by show (2 + n.val) * 64 + (t.val - 64 - 64) = 64 * n.val + t.val; omega))
theorem v17_at (n : Fin 128) (t : Fin 192) (j : Fin 2) (d : Fin 64) : val_main_v17 (F := Ideal) x0 (ix4 n t j d) =
    val_main_v8 (F := Ideal) x0 (ix3 ⟨64 * n.val + t.val, by omega⟩ j d) := by
  pointwise [val_main_v17, val_main_v16, val_main_v15, val_main_v14, val_main_v9]
  split
  · exact congrArg (fun r => val_main_v8 (F := Ideal) x0 (ix3 r j d)) (Fin.ext (by show n.val * 64 + t.val = 64 * n.val + t.val; omega))
  · split
    · exact congrArg (fun r => val_main_v8 (F := Ideal) x0 (ix3 r j d)) (Fin.ext (by show (1 + n.val) * 64 + (t.val - 64) = 64 * n.val + t.val; omega))
    · exact congrArg (fun r => val_main_v8 (F := Ideal) x0 (ix3 r j d)) (Fin.ext (by show (2 + n.val) * 64 + (t.val - 64 - 64) = 64 * n.val + t.val; omega))

theorem v33_at (q : Fin 64) (t : Fin 192) : val_main_v33 (F := Ideal) (ix2 q t) = kdist q.val t.val := by
  pointwise [val_main_v33, val_main_v32, val_main_v31, val_main_v30, val_main_v29, val_main_v28, val_main_v27, val_main_v26, val_main_v25, val_main_v24,
    val_main_v23, val_main_c_1]
  rfl

theorem v43_at (j : Fin 2) (g : Fin 4) : val_main_v43 (F := Ideal) (ix2 j g) = hslope (hq j g) := by
  pointwise [val_main_v43, val_main_v42, val_main_v34, val_main_v35, val_main_v36, val_main_v37, val_main_v38, val_main_v39, val_main_v40, val_main_v41,
    val_main_cst_2, val_main_cst_3, val_main_cst_4, val_main_cst_5, val_main_cst_6, val_main_cst_7, val_main_cst_8, val_main_cst_9]
  fin_cases j <;> fin_cases g <;> rfl

/-- A place's chunk in the band, as the reference computes it. -/
def quoh (x : BitVec 32) : BitVec 32 :=
  Scalar.select
    (IntOp.andi
      (IntOp.cmpi .ne (if x = 0 then (0 : BitVec 32) else if x.msb = true then -1 else 1)
        (if 64#32 = 0 then (0 : BitVec 32) else if BitVec.msb 64#32 = true then -1 else 1))
      (IntOp.cmpi .ne (IntOp.remsi .host x 64#32) 0#32))
    (IntOp.subi (IntOp.divsi .host x 64#32) 1#32) (IntOp.divsi .host x 64#32)

theorem quoh_eq : ∀ t : Fin 192, quoh (BitVec.ofNat 32 t.val) = BitVec.ofNat 32 (t.val / 64) := by decide +kernel

theorem valid_eq : ∀ (n : Fin 128) (k : Fin 3), IntOp.cmpi .sge (IntOp.addi (IntOp.subi (BitVec.ofNat 32 n.val) 2#32) (BitVec.ofNat 32 k.val)) 0#32
    = if 2 ≤ n.val + k.val then 1#1 else 0#1 := by decide +kernel

/-- A place of the band counts where it is not before the first key. -/
theorem v62_at (n : Fin 128) (t : Fin 192) : val_main_v62 (F := Ideal) (ix2 n t) = if 128 ≤ 64 * n.val + t.val then 1#1 else 0#1 := by
  pointwise [val_main_v62, val_main_v61, val_main_v60, val_main_v59, val_main_v58, val_main_v57, val_main_call2_v13, val_main_call2_v12,
    val_main_call2_c_0, val_main_call2_v11, val_main_call2_v10, val_main_call2_v9, val_main_call2_c, val_main_call2_v8, val_main_call2_v7,
    val_main_call2_v6, val_main_call2_v5, val_main_call2_v4, val_main_call2_v3, val_main_call2_v2, val_main_call2_v1, val_main_call2_v0,
    val_main_c_11, val_main_v56, val_main_v55, val_main_v54, val_main_v53, val_main_v52, val_main_v26, val_main_c_10, val_main_c_12]
  refine Eq.trans (b := IntOp.cmpi .sge (IntOp.addi (IntOp.subi (BitVec.ofNat 32 n.val) 2#32) (quoh (BitVec.ofNat 32 t.val))) 0#32) rfl ?_
  rw [quoh_eq t]
  refine (valid_eq n ⟨t.val / 64, by omega⟩).trans (if_congr ?_ rfl rfl)
  show 2 ≤ n.val + t.val / 64 ↔ _
  omega

theorem rq_div (n : Fin 128) (q : Fin 64) : (rq n q).val / 64 = n.val := by show (64 * n.val + q.val) / 64 = n.val; omega
theorem rq_mod (n : Fin 128) (q : Fin 64) : (rq n q).val % 64 = q.val := by show (64 * n.val + q.val) % 64 = q.val; omega
theorem kvh_hq (j : Fin 2) (g : Fin 4) : kvh (hq j g) = j := Fin.ext (by show (4 * j.val + g.val) / 4 = j.val; omega)

/-- The scores. -/
theorem v51_at (n : Fin 128) (j : Fin 2) (g : Fin 4) (q : Fin 64) (t : Fin 192) : val_main_v51 (F := Ideal) x0 (ix5 n j g q t) =
    (∑ d, val_main_v13 (F := Ideal) x0 (ix4 n t j d) * Xr x0 (rq n q) (qcol (hq j g) d)) * Ideal.ofBits .f32 0x3E000000#32
      - hslope (hq j g) * kdist q.val t.val := by
  pointwise [val_main_v51, val_main_v50, val_main_v49, val_main_v48, val_main_v47, val_main_v46, val_main_v45, val_main_v44, val_main_v22,
    val_main_v21, val_main_cst, val_main_v20, val_main_v19]
  simp only [v18_at, v43_at, v33_at]

/-- The masked scores. -/
theorem v64_at (n : Fin 128) (j : Fin 2) (g : Fin 4) (q : Fin 64) (t : Fin 192) : val_main_v64 (F := Ideal) x0 (ix5 n j g q t) =
    bscore (Xr x0) (rq n q) (hq j g) t := by
  pointwise [val_main_v64, val_main_call3_v2, val_main_call3_v1, val_main_call3_v0, val_main_cst_13, val_main_v63]
  rw [v62_at, v51_at]
  unfold bscore
  rw [rq_mod]
  by_cases hv : 128 ≤ 64 * n.val + t.val
  · have hv' : 128 ≤ 64 * ((rq n q).val / 64) + t.val := by rw [rq_div]; exact hv
    rw [if_pos hv, dif_pos hv', kvh_hq]
    refine congrArg (fun z => z * _ - _) (Finset.sum_congr rfl fun d _ => ?_)
    rw [v13_at, v6_at, dif_pos hv, mul_comm]
    refine congrArg (fun r => _ * Xr x0 r (kcol j d)) (Fin.ext ?_)
    show 64 * n.val + t.val - 128 = 64 * ((rq n q).val / 64) + t.val - 128
    rw [rq_div]
  · have hv' : ¬ 128 ≤ 64 * ((rq n q).val / 64) + t.val := by rw [rq_div]; exact hv
    rw [if_neg hv, dif_neg hv']
    exact Cert.Mem.ofBits_bot

theorem v66_at (n : Fin 128) (j : Fin 2) (g : Fin 4) (q : Fin 64) : val_main_v69 (F := Ideal) x1 (ix5 n j g q 0) = Sr x1 (hq j g) := by
  pointwise [val_main_v69, val_main_v66, val_main_v65]
  blk_ext [hq]
theorem v67_at (n : Fin 128) (j : Fin 2) (g : Fin 4) (q : Fin 64) : val_main_v67 (F := Ideal) x0 (ix4 n j g q) =
    Finset.univ.fold max ⊥ fun t => bscore (Xr x0) (rq n q) (hq j g) t := by
  pointwise [val_main_v67, val_main_cst_14]
  simp only [v64_at, Cert.Mem.ofBits_bot]

theorem max_of (a b : EReal) : FloatOps.maximumf (F := Ideal) (φ := .f32) a b = max a b := rfl

theorem v68_at (n : Fin 128) (j : Fin 2) (g : Fin 4) (q : Fin 64) :
    val_main_v68 (F := Ideal) x0 (ix5 n j g q 0) = val_main_v67 (F := Ideal) x0 (ix4 n j g q) := by
  rw [val_main_v68_apply]
  refine congrArg _ (funext fun a => ?_)
  match a with
  | ⟨0, _⟩ => rfl
  | ⟨1, _⟩ => rfl
  | ⟨2, _⟩ => rfl
  | ⟨3, _⟩ => rfl

/-- A row's peak, the exponentials, the normaliser, the probabilities. -/
theorem v70_at (n : Fin 128) (j : Fin 2) (g : Fin 4) (q : Fin 64) : val_main_v70 (F := Ideal) x0 x1 (ix5 n j g q 0) =
    peak (bscore (Xr x0) (rq n q) (hq j g)) (Sr x1 (hq j g)) := by
  rw [val_main_v70_apply, max_of, v68_at, v67_at, v66_at, peak]
theorem v73_at (n : Fin 128) (j : Fin 2) (g : Fin 4) (q : Fin 64) (t : Fin 192) : val_main_v73 (F := Ideal) x0 x1 (ix5 n j g q t) =
    ex (bscore (Xr x0) (rq n q) (hq j g)) (Sr x1 (hq j g)) t := by
  pointwise [val_main_v73, val_main_v72, val_main_v71]
  rw [v70_at, v64_at]
  rfl
theorem v79_at (n : Fin 128) (j : Fin 2) (g : Fin 4) (q : Fin 64) : val_main_v79 (F := Ideal) x0 x1 (ix5 n j g q 0) =
    den (bscore (Xr x0) (rq n q) (hq j g)) (Sr x1 (hq j g)) := by
  pointwise [val_main_v79, val_main_v78, val_main_v77, val_main_v76, val_main_v75, val_main_v74, val_main_cst_15, val_main_v66, val_main_v65]
  simp only [v70_at, v73_at]
  rw [den, show x1 (ix1 ⟨j.val * 4 + g.val, _⟩) = Sr x1 (hq j g) from congrArg x1 (congrArg ix1 (Fin.ext (by show j.val * 4 + g.val = 4 * j.val + g.val; omega)))]
theorem v81_at (n : Fin 128) (j : Fin 2) (g : Fin 4) (q : Fin 64) (t : Fin 192) : val_main_v81 (F := Ideal) x0 x1 (ix5 n j g q t) =
    pr (bscore (Xr x0) (rq n q) (hq j g)) (Sr x1 (hq j g)) t := by
  pointwise [val_main_v81, val_main_v80]
  rw [v79_at, v73_at]
  rfl

/-- The attended values, by a quotient. -/
theorem v85_at (r : Fin 8192) (l : Fin 512) : val_main_v85 (F := Ideal) x0 x1 (ix2 r l) =
    ∑ t, pr (bscore (Xr x0) r (hd l)) (Sr x1 (hd l)) t * bval (Xr x0) r (hd l) (ln l) t := by
  pointwise [val_main_v85, val_main_v84, val_main_v83, val_main_v82]
  refine Finset.sum_congr rfl fun t _ => ?_
  rw [v81_at, v17_at, v8_at, mul_comm]
  have er : rq ⟨r.val / 64, by omega⟩ ⟨r.val % 64, by omega⟩ = r := Fin.ext (by show 64 * (r.val / 64) + r.val % 64 = r.val; omega)
  have eh : hq ⟨l.val / 256, by omega⟩ ⟨l.val / 64 % 4, by omega⟩ = hd l := Fin.ext (by show 4 * (l.val / 256) + l.val / 64 % 4 = l.val / 64; omega)
  have ek : kvh (hd l) = ⟨l.val / 256, by omega⟩ := Fin.ext (by show l.val / 64 / 4 = l.val / 256; omega)
  rw [er, eh]
  unfold bval
  rw [ek]
  rfl

end Cert.Reference20Ideal.AttnRef

end
-- ==== Proof.AttnPre.lean ====
/- The windowed attention's precondition read: queries, keys and sinks are real numbers, so every score is below plus infinity. -/
module

public import proofs.«01_k».proof.Pre_finite_qk
public import proofs.«01_k».proof.Proof.AttnArray
public import proofs.«01_k».proof.Proof.Finite

@[expose] public section

set_option maxRecDepth 16384

noncomputable section

namespace Cert.AttnP

open Cert.Pre_finite_qk Idealize.ShloMosaic Idealize.ShloMosaic.TcCoe
open Cert.Attn Cert.Softmax Cert.Finite Cert.Kernel20Ideal.AttnBlock Cert.Kernel20Ideal.AttnPay

/-- The predicate's side conditions. -/
theorem facts : Cert.Pre_finite_qk.Facts where
  slices_S8192x768_S8192x640_0_0 := by decide
  bcast_S_S8192x640 := by decide
  reducesTo_S8192x640_S_d0_1 := by decide
  h_S_ := by decide
  bcast_S_S8 := by decide
  reducesTo_S8_S_d0 := by decide

theorem fin_args [Facts] (x0 : FVec Ideal S8192x768 .f32) (x1 : FVec Ideal S8 .f32) (h : fn (F := Ideal) x0 x1 = fun _ => 1#1) :
    (∀ (i : Fin 8192) (j : Fin 640), Fin' (x0 (ix2 i ⟨j.val, by omega⟩))) ∧ ∀ h : Fin 8, Fin' (x1 (ix1 h)) := by
  unfold fn at h
  have h' := fun i => andi_one _ _ (congrFun h i)
  have h1 := reduce_andi _ _ _ _ (funext fun i => (h' i).1)
  have h2 := reduce_andi _ _ _ _ (funext fun i => (h' i).2)
  constructor
  · intro i j
    have e : extractStridedSlice S8192x640 ![0, 0] x0 Facts.slices_S8192x768_S8192x640_0_0 (ix2 i j) = x0 (ix2 i ⟨j.val, by omega⟩) := by
      pointwise
    exact e ▸ fin_of_abs (h1 (ix2 i j))
  · intro g
    exact fin_of_abs (h2 (ix1 g))

/-- The scale, the slopes and the distances are real numbers. -/
theorem fin_sc : Fin' (Ideal.ofBits .f32 0x3E000000#32) := by
  simp only [Ideal.ofBits, Ideal.ieee]
  norm_num
  exact ⟨_, rfl⟩
theorem fin_slope (h : Fin 8) : Fin' (hslope h) := by
  have h0 : Fin' (Ideal.ofBits .f32 0x3F000000#32) := by simp only [Ideal.ofBits, Ideal.ieee]; norm_num; exact ⟨_, rfl⟩
  have h1 : Fin' (Ideal.ofBits .f32 0x3E800000#32) := by simp only [Ideal.ofBits, Ideal.ieee]; norm_num; exact ⟨_, rfl⟩
  have h2 : Fin' (Ideal.ofBits .f32 0x3E000000#32) := by simp only [Ideal.ofBits, Ideal.ieee]; norm_num; exact ⟨_, rfl⟩
  have h3 : Fin' (Ideal.ofBits .f32 0x3D800000#32) := by simp only [Ideal.ofBits, Ideal.ieee]; norm_num; exact ⟨_, rfl⟩
  have h4 : Fin' (Ideal.ofBits .f32 0x3D000000#32) := by simp only [Ideal.ofBits, Ideal.ieee]; norm_num; exact ⟨_, rfl⟩
  have h5 : Fin' (Ideal.ofBits .f32 0x3C800000#32) := by simp only [Ideal.ofBits, Ideal.ieee]; norm_num; exact ⟨_, rfl⟩
  have h6 : Fin' (Ideal.ofBits .f32 0x3C000000#32) := by simp only [Ideal.ofBits, Ideal.ieee]; norm_num; exact ⟨_, rfl⟩
  have h7 : Fin' (Ideal.ofBits .f32 0x3B800000#32) := by simp only [Ideal.ofBits, Ideal.ieee]; norm_num; exact ⟨_, rfl⟩
  match h with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7
theorem fin_kdist (x y : ℕ) : Fin' (kdist x y) := ⟨_, rfl⟩

/-- Every score of finite queries and keys is below plus infinity. -/
theorem score_lt [Facts] (x0 : FVec Ideal S8192x768 .f32) (x1 : FVec Ideal S8 .f32) (h : fn (F := Ideal) x0 x1 = fun _ => 1#1)
    (r : Fin 8192) (g : Fin 8) (t : Fin 192) : bscore (fun i j => x0 (ix2 i j)) r g t < ⊤ := by
  obtain ⟨h1, -⟩ := fin_args x0 x1 h
  unfold bscore
  split
  · have hk : ∀ d, (kcol (kvh g) d).val < 640 := fun d => by
      show 512 + 64 * (g.val / 4) + d.val < 640
      omega
    refine Fin'.lt_top (.sub (.mul (.sum _ fun d => .mul (h1 _ ⟨64 * g.val + d.val, by omega⟩) (h1 _ ⟨(kcol (kvh g) d).val, hk d⟩)) fin_sc)
      (.mul (fin_slope g) (fin_kdist _ _)))
  · exact bot_lt_top

end Cert.AttnP

end
-- ==== Proof.AttnClaim.lean ====
/- The windowed attention: the reference's frame, and the value claim. -/
module

public import proofs.«01_k».proof.Defs
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.AttnRef
public import proofs.«01_k».proof.Proof.AttnPre
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref20 : Cert.quiescent_Reference20Ideal (hReference20Ideal := Cert.Reference20Ideal.Gen.facts) := by
  intro m g _
  exact (θ_run Cert.Reference20Ideal.defs _ _).mono (fun r h => ⟨fun c => ⟨(h c).2.1, (h c).2.2⟩,
      Idealize.ShloMosaic.sem_eq_zero_of_no_sems (by decide) r.2⟩)
    (Cert.Reference20Ideal.Value.run (F := Ideal) m g)

/-- The idealization names the mask's constant: it denotes minus infinity. -/
theorem preserves20 : Cert.preserves_Kernel20_Kernel20Ideal :=
  IdealRules.named_const.statement Cert.Kernel20Ideal.κ "mask" .f32 0xF149F2CA#32 ⊥ rfl

/-- The kernel and the reference leave equal results wherever the queries, the keys and the sinks are finite. -/
theorem value20 : Cert.algebraic_Kernel20Ideal_Reference20Ideal_pre_finite_qk (hKernel20Ideal := Cert.Kernel20Ideal.Gen.facts)
    (hReference20Ideal := Cert.Reference20Ideal.Gen.facts) (hPre_finite_qk := Cert.AttnP.facts) := by
  haveI := Cert.AttnP.facts
  pair_intro
  · run_from Cert.Kernel20Ideal.Gen.run_main m g
  · run_from Cert.Reference20Ideal.Value.run m' g'
    rw [Cert.Reference20Ideal.Read.val_main_v85_eq]
    try rw [(hagree c).1, (hagree c).2]
    refine Eq.trans ?_ (Cert.Kernel20Ideal.AttnArray.final_o m c).symm
    funext y
    rw [eq_ix2 y]
    refine (Cert.Reference20Ideal.AttnRef.v85_at _ _ (y 0) (y 1)).trans (Finset.sum_congr rfl fun t _ => congrArg (· * _) ?_)
    exact (Cert.Attn.pk_eq_pr (fun t => Cert.AttnP.score_lt _ _ (hpre c) _ _ t) ((Cert.AttnP.fin_args _ _ (hpre c)).2 _) t).symm

end Cert.Proof

end
-- ==== Proof.AdamwAClaim.lean ====
/- The optimiser step of a weight of 2816 rows: the reference's frame, and the value claim. -/
module

public import proofs.«01_k».proof.Defs
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref21 : Cert.quiescent_Reference21Ideal (hReference21Ideal := Cert.Reference21Ideal.Gen.facts) := by
  intro m g _
  exact (θ_run Cert.Reference21Ideal.defs _ _).mono (fun r h => ⟨fun c => ⟨(h c).2.2.2.2.1, (h c).2.2.2.2.2.1, (h c).2.2.2.2.2.2.1, (h c).2.2.2.2.2.2.2.1, (h c).2.2.2.2.2.2.2.2⟩,
      Idealize.ShloMosaic.sem_eq_zero_of_no_sems (by decide) r.2⟩)
    (Cert.Reference21Ideal.Value.run (F := Ideal) m g)

/-- The kernel and the reference leave equal results: the summed gradient, the change of the parameter, and the two updated moments. -/
theorem value21 : Cert.algebraic_Kernel21Ideal_Reference21Ideal (hKernel21Ideal := Cert.Kernel21Ideal.Gen.facts)
    (hReference21Ideal := Cert.Reference21Ideal.Gen.facts) := by
  pair_intro
  · run_from Cert.Kernel21Ideal.Value.run (F := Ideal) m g
  · run_from Cert.Reference21Ideal.Value.run m' g'
    · try rw [(hagree c).1, (hagree c).2.1, (hagree c).2.2.1, (hagree c).2.2.2.1, (hagree c).2.2.2.2]
      rfl
    · try rw [(hagree c).1, (hagree c).2.1, (hagree c).2.2.1, (hagree c).2.2.2.1, (hagree c).2.2.2.2]
      rfl
    · try rw [(hagree c).1, (hagree c).2.1, (hagree c).2.2.1, (hagree c).2.2.2.1, (hagree c).2.2.2.2]
      rfl
    · try rw [(hagree c).1, (hagree c).2.1, (hagree c).2.2.1, (hagree c).2.2.2.1, (hagree c).2.2.2.2]
      rfl

end Cert.Proof

end
-- ==== Proof.AdamwBClaim.lean ====
/- The optimiser step of a weight of 6400 rows: the reference's frame, and the value claim. -/
module

public import proofs.«01_k».proof.Defs
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref22 : Cert.quiescent_Reference22Ideal (hReference22Ideal := Cert.Reference22Ideal.Gen.facts) := by
  intro m g _
  exact (θ_run Cert.Reference22Ideal.defs _ _).mono (fun r h => ⟨fun c => ⟨(h c).2.2.2.2.1, (h c).2.2.2.2.2.1, (h c).2.2.2.2.2.2.1, (h c).2.2.2.2.2.2.2.1, (h c).2.2.2.2.2.2.2.2⟩,
      Idealize.ShloMosaic.sem_eq_zero_of_no_sems (by decide) r.2⟩)
    (Cert.Reference22Ideal.Value.run (F := Ideal) m g)

/-- The kernel and the reference leave equal results: the summed gradient, the change of the parameter, and the two updated moments. -/
theorem value22 : Cert.algebraic_Kernel22Ideal_Reference22Ideal (hKernel22Ideal := Cert.Kernel22Ideal.Gen.facts)
    (hReference22Ideal := Cert.Reference22Ideal.Gen.facts) := by
  pair_intro
  · run_from Cert.Kernel22Ideal.Value.run (F := Ideal) m g
  · run_from Cert.Reference22Ideal.Value.run m' g'
    · try rw [(hagree c).1, (hagree c).2.1, (hagree c).2.2.1, (hagree c).2.2.2.1, (hagree c).2.2.2.2]
      rfl
    · try rw [(hagree c).1, (hagree c).2.1, (hagree c).2.2.1, (hagree c).2.2.2.1, (hagree c).2.2.2.2]
      rfl
    · try rw [(hagree c).1, (hagree c).2.1, (hagree c).2.2.1, (hagree c).2.2.2.1, (hagree c).2.2.2.2]
      rfl
    · try rw [(hagree c).1, (hagree c).2.1, (hagree c).2.2.1, (hagree c).2.2.2.1, (hagree c).2.2.2.2]
      rfl

end Cert.Proof

end
-- ==== Proof.AdamwCClaim.lean ====
/- The optimiser step of a weight of 1024 rows and columns: the reference's frame, and the value claim. -/
module

public import proofs.«01_k».proof.Defs
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref23 : Cert.quiescent_Reference23Ideal (hReference23Ideal := Cert.Reference23Ideal.Gen.facts) := by
  intro m g _
  exact (θ_run Cert.Reference23Ideal.defs _ _).mono (fun r h => ⟨fun c => ⟨(h c).2.2.2.2.1, (h c).2.2.2.2.2.1, (h c).2.2.2.2.2.2.1, (h c).2.2.2.2.2.2.2.1, (h c).2.2.2.2.2.2.2.2⟩,
      Idealize.ShloMosaic.sem_eq_zero_of_no_sems (by decide) r.2⟩)
    (Cert.Reference23Ideal.Value.run (F := Ideal) m g)

/-- The kernel and the reference leave equal results: the summed gradient, the change of the parameter, and the two updated moments. -/
theorem value23 : Cert.algebraic_Kernel23Ideal_Reference23Ideal (hKernel23Ideal := Cert.Kernel23Ideal.Gen.facts)
    (hReference23Ideal := Cert.Reference23Ideal.Gen.facts) := by
  pair_intro
  · run_from Cert.Kernel23Ideal.Value.run (F := Ideal) m g
  · run_from Cert.Reference23Ideal.Value.run m' g'
    · try rw [(hagree c).1, (hagree c).2.1, (hagree c).2.2.1, (hagree c).2.2.2.1, (hagree c).2.2.2.2]
      rfl
    · try rw [(hagree c).1, (hagree c).2.1, (hagree c).2.2.1, (hagree c).2.2.2.1, (hagree c).2.2.2.2]
      rfl
    · try rw [(hagree c).1, (hagree c).2.1, (hagree c).2.2.1, (hagree c).2.2.2.1, (hagree c).2.2.2.2]
      rfl
    · try rw [(hagree c).1, (hagree c).2.1, (hagree c).2.2.1, (hagree c).2.2.2.1, (hagree c).2.2.2.2]
      rfl

end Cert.Proof

end
-- ==== Proof.AdamwDClaim.lean ====
/- The optimiser step of a weight of 1024 rows and 512 columns: the reference's frame, and the value claim. -/
module

public import proofs.«01_k».proof.Defs
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref24 : Cert.quiescent_Reference24Ideal (hReference24Ideal := Cert.Reference24Ideal.Gen.facts) := by
  intro m g _
  exact (θ_run Cert.Reference24Ideal.defs _ _).mono (fun r h => ⟨fun c => ⟨(h c).2.2.2.2.1, (h c).2.2.2.2.2.1, (h c).2.2.2.2.2.2.1, (h c).2.2.2.2.2.2.2.1, (h c).2.2.2.2.2.2.2.2⟩,
      Idealize.ShloMosaic.sem_eq_zero_of_no_sems (by decide) r.2⟩)
    (Cert.Reference24Ideal.Value.run (F := Ideal) m g)

/-- The kernel and the reference leave equal results: the summed gradient, the change of the parameter, and the two updated moments. -/
theorem value24 : Cert.algebraic_Kernel24Ideal_Reference24Ideal (hKernel24Ideal := Cert.Kernel24Ideal.Gen.facts)
    (hReference24Ideal := Cert.Reference24Ideal.Gen.facts) := by
  pair_intro
  · run_from Cert.Kernel24Ideal.Value.run (F := Ideal) m g
  · run_from Cert.Reference24Ideal.Value.run m' g'
    · try rw [(hagree c).1, (hagree c).2.1, (hagree c).2.2.1, (hagree c).2.2.2.1, (hagree c).2.2.2.2]
      rfl
    · try rw [(hagree c).1, (hagree c).2.1, (hagree c).2.2.1, (hagree c).2.2.2.1, (hagree c).2.2.2.2]
      rfl
    · try rw [(hagree c).1, (hagree c).2.1, (hagree c).2.2.1, (hagree c).2.2.2.1, (hagree c).2.2.2.2]
      rfl
    · try rw [(hagree c).1, (hagree c).2.1, (hagree c).2.2.1, (hagree c).2.2.2.1, (hagree c).2.2.2.2]
      rfl

end Cert.Proof

end
-- ==== Proof.StepSpec.lean ====
/- The optimiser step at one entry, and the loss of one row. -/
module

public import proofs.«01_k».proof.Proof.FwdSpec

@[expose] public section

noncomputable section

namespace Cert.Adam

open Idealize.ShloMosaic

/-- The two moments after a gradient. -/
def mom (g m : EReal) : EReal := Ideal.ofBits .f32 0x3F666666#32 * m + Ideal.ofBits .f32 0x3DCCCCCD#32 * g
def var (g v : EReal) : EReal := Ideal.ofBits .f32 0x3F7FBE77#32 * v + Ideal.ofBits .f32 0x3A83126F#32 * (g * g)

/-- The parameter's change: the corrected first moment over the root of the corrected second, plus the decay, times the rate. -/
def delta (g w m v : EReal) : EReal :=
  Ideal.ofBits .f32 0xBA83126F#32 * (Ideal.div (Ideal.div (mom g m) (Ideal.ofBits .f32 0x3F26BD02#32))
    (Ideal.sqrt (Ideal.div (var g v) (Ideal.ofBits .f32 0x3C231ACC#32)) + Ideal.ofBits .f32 0x322BCC77#32)
    + Ideal.ofBits .f32 0x3C23D70A#32 * w)

end Cert.Adam

namespace Cert.Loss

open Idealize.ShloMosaic Cert.Norm Cert.Fwd

/-- A row's difference from its target, its mean square, and the gradient of half that mean square. -/
def diff (x g t : Fin 1024 → EReal) (j : Fin 1024) : EReal := normed x g j - t j
def sqm (x g t : Fin 1024 → EReal) : EReal := Ideal.div (∑ j, diff x g t j * diff x g t j) len
def dh (x g t : Fin 1024 → EReal) (j : Fin 1024) : EReal := diff x g t j * (((1 / 1024 : ℝ) : ℝ) : EReal)

theorem inv_len : Ideal.ofBits .f32 0x3A800000#32 = ((1 / 1024 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- Half of one over the length, times twice a difference, is the difference over the length. -/
theorem half_two (d : EReal) : Ideal.div (((1 / 2 : ℝ) : EReal) * ((1 : ℝ) : EReal)) len * (((2 : ℝ) : EReal) * d)
    = d * ((1 / 1024 : ℝ) : EReal) := by
  rw [len_eq, Softmax.div_pos (by norm_num), ← mul_assoc, ← EReal.coe_mul, ← EReal.coe_mul, ← EReal.coe_mul, mul_comm]
  norm_num

end Cert.Loss

end
-- ==== Proof.AdamwE.lean ====
/- The optimiser step of the packed small weights: the eight devices' gradients are added one after the other in the kernel, and as
   one sum in the reference; the rest is the same step at every entry. -/
module

public import proofs.«01_k».proof.Proof.Gen.Kernel25Ideal.Value
public import proofs.«01_k».proof.Proof.Gen.Reference25Ideal.Read
public import proofs.«01_k».proof.Proof.StepSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel25Ideal.AdamwE

open Cert.Kernel25Ideal Cert.Kernel25Ideal.Gen Idealize.ShloMosaic Idealize.ShloMosaic.TcCoe Idealize.SL.Sem
open Cert.Adam

variable (m : (ℓ : Loc nD τ sig) → Buf (Elt Ideal) ℓ) (c : Dev nD)

/-- Grid point `t`'s blocks: the weight, its two moments, and the gradients of every device. -/
abbrev Wb (t : Fin cfg0.N) (i : Fin 208) (j : Fin 1024) : EReal := (show FVec Ideal S208x1024 .f32 from iblk m c 0 t) (ix2 i j)
abbrev Mb (t : Fin cfg0.N) (i : Fin 208) (j : Fin 1024) : EReal := (show FVec Ideal S208x1024 .f32 from iblk m c 1 t) (ix2 i j)
abbrev Vb (t : Fin cfg0.N) (i : Fin 208) (j : Fin 1024) : EReal := (show FVec Ideal S208x1024 .f32 from iblk m c 2 t) (ix2 i j)
abbrev Eb (t : Fin cfg0.N) (d : Fin 8) (i : Fin 208) (j : Fin 1024) : EReal := (show FVec Ideal S8x208x1024 .f32 from iblk m c 3 t) (ix3 d i j)

/-- The sum of the devices' gradients in a block. -/
abbrev Gb (t : Fin cfg0.N) (i : Fin 208) (j : Fin 1024) : EReal := ∑ d, Eb m c t d i j

theorem pay6_at (x0 x1 x2 : Vec Ideal S208x1024 .f32) (x3 : Vec Ideal S8x208x1024 .f32) (i : Fin 208) (j : Fin 1024) :
    k0_pay6 x0 x1 x2 x3 (ix2 i j) = ∑ d : Fin 8, x3 (ix3 d i j) := by
  unfold k0_pay6
  pointwise [k0_pay4]
  rw [Fin.sum_univ_eight]

theorem pay7_at (x0 x1 x2 : Vec Ideal S208x1024 .f32) (x3 : Vec Ideal S8x208x1024 .f32) (i : Fin 208) (j : Fin 1024) :
    k0_pay7 x0 x1 x2 x3 (ix2 i j) = Ideal.ofBits .f32 0x3F666666#32 * x1 (ix2 i j) := by
  unfold k0_pay7
  pointwise [k0_pay5]

/-- A grid point's blocks of the four results. -/
theorem g_block (t : Fin cfg0.N) (y : S208x1024.Idx) : out0_4 (iblk m c 0 t) (iblk m c 1 t) (iblk m c 2 t) (iblk m c 3 t) y = Gb m c t (y 0) (y 1) := by
  idx_vars y
  unfold out0_4; frame_out
  rw [pay6_at]
theorem d_block (t : Fin cfg0.N) (y : S208x1024.Idx) : out0_5 (iblk m c 0 t) (iblk m c 1 t) (iblk m c 2 t) (iblk m c 3 t) y
    = delta (Gb m c t (y 0) (y 1)) (Wb m c t (y 0) (y 1)) (Mb m c t (y 0) (y 1)) (Vb m c t (y 0) (y 1)) := by
  idx_vars y
  unfold out0_5; frame_out
  pointwise [k0_pay3, k0_pay1, k0_pay2]
  rw [pay6_at, pay7_at]
  rfl
theorem m_block (t : Fin cfg0.N) (y : S208x1024.Idx) : out0_6 (iblk m c 0 t) (iblk m c 1 t) (iblk m c 2 t) (iblk m c 3 t) y
    = mom (Gb m c t (y 0) (y 1)) (Mb m c t (y 0) (y 1)) := by
  idx_vars y
  unfold out0_6; frame_out
  pointwise [k0_pay1]
  rw [pay6_at, pay7_at]
  rfl
theorem v_block (t : Fin cfg0.N) (y : S208x1024.Idx) : out0_7 (iblk m c 0 t) (iblk m c 1 t) (iblk m c 2 t) (iblk m c 3 t) y
    = var (Gb m c t (y 0) (y 1)) (Vb m c t (y 0) (y 1)) := by
  idx_vars y
  unfold out0_7; frame_out
  pointwise [k0_pay2]
  rw [pay6_at]
  rfl

/-- The arguments as launched. -/
abbrev Wf (i : Fin 624) (j : Fin 1024) : EReal := (show FVec Ideal S624x1024 .f32 from m ((c : Thread nD τ).loc main_arg0)) (ix2 i j)
abbrev Mf (i : Fin 624) (j : Fin 1024) : EReal := (show FVec Ideal S624x1024 .f32 from m ((c : Thread nD τ).loc main_arg1)) (ix2 i j)
abbrev Vf (i : Fin 624) (j : Fin 1024) : EReal := (show FVec Ideal S624x1024 .f32 from m ((c : Thread nD τ).loc main_arg2)) (ix2 i j)
abbrev Ef (d : Fin 8) (i : Fin 624) (j : Fin 1024) : EReal := (show FVec Ideal S8x624x1024 .f32 from m ((c : Thread nD τ).loc main_arg3)) (ix3 d i j)
abbrev Gf (i : Fin 624) (j : Fin 1024) : EReal := ∑ d, Ef m c d i j

/-- Where every window's block stands at a grid point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] ∧ t.val < 3 :=
  (by decide +kernel : ∀ t : Fin grid0.N, _)

/-- Row `i` of grid point `t`'s block, in the whole array. -/
def row (t : Fin cfg0.N) (i : Fin 208) : Fin 624 := ⟨t.val * 208 + i.val, by have := (idx t).2.2.2.2.2.2.2.2; omega⟩

theorem Wb_eq (t : Fin cfg0.N) : Wb m c t = fun i => Wf m c (row t i) := by
  funext i j; simp only [Wb, Wf, row]; blk_ext [iblk, V_main_arg0, idx t]
theorem Mb_eq (t : Fin cfg0.N) : Mb m c t = fun i => Mf m c (row t i) := by
  funext i j; simp only [Mb, Mf, row]; blk_ext [iblk, V_main_arg1, idx t]
theorem Vb_eq (t : Fin cfg0.N) : Vb m c t = fun i => Vf m c (row t i) := by
  funext i j; simp only [Vb, Vf, row]; blk_ext [iblk, V_main_arg2, idx t]
theorem Eb_eq (t : Fin cfg0.N) : Eb m c t = fun d i => Ef m c d (row t i) := by
  funext d i j; simp only [Eb, Ef, row]; blk_ext [iblk, V_main_arg3, idx t]
theorem Gb_eq (t : Fin cfg0.N) : Gb m c t = fun i => Gf m c (row t i) := by
  funext i j; simp only [Gb, Gf, Eb_eq]

/-- The result: the summed gradient. -/
theorem final_g : (dats m 0 c).arrAt 4 cfg0.N = fun y : S624x1024.Idx => Gf m c (y 0) (y 1) := by
  refine (dats m 0 c).arrAt_eq_of_covers 4 _ (by decide +kernel) fun t _ y => ?_
  blk_simp
  rw [after0_4, g_block, Gb_eq]
  have e0 : ((win0_4.blk t).view.emb y 0 : Fin 624) = row t (y 0) := Fin.ext (by blk_simp [idx t]; rfl)
  have e1 : ((win0_4.blk t).view.emb y 1 : Fin 1024) = y 1 := Fin.ext (by blk_simp [idx t])
  rw [e0, e1]

/-- The result: the change of the parameter. -/
theorem final_d : (dats m 0 c).arrAt 5 cfg0.N = fun y : S624x1024.Idx => delta (Gf m c (y 0) (y 1)) (Wf m c (y 0) (y 1)) (Mf m c (y 0) (y 1)) (Vf m c (y 0) (y 1)) := by
  refine (dats m 0 c).arrAt_eq_of_covers 5 _ (by decide +kernel) fun t _ y => ?_
  blk_simp
  rw [after0_5, d_block, Gb_eq, Wb_eq, Mb_eq, Vb_eq]
  have e0 : ((win0_5.blk t).view.emb y 0 : Fin 624) = row t (y 0) := Fin.ext (by blk_simp [idx t]; rfl)
  have e1 : ((win0_5.blk t).view.emb y 1 : Fin 1024) = y 1 := Fin.ext (by blk_simp [idx t])
  rw [e0, e1]

/-- The result: the first moment. -/
theorem final_m : (dats m 0 c).arrAt 6 cfg0.N = fun y : S624x1024.Idx => mom (Gf m c (y 0) (y 1)) (Mf m c (y 0) (y 1)) := by
  refine (dats m 0 c).arrAt_eq_of_covers 6 _ (by decide +kernel) fun t _ y => ?_
  blk_simp
  rw [after0_6, m_block, Gb_eq, Mb_eq]
  have e0 : ((win0_6.blk t).view.emb y 0 : Fin 624) = row t (y 0) := Fin.ext (by blk_simp [idx t]; rfl)
  have e1 : ((win0_6.blk t).view.emb y 1 : Fin 1024) = y 1 := Fin.ext (by blk_simp [idx t])
  rw [e0, e1]

/-- The result: the second moment. -/
theorem final_v : (dats m 0 c).arrAt 7 cfg0.N = fun y : S624x1024.Idx => var (Gf m c (y 0) (y 1)) (Vf m c (y 0) (y 1)) := by
  refine (dats m 0 c).arrAt_eq_of_covers 7 _ (by decide +kernel) fun t _ y => ?_
  blk_simp
  rw [after0_7, v_block, Gb_eq, Vb_eq]
  have e0 : ((win0_7.blk t).view.emb y 0 : Fin 624) = row t (y 0) := Fin.ext (by blk_simp [idx t]; rfl)
  have e1 : ((win0_7.blk t).view.emb y 1 : Fin 1024) = y 1 := Fin.ext (by blk_simp [idx t])
  rw [e0, e1]

end Cert.Kernel25Ideal.AdamwE

namespace Cert.Reference25Ideal.AdamwE

open Cert.Reference25Ideal Cert.Reference25Ideal.Read Idealize.ShloMosaic Idealize.ShloMosaic.TcCoe
open Cert.Adam

variable (x0 x1 x2 : FVec Ideal S624x1024 .f32) (x3 : FVec Ideal S8x624x1024 .f32)

/-- The reference's summed gradient, moments and change. -/
theorem g_at (i : Fin 624) (j : Fin 1024) : val_main_v0 (F := Ideal) x3 (ix2 i j) = ∑ d : Fin 8, x3 (ix3 d i j) := by
  pointwise [val_main_v0, val_main_cst]
theorem m_at (i : Fin 624) (j : Fin 1024) : val_main_v5 (F := Ideal) x1 x3 (ix2 i j) = mom (∑ d : Fin 8, x3 (ix3 d i j)) (x1 (ix2 i j)) := by
  rw [← g_at]; rfl
theorem v_at (i : Fin 624) (j : Fin 1024) : val_main_v11 (F := Ideal) x2 x3 (ix2 i j) = var (∑ d : Fin 8, x3 (ix3 d i j)) (x2 (ix2 i j)) := by
  rw [← g_at]; rfl
theorem d_at (i : Fin 624) (j : Fin 1024) : val_main_v24 (F := Ideal) x0 x1 x2 x3 (ix2 i j)
    = delta (∑ d : Fin 8, x3 (ix3 d i j)) (x0 (ix2 i j)) (x1 (ix2 i j)) (x2 (ix2 i j)) := by
  rw [← g_at]; rfl

end Cert.Reference25Ideal.AdamwE

end
-- ==== Proof.AdamwEClaim.lean ====
/- The optimiser step of the packed small weights: the reference's frame, and the value claim. -/
module

public import proofs.«01_k».proof.Defs
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.AdamwE
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref25 : Cert.quiescent_Reference25Ideal (hReference25Ideal := Cert.Reference25Ideal.Gen.facts) := by
  intro m g _
  exact (θ_run Cert.Reference25Ideal.defs _ _).mono (fun r h => ⟨fun c => ⟨(h c).2.2.2.2.1, (h c).2.2.2.2.2.1, (h c).2.2.2.2.2.2.1, (h c).2.2.2.2.2.2.2⟩,
      Idealize.ShloMosaic.sem_eq_zero_of_no_sems (by decide) r.2⟩)
    (Cert.Reference25Ideal.Value.run (F := Ideal) m g)

/-- The kernel and the reference leave equal results: the summed gradient, the change of the parameter, and the two updated moments. -/
theorem value25 : Cert.algebraic_Kernel25Ideal_Reference25Ideal (hKernel25Ideal := Cert.Kernel25Ideal.Gen.facts)
    (hReference25Ideal := Cert.Reference25Ideal.Gen.facts) := by
  pair_intro
  · run_from Cert.Kernel25Ideal.Gen.run_main m g
  · refine (θ_run Cert.Reference25Ideal.defs _ _).mono (fun r h c => ⟨(h c).1.trans ?_, (h c).2.1.trans ?_, (h c).2.2.1.trans ?_, (h c).2.2.2.1.trans ?_,
      (h c).2.2.2.2.1, (h c).2.2.2.2.2.1, (h c).2.2.2.2.2.2.1, (h c).2.2.2.2.2.2.2⟩) (Cert.Reference25Ideal.Value.run (F := Ideal) m' g')
    · rw [Cert.Reference25Ideal.Read.val_main_v0_eq]
      try rw [(hagree c).2.2.2]
      refine Eq.trans ?_ (Cert.Kernel25Ideal.AdamwE.final_g m c).symm
      funext y
      rw [eq_ix2 y]
      exact Cert.Reference25Ideal.AdamwE.g_at _ (y 0) (y 1)
    · rw [Cert.Reference25Ideal.Read.val_main_v24_eq]
      try rw [(hagree c).1, (hagree c).2.1, (hagree c).2.2.1, (hagree c).2.2.2]
      refine Eq.trans ?_ (Cert.Kernel25Ideal.AdamwE.final_d m c).symm
      funext y
      rw [eq_ix2 y]
      exact Cert.Reference25Ideal.AdamwE.d_at _ _ _ _ (y 0) (y 1)
    · rw [Cert.Reference25Ideal.Read.val_main_v5_eq]
      try rw [(hagree c).2.1, (hagree c).2.2.2]
      refine Eq.trans ?_ (Cert.Kernel25Ideal.AdamwE.final_m m c).symm
      funext y
      rw [eq_ix2 y]
      exact Cert.Reference25Ideal.AdamwE.m_at _ _ (y 0) (y 1)
    · rw [Cert.Reference25Ideal.Read.val_main_v11_eq]
      try rw [(hagree c).2.2.1, (hagree c).2.2.2]
      refine Eq.trans ?_ (Cert.Kernel25Ideal.AdamwE.final_v m c).symm
      funext y
      rw [eq_ix2 y]
      exact Cert.Reference25Ideal.AdamwE.v_at _ _ (y 0) (y 1)

end Cert.Proof

end
-- ==== Proof.LossHead.lean ====
/- The loss head: what a grid point leaves, the three arrays after the run, the reference's results, and the precondition read. -/
module

public import proofs.«01_k».proof.Proof.Gen.Kernel26Ideal.Value
public import proofs.«01_k».proof.Proof.Gen.Reference26Ideal.Read
public import proofs.«01_k».proof.Proof.StepSpec
public import proofs.«01_k».proof.Pre_finite_out
public import proofs.«01_k».proof.Proof.Finite
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel26Ideal.Loss

open Cert.Kernel26Ideal Cert.Kernel26Ideal.Gen Idealize.ShloMosaic Idealize.ShloMosaic.TcCoe Idealize.SL.Sem
open Cert.Ffn Cert.Norm Cert.Fwd Cert.Loss

variable (m : (ℓ : Loc nD τ sig) → Buf (Elt Ideal) ℓ) (c : Dev nD)

/-- Grid point `t`'s blocks: the rows, the gain, and the rows of the target. -/
abbrev Xb (t : Fin cfg0.N) (i : Fin 512) (j : Fin 1024) : EReal := (show FVec Ideal S512x1024 .f32 from iblk m c 0 t) (ix2 i j)
abbrev Nb (t : Fin cfg0.N) (j : Fin 1024) : EReal := (show FVec Ideal S1x1024 .f32 from iblk m c 1 t) (ix2 0 j)
abbrev Tb (t : Fin cfg0.N) (i : Fin 512) (j : Fin 1024) : EReal := (show FVec Ideal S512x1024 .f32 from iblk m c 2 t) (ix2 i j)

theorem pay5_at (v4 : Vec Ideal S1x1024 .f32) (i : Fin 1) (j : Fin 1024) : k0_pay5 v4 (ix2 i j) = v4 (ix2 0 j) := by
  rw [Subsingleton.elim i 0]
  pointwise [k0_pay5]

theorem pay6_at (v3 : Vec Ideal S512x1024 .f32) (i : Fin 512) : k0_pay6 v3 (ix2 i 0) = rs (fun k => v3 (ix2 i k)) := by
  pointwise [k0_pay6]; simp only [rs, ms, len, eps]

theorem pay7_at (v3 : Vec Ideal S512x1024 .f32) (i : Fin 512) (j : Fin 1024) :
    k0_pay7 v3 (ix2 i j) = v3 (ix2 i j) * rs (fun k => v3 (ix2 i k)) := by
  pointwise [k0_pay7]; rw [pay6_at]

theorem pay8_at (v3 : Vec Ideal S512x1024 .f32) (v4 : Vec Ideal S1x1024 .f32) (v18 : Vec Ideal S512x1024 .f32) (i : Fin 512) (j : Fin 1024) :
    k0_pay8 v3 v4 v18 (ix2 i j) = diff (fun k => v3 (ix2 i k)) (fun k => v4 (ix2 0 k)) (fun k => v18 (ix2 i k)) j := by
  pointwise [k0_pay8]; rw [pay7_at, pay5_at]; simp only [diff, normed]

theorem pay10_at (v3 : Vec Ideal S512x1024 .f32) (v4 : Vec Ideal S1x1024 .f32) (v18 : Vec Ideal S512x1024 .f32) (i : Fin 512) (j : Fin 1024) :
    k0_pay10 v3 v4 v18 (ix2 i j) = dh (fun k => v3 (ix2 i k)) (fun k => v4 (ix2 0 k)) (fun k => v18 (ix2 i k)) j := by
  pointwise [k0_pay10]; rw [pay8_at]; simp only [dh, inv_len]

theorem pay9_at (v3 : Vec Ideal S512x1024 .f32) (v4 : Vec Ideal S1x1024 .f32) (v18 : Vec Ideal S512x1024 .f32) (v25 : Vec Ideal S1x128 .f32)
    (i0 : Fin 1) (l : Fin 128) : k0_pay9 v3 v4 v18 v25 (ix2 i0 l)
    = v25 (ix2 i0 l) + ((1 / 2 : ℝ) : EReal) * ∑ i : Fin 512, sqm (fun k => v3 (ix2 i k)) (fun k => v4 (ix2 0 k)) (fun k => v18 (ix2 i k)) := by
  pointwise [k0_pay9]; simp only [pay8_at, sqm, len, half_hi]

theorem pay2_at (v5 : FVec Ideal S1x1024 .f32) (v13 : FVec Ideal S512x1 .f32) (v15 v36 : FVec Ideal S512x1024 .f32) (i : Fin 512) (j : Fin 1024) :
    k0_pay2 v5 v13 v15 v36 (ix2 i j) = v13 (ix2 i 0) * (v36 (ix2 i j) * v5 (ix2 0 j)
      - v15 (ix2 i j) * Ideal.div (∑ k, v36 (ix2 i k) * v5 (ix2 0 k) * v15 (ix2 i k)) len) := by
  pointwise [k0_pay2]; simp only [len]

theorem pay1_at (v15 v36 : FVec Ideal S512x1024 .f32) (v37 : Vec Ideal S1x1024 .f32) (i0 : Fin 1) (j : Fin 1024) :
    k0_pay1 v15 v36 v37 (ix2 i0 j) = v37 (ix2 i0 j) + ∑ i : Fin 512, v36 (ix2 i j) * v15 (ix2 i j) := by
  pointwise [k0_pay1]

/-- A grid point's block of the input's gradient. -/
theorem dx_block (t : Fin cfg0.N) (y : S512x1024.Idx) : (outsAt0 m c t.val t.isLt).2.1 y
    = dnorm (Xb m c t (y 0)) (Nb m c t) (dh (Xb m c t (y 0)) (Nb m c t) (Tb m c t (y 0))) (y 1) := by
  idx_vars y
  by_cases h0 : t.val % 16 = 0
  · rw [outsAt0_A m c t h0]
    frame_out
    rw [pay2_at]
    simp only [pay5_at, pay6_at, pay7_at, pay10_at, dnorm]
  · rw [outsAt0_B m c t h0]
    frame_out
    rw [pay2_at]
    simp only [pay5_at, pay6_at, pay7_at, pay10_at, dnorm]

/-- A block's part of the loss, and of the gain's gradient. -/
def lpart (t : Fin cfg0.N) : EReal := ((1 / 2 : ℝ) : EReal) * ∑ i : Fin 512, sqm (Xb m c t i) (Nb m c t) (Tb m c t i)
def gpart (t : Fin cfg0.N) (j : Fin 1024) : EReal :=
  ∑ i : Fin 512, dh (Xb m c t i) (Nb m c t) (Tb m c t i) j * (Xb m c t i j * rs (Xb m c t i))

/-- The first grid point leaves its part of the loss; a later one adds its part to what the point before left. -/
theorem loss_first (t : Fin cfg0.N) (h0 : t.val % 16 = 0) (y : S1x128.Idx) : (outsAt0 m c t.val t.isLt).1 y = lpart m c t := by
  idx_vars y
  rw [outsAt0_A m c t h0]
  frame_out
  rw [pay9_at]
  pointwise [k0_pay3]
  simp only [lpart, zero_add, Xb, Nb, Tb]
theorem loss_step (t : Fin cfg0.N) (h0 : ¬t.val % 16 = 0) (y : S1x128.Idx) : (outsAt0 m c t.val t.isLt).1 y
    = (outsAt0 m c (t.val - 1) (Nat.lt_of_le_of_lt (Nat.sub_le _ _) t.isLt)).1 y + lpart m c t := by
  idx_vars y
  rw [outsAt0_B m c t h0]
  frame_out
  rw [pay9_at]
  simp only [lpart, Xb, Nb, Tb]

/-- The gain's gradient, likewise. -/
theorem gain_first (t : Fin cfg0.N) (h0 : t.val % 16 = 0) (y : S1x1024.Idx) : (outsAt0 m c t.val t.isLt).2.2 y = gpart m c t (y 1) := by
  idx_vars y
  rw [outsAt0_A m c t h0]
  frame_out
  rw [pay1_at]
  pointwise [k0_pay4]
  simp only [pay7_at, pay10_at, gpart, zero_add, Xb, Nb, Tb]
theorem gain_step (t : Fin cfg0.N) (h0 : ¬t.val % 16 = 0) (y : S1x1024.Idx) : (outsAt0 m c t.val t.isLt).2.2 y
    = (outsAt0 m c (t.val - 1) (Nat.lt_of_le_of_lt (Nat.sub_le _ _) t.isLt)).2.2 y + gpart m c t (y 1) := by
  idx_vars y
  rw [outsAt0_B m c t h0]
  frame_out
  rw [pay1_at]
  simp only [pay7_at, pay10_at, gpart, Xb, Nb, Tb]

/-- The arguments as launched. -/
abbrev Xf (i : Fin 8192) (j : Fin 1024) : EReal := (show FVec Ideal S8192x1024 .f32 from m ((c : Thread nD τ).loc main_arg0)) (ix2 i j)
abbrev Nf (j : Fin 1024) : EReal := (show FVec Ideal S1024 .f32 from m ((c : Thread nD τ).loc main_arg1)) (ix1 j)
abbrev Tf (i : Fin 8192) (j : Fin 1024) : EReal := (show FVec Ideal S8192x1024 .f32 from m ((c : Thread nD τ).loc main_arg2)) (ix2 i j)

/-- Where every window's block stands at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ t.val < 16 :=
  (by decide +kernel : ∀ t : Fin grid0.N, _)

/-- Row `i` of grid point `t`'s block, in the whole array. -/
def row (t : Fin cfg0.N) (i : Fin 512) : Fin 8192 := ⟨t.val * 512 + i.val, by have := (idx t).2.2.2.2.2.2; omega⟩

theorem Xb_eq (t : Fin cfg0.N) : Xb m c t = fun i => Xf m c (row t i) := by
  funext i j; simp only [Xb, Xf, row]; blk_ext [iblk, V_main_arg0, idx t]
theorem Tb_eq (t : Fin cfg0.N) : Tb m c t = fun i => Tf m c (row t i) := by
  funext i j; simp only [Tb, Tf, row]; blk_ext [iblk, V_main_arg2, idx t]
/-- The gain, which a host line reshapes to one row. -/
theorem Nb_eq (t : Fin cfg0.N) : Nb m c t = Nf m c := by
  funext j
  simp only [Nb, Nf]
  blk_simp [iblk, idx t]
  entry_read
  pointwise
  exact congrArg (m (c.tc.loc main_arg1)) (congrArg ix1 (Fin.ext (by blk_simp [idx t])))

/-- The second result: the input's gradient. -/
theorem final_dx : (dats m 0 c).arrAt 4 cfg0.N = fun y : S8192x1024.Idx =>
    dnorm (Xf m c (y 0)) (Nf m c) (dh (Xf m c (y 0)) (Nf m c) (Tf m c (y 0))) (y 1) := by
  refine (dats m 0 c).arrAt_eq_of_covers 4 _ (by decide +kernel) fun t _ y => ?_
  blk_simp
  rw [after0_4, dx_block, Xb_eq, Tb_eq, Nb_eq]
  have e0 : ((win0_4.blk t).view.emb y 0 : Fin 8192) = row t (y 0) := Fin.ext (by blk_simp [idx t]; rfl)
  have e1 : ((win0_4.blk t).view.emb y 1 : Fin 1024) = y 1 := Fin.ext (by blk_simp [idx t])
  rw [e0, e1]

/-- A sum over the grid points and a block's rows is one over all the rows. -/
theorem row_sum (f : Fin 8192 → EReal) : ∑ t : Fin cfg0.N, ∑ i : Fin 512, f (row t i) = ∑ i, f i :=
  Fin.sum_mul_add_congr (S := cfg0.N) (n := 512) (fun _ _ _ => rfl) rfl

/-- The grid points' parts of the gain's gradient add up to the sum over all the rows, and those of the loss likewise. -/
theorem gpart_sum (k : Fin 1024) : ∑ t : Fin cfg0.N, gpart m c t k
    = ∑ i : Fin 8192, dh (Xf m c i) (Nf m c) (Tf m c i) k * (Xf m c i k * rs (Xf m c i)) := by
  rw [← row_sum fun i => dh (Xf m c i) (Nf m c) (Tf m c i) k * (Xf m c i k * rs (Xf m c i))]
  refine Finset.sum_congr rfl fun t _ => Finset.sum_congr rfl fun i _ => ?_
  rw [Xb_eq, Tb_eq, Nb_eq]
theorem lpart_sum : ∑ t : Fin cfg0.N, lpart m c t
    = ((1 / 2 : ℝ) : EReal) * ∑ i : Fin 8192, sqm (Xf m c i) (Nf m c) (Tf m c i) := by
  rw [← row_sum fun i => sqm (Xf m c i) (Nf m c) (Tf m c i), Softmax.coe_mul_sum _ (by norm_num)]
  refine Finset.sum_congr rfl fun t _ => ?_
  rw [lpart, Xb_eq, Tb_eq, Nb_eq]

/-- The first result: the loss, on every lane. -/
theorem final_loss : (dats m 0 c).arrAt 3 cfg0.N = fun _ : S1x128.Idx =>
    ((1 / 2 : ℝ) : EReal) * ∑ i : Fin 8192, sqm (Xf m c i) (Nf m c) (Tf m c i) := by
  refine (dats m 0 c).arrAt_eq_of_after_last 3 t0_15 (by decide +kernel) _ fun j => ?_
  blk_simp
  rw [after0_3, Pipeline.eq_sum_fin_of_reset_step_apply_last (fun n h => (outsAt0 m c n h).1) 16 (fun _ => 0)
    (fun t _ => lpart m c t) (fun t h y => by rw [zero_add]; exact loss_first m c t h y) (fun t h y => loss_step m c t h y)
    (le_of_eq N_0) t0_15 rfl, zero_add]
  exact lpart_sum m c

/-- The third result: the gain's gradient, summed over all the rows. -/
theorem final_gain : (dats m 0 c).arrAt 5 cfg0.N = fun y : S1x1024.Idx =>
    ∑ i : Fin 8192, dh (Xf m c i) (Nf m c) (Tf m c i) (y 1) * (Xf m c i (y 1) * rs (Xf m c i)) := by
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => 0)
    (fun t y => gpart m c t (y 1)) (fun t h y => by rw [zero_add]; exact gain_first m c t h y) (fun t h y => gain_step m c t h y)
    (le_of_eq N_0) t0_15 rfl, zero_add]
  exact gpart_sum m c (j 1)

end Cert.Kernel26Ideal.Loss

namespace Cert.Reference26Ideal.Loss

open Cert.Reference26Ideal Cert.Reference26Ideal.Read Idealize.ShloMosaic Idealize.ShloMosaic.TcCoe
open Cert.Ffn Cert.Norm Cert.Fwd Cert.Loss Cert.Softmax

variable (x0 : FVec Ideal S8192x1024 .f32) (x1 : FVec Ideal S1024 .f32) (x2 : FVec Ideal S8192x1024 .f32)

/-- A row of the last layer's output, the gain, and a row of the target. -/
abbrev xr (i : Fin 8192) (k : Fin 1024) : EReal := x0 (ix2 i k)
abbrev gn (k : Fin 1024) : EReal := x1 (ix1 k)
abbrev tr (i : Fin 8192) (k : Fin 1024) : EReal := x2 (ix2 i k)

theorem v6_at (i : Fin 8192) : val_main_v6 (F := Ideal) x0 (ix2 i 0) = ms (xr x0 i) := by
  pointwise [val_main_v6, val_main_v5, val_main_cst_1, val_main_v4, val_main_v3, val_main_cst_0, val_main_v2, val_main_v1, val_main_cst, val_main_v0]
  simp only [ms, len, eps, xr]

theorem v7_at (i : Fin 8192) : val_main_v7 (F := Ideal) x0 (ix2 i 0) = rs (xr x0 i) := by
  pointwise [val_main_v7]; simp only [v6_at, rs]

theorem v10_at (i : Fin 8192) : val_main_v10 (F := Ideal) x0 (ix2 i 0)
    = ((-(1 / 2) : ℝ) : EReal) * Ideal.div (rs (xr x0 i)) (ms (xr x0 i)) := by
  pointwise [val_main_v10, val_main_v9, val_main_cst_2, val_main_v8]; simp only [v6_at, v7_at, neg_half]

theorem v12_at (i : Fin 8192) (j : Fin 1024) : val_main_v12 (F := Ideal) x0 (ix2 i j) = xr x0 i j * rs (xr x0 i) := by
  pointwise [val_main_v12, val_main_v11]; simp only [v7_at, xr]

theorem v16_at (i : Fin 8192) (j : Fin 1024) : val_main_v16 (F := Ideal) x0 x1 x2 (ix2 i j) = diff (xr x0 i) (gn x1) (tr x2 i) j := by
  pointwise [val_main_v16, val_main_v15, val_main_v14, val_main_v13]; simp only [v12_at, diff, normed, xr, gn, tr]

/-- The loss: half the sum of the rows' mean squares, on every lane. -/
theorem loss_at (y : S1x128.Idx) : val_main_v51 (F := Ideal) x0 x1 x2 y
    = ((1 / 2 : ℝ) : EReal) * ∑ i, sqm (xr x0 i) (gn x1) (tr x2 i) := by
  pointwise [val_main_v51, val_main_v24, val_main_cst_7, val_main_v23, val_main_cst_6, val_main_v22, val_main_v21, val_main_cst_5, val_main_v20,
    val_main_cst_4, val_main_v17]
  simp only [v16_at, sqm, len, half_hi]

theorem v30_at (i : Fin 8192) (j : Fin 1024) : val_main_v30 (F := Ideal) x0 x1 x2 (ix2 i j) = dh (xr x0 i) (gn x1) (tr x2 i) j := by
  pointwise [val_main_v30, val_main_v29, val_main_v28, val_main_v27, val_main_cst_10, val_main_v26, val_main_v25, val_main_cst_9, val_main_cst_8,
    val_main_v19, val_main_v18, val_main_cst_3]
  simp only [v16_at, half_hi, one_eq, two_eq, dh]
  rw [← half_two, EReal.coe_one, mul_one, len]

theorem v35_at (i : Fin 8192) (j : Fin 1024) : val_main_v35 (F := Ideal) x0 x1 x2 (ix2 i j) = dh (xr x0 i) (gn x1) (tr x2 i) j * gn x1 j := by
  pointwise [val_main_v35, val_main_v34, val_main_v13]; simp only [v30_at, gn]

theorem v42_at (i : Fin 8192) : val_main_v42 (F := Ideal) x0 x1 x2 (ix2 i 0)
    = (∑ k, xr x0 i k * (dh (xr x0 i) (gn x1) (tr x2 i) k * gn x1 k))
      * (((-(1 / 2) : ℝ) : EReal) * Ideal.div (rs (xr x0 i)) (ms (xr x0 i))) := by
  pointwise [val_main_v42, val_main_v39, val_main_v38, val_main_cst_13, val_main_v37]; simp only [v35_at, v10_at, xr]

theorem v46_at (i : Fin 8192) (j : Fin 1024) : val_main_v46 (F := Ideal) x0 x1 x2 (ix2 i j)
    = dms (xr x0 i) (gn x1) (dh (xr x0 i) (gn x1) (tr x2 i)) := by
  pointwise [val_main_v46, val_main_v45, val_main_cst_15, val_main_v44, val_main_v43, val_main_cst_14]
  rw [Fin.sum_univ_one]; simp only [v42_at, dms, len]

/-- The input's gradient, where the input is finite. -/
theorem dx_at (hx : ∀ i j, Fin' (x0 (ix2 i j))) (i : Fin 8192) (j : Fin 1024) : val_main_v50 (F := Ideal) x0 x1 x2 (ix2 i j)
    = dnorm (xr x0 i) (gn x1) (dh (xr x0 i) (gn x1) (tr x2 i)) j := by
  rw [← zero_add (dnorm _ _ _ _), ← dnorm_eq (fun k => hx i k), zero_add]
  pointwise [val_main_v50, val_main_v49, val_main_v48, val_main_v47, val_main_v41, val_main_v40]
  simp only [v46_at, v35_at, v7_at, xr]

/-- The gain's gradient. -/
theorem gain_at (i : Fin 1) (j : Fin 1024) : val_main_v52 (F := Ideal) x0 x1 x2 (ix2 i j)
    = ∑ i, dh (xr x0 i) (gn x1) (tr x2 i) j * (xr x0 i j * rs (xr x0 i)) := by
  pointwise [val_main_v52, val_main_v36, val_main_cst_12, val_main_v33, val_main_v32, val_main_cst_11, val_main_v31]
  rw [Fin.sum_univ_one]
  simp only [v12_at, v30_at]
  exact Finset.sum_congr rfl fun _ _ => mul_comm _ _

end Cert.Reference26Ideal.Loss

namespace Cert.LossP

open Idealize.ShloMosaic Idealize.ShloMosaic.TcCoe Cert.Pre_finite_out Cert.Finite Cert.Softmax

/-- The predicate's side conditions. -/
theorem facts : Cert.Pre_finite_out.Facts where
  bcast_S_S8192x1024 := by decide
  reducesTo_S8192x1024_S_d0_1 := by decide
  h_S_ := by decide

/-- Under the precondition the last layer's output is finite. -/
theorem fin_x [Facts] (x0 : FVec Ideal S8192x1024 .f32) (x1 : FVec Ideal S1024 .f32) (x2 : FVec Ideal S8192x1024 .f32)
    (h : fn (F := Ideal) x0 x1 x2 = fun _ => 1#1) (i : Fin 8192) (j : Fin 1024) : Fin' (x0 (ix2 i j)) := by
  unfold fn at h
  exact fin_of_abs (reduce_andi _ _ _ _ h (ix2 i j))

end Cert.LossP

end
-- ==== Proof.LossHeadClaim.lean ====
/- The loss head: the reference's frame, and the value claim. -/
module

public import proofs.«01_k».proof.Defs
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.LossHead
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref26 : Cert.quiescent_Reference26Ideal (hReference26Ideal := Cert.Reference26Ideal.Gen.facts) := by
  intro m g _
  exact (θ_run Cert.Reference26Ideal.defs _ _).mono (fun r h => ⟨fun c => ⟨(h c).2.2.2.1, (h c).2.2.2.2.1, (h c).2.2.2.2.2⟩,
      Idealize.ShloMosaic.sem_eq_zero_of_no_sems (by decide) r.2⟩)
    (Cert.Reference26Ideal.Value.run (F := Ideal) m g)

/-- The kernel and the reference leave equal results wherever the last layer's output is finite. -/
theorem value26 : Cert.algebraic_Kernel26Ideal_Reference26Ideal_pre_finite_out (hKernel26Ideal := Cert.Kernel26Ideal.Gen.facts)
    (hReference26Ideal := Cert.Reference26Ideal.Gen.facts) (hPre_finite_out := Cert.LossP.facts) := by
  haveI := Cert.LossP.facts
  pair_intro
  · run_from Cert.Kernel26Ideal.Gen.run_main m g
  · run_from Cert.Reference26Ideal.Value.run m' g'
    · rw [Cert.Reference26Ideal.Read.val_main_v51_eq]
      try rw [(hagree c).1, (hagree c).2.1, (hagree c).2.2]
      refine Eq.trans ?_ (Cert.Kernel26Ideal.Loss.final_loss m c).symm
      funext y
      exact Cert.Reference26Ideal.Loss.loss_at _ _ _ y
    · rw [Cert.Reference26Ideal.Read.val_main_v50_eq]
      try rw [(hagree c).1, (hagree c).2.1, (hagree c).2.2]
      refine Eq.trans ?_ (Cert.Kernel26Ideal.Loss.final_dx m c).symm
      funext y
      idx_vars y
      exact Cert.Reference26Ideal.Loss.dx_at _ _ _ (fun i j => Cert.LossP.fin_x _ _ _ (hpre c) i j) _ _
    · rw [Cert.Reference26Ideal.Read.val_main_v52_eq]
      try rw [(hagree c).1, (hagree c).2.1, (hagree c).2.2]
      refine Eq.trans ?_ (Cert.Kernel26Ideal.Loss.final_gain m c).symm
      funext y
      idx_vars y
      exact Cert.Reference26Ideal.Loss.gain_at _ _ _ _ _

end Cert.Proof

end
-- ==== Proof.MemNorm.lean ====
/- The memory's gradient: the product with the projection held transposed, then the derivative of the memory's norm, in one grid point. -/
module

public import proofs.«01_k».proof.Proof.Gen.Kernel27Ideal.Value
public import proofs.«01_k».proof.Proof.Gen.Reference27Ideal.Read
public import proofs.«01_k».proof.Proof.FwdSpec
public import proofs.«01_k».proof.Pre_finite_mem
public import proofs.«01_k».proof.Proof.Finite
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel27Ideal.MemNorm

open Cert.Kernel27Ideal Cert.Kernel27Ideal.Gen Idealize.ShloMosaic Idealize.ShloMosaic.TcCoe Idealize.SL.Sem
open Cert.Norm Cert.Fwd

variable (m : (ℓ : Loc nD τ sig) → Buf (Elt Ideal) ℓ) (c : Dev nD)

/-- The grid point's blocks: the gradient of the keys and values, the projection, the memory and the gain. -/
abbrev Db (t : Fin cfg0.N) (i : Fin 256) (j : Fin 1024) : EReal := (show FVec Ideal S256x1024 .f32 from iblk m c 0 t) (ix2 i j)
abbrev Pb (t : Fin cfg0.N) (i j : Fin 1024) : EReal := (show FVec Ideal S1024x1024 .bf16 from iblk m c 1 t) (ix2 i j)
abbrev Xb (t : Fin cfg0.N) (i : Fin 256) (j : Fin 1024) : EReal := (show FVec Ideal S256x1024 .f32 from iblk m c 2 t) (ix2 i j)
abbrev Nb (t : Fin cfg0.N) (j : Fin 1024) : EReal := (show FVec Ideal S1x1024 .f32 from iblk m c 3 t) (ix2 0 j)

theorem pay2_at (v0 : Vec Ideal S1024x1024 .bf16) (v1 : Vec Ideal S256x1024 .f32) (i : Fin 256) (j : Fin 1024) :
    k0_pay2 v0 v1 (ix2 i j) = dotT (fun f => v1 (ix2 i f)) (fun j f => v0 (ix2 j f)) j := by
  pointwise [k0_pay2]; simp only [dotT]

theorem pay3_at (v4 : Vec Ideal S256x1024 .f32) (i : Fin 256) : k0_pay3 v4 (ix2 i 0) = rs (fun k => v4 (ix2 i k)) := by
  pointwise [k0_pay3]; simp only [rs, ms, len, eps]

theorem pay4_at (v4 : Vec Ideal S256x1024 .f32) (i : Fin 256) (j : Fin 1024) :
    k0_pay4 v4 (ix2 i j) = v4 (ix2 i j) * rs (fun k => v4 (ix2 i k)) := by
  pointwise [k0_pay4]; rw [pay3_at]

theorem pay5_at (v0 : Vec Ideal S1024x1024 .bf16) (v1 v4 : Vec Ideal S256x1024 .f32) (v15 : Vec Ideal S1x1024 .f32) (i : Fin 256) (j : Fin 1024) :
    k0_pay5 v0 v1 v4 v15 (ix2 i j) = dnorm (fun k => v4 (ix2 i k)) (fun k => v15 (ix2 0 k))
      (dotT (fun f => v1 (ix2 i f)) (fun j f => v0 (ix2 j f))) j := by
  pointwise [k0_pay5]; simp only [pay2_at, pay3_at, pay4_at, dnorm, len]

theorem pay7_at (v0 : Vec Ideal S1024x1024 .bf16) (v1 v4 : Vec Ideal S256x1024 .f32) (i0 : Fin 1) (j : Fin 1024) : k0_pay7 v0 v1 v4 (ix2 i0 j)
    = ∑ i : Fin 256, dotT (fun f => v1 (ix2 i f)) (fun j f => v0 (ix2 j f)) j * (v4 (ix2 i j) * rs (fun k => v4 (ix2 i k))) := by
  pointwise [k0_pay7]; simp only [pay2_at, pay4_at]

/-- The grid point's three blocks. -/
theorem dx_block (t : Fin cfg0.N) (y : S256x1024.Idx) : (outsAt0 m c t).1 y
    = dnorm (Xb m c t (y 0)) (Nb m c t) (dotT (Db m c t (y 0)) (Pb m c t)) (y 1) := by
  idx_vars y
  unfold outsAt0
  frame_out
  rw [pay5_at]
theorem lo_block (t : Fin cfg0.N) (y : S256x1024.Idx) : (outsAt0 m c t).2.1 y
    = dnorm (Xb m c t (y 0)) (Nb m c t) (dotT (Db m c t (y 0)) (Pb m c t)) (y 1) := by
  idx_vars y
  unfold outsAt0
  frame_out
  pointwise [k0_pay6]
  rw [pay5_at]
theorem gain_block (t : Fin cfg0.N) (y : S1x1024.Idx) : (outsAt0 m c t).2.2 y
    = ∑ i : Fin 256, dotT (Db m c t i) (Pb m c t) (y 1) * (Xb m c t i (y 1) * rs (Xb m c t i)) := by
  idx_vars y
  unfold outsAt0
  frame_out
  rw [pay7_at]

/-- The arguments as launched. -/
abbrev Df (i : Fin 256) (j : Fin 1024) : EReal := (show FVec Ideal S256x1024 .f32 from m ((c : Thread nD τ).loc main_arg0)) (ix2 i j)
abbrev Pf (i j : Fin 1024) : EReal := (show FVec Ideal S1024x1024 .bf16 from m ((c : Thread nD τ).loc main_arg1)) (ix2 i j)
abbrev Xf (i : Fin 256) (j : Fin 1024) : EReal := (show FVec Ideal S256x1024 .f32 from m ((c : Thread nD τ).loc main_arg2)) (ix2 i j)
abbrev Nf (j : Fin 1024) : EReal := (show FVec Ideal S1024 .f32 from m ((c : Thread nD τ).loc main_arg3)) (ix1 j)

/-- Where every window's block stands. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem Db_eq (t : Fin cfg0.N) : Db m c t = Df m c := by
  funext i j; simp only [Db, Df]; blk_ext [iblk, V_main_arg0, idx t]
theorem Pb_eq (t : Fin cfg0.N) : Pb m c t = Pf m c := by
  funext i j; simp only [Pb, Pf]; blk_ext [iblk, V_main_arg1, idx t]
theorem Xb_eq (t : Fin cfg0.N) : Xb m c t = Xf m c := by
  funext i j; simp only [Xb, Xf]; blk_ext [iblk, V_main_arg2, idx t]
/-- The gain, which a host line reshapes to one row. -/
theorem Nb_eq (t : Fin cfg0.N) : Nb m c t = Nf m c := by
  funext j
  simp only [Nb, Nf]
  blk_simp [iblk, idx t]
  entry_read
  pointwise
  exact congrArg (m (c.tc.loc main_arg3)) (congrArg ix1 (Fin.ext (by blk_simp [idx t])))

/-- The three results: the memory's gradient, the same in the narrower format, and the gain's gradient. -/
theorem final_dx : (dats m 0 c).arrAt 4 cfg0.N = fun y : S256x1024.Idx =>
    dnorm (Xf m c (y 0)) (Nf m c) (dotT (Df m c (y 0)) (Pf m c)) (y 1) := by
  refine (dats m 0 c).arrAt_eq_of_covers 4 _ (by decide +kernel) fun t _ y => ?_
  blk_simp
  rw [after0_4, dx_block, Db_eq, Pb_eq, Xb_eq, Nb_eq]
  have e0 : ((win0_4.blk t).view.emb y 0 : Fin 256) = y 0 := Fin.ext (by blk_simp [idx t])
  have e1 : ((win0_4.blk t).view.emb y 1 : Fin 1024) = y 1 := Fin.ext (by blk_simp [idx t])
  rw [e0, e1]
theorem final_lo : (dats m 0 c).arrAt 5 cfg0.N = fun y : S256x1024.Idx =>
    dnorm (Xf m c (y 0)) (Nf m c) (dotT (Df m c (y 0)) (Pf m c)) (y 1) := by
  refine (dats m 0 c).arrAt_eq_of_covers 5 _ (by decide +kernel) fun t _ y => ?_
  blk_simp
  rw [after0_5, lo_block, Db_eq, Pb_eq, Xb_eq, Nb_eq]
  have e0 : ((win0_5.blk t).view.emb y 0 : Fin 256) = y 0 := Fin.ext (by blk_simp [idx t])
  have e1 : ((win0_5.blk t).view.emb y 1 : Fin 1024) = y 1 := Fin.ext (by blk_simp [idx t])
  rw [e0, e1]
theorem final_gain : (dats m 0 c).arrAt 6 cfg0.N = fun y : S1x1024.Idx =>
    ∑ i : Fin 256, dotT (Df m c i) (Pf m c) (y 1) * (Xf m c i (y 1) * rs (Xf m c i)) := by
  refine (dats m 0 c).arrAt_eq_of_covers 6 _ (by decide +kernel) fun t _ y => ?_
  blk_simp
  rw [after0_6, gain_block, Db_eq, Pb_eq, Xb_eq]
  have e1 : ((win0_6.blk t).view.emb y 1 : Fin 1024) = y 1 := Fin.ext (by blk_simp [idx t])
  rw [e1]

end Cert.Kernel27Ideal.MemNorm

namespace Cert.Reference27Ideal.MemNorm

open Cert.Reference27Ideal Cert.Reference27Ideal.Read Idealize.ShloMosaic Idealize.ShloMosaic.TcCoe
open Cert.Norm Cert.Fwd Cert.Softmax

variable (x0 : FVec Ideal S256x1024 .f32) (x1 : FVec Ideal S1024x1024 .bf16) (x2 : FVec Ideal S256x1024 .f32) (x3 : FVec Ideal S1024 .f32)

/-- A row of the memory; the gain; the normed row's gradient. -/
abbrev xr (i : Fin 256) (k : Fin 1024) : EReal := x2 (ix2 i k)
abbrev gn (k : Fin 1024) : EReal := x3 (ix1 k)
abbrev hr (i : Fin 256) : Fin 1024 → EReal := dotT (fun f => x0 (ix2 i f)) (fun j f => x1 (ix2 j f))

theorem v6_at (i : Fin 256) : val_main_v6 (F := Ideal) x2 (ix2 i 0) = ms (xr x2 i) := by
  pointwise [val_main_v6, val_main_v5, val_main_cst_1, val_main_v4, val_main_v3, val_main_cst_0, val_main_v2, val_main_v1, val_main_cst, val_main_v0]
  simp only [ms, len, eps, xr]

theorem v7_at (i : Fin 256) : val_main_v7 (F := Ideal) x2 (ix2 i 0) = rs (xr x2 i) := by
  pointwise [val_main_v7]; simp only [v6_at, rs]

theorem v10_at (i : Fin 256) : val_main_v10 (F := Ideal) x2 (ix2 i 0)
    = ((-(1 / 2) : ℝ) : EReal) * Ideal.div (rs (xr x2 i)) (ms (xr x2 i)) := by
  pointwise [val_main_v10, val_main_v9, val_main_cst_2, val_main_v8]; simp only [v6_at, v7_at, neg_half]

theorem v12_at (i : Fin 256) (j : Fin 1024) : val_main_v12 (F := Ideal) x2 (ix2 i j) = xr x2 i j * rs (xr x2 i) := by
  pointwise [val_main_v12, val_main_v11]; simp only [v7_at, xr]

theorem v18_at (i : Fin 256) (j : Fin 1024) : val_main_v18 (F := Ideal) x0 x1 (ix2 i j) = hr x0 x1 i j := by
  pointwise [val_main_v18, val_main_v16]
  simp only [hr, dotT]

theorem v23_at (i : Fin 256) (j : Fin 1024) : val_main_v23 (F := Ideal) x0 x1 x3 (ix2 i j) = hr x0 x1 i j * gn x3 j := by
  pointwise [val_main_v23, val_main_v22, val_main_v13]; simp only [v18_at, gn]

theorem v30_at (i : Fin 256) : val_main_v30 (F := Ideal) x0 x1 x2 x3 (ix2 i 0)
    = (∑ k, xr x2 i k * (hr x0 x1 i k * gn x3 k)) * (((-(1 / 2) : ℝ) : EReal) * Ideal.div (rs (xr x2 i)) (ms (xr x2 i))) := by
  pointwise [val_main_v30, val_main_v27, val_main_v26, val_main_cst_5, val_main_v25]; simp only [v23_at, v10_at, xr]

theorem v34_at (i : Fin 256) (j : Fin 1024) : val_main_v34 (F := Ideal) x0 x1 x2 x3 (ix2 i j) = dms (xr x2 i) (gn x3) (hr x0 x1 i) := by
  pointwise [val_main_v34, val_main_v33, val_main_cst_7, val_main_v32, val_main_v31, val_main_cst_6]
  rw [Fin.sum_univ_one]; simp only [v30_at, dms, len]

/-- The memory's gradient, where the memory is finite. -/
theorem dx_at (hx : ∀ i j, Fin' (x2 (ix2 i j))) (i : Fin 256) (j : Fin 1024) : val_main_v38 (F := Ideal) x0 x1 x2 x3 (ix2 i j)
    = dnorm (xr x2 i) (gn x3) (hr x0 x1 i) j := by
  rw [← zero_add (dnorm _ _ _ _), ← dnorm_eq (fun k => hx i k), zero_add]
  pointwise [val_main_v38, val_main_v37, val_main_v36, val_main_v35, val_main_v29, val_main_v28]
  simp only [v34_at, v23_at, v7_at, xr]

/-- The same, in the narrower format. -/
theorem lo_at (hx : ∀ i j, Fin' (x2 (ix2 i j))) (i : Fin 256) (j : Fin 1024) : val_main_v39 (F := Ideal) x0 x1 x2 x3 (ix2 i j)
    = dnorm (xr x2 i) (gn x3) (hr x0 x1 i) j := by
  rw [← dx_at x0 x1 x2 x3 hx]
  pointwise [val_main_v39]

/-- The gain's gradient. -/
theorem gain_at (i : Fin 1) (j : Fin 1024) : val_main_v40 (F := Ideal) x0 x1 x2 (ix2 i j)
    = ∑ i, hr x0 x1 i j * (xr x2 i j * rs (xr x2 i)) := by
  pointwise [val_main_v40, val_main_v24, val_main_cst_4, val_main_v21, val_main_v20, val_main_cst_3, val_main_v19]
  rw [Fin.sum_univ_one]
  simp only [v12_at, v18_at]
  exact Finset.sum_congr rfl fun _ _ => mul_comm _ _

end Cert.Reference27Ideal.MemNorm

namespace Cert.MemNP

open Idealize.ShloMosaic Idealize.ShloMosaic.TcCoe Cert.Pre_finite_mem Cert.Finite Cert.Softmax

/-- The predicate's side conditions. -/
theorem facts : Cert.Pre_finite_mem.Facts where
  bcast_S_S256x1024 := by decide
  reducesTo_S256x1024_S_d0_1 := by decide
  h_S_ := by decide

/-- Under the precondition the memory is finite. -/
theorem fin_x [Facts] (x0 : FVec Ideal S256x1024 .f32) (x1 : FVec Ideal S1024x1024 .bf16) (x2 : FVec Ideal S256x1024 .f32)
    (x3 : FVec Ideal S1024 .f32) (h : fn (F := Ideal) x0 x1 x2 x3 = fun _ => 1#1) (i : Fin 256) (j : Fin 1024) : Fin' (x2 (ix2 i j)) := by
  unfold fn at h
  exact fin_of_abs (reduce_andi _ _ _ _ h (ix2 i j))

end Cert.MemNP

end
-- ==== Proof.MemNormClaim.lean ====
/- The memory's norm: the reference's frame, and the value claim. -/
module

public import proofs.«01_k».proof.Defs
public import proofs.«01_k».proof.Proof.Gen.Kernel27Ideal
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.MemNorm
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref27 : Cert.quiescent_Reference27Ideal (hReference27Ideal := Cert.Reference27Ideal.Gen.facts) := by
  intro m g _
  exact (θ_run Cert.Reference27Ideal.defs _ _).mono (fun r h => ⟨fun c => ⟨(h c).2.2.2.1, (h c).2.2.2.2.1, (h c).2.2.2.2.2.1, (h c).2.2.2.2.2.2⟩,
      Idealize.ShloMosaic.sem_eq_zero_of_no_sems (by decide) r.2⟩)
    (Cert.Reference27Ideal.Value.run (F := Ideal) m g)

/-- The kernel and the reference leave equal results wherever the memory is finite. -/
theorem value27 : Cert.algebraic_Kernel27Ideal_Reference27Ideal_pre_finite_mem (hKernel27Ideal := Cert.Kernel27Ideal.Gen.facts)
    (hReference27Ideal := Cert.Reference27Ideal.Gen.facts) (hPre_finite_mem := Cert.MemNP.facts) := by
  haveI := Cert.MemNP.facts
  pair_intro
  · run_from Cert.Kernel27Ideal.Gen.run_main m g
  · run_from Cert.Reference27Ideal.Value.run m' g'
    · rw [Cert.Reference27Ideal.Read.val_main_v38_eq]
      try rw [(hagree c).1, (hagree c).2.1, (hagree c).2.2.1, (hagree c).2.2.2]
      refine Eq.trans ?_ (Cert.Kernel27Ideal.MemNorm.final_dx m c).symm
      funext y
      idx_vars y
      exact Cert.Reference27Ideal.MemNorm.dx_at _ _ _ _ (fun i j => Cert.MemNP.fin_x _ _ _ _ (hpre c) i j) _ _
    · rw [Cert.Reference27Ideal.Read.val_main_v39_eq]
      try rw [(hagree c).1, (hagree c).2.1, (hagree c).2.2.1, (hagree c).2.2.2]
      refine Eq.trans ?_ (Cert.Kernel27Ideal.MemNorm.final_lo m c).symm
      funext y
      idx_vars y
      exact Cert.Reference27Ideal.MemNorm.lo_at _ _ _ _ (fun i j => Cert.MemNP.fin_x _ _ _ _ (hpre c) i j) _ _
    · rw [Cert.Reference27Ideal.Read.val_main_v40_eq]
      try rw [(hagree c).1, (hagree c).2.1, (hagree c).2.2.1]
      refine Eq.trans ?_ (Cert.Kernel27Ideal.MemNorm.final_gain m c).symm
      funext y
      idx_vars y
      exact Cert.Reference27Ideal.MemNorm.gain_at _ _ _ _ _

end Cert.Proof

end
-- ==== Proof.DwMemKv.lean ====
/- The gradient of the memory's key and value projection: one tile holds every row of the memory, so the kernel and the reference
   contract the same rows. -/
module

public import proofs.«01_k».proof.Proof.Gen.Kernel28Ideal.Value
public import proofs.«01_k».proof.Proof.Gen.Reference28Ideal.Read
public import proofs.«01_k».proof.Proof.FwdSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel28Ideal.DwMemKv

open Cert.Kernel28Ideal Cert.Kernel28Ideal.Gen Idealize.ShloMosaic Idealize.ShloMosaic.TcCoe Idealize.SL.Sem

variable (m : (ℓ : Loc nD τ sig) → Buf (Elt Ideal) ℓ) (c : Dev nD)

/-- The tile's contraction at an index. -/
theorem pay1_at (y : S1024x1024.Idx) (b : Vec Ideal S256x1024 .f32) (a : Vec Ideal S256x1024 .bf16) :
    k0_pay1 (F := Ideal) b a y = ∑ l : Fin 256, a (ix2 l (y 0)) * b (ix2 l (y 1)) := by
  pointwise [k0_pay1]

/-- The grid point's blocks of the two. -/
abbrev Gb (t : Fin cfg0.N) (i : Fin 256) (j : Fin 1024) : EReal := (show FVec Ideal S256x1024 .bf16 from iblk m c 0 t) (ix2 i j)
abbrev Hb (t : Fin cfg0.N) (i : Fin 256) (j : Fin 1024) : EReal := (show FVec Ideal S256x1024 .f32 from iblk m c 1 t) (ix2 i j)

/-- The normed memory and the gradient as launched. -/
abbrev Gf (i : Fin 256) (j : Fin 1024) : EReal := (show FVec Ideal S256x1024 .bf16 from m ((c : Thread nD τ).loc main_arg0)) (ix2 i j)
abbrev Hf (i : Fin 256) (j : Fin 1024) : EReal := (show FVec Ideal S256x1024 .f32 from m ((c : Thread nD τ).loc main_arg1)) (ix2 i j)

/-- The one grid point's array. -/
theorem block (t : Fin cfg0.N) (y : S1024x1024.Idx) : outsAt0 m c t y
    = ∑ l : Fin 256, Gb m c t l (y 0) * Hb m c t l (y 1) := by
  unfold outsAt0
  frame_out
  pointwise [k0_pay4, k0_pay2]
  exact pay1_at y _ _

/-- Where every window's block stands. -/
theorem idx : ∀ t : Fin cfg0.N, win0_0.index t = ![0, 0] ∧ win0_1.index t = ![0, 0] ∧ win0_2.index t = ![0, 0] :=
  (by decide +kernel : ∀ t : Fin grid0.N, _)

theorem Gb_eq (t : Fin cfg0.N) : Gb m c t = Gf m c := by
  funext i j; simp only [Gb, Gf]; blk_ext [iblk, V_main_arg0, idx t]
theorem Hb_eq (t : Fin cfg0.N) : Hb m c t = Hf m c := by
  funext i j; simp only [Hb, Hf]; blk_ext [iblk, V_main_arg1, idx t]

/-- The kernel's array: at every row and column of the weight, the sum over the rows of the memory. -/
theorem final : (dats m 0 c).arrAt 2 cfg0.N = fun y : S1024x1024.Idx =>
    ∑ t : Fin 256, Gf m c t (y 0) * Hf m c t (y 1) := by
  refine (dats m 0 c).arrAt_eq_of_covers 2 _ (by decide +kernel) fun t _ y => ?_
  blk_simp
  rw [after0_2, block, Gb_eq, Hb_eq]
  have e0 : ((win0_2.blk t).view.emb y 0 : Fin 1024) = y 0 := Fin.ext (by blk_simp [idx t])
  have e1 : ((win0_2.blk t).view.emb y 1 : Fin 1024) = y 1 := Fin.ext (by blk_simp [idx t])
  rw [e0, e1]

end Cert.Kernel28Ideal.DwMemKv

namespace Cert.Reference28Ideal.DwMemKv

open Cert.Reference28Ideal Cert.Reference28Ideal.Read Idealize.ShloMosaic Idealize.ShloMosaic.TcCoe

/-- The reference's result at an index. -/
theorem ref_at (x0 : FVec Ideal S256x1024 .bf16) (x1 : FVec Ideal S256x1024 .f32) (y : S1024x1024.Idx) :
    val_main_v5 (F := Ideal) x0 x1 y = ∑ t : Fin 256, x0 (ix2 t (y 0)) * x1 (ix2 t (y 1)) := by
  pointwise [val_main_v5, val_main_v4, val_main_v3, val_main_v1]
  exact Finset.sum_congr rfl fun t _ => mul_comm _ _

end Cert.Reference28Ideal.DwMemKv

end
-- ==== Proof.DwMemKvClaim.lean ====
/- The memory's key and value projection's gradient: the reference's frame, and the value claim. -/
module

public import proofs.«01_k».proof.Defs
public import proofs.«01_k».proof.Proof.Gen.Kernel28Ideal
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.DwMemKv
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref28 : Cert.quiescent_Reference28Ideal (hReference28Ideal := Cert.Reference28Ideal.Gen.facts) := by
  intro m g _
  exact (θ_run Cert.Reference28Ideal.defs _ _).mono (fun r h => ⟨fun c => ⟨(h c).2.1, (h c).2.2⟩,
      Idealize.ShloMosaic.sem_eq_zero_of_no_sems (by decide) r.2⟩)
    (Cert.Reference28Ideal.Value.run (F := Ideal) m g)

/-- The kernel and the reference leave equal results. -/
theorem value28 : Cert.algebraic_Kernel28Ideal_Reference28Ideal (hKernel28Ideal := Cert.Kernel28Ideal.Gen.facts)
    (hReference28Ideal := Cert.Reference28Ideal.Gen.facts) := by
  pair_intro
  · run_from Cert.Kernel28Ideal.Gen.run_main m g
  · run_from Cert.Reference28Ideal.Value.run m' g'
    rw [Cert.Reference28Ideal.Read.val_main_v5_eq]
    try rw [(hagree c).1, (hagree c).2]
    refine Eq.trans ?_ (Cert.Kernel28Ideal.DwMemKv.final m c).symm
    funext y
    exact Cert.Reference28Ideal.DwMemKv.ref_at _ _ y

end Cert.Proof

end
-- ==== Proof.MemKv.lean ====
/- The memory's key and value projection: one tile holds the whole product, in the kernel as in the reference. -/
module

public import proofs.«01_k».proof.Proof.Gen.Kernel29Ideal.Value
public import proofs.«01_k».proof.Proof.Gen.Reference29Ideal.Read
public import proofs.«01_k».proof.Proof.FwdSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel29Ideal.MemKv

open Cert.Kernel29Ideal Cert.Kernel29Ideal.Gen Idealize.ShloMosaic Idealize.ShloMosaic.TcCoe
open Cert.Fwd

/-- The kernel's product at an index. -/
theorem ker_at (a : Vec Ideal S256x1024 .bf16) (b : Vec Ideal S1024x1024 .bf16) (y : S256x1024.Idx) :
    k0_pay1 (F := Ideal) a b y = ∑ l : Fin 1024, a (ix2 (y 0) l) * b (ix2 l (y 1)) := by
  pointwise [k0_pay1]

end Cert.Kernel29Ideal.MemKv

namespace Cert.Reference29Ideal.MemKv

open Cert.Reference29Ideal Cert.Reference29Ideal.Read Idealize.ShloMosaic Idealize.ShloMosaic.TcCoe

/-- The reference's product at an index. -/
theorem ref_at (x0 : FVec Ideal S256x1024 .bf16) (x1 : FVec Ideal S1024x1024 .bf16) (y : S256x1024.Idx) :
    val_main_v2 (F := Ideal) x0 x1 y = ∑ l : Fin 1024, x0 (ix2 (y 0) l) * x1 (ix2 l (y 1)) := by
  pointwise [val_main_v2, val_main_v1, val_main_v0]

end Cert.Reference29Ideal.MemKv

end
-- ==== Proof.MemKvClaim.lean ====
/- The memory's key and value projection: the reference's frame, and the value claim. -/
module

public import proofs.«01_k».proof.Defs
public import proofs.«01_k».proof.Proof.Gen.Kernel29Ideal
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.MemKv
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref29 : Cert.quiescent_Reference29Ideal (hReference29Ideal := Cert.Reference29Ideal.Gen.facts) := by
  intro m g _
  exact (θ_run Cert.Reference29Ideal.defs _ _).mono (fun r h => ⟨fun c => ⟨(h c).2.1, (h c).2.2⟩,
      Idealize.ShloMosaic.sem_eq_zero_of_no_sems (by decide) r.2⟩)
    (Cert.Reference29Ideal.Value.run (F := Ideal) m g)

/-- The kernel and the reference leave equal results. -/
theorem value29 : Cert.algebraic_Kernel29Ideal_Reference29Ideal (hKernel29Ideal := Cert.Kernel29Ideal.Gen.facts)
    (hReference29Ideal := Cert.Reference29Ideal.Gen.facts) := by
  pair_intro
  · run_from Cert.Kernel29Ideal.Value.run (F := Ideal) m g
  · run_from Cert.Reference29Ideal.Value.run m' g'
    try rw [(hagree c).1, (hagree c).2]
    exact funext fun y => (Cert.Reference29Ideal.MemKv.ref_at _ _ y).trans (Cert.Kernel29Ideal.MemKv.ker_at _ _ y).symm

end Cert.Proof

end
-- ==== Proof.RmsX.lean ====
/- The first norm of a half-step: what a grid point leaves, the array after the run, and the reference's result. -/
module

public import proofs.«01_k».proof.Proof.Gen.Kernel30Ideal.Value
public import proofs.«01_k».proof.Proof.Gen.Reference30Ideal.Read
public import proofs.«01_k».proof.Proof.FwdSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel30Ideal.RmsX

open Cert.Kernel30Ideal Cert.Kernel30Ideal.Gen Idealize.ShloMosaic Idealize.ShloMosaic.TcCoe Idealize.SL.Sem
open Cert.Norm Cert.Fwd

variable (m : (ℓ : Loc nD τ sig) → Buf (Elt Ideal) ℓ) (c : Dev nD)

/-- Grid point `t`'s blocks: the rows and the gain. -/
abbrev Xb (t : Fin cfg0.N) (i : Fin 512) (j : Fin 1024) : EReal := (show FVec Ideal S512x1024 .f32 from iblk m c 0 t) (ix2 i j)
abbrev Nb (t : Fin cfg0.N) (j : Fin 1024) : EReal := (show FVec Ideal S1x1024 .f32 from iblk m c 1 t) (ix2 0 j)

theorem pay1_at (v0 : Vec Ideal S512x1024 .f32) (v11 : Vec Ideal S1x1024 .f32) (i : Fin 512) (j : Fin 1024) :
    k0_pay1 v0 v11 (ix2 i j) = normed (fun k => v0 (ix2 i k)) (fun k => v11 (ix2 0 k)) j := by
  pointwise [k0_pay1]; simp only [normed, rs, ms, len, eps]

/-- A grid point's block of the normed rows. -/
theorem h_block (t : Fin cfg0.N) (y : S512x1024.Idx) : out0_2 (iblk m c 0 t) (iblk m c 1 t) y
    = normed (Xb m c t (y 0)) (Nb m c t) (y 1) := by
  idx_vars y
  unfold out0_2; frame_out
  rw [pay1_at]

/-- The arguments as launched. -/
abbrev Xf (i : Fin 8192) (j : Fin 1024) : EReal := (show FVec Ideal S8192x1024 .f32 from m ((c : Thread nD τ).loc main_arg0)) (ix2 i j)
abbrev Nf (j : Fin 1024) : EReal := (show FVec Ideal S1024 .f32 from m ((c : Thread nD τ).loc main_arg1)) (ix1 j)

/-- Where every window's block stands at a grid point. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

/-- Row `i` of grid point `t`'s block, in the whole array. -/
def row (t : Fin cfg0.N) (i : Fin 512) : Fin 8192 := ⟨t.val * 512 + i.val, by have := (idx t).2.2.2; omega⟩

theorem Xb_eq (t : Fin cfg0.N) : Xb m c t = fun i => Xf m c (row t i) := by
  funext i j; simp only [Xb, Xf, row]; blk_ext [iblk, V_main_arg0, idx t]
/-- The gain, which a host line reshapes to one row. -/
theorem Nb_eq (t : Fin cfg0.N) : Nb m c t = Nf m c := by
  funext j; simp only [Nb, Nf]
  blk_simp [iblk, idx t]
  entry_read
  pointwise
  exact congrArg (m (c.tc.loc main_arg1)) (congrArg ix1 (Fin.ext (by blk_simp [idx t])))

/-- The result: the normed rows. -/
theorem final_h : (dats m 0 c).arrAt 2 cfg0.N = fun y : S8192x1024.Idx => normed (Xf m c (y 0)) (Nf m c) (y 1) := by
  refine (dats m 0 c).arrAt_eq_of_covers 2 _ (by decide +kernel) fun t _ y => ?_
  blk_simp
  rw [after0_2, h_block, Xb_eq, Nb_eq]
  have e0 : ((win0_2.blk t).view.emb y 0 : Fin 8192) = row t (y 0) := Fin.ext (by blk_simp [idx t]; rfl)
  have e1 : ((win0_2.blk t).view.emb y 1 : Fin 1024) = y 1 := Fin.ext (by blk_simp [idx t])
  rw [e0, e1]

end Cert.Kernel30Ideal.RmsX

namespace Cert.Reference30Ideal.RmsX

open Cert.Reference30Ideal Cert.Reference30Ideal.Read Idealize.ShloMosaic Idealize.ShloMosaic.TcCoe
open Cert.Norm Cert.Fwd

variable (x0 : FVec Ideal S8192x1024 .f32) (x1 : FVec Ideal S1024 .f32)

/-- A row's factor, and the reference's normed rows. -/
theorem v7_at (i : Fin 8192) : val_main_v7 (F := Ideal) x0 (ix2 i 0) = rs (fun k => x0 (ix2 i k)) := by
  pointwise [val_main_v7, val_main_v6, val_main_v5, val_main_cst_1, val_main_v4, val_main_v3, val_main_cst_0, val_main_v2, val_main_v1, val_main_cst, val_main_v0]
  simp only [rs, ms, len, eps]
theorem v13_at (i : Fin 8192) (j : Fin 1024) : val_main_v13 (F := Ideal) x0 x1 (ix2 i j) = normed (fun k => x0 (ix2 i k)) (fun k => x1 (ix1 k)) j := by
  pointwise [val_main_v13, val_main_v12, val_main_v11, val_main_v10, val_main_v9, val_main_v8]; simp only [v7_at, normed]

end Cert.Reference30Ideal.RmsX

end
-- ==== Proof.RmsXClaim.lean ====
/- The first norm of a half-step: the reference's frame, and the value claim. -/
module

public import proofs.«01_k».proof.Defs
public import proofs.«01_k».proof.Proof.Gen.Kernel30Ideal
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.RmsX
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref30 : Cert.quiescent_Reference30Ideal (hReference30Ideal := Cert.Reference30Ideal.Gen.facts) := by
  intro m g _
  exact (θ_run Cert.Reference30Ideal.defs _ _).mono (fun r h => ⟨fun c => ⟨(h c).2.1, (h c).2.2⟩,
      Idealize.ShloMosaic.sem_eq_zero_of_no_sems (by decide) r.2⟩)
    (Cert.Reference30Ideal.Value.run (F := Ideal) m g)

/-- The kernel and the reference leave equal results. -/
theorem value30 : Cert.algebraic_Kernel30Ideal_Reference30Ideal (hKernel30Ideal := Cert.Kernel30Ideal.Gen.facts)
    (hReference30Ideal := Cert.Reference30Ideal.Gen.facts) := by
  pair_intro
  · run_from Cert.Kernel30Ideal.Gen.run_main m g
  · run_from Cert.Reference30Ideal.Value.run m' g'
    rw [Cert.Reference30Ideal.Read.val_main_v13_eq]
    try rw [(hagree c).1, (hagree c).2]
    refine Eq.trans ?_ (Cert.Kernel30Ideal.RmsX.final_h m c).symm
    funext y
    rw [eq_ix2 y]
    exact Cert.Reference30Ideal.RmsX.v13_at _ _ (y 0) (y 1)

end Cert.Proof

end
-- ==== Proof.RmsMem.lean ====
/- The norm of the memory: what a grid point leaves, the array after the run, and the reference's result. -/
module

public import proofs.«01_k».proof.Proof.Gen.Kernel31Ideal.Value
public import proofs.«01_k».proof.Proof.Gen.Reference31Ideal.Read
public import proofs.«01_k».proof.Proof.FwdSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel31Ideal.RmsMem

open Cert.Kernel31Ideal Cert.Kernel31Ideal.Gen Idealize.ShloMosaic Idealize.ShloMosaic.TcCoe Idealize.SL.Sem
open Cert.Norm Cert.Fwd

variable (m : (ℓ : Loc nD τ sig) → Buf (Elt Ideal) ℓ) (c : Dev nD)

/-- Grid point `t`'s blocks: the rows and the gain. -/
abbrev Xb (t : Fin cfg0.N) (i : Fin 256) (j : Fin 1024) : EReal := (show FVec Ideal S256x1024 .f32 from iblk m c 0 t) (ix2 i j)
abbrev Nb (t : Fin cfg0.N) (j : Fin 1024) : EReal := (show FVec Ideal S1x1024 .f32 from iblk m c 1 t) (ix2 0 j)

theorem pay1_at (v0 : Vec Ideal S256x1024 .f32) (v11 : Vec Ideal S1x1024 .f32) (i : Fin 256) (j : Fin 1024) :
    k0_pay1 v0 v11 (ix2 i j) = normed (fun k => v0 (ix2 i k)) (fun k => v11 (ix2 0 k)) j := by
  pointwise [k0_pay1]; simp only [normed, rs, ms, len, eps]

/-- A grid point's block of the normed rows. -/
theorem h_block (t : Fin cfg0.N) (y : S256x1024.Idx) : out0_2 (iblk m c 0 t) (iblk m c 1 t) y
    = normed (Xb m c t (y 0)) (Nb m c t) (y 1) := by
  idx_vars y
  unfold out0_2; frame_out
  rw [pay1_at]

/-- The arguments as launched. -/
abbrev Xf (i : Fin 256) (j : Fin 1024) : EReal := (show FVec Ideal S256x1024 .f32 from m ((c : Thread nD τ).loc main_arg0)) (ix2 i j)
abbrev Nf (j : Fin 1024) : EReal := (show FVec Ideal S1024 .f32 from m ((c : Thread nD τ).loc main_arg1)) (ix1 j)

/-- Where every window's block stands at a grid point. -/
theorem idx : ∀ t : Fin cfg0.N, win0_0.index t = ![0, 0] ∧ win0_1.index t = ![0, 0] ∧ win0_2.index t = ![0, 0] :=
  (by decide +kernel : ∀ t : Fin grid0.N, _)

theorem Xb_eq (t : Fin cfg0.N) : Xb m c t = Xf m c := by
  funext i j; simp only [Xb, Xf]; blk_ext [iblk, V_main_arg0, idx t]
/-- The gain, which a host line reshapes to one row. -/
theorem Nb_eq (t : Fin cfg0.N) : Nb m c t = Nf m c := by
  funext j; simp only [Nb, Nf]
  blk_simp [iblk, idx t]
  entry_read
  pointwise
  exact congrArg (m (c.tc.loc main_arg1)) (congrArg ix1 (Fin.ext (by blk_simp [idx t])))

/-- The result: the normed rows. -/
theorem final_h : (dats m 0 c).arrAt 2 cfg0.N = fun y : S256x1024.Idx => normed (Xf m c (y 0)) (Nf m c) (y 1) := by
  refine (dats m 0 c).arrAt_eq_of_covers 2 _ (by decide +kernel) fun t _ y => ?_
  blk_simp
  rw [after0_2, h_block, Xb_eq, Nb_eq]
  have e0 : ((win0_2.blk t).view.emb y 0 : Fin 256) = y 0 := Fin.ext (by blk_simp [idx t])
  have e1 : ((win0_2.blk t).view.emb y 1 : Fin 1024) = y 1 := Fin.ext (by blk_simp [idx t])
  rw [e0, e1]

end Cert.Kernel31Ideal.RmsMem

namespace Cert.Reference31Ideal.RmsMem

open Cert.Reference31Ideal Cert.Reference31Ideal.Read Idealize.ShloMosaic Idealize.ShloMosaic.TcCoe
open Cert.Norm Cert.Fwd

variable (x0 : FVec Ideal S256x1024 .f32) (x1 : FVec Ideal S1024 .f32)

/-- A row's factor, and the reference's normed rows. -/
theorem v7_at (i : Fin 256) : val_main_v7 (F := Ideal) x0 (ix2 i 0) = rs (fun k => x0 (ix2 i k)) := by
  pointwise [val_main_v7, val_main_v6, val_main_v5, val_main_cst_1, val_main_v4, val_main_v3, val_main_cst_0, val_main_v2, val_main_v1, val_main_cst, val_main_v0]
  simp only [rs, ms, len, eps]
theorem v13_at (i : Fin 256) (j : Fin 1024) : val_main_v13 (F := Ideal) x0 x1 (ix2 i j) = normed (fun k => x0 (ix2 i k)) (fun k => x1 (ix1 k)) j := by
  pointwise [val_main_v13, val_main_v12, val_main_v11, val_main_v10, val_main_v9, val_main_v8]; simp only [v7_at, normed]

end Cert.Reference31Ideal.RmsMem

end
-- ==== Proof.RmsMemClaim.lean ====
/- The norm of the memory: the reference's frame, and the value claim. -/
module

public import proofs.«01_k».proof.Defs
public import proofs.«01_k».proof.Proof.Gen.Kernel31Ideal
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.RmsMem
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref31 : Cert.quiescent_Reference31Ideal (hReference31Ideal := Cert.Reference31Ideal.Gen.facts) := by
  intro m g _
  exact (θ_run Cert.Reference31Ideal.defs _ _).mono (fun r h => ⟨fun c => ⟨(h c).2.1, (h c).2.2⟩,
      Idealize.ShloMosaic.sem_eq_zero_of_no_sems (by decide) r.2⟩)
    (Cert.Reference31Ideal.Value.run (F := Ideal) m g)

/-- The kernel and the reference leave equal results. -/
theorem value31 : Cert.algebraic_Kernel31Ideal_Reference31Ideal (hKernel31Ideal := Cert.Kernel31Ideal.Gen.facts)
    (hReference31Ideal := Cert.Reference31Ideal.Gen.facts) := by
  pair_intro
  · run_from Cert.Kernel31Ideal.Gen.run_main m g
  · run_from Cert.Reference31Ideal.Value.run m' g'
    rw [Cert.Reference31Ideal.Read.val_main_v13_eq]
    try rw [(hagree c).1, (hagree c).2]
    refine Eq.trans ?_ (Cert.Kernel31Ideal.RmsMem.final_h m c).symm
    funext y
    rw [eq_ix2 y]
    exact Cert.Reference31Ideal.RmsMem.v13_at _ _ (y 0) (y 1)

end Cert.Proof

end
-- ==== Proof.PartsFfn.lean ====
/- The four chips' parts of the gradient of a half-step weight added up: what a grid point leaves, the array after the run, and the reference's result. -/
module

public import proofs.«01_k».proof.Proof.Gen.Kernel32Ideal.Value
public import proofs.«01_k».proof.Proof.Gen.Reference32Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel32Ideal.PartsFfn

open Cert.Kernel32Ideal Cert.Kernel32Ideal.Gen Idealize.ShloMosaic Idealize.ShloMosaic.TcCoe Idealize.SL.Sem

variable (m : (ℓ : Loc nD τ sig) → Buf (Elt Ideal) ℓ) (c : Dev nD)

/-- Four blocks, each one chip's part, add up. -/
theorem pay1_at (u v w x : Vec Ideal S1x352x1024 .bf16) (i : Fin 352) (j : Fin 1024) :
    k0_pay1 u v w x (ix2 i j) = u (ix3 0 i j) + v (ix3 0 i j) + w (ix3 0 i j) + x (ix3 0 i j) := by
  pointwise [k0_pay1]
theorem pay2_at (u v w x : Vec Ideal S1x352x1024 .bf16) (i : Fin 352) (j : Fin 1024) :
    k0_pay2 u v w x (ix2 i j) = u (ix3 0 i j) + v (ix3 0 i j) + w (ix3 0 i j) + x (ix3 0 i j) := by
  pointwise [k0_pay2]
theorem pay3_at (u v w x : Vec Ideal S1x352x1024 .bf16) (i : Fin 352) (j : Fin 1024) :
    k0_pay3 u v w x (ix2 i j) = u (ix3 0 i j) + v (ix3 0 i j) + w (ix3 0 i j) + x (ix3 0 i j) := by
  pointwise [k0_pay3]
theorem pay4_at (u v w x : Vec Ideal S1x352x1024 .bf16) (i : Fin 352) (j : Fin 1024) :
    k0_pay4 u v w x (ix2 i j) = u (ix3 0 i j) + v (ix3 0 i j) + w (ix3 0 i j) + x (ix3 0 i j) := by
  pointwise [k0_pay4]

/-- One layer's four parts, as launched. -/
abbrev A0 (k : Fin 4) (i : Fin 704) (j : Fin 1024) : EReal := (show FVec Ideal S4x704x1024 .bf16 from m ((c : Thread nD τ).loc main_arg0)) (ix3 k i j)
abbrev A1 (k : Fin 4) (i : Fin 704) (j : Fin 1024) : EReal := (show FVec Ideal S4x704x1024 .bf16 from m ((c : Thread nD τ).loc main_arg1)) (ix3 k i j)
abbrev A2 (k : Fin 4) (i : Fin 704) (j : Fin 1024) : EReal := (show FVec Ideal S4x704x1024 .bf16 from m ((c : Thread nD τ).loc main_arg2)) (ix3 k i j)
abbrev A3 (k : Fin 4) (i : Fin 704) (j : Fin 1024) : EReal := (show FVec Ideal S4x704x1024 .bf16 from m ((c : Thread nD τ).loc main_arg3)) (ix3 k i j)

/-- A layer's parts, by the layer. -/
def parts (l : Fin 4) : Fin 4 → Fin 704 → Fin 1024 → EReal := ![A0 m c, A1 m c, A2 m c, A3 m c] l

/-- Where every window's block stands at a grid point: a layer's own block is the point's while the layer is being summed. -/
theorem idx : ∀ t : Fin cfg0.N, (t.val / 2 = 0 → win0_0.index t = ![0, t.val % 2, 0]) ∧ (t.val / 2 = 1 → win0_1.index t = ![0, t.val % 2, 0])
    ∧ (t.val / 2 = 2 → win0_2.index t = ![0, t.val % 2, 0]) ∧ (t.val / 2 = 3 → win0_3.index t = ![0, t.val % 2, 0])
    ∧ win0_4.index t = ![t.val, 0] ∧ t.val < 8 :=
  (by decide +kernel : ∀ t : Fin grid0.N, _)

/-- A grid point's layer, and row `i` of its block in the layer. -/
def lay (t : Fin cfg0.N) : Fin 4 := ⟨t.val / 2, by have := (idx t).2.2.2.2.2; omega⟩
def row (t : Fin cfg0.N) (i : Fin 352) : Fin 704 := ⟨t.val % 2 * 352 + i.val, by omega⟩

theorem b0_at (t : Fin cfg0.N) (ht : t.val / 2 = 0) (k : Fin 4) (i : Fin 352) (j : Fin 1024) :
    (show FVec Ideal S4x352x1024 .bf16 from iblk m c 0 t) (ix3 k i j) = A0 m c k (row t i) j := by
  have e := (idx t).1 ht
  simp only [A0, row]; blk_ext [iblk, V_main_arg0, e]
theorem b1_at (t : Fin cfg0.N) (ht : t.val / 2 = 1) (k : Fin 4) (i : Fin 352) (j : Fin 1024) :
    (show FVec Ideal S4x352x1024 .bf16 from iblk m c 1 t) (ix3 k i j) = A1 m c k (row t i) j := by
  have e := (idx t).2.1 ht
  simp only [A1, row]; blk_ext [iblk, V_main_arg1, e]
theorem b2_at (t : Fin cfg0.N) (ht : t.val / 2 = 2) (k : Fin 4) (i : Fin 352) (j : Fin 1024) :
    (show FVec Ideal S4x352x1024 .bf16 from iblk m c 2 t) (ix3 k i j) = A2 m c k (row t i) j := by
  have e := (idx t).2.2.1 ht
  simp only [A2, row]; blk_ext [iblk, V_main_arg2, e]
theorem b3_at (t : Fin cfg0.N) (ht : t.val / 2 = 3) (k : Fin 4) (i : Fin 352) (j : Fin 1024) :
    (show FVec Ideal S4x352x1024 .bf16 from iblk m c 3 t) (ix3 k i j) = A3 m c k (row t i) j := by
  have e := (idx t).2.2.2.1 ht
  simp only [A3, row]; blk_ext [iblk, V_main_arg3, e]

/-- One chip's part of a block of four. -/
theorem ld0_at (x : Vec Ideal S4x352x1024 .bf16) (i : Fin 352) (j : Fin 1024) :
    View.ld x (Rect.unit ![0, 0, 0] ![1, 352, 1024] inb_S4x352x1024_S1x352x1024_0_0_0) (ix3 0 i j) = x (ix3 0 i j) := by
  pointwise
  blk_ext []
theorem ld1_at (x : Vec Ideal S4x352x1024 .bf16) (i : Fin 352) (j : Fin 1024) :
    View.ld x (Rect.unit ![1, 0, 0] ![1, 352, 1024] inb_S4x352x1024_S1x352x1024_1_0_0) (ix3 0 i j) = x (ix3 1 i j) := by
  pointwise
  blk_ext []
theorem ld2_at (x : Vec Ideal S4x352x1024 .bf16) (i : Fin 352) (j : Fin 1024) :
    View.ld x (Rect.unit ![2, 0, 0] ![1, 352, 1024] inb_S4x352x1024_S1x352x1024_2_0_0) (ix3 0 i j) = x (ix3 2 i j) := by
  pointwise
  blk_ext []
theorem ld3_at (x : Vec Ideal S4x352x1024 .bf16) (i : Fin 352) (j : Fin 1024) :
    View.ld x (Rect.unit ![3, 0, 0] ![1, 352, 1024] inb_S4x352x1024_S1x352x1024_3_0_0) (ix3 0 i j) = x (ix3 3 i j) := by
  pointwise
  blk_ext []

/-- A grid point's block: its layer's four parts added up. -/
theorem o0_block (t : Fin cfg0.N) (h : t.val / 2 = 0) (i : Fin 352) (j : Fin 1024) :
    outsAt0 m c t.val t.isLt (ix2 i j) = ∑ k, A0 m c k (row t i) j := by
  have hN := (idx t).2.2.2.2.2
  rw [Fin.sum_univ_four, outsAt0_A m c t (by omega) (by omega) (by omega) (by omega)]; frame_out
  rw [pay1_at, ld0_at, ld1_at, ld2_at, ld3_at]
  simp only [← b0_at m c t h]
theorem o1_block (t : Fin cfg0.N) (h : t.val / 2 = 1) (i : Fin 352) (j : Fin 1024) :
    outsAt0 m c t.val t.isLt (ix2 i j) = ∑ k, A1 m c k (row t i) j := by
  have hN := (idx t).2.2.2.2.2
  rw [Fin.sum_univ_four, outsAt0_B m c t (by omega) (by omega) (by omega) (by omega)]; frame_out
  rw [pay2_at, ld0_at, ld1_at, ld2_at, ld3_at]
  simp only [← b1_at m c t h]
theorem o2_block (t : Fin cfg0.N) (h : t.val / 2 = 2) (i : Fin 352) (j : Fin 1024) :
    outsAt0 m c t.val t.isLt (ix2 i j) = ∑ k, A2 m c k (row t i) j := by
  have hN := (idx t).2.2.2.2.2
  rw [Fin.sum_univ_four, outsAt0_C m c t (by omega) (by omega) (by omega) (by omega)]; frame_out
  rw [pay3_at, ld0_at, ld1_at, ld2_at, ld3_at]
  simp only [← b2_at m c t h]
theorem o3_block (t : Fin cfg0.N) (h : t.val / 2 = 3) (i : Fin 352) (j : Fin 1024) :
    outsAt0 m c t.val t.isLt (ix2 i j) = ∑ k, A3 m c k (row t i) j := by
  have hN := (idx t).2.2.2.2.2
  rw [Fin.sum_univ_four, outsAt0_D m c t (by omega) (by omega) (by omega) (by omega)]; frame_out
  rw [pay4_at, ld0_at, ld1_at, ld2_at, ld3_at]
  simp only [← b3_at m c t h]
theorem o_block (t : Fin cfg0.N) (y : S352x1024.Idx) : outsAt0 m c t.val t.isLt y = ∑ k, parts m c (lay t) k (row t (y 0)) (y 1) := by
  have hN := (idx t).2.2.2.2.2
  idx_vars y
  have hl : t.val / 2 = 0 ∨ t.val / 2 = 1 ∨ t.val / 2 = 2 ∨ t.val / 2 = 3 := by omega
  rcases hl with h | h | h | h
  · rw [o0_block m c t h, show lay t = 0 from Fin.ext h]; rfl
  · rw [o1_block m c t h, show lay t = 1 from Fin.ext h]; rfl
  · rw [o2_block m c t h, show lay t = 2 from Fin.ext h]; rfl
  · rw [o3_block m c t h, show lay t = 3 from Fin.ext h]; rfl

/-- A row's layer, and its place in it. -/
def rl (i : Fin 2816) : Fin 4 := ⟨i.val / 704, by omega⟩
def rp (i : Fin 2816) : Fin 704 := ⟨i.val % 704, by omega⟩

/-- The result: every layer's four parts added up, one layer after another. -/
theorem final_o : (dats m 0 c).arrAt 4 cfg0.N = fun y : S2816x1024.Idx => ∑ k, parts m c (rl (y 0)) k (rp (y 0)) (y 1) := by
  refine (dats m 0 c).arrAt_eq_of_covers 4 _ (by decide +kernel) fun t _ y => ?_
  blk_simp
  rw [after0_4, o_block]
  have hy : (y 0).val < 352 := (y 0).isLt
  have hv : ((win0_4.blk t).view.emb y 0 : Fin 2816).val = t.val * 352 + (y 0).val := by blk_simp [idx t]
  have e0 : rl ((win0_4.blk t).view.emb y 0 : Fin 2816) = lay t := Fin.ext (by show _ / 704 = t.val / 2; rw [hv]; omega)
  have e1 : rp ((win0_4.blk t).view.emb y 0 : Fin 2816) = row t (y 0) := Fin.ext (by show _ % 704 = t.val % 2 * 352 + (y 0).val; rw [hv]; omega)
  have e2 : ((win0_4.blk t).view.emb y 1 : Fin 1024) = y 1 := Fin.ext (by blk_simp [idx t])
  rw [e0, e1, e2]

end Cert.Kernel32Ideal.PartsFfn

namespace Cert.Reference32Ideal.PartsFfn

open Cert.Reference32Ideal Cert.Reference32Ideal.Read Idealize.ShloMosaic Idealize.ShloMosaic.TcCoe

variable (x0 x1 x2 x3 : FVec Ideal S4x704x1024 .bf16)

/-- The reference's sum over the chips, a layer's. -/
theorem v1_at (i : Fin 704) (j : Fin 1024) : val_main_v1 (F := Ideal) x0 (ix2 i j) = ∑ k, x0 (ix3 k i j) := by
  pointwise [val_main_v1, val_main_v0, val_main_cst]
theorem v3_at (i : Fin 704) (j : Fin 1024) : val_main_v3 (F := Ideal) x1 (ix2 i j) = ∑ k, x1 (ix3 k i j) := by
  pointwise [val_main_v3, val_main_v2, val_main_cst_0]
theorem v5_at (i : Fin 704) (j : Fin 1024) : val_main_v5 (F := Ideal) x2 (ix2 i j) = ∑ k, x2 (ix3 k i j) := by
  pointwise [val_main_v5, val_main_v4, val_main_cst_1]
theorem v7_at (i : Fin 704) (j : Fin 1024) : val_main_v7 (F := Ideal) x3 (ix2 i j) = ∑ k, x3 (ix3 k i j) := by
  pointwise [val_main_v7, val_main_v6, val_main_cst_2]

/-- The reference's result: the layers' sums, one layer after another. -/
theorem v8_at (i : Fin 2816) (j : Fin 1024) : val_main_v8 (F := Ideal) x0 x1 x2 x3 (ix2 i j)
    = ∑ k, (![x0, x1, x2, x3] ⟨i.val / 704, by omega⟩ : FVec Ideal S4x704x1024 .bf16) (ix3 k ⟨i.val % 704, by omega⟩ j) := by
  pointwise [val_main_v8]
  have hi := i.isLt
  have hl : i.val / 704 = 0 ∨ i.val / 704 = 1 ∨ i.val / 704 = 2 ∨ i.val / 704 = 3 := by omega
  rcases hl with h | h | h | h
  · rw [dif_pos (by omega), v1_at, show (⟨i.val / 704, by omega⟩ : Fin 4) = 0 from Fin.ext h]
    exact Finset.sum_congr rfl fun k _ => congrArg (fun r => x0 (ix3 k r j)) (Fin.ext (by show _ = i.val % 704; simp; omega))
  · rw [dif_neg (by omega), dif_pos (by omega), v3_at, show (⟨i.val / 704, by omega⟩ : Fin 4) = 1 from Fin.ext h]
    exact Finset.sum_congr rfl fun k _ => congrArg (fun r => x1 (ix3 k r j)) (Fin.ext (by show _ = i.val % 704; simp; omega))
  · rw [dif_neg (by omega), dif_neg (by omega), dif_pos (by omega), v5_at, show (⟨i.val / 704, by omega⟩ : Fin 4) = 2 from Fin.ext h]
    exact Finset.sum_congr rfl fun k _ => congrArg (fun r => x2 (ix3 k r j)) (Fin.ext (by show _ = i.val % 704; simp; omega))
  · rw [dif_neg (by omega), dif_neg (by omega), dif_neg (by omega), v7_at, show (⟨i.val / 704, by omega⟩ : Fin 4) = 3 from Fin.ext h]
    exact Finset.sum_congr rfl fun k _ => congrArg (fun r => x3 (ix3 k r j)) (Fin.ext (by show _ = i.val % 704; simp; omega))

end Cert.Reference32Ideal.PartsFfn

end
-- ==== Proof.PartsFfnClaim.lean ====
/- The four chips' parts of the gradient of a half-step weight added up: the reference's frame, and the value claim. -/
module

public import proofs.«01_k».proof.Defs
public import proofs.«01_k».proof.Proof.Gen.Kernel32Ideal
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.PartsFfn
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref32 : Cert.quiescent_Reference32Ideal (hReference32Ideal := Cert.Reference32Ideal.Gen.facts) := by
  intro m g _
  exact (θ_run Cert.Reference32Ideal.defs _ _).mono (fun r h => ⟨fun c => ⟨(h c).2.1, (h c).2.2.1, (h c).2.2.2.1, (h c).2.2.2.2⟩,
      Idealize.ShloMosaic.sem_eq_zero_of_no_sems (by decide) r.2⟩)
    (Cert.Reference32Ideal.Value.run (F := Ideal) m g)

/-- The kernel and the reference leave equal results. -/
theorem value32 : Cert.algebraic_Kernel32Ideal_Reference32Ideal (hKernel32Ideal := Cert.Kernel32Ideal.Gen.facts)
    (hReference32Ideal := Cert.Reference32Ideal.Gen.facts) := by
  pair_intro
  · run_from Cert.Kernel32Ideal.Gen.run_main m g
  · run_from Cert.Reference32Ideal.Value.run m' g'
    rw [Cert.Reference32Ideal.Read.val_main_v8_eq]
    obtain ⟨_, _, _, h3⟩ := hagree c
    refine (congrArg (Cert.Reference32Ideal.Read.val_main_v8 (F := Ideal) _ _ _) h3).trans ?_
    refine Eq.trans ?_ (Cert.Kernel32Ideal.PartsFfn.final_o m c).symm
    funext y
    rw [eq_ix2 y]
    refine (Cert.Reference32Ideal.PartsFfn.v8_at _ _ _ _ (y 0) (y 1)).trans ?_
    have key : ∀ (x0 x1 x2 x3 : FVec Ideal Cert.Kernel32Ideal.S4x704x1024 .bf16) (l : Fin 4) (i : Fin 704) (j : Fin 1024),
        ∑ k, (![x0, x1, x2, x3] l : FVec Ideal Cert.Kernel32Ideal.S4x704x1024 .bf16) (ix3 k i j)
          = ∑ k, (![fun k i j => x0 (ix3 k i j), fun k i j => x1 (ix3 k i j), fun k i j => x2 (ix3 k i j),
              fun k i j => x3 (ix3 k i j)] l : Fin 4 → Fin 704 → Fin 1024 → EReal) k i j := by
      intro x0 x1 x2 x3 l i j; fin_cases l <;> rfl
    exact key _ _ _ _ _ _ _

end Cert.Proof

end
-- ==== Proof.PartsWin.lean ====
/- The four chips' parts of the gradient of the combined in-projection added up: what a grid point leaves, the array after the run, and the reference's result. -/
module

public import proofs.«01_k».proof.Proof.Gen.Kernel33Ideal.Value
public import proofs.«01_k».proof.Proof.Gen.Reference33Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel33Ideal.PartsWin

open Cert.Kernel33Ideal Cert.Kernel33Ideal.Gen Idealize.ShloMosaic Idealize.ShloMosaic.TcCoe Idealize.SL.Sem

variable (m : (ℓ : Loc nD τ sig) → Buf (Elt Ideal) ℓ) (c : Dev nD)

/-- Four blocks, each one chip's part, add up. -/
theorem pay1_at (u v w x : Vec Ideal S1x400x1024 .bf16) (i : Fin 400) (j : Fin 1024) :
    k0_pay1 u v w x (ix2 i j) = u (ix3 0 i j) + v (ix3 0 i j) + w (ix3 0 i j) + x (ix3 0 i j) := by
  pointwise [k0_pay1]
theorem pay2_at (u v w x : Vec Ideal S1x400x1024 .bf16) (i : Fin 400) (j : Fin 1024) :
    k0_pay2 u v w x (ix2 i j) = u (ix3 0 i j) + v (ix3 0 i j) + w (ix3 0 i j) + x (ix3 0 i j) := by
  pointwise [k0_pay2]
theorem pay3_at (u v w x : Vec Ideal S1x400x1024 .bf16) (i : Fin 400) (j : Fin 1024) :
    k0_pay3 u v w x (ix2 i j) = u (ix3 0 i j) + v (ix3 0 i j) + w (ix3 0 i j) + x (ix3 0 i j) := by
  pointwise [k0_pay3]
theorem pay4_at (u v w x : Vec Ideal S1x400x1024 .bf16) (i : Fin 400) (j : Fin 1024) :
    k0_pay4 u v w x (ix2 i j) = u (ix3 0 i j) + v (ix3 0 i j) + w (ix3 0 i j) + x (ix3 0 i j) := by
  pointwise [k0_pay4]

/-- One layer's four parts, as launched. -/
abbrev A0 (k : Fin 4) (i : Fin 1600) (j : Fin 1024) : EReal := (show FVec Ideal S4x1600x1024 .bf16 from m ((c : Thread nD τ).loc main_arg0)) (ix3 k i j)
abbrev A1 (k : Fin 4) (i : Fin 1600) (j : Fin 1024) : EReal := (show FVec Ideal S4x1600x1024 .bf16 from m ((c : Thread nD τ).loc main_arg1)) (ix3 k i j)
abbrev A2 (k : Fin 4) (i : Fin 1600) (j : Fin 1024) : EReal := (show FVec Ideal S4x1600x1024 .bf16 from m ((c : Thread nD τ).loc main_arg2)) (ix3 k i j)
abbrev A3 (k : Fin 4) (i : Fin 1600) (j : Fin 1024) : EReal := (show FVec Ideal S4x1600x1024 .bf16 from m ((c : Thread nD τ).loc main_arg3)) (ix3 k i j)

/-- A layer's parts, by the layer. -/
def parts (l : Fin 4) : Fin 4 → Fin 1600 → Fin 1024 → EReal := ![A0 m c, A1 m c, A2 m c, A3 m c] l

/-- Where every window's block stands at a grid point: a layer's own block is the point's while the layer is being summed. -/
theorem idx : ∀ t : Fin cfg0.N, (t.val / 4 = 0 → win0_0.index t = ![0, t.val % 4, 0]) ∧ (t.val / 4 = 1 → win0_1.index t = ![0, t.val % 4, 0])
    ∧ (t.val / 4 = 2 → win0_2.index t = ![0, t.val % 4, 0]) ∧ (t.val / 4 = 3 → win0_3.index t = ![0, t.val % 4, 0])
    ∧ win0_4.index t = ![t.val, 0] ∧ t.val < 16 :=
  (by decide +kernel : ∀ t : Fin grid0.N, _)

/-- A grid point's layer, and row `i` of its block in the layer. -/
def lay (t : Fin cfg0.N) : Fin 4 := ⟨t.val / 4, by have := (idx t).2.2.2.2.2; omega⟩
def row (t : Fin cfg0.N) (i : Fin 400) : Fin 1600 := ⟨t.val % 4 * 400 + i.val, by omega⟩

theorem b0_at (t : Fin cfg0.N) (ht : t.val / 4 = 0) (k : Fin 4) (i : Fin 400) (j : Fin 1024) :
    (show FVec Ideal S4x400x1024 .bf16 from iblk m c 0 t) (ix3 k i j) = A0 m c k (row t i) j := by
  have e := (idx t).1 ht
  simp only [A0, row]; blk_ext [iblk, V_main_arg0, e]
theorem b1_at (t : Fin cfg0.N) (ht : t.val / 4 = 1) (k : Fin 4) (i : Fin 400) (j : Fin 1024) :
    (show FVec Ideal S4x400x1024 .bf16 from iblk m c 1 t) (ix3 k i j) = A1 m c k (row t i) j := by
  have e := (idx t).2.1 ht
  simp only [A1, row]; blk_ext [iblk, V_main_arg1, e]
theorem b2_at (t : Fin cfg0.N) (ht : t.val / 4 = 2) (k : Fin 4) (i : Fin 400) (j : Fin 1024) :
    (show FVec Ideal S4x400x1024 .bf16 from iblk m c 2 t) (ix3 k i j) = A2 m c k (row t i) j := by
  have e := (idx t).2.2.1 ht
  simp only [A2, row]; blk_ext [iblk, V_main_arg2, e]
theorem b3_at (t : Fin cfg0.N) (ht : t.val / 4 = 3) (k : Fin 4) (i : Fin 400) (j : Fin 1024) :
    (show FVec Ideal S4x400x1024 .bf16 from iblk m c 3 t) (ix3 k i j) = A3 m c k (row t i) j := by
  have e := (idx t).2.2.2.1 ht
  simp only [A3, row]; blk_ext [iblk, V_main_arg3, e]

/-- One chip's part of a block of four. -/
theorem ld0_at (x : Vec Ideal S4x400x1024 .bf16) (i : Fin 400) (j : Fin 1024) :
    View.ld x (Rect.unit ![0, 0, 0] ![1, 400, 1024] inb_S4x400x1024_S1x400x1024_0_0_0) (ix3 0 i j) = x (ix3 0 i j) := by
  pointwise
  blk_ext []
theorem ld1_at (x : Vec Ideal S4x400x1024 .bf16) (i : Fin 400) (j : Fin 1024) :
    View.ld x (Rect.unit ![1, 0, 0] ![1, 400, 1024] inb_S4x400x1024_S1x400x1024_1_0_0) (ix3 0 i j) = x (ix3 1 i j) := by
  pointwise
  blk_ext []
theorem ld2_at (x : Vec Ideal S4x400x1024 .bf16) (i : Fin 400) (j : Fin 1024) :
    View.ld x (Rect.unit ![2, 0, 0] ![1, 400, 1024] inb_S4x400x1024_S1x400x1024_2_0_0) (ix3 0 i j) = x (ix3 2 i j) := by
  pointwise
  blk_ext []
theorem ld3_at (x : Vec Ideal S4x400x1024 .bf16) (i : Fin 400) (j : Fin 1024) :
    View.ld x (Rect.unit ![3, 0, 0] ![1, 400, 1024] inb_S4x400x1024_S1x400x1024_3_0_0) (ix3 0 i j) = x (ix3 3 i j) := by
  pointwise
  blk_ext []

/-- A grid point's block: its layer's four parts added up. -/
theorem o0_block (t : Fin cfg0.N) (h : t.val / 4 = 0) (i : Fin 400) (j : Fin 1024) :
    outsAt0 m c t.val t.isLt (ix2 i j) = ∑ k, A0 m c k (row t i) j := by
  have hN := (idx t).2.2.2.2.2
  rw [Fin.sum_univ_four, outsAt0_A m c t (by omega) (by omega) (by omega) (by omega)]; frame_out
  rw [pay1_at, ld0_at, ld1_at, ld2_at, ld3_at]
  simp only [← b0_at m c t h]
theorem o1_block (t : Fin cfg0.N) (h : t.val / 4 = 1) (i : Fin 400) (j : Fin 1024) :
    outsAt0 m c t.val t.isLt (ix2 i j) = ∑ k, A1 m c k (row t i) j := by
  have hN := (idx t).2.2.2.2.2
  rw [Fin.sum_univ_four, outsAt0_B m c t (by omega) (by omega) (by omega) (by omega)]; frame_out
  rw [pay2_at, ld0_at, ld1_at, ld2_at, ld3_at]
  simp only [← b1_at m c t h]
theorem o2_block (t : Fin cfg0.N) (h : t.val / 4 = 2) (i : Fin 400) (j : Fin 1024) :
    outsAt0 m c t.val t.isLt (ix2 i j) = ∑ k, A2 m c k (row t i) j := by
  have hN := (idx t).2.2.2.2.2
  rw [Fin.sum_univ_four, outsAt0_C m c t (by omega) (by omega) (by omega) (by omega)]; frame_out
  rw [pay3_at, ld0_at, ld1_at, ld2_at, ld3_at]
  simp only [← b2_at m c t h]
theorem o3_block (t : Fin cfg0.N) (h : t.val / 4 = 3) (i : Fin 400) (j : Fin 1024) :
    outsAt0 m c t.val t.isLt (ix2 i j) = ∑ k, A3 m c k (row t i) j := by
  have hN := (idx t).2.2.2.2.2
  rw [Fin.sum_univ_four, outsAt0_D m c t (by omega) (by omega) (by omega) (by omega)]; frame_out
  rw [pay4_at, ld0_at, ld1_at, ld2_at, ld3_at]
  simp only [← b3_at m c t h]
theorem o_block (t : Fin cfg0.N) (y : S400x1024.Idx) : outsAt0 m c t.val t.isLt y = ∑ k, parts m c (lay t) k (row t (y 0)) (y 1) := by
  have hN := (idx t).2.2.2.2.2
  idx_vars y
  have hl : t.val / 4 = 0 ∨ t.val / 4 = 1 ∨ t.val / 4 = 2 ∨ t.val / 4 = 3 := by omega
  rcases hl with h | h | h | h
  · rw [o0_block m c t h, show lay t = 0 from Fin.ext h]; rfl
  · rw [o1_block m c t h, show lay t = 1 from Fin.ext h]; rfl
  · rw [o2_block m c t h, show lay t = 2 from Fin.ext h]; rfl
  · rw [o3_block m c t h, show lay t = 3 from Fin.ext h]; rfl

/-- A row's layer, and its place in it. -/
def rl (i : Fin 6400) : Fin 4 := ⟨i.val / 1600, by omega⟩
def rp (i : Fin 6400) : Fin 1600 := ⟨i.val % 1600, by omega⟩

/-- The result: every layer's four parts added up, one layer after another. -/
theorem final_o : (dats m 0 c).arrAt 4 cfg0.N = fun y : S6400x1024.Idx => ∑ k, parts m c (rl (y 0)) k (rp (y 0)) (y 1) := by
  refine (dats m 0 c).arrAt_eq_of_covers 4 _ (by decide +kernel) fun t _ y => ?_
  blk_simp
  rw [after0_4, o_block]
  have hy : (y 0).val < 400 := (y 0).isLt
  have hv : ((win0_4.blk t).view.emb y 0 : Fin 6400).val = t.val * 400 + (y 0).val := by blk_simp [idx t]
  have e0 : rl ((win0_4.blk t).view.emb y 0 : Fin 6400) = lay t := Fin.ext (by show _ / 1600 = t.val / 4; rw [hv]; omega)
  have e1 : rp ((win0_4.blk t).view.emb y 0 : Fin 6400) = row t (y 0) := Fin.ext (by show _ % 1600 = t.val % 4 * 400 + (y 0).val; rw [hv]; omega)
  have e2 : ((win0_4.blk t).view.emb y 1 : Fin 1024) = y 1 := Fin.ext (by blk_simp [idx t])
  rw [e0, e1, e2]

end Cert.Kernel33Ideal.PartsWin

namespace Cert.Reference33Ideal.PartsWin

open Cert.Reference33Ideal Cert.Reference33Ideal.Read Idealize.ShloMosaic Idealize.ShloMosaic.TcCoe

variable (x0 x1 x2 x3 : FVec Ideal S4x1600x1024 .bf16)

/-- The reference's sum over the chips, a layer's. -/
theorem v1_at (i : Fin 1600) (j : Fin 1024) : val_main_v1 (F := Ideal) x0 (ix2 i j) = ∑ k, x0 (ix3 k i j) := by
  pointwise [val_main_v1, val_main_v0, val_main_cst]
theorem v3_at (i : Fin 1600) (j : Fin 1024) : val_main_v3 (F := Ideal) x1 (ix2 i j) = ∑ k, x1 (ix3 k i j) := by
  pointwise [val_main_v3, val_main_v2, val_main_cst_0]
theorem v5_at (i : Fin 1600) (j : Fin 1024) : val_main_v5 (F := Ideal) x2 (ix2 i j) = ∑ k, x2 (ix3 k i j) := by
  pointwise [val_main_v5, val_main_v4, val_main_cst_1]
theorem v7_at (i : Fin 1600) (j : Fin 1024) : val_main_v7 (F := Ideal) x3 (ix2 i j) = ∑ k, x3 (ix3 k i j) := by
  pointwise [val_main_v7, val_main_v6, val_main_cst_2]

/-- The reference's result: the layers' sums, one layer after another. -/
theorem v8_at (i : Fin 6400) (j : Fin 1024) : val_main_v8 (F := Ideal) x0 x1 x2 x3 (ix2 i j)
    = ∑ k, (![x0, x1, x2, x3] ⟨i.val / 1600, by omega⟩ : FVec Ideal S4x1600x1024 .bf16) (ix3 k ⟨i.val % 1600, by omega⟩ j) := by
  pointwise [val_main_v8]
  have hi := i.isLt
  have hl : i.val / 1600 = 0 ∨ i.val / 1600 = 1 ∨ i.val / 1600 = 2 ∨ i.val / 1600 = 3 := by omega
  rcases hl with h | h | h | h
  · rw [dif_pos (by omega), v1_at, show (⟨i.val / 1600, by omega⟩ : Fin 4) = 0 from Fin.ext h]
    exact Finset.sum_congr rfl fun k _ => congrArg (fun r => x0 (ix3 k r j)) (Fin.ext (by show _ = i.val % 1600; simp; omega))
  · rw [dif_neg (by omega), dif_pos (by omega), v3_at, show (⟨i.val / 1600, by omega⟩ : Fin 4) = 1 from Fin.ext h]
    exact Finset.sum_congr rfl fun k _ => congrArg (fun r => x1 (ix3 k r j)) (Fin.ext (by show _ = i.val % 1600; simp; omega))
  · rw [dif_neg (by omega), dif_neg (by omega), dif_pos (by omega), v5_at, show (⟨i.val / 1600, by omega⟩ : Fin 4) = 2 from Fin.ext h]
    exact Finset.sum_congr rfl fun k _ => congrArg (fun r => x2 (ix3 k r j)) (Fin.ext (by show _ = i.val % 1600; simp; omega))
  · rw [dif_neg (by omega), dif_neg (by omega), dif_neg (by omega), v7_at, show (⟨i.val / 1600, by omega⟩ : Fin 4) = 3 from Fin.ext h]
    exact Finset.sum_congr rfl fun k _ => congrArg (fun r => x3 (ix3 k r j)) (Fin.ext (by show _ = i.val % 1600; simp; omega))

end Cert.Reference33Ideal.PartsWin

end
-- ==== Proof.PartsWinClaim.lean ====
/- The four chips' parts of the gradient of the combined in-projection added up: the reference's frame, and the value claim. -/
module

public import proofs.«01_k».proof.Defs
public import proofs.«01_k».proof.Proof.Gen.Kernel33Ideal
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.PartsWin
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref33 : Cert.quiescent_Reference33Ideal (hReference33Ideal := Cert.Reference33Ideal.Gen.facts) := by
  intro m g _
  exact (θ_run Cert.Reference33Ideal.defs _ _).mono (fun r h => ⟨fun c => ⟨(h c).2.1, (h c).2.2.1, (h c).2.2.2.1, (h c).2.2.2.2⟩,
      Idealize.ShloMosaic.sem_eq_zero_of_no_sems (by decide) r.2⟩)
    (Cert.Reference33Ideal.Value.run (F := Ideal) m g)

/-- The kernel and the reference leave equal results. -/
theorem value33 : Cert.algebraic_Kernel33Ideal_Reference33Ideal (hKernel33Ideal := Cert.Kernel33Ideal.Gen.facts)
    (hReference33Ideal := Cert.Reference33Ideal.Gen.facts) := by
  pair_intro
  · run_from Cert.Kernel33Ideal.Gen.run_main m g
  · run_from Cert.Reference33Ideal.Value.run m' g'
    rw [Cert.Reference33Ideal.Read.val_main_v8_eq]
    obtain ⟨_, _, _, h3⟩ := hagree c
    refine (congrArg (Cert.Reference33Ideal.Read.val_main_v8 (F := Ideal) _ _ _) h3).trans ?_
    refine Eq.trans ?_ (Cert.Kernel33Ideal.PartsWin.final_o m c).symm
    funext y
    rw [eq_ix2 y]
    refine (Cert.Reference33Ideal.PartsWin.v8_at _ _ _ _ (y 0) (y 1)).trans ?_
    have key : ∀ (x0 x1 x2 x3 : FVec Ideal Cert.Kernel33Ideal.S4x1600x1024 .bf16) (l : Fin 4) (i : Fin 1600) (j : Fin 1024),
        ∑ k, (![x0, x1, x2, x3] l : FVec Ideal Cert.Kernel33Ideal.S4x1600x1024 .bf16) (ix3 k i j)
          = ∑ k, (![fun k i j => x0 (ix3 k i j), fun k i j => x1 (ix3 k i j), fun k i j => x2 (ix3 k i j),
              fun k i j => x3 (ix3 k i j)] l : Fin 4 → Fin 1600 → Fin 1024 → EReal) k i j := by
      intro x0 x1 x2 x3 l i j; fin_cases l <;> rfl
    exact key _ _ _ _ _ _ _

end Cert.Proof

end
-- ==== Proof.PartsRow.lean ====
/- The four chips' parts of the gradient of a square weight added up: what a grid point leaves, the array after the run, and the reference's result. -/
module

public import proofs.«01_k».proof.Proof.Gen.Kernel34Ideal.Value
public import proofs.«01_k».proof.Proof.Gen.Reference34Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel34Ideal.PartsRow

open Cert.Kernel34Ideal Cert.Kernel34Ideal.Gen Idealize.ShloMosaic Idealize.ShloMosaic.TcCoe Idealize.SL.Sem

variable (m : (ℓ : Loc nD τ sig) → Buf (Elt Ideal) ℓ) (c : Dev nD)

/-- Four blocks, each one chip's part, add up. -/
theorem pay1_at (u v w x : Vec Ideal S1x256x1024 .bf16) (i : Fin 256) (j : Fin 1024) :
    k0_pay1 u v w x (ix2 i j) = u (ix3 0 i j) + v (ix3 0 i j) + w (ix3 0 i j) + x (ix3 0 i j) := by
  pointwise [k0_pay1]
theorem pay2_at (u v w x : Vec Ideal S1x256x1024 .bf16) (i : Fin 256) (j : Fin 1024) :
    k0_pay2 u v w x (ix2 i j) = u (ix3 0 i j) + v (ix3 0 i j) + w (ix3 0 i j) + x (ix3 0 i j) := by
  pointwise [k0_pay2]
theorem pay3_at (u v w x : Vec Ideal S1x256x1024 .bf16) (i : Fin 256) (j : Fin 1024) :
    k0_pay3 u v w x (ix2 i j) = u (ix3 0 i j) + v (ix3 0 i j) + w (ix3 0 i j) + x (ix3 0 i j) := by
  pointwise [k0_pay3]
theorem pay4_at (u v w x : Vec Ideal S1x256x1024 .bf16) (i : Fin 256) (j : Fin 1024) :
    k0_pay4 u v w x (ix2 i j) = u (ix3 0 i j) + v (ix3 0 i j) + w (ix3 0 i j) + x (ix3 0 i j) := by
  pointwise [k0_pay4]

/-- One layer's four parts, as launched. -/
abbrev A0 (k : Fin 4) (i : Fin 256) (j : Fin 1024) : EReal := (show FVec Ideal S4x256x1024 .bf16 from m ((c : Thread nD τ).loc main_arg0)) (ix3 k i j)
abbrev A1 (k : Fin 4) (i : Fin 256) (j : Fin 1024) : EReal := (show FVec Ideal S4x256x1024 .bf16 from m ((c : Thread nD τ).loc main_arg1)) (ix3 k i j)
abbrev A2 (k : Fin 4) (i : Fin 256) (j : Fin 1024) : EReal := (show FVec Ideal S4x256x1024 .bf16 from m ((c : Thread nD τ).loc main_arg2)) (ix3 k i j)
abbrev A3 (k : Fin 4) (i : Fin 256) (j : Fin 1024) : EReal := (show FVec Ideal S4x256x1024 .bf16 from m ((c : Thread nD τ).loc main_arg3)) (ix3 k i j)

/-- A layer's parts, by the layer. -/
def parts (l : Fin 4) : Fin 4 → Fin 256 → Fin 1024 → EReal := ![A0 m c, A1 m c, A2 m c, A3 m c] l

/-- Where every window's block stands at a grid point: a layer's own block is the point's while the layer is being summed. -/
theorem idx : ∀ t : Fin cfg0.N, (t.val / 1 = 0 → win0_0.index t = ![0, t.val % 1, 0]) ∧ (t.val / 1 = 1 → win0_1.index t = ![0, t.val % 1, 0])
    ∧ (t.val / 1 = 2 → win0_2.index t = ![0, t.val % 1, 0]) ∧ (t.val / 1 = 3 → win0_3.index t = ![0, t.val % 1, 0])
    ∧ win0_4.index t = ![t.val, 0] ∧ t.val < 4 :=
  (by decide +kernel : ∀ t : Fin grid0.N, _)

/-- A grid point's layer, and row `i` of its block in the layer. -/
def lay (t : Fin cfg0.N) : Fin 4 := ⟨t.val / 1, by have := (idx t).2.2.2.2.2; omega⟩
def row (t : Fin cfg0.N) (i : Fin 256) : Fin 256 := ⟨t.val % 1 * 256 + i.val, by omega⟩

theorem b0_at (t : Fin cfg0.N) (ht : t.val / 1 = 0) (k : Fin 4) (i : Fin 256) (j : Fin 1024) :
    (show FVec Ideal S4x256x1024 .bf16 from iblk m c 0 t) (ix3 k i j) = A0 m c k (row t i) j := by
  have e := (idx t).1 ht
  simp only [A0, row]; blk_ext [iblk, V_main_arg0, e]
theorem b1_at (t : Fin cfg0.N) (ht : t.val / 1 = 1) (k : Fin 4) (i : Fin 256) (j : Fin 1024) :
    (show FVec Ideal S4x256x1024 .bf16 from iblk m c 1 t) (ix3 k i j) = A1 m c k (row t i) j := by
  have e := (idx t).2.1 ht
  simp only [A1, row]; blk_ext [iblk, V_main_arg1, e]
theorem b2_at (t : Fin cfg0.N) (ht : t.val / 1 = 2) (k : Fin 4) (i : Fin 256) (j : Fin 1024) :
    (show FVec Ideal S4x256x1024 .bf16 from iblk m c 2 t) (ix3 k i j) = A2 m c k (row t i) j := by
  have e := (idx t).2.2.1 ht
  simp only [A2, row]; blk_ext [iblk, V_main_arg2, e]
theorem b3_at (t : Fin cfg0.N) (ht : t.val / 1 = 3) (k : Fin 4) (i : Fin 256) (j : Fin 1024) :
    (show FVec Ideal S4x256x1024 .bf16 from iblk m c 3 t) (ix3 k i j) = A3 m c k (row t i) j := by
  have e := (idx t).2.2.2.1 ht
  simp only [A3, row]; blk_ext [iblk, V_main_arg3, e]

/-- One chip's part of a block of four. -/
theorem ld0_at (x : Vec Ideal S4x256x1024 .bf16) (i : Fin 256) (j : Fin 1024) :
    View.ld x (Rect.unit ![0, 0, 0] ![1, 256, 1024] inb_S4x256x1024_S1x256x1024_0_0_0) (ix3 0 i j) = x (ix3 0 i j) := by
  pointwise
  blk_ext []
theorem ld1_at (x : Vec Ideal S4x256x1024 .bf16) (i : Fin 256) (j : Fin 1024) :
    View.ld x (Rect.unit ![1, 0, 0] ![1, 256, 1024] inb_S4x256x1024_S1x256x1024_1_0_0) (ix3 0 i j) = x (ix3 1 i j) := by
  pointwise
  blk_ext []
theorem ld2_at (x : Vec Ideal S4x256x1024 .bf16) (i : Fin 256) (j : Fin 1024) :
    View.ld x (Rect.unit ![2, 0, 0] ![1, 256, 1024] inb_S4x256x1024_S1x256x1024_2_0_0) (ix3 0 i j) = x (ix3 2 i j) := by
  pointwise
  blk_ext []
theorem ld3_at (x : Vec Ideal S4x256x1024 .bf16) (i : Fin 256) (j : Fin 1024) :
    View.ld x (Rect.unit ![3, 0, 0] ![1, 256, 1024] inb_S4x256x1024_S1x256x1024_3_0_0) (ix3 0 i j) = x (ix3 3 i j) := by
  pointwise
  blk_ext []

/-- A grid point's block: its layer's four parts added up. -/
theorem o0_block (t : Fin cfg0.N) (h : t.val / 1 = 0) (i : Fin 256) (j : Fin 1024) :
    outsAt0 m c t.val t.isLt (ix2 i j) = ∑ k, A0 m c k (row t i) j := by
  have hN := (idx t).2.2.2.2.2
  rw [Fin.sum_univ_four, outsAt0_A m c t (by omega) (by omega) (by omega) (by omega)]; frame_out
  rw [pay1_at, ld0_at, ld1_at, ld2_at, ld3_at]
  simp only [← b0_at m c t h]
theorem o1_block (t : Fin cfg0.N) (h : t.val / 1 = 1) (i : Fin 256) (j : Fin 1024) :
    outsAt0 m c t.val t.isLt (ix2 i j) = ∑ k, A1 m c k (row t i) j := by
  have hN := (idx t).2.2.2.2.2
  rw [Fin.sum_univ_four, outsAt0_B m c t (by omega) (by omega) (by omega) (by omega)]; frame_out
  rw [pay2_at, ld0_at, ld1_at, ld2_at, ld3_at]
  simp only [← b1_at m c t h]
theorem o2_block (t : Fin cfg0.N) (h : t.val / 1 = 2) (i : Fin 256) (j : Fin 1024) :
    outsAt0 m c t.val t.isLt (ix2 i j) = ∑ k, A2 m c k (row t i) j := by
  have hN := (idx t).2.2.2.2.2
  rw [Fin.sum_univ_four, outsAt0_C m c t (by omega) (by omega) (by omega) (by omega)]; frame_out
  rw [pay3_at, ld0_at, ld1_at, ld2_at, ld3_at]
  simp only [← b2_at m c t h]
theorem o3_block (t : Fin cfg0.N) (h : t.val / 1 = 3) (i : Fin 256) (j : Fin 1024) :
    outsAt0 m c t.val t.isLt (ix2 i j) = ∑ k, A3 m c k (row t i) j := by
  have hN := (idx t).2.2.2.2.2
  rw [Fin.sum_univ_four, outsAt0_D m c t (by omega) (by omega) (by omega) (by omega)]; frame_out
  rw [pay4_at, ld0_at, ld1_at, ld2_at, ld3_at]
  simp only [← b3_at m c t h]
theorem o_block (t : Fin cfg0.N) (y : S256x1024.Idx) : outsAt0 m c t.val t.isLt y = ∑ k, parts m c (lay t) k (row t (y 0)) (y 1) := by
  have hN := (idx t).2.2.2.2.2
  idx_vars y
  have hl : t.val / 1 = 0 ∨ t.val / 1 = 1 ∨ t.val / 1 = 2 ∨ t.val / 1 = 3 := by omega
  rcases hl with h | h | h | h
  · rw [o0_block m c t h, show lay t = 0 from Fin.ext h]; rfl
  · rw [o1_block m c t h, show lay t = 1 from Fin.ext h]; rfl
  · rw [o2_block m c t h, show lay t = 2 from Fin.ext h]; rfl
  · rw [o3_block m c t h, show lay t = 3 from Fin.ext h]; rfl

/-- A row's layer, and its place in it. -/
def rl (i : Fin 1024) : Fin 4 := ⟨i.val / 256, by omega⟩
def rp (i : Fin 1024) : Fin 256 := ⟨i.val % 256, by omega⟩

/-- The result: every layer's four parts added up, one layer after another. -/
theorem final_o : (dats m 0 c).arrAt 4 cfg0.N = fun y : S1024x1024.Idx => ∑ k, parts m c (rl (y 0)) k (rp (y 0)) (y 1) := by
  refine (dats m 0 c).arrAt_eq_of_covers 4 _ (by decide +kernel) fun t _ y => ?_
  blk_simp
  rw [after0_4, o_block]
  have hy : (y 0).val < 256 := (y 0).isLt
  have hv : ((win0_4.blk t).view.emb y 0 : Fin 1024).val = t.val * 256 + (y 0).val := by blk_simp [idx t]
  have e0 : rl ((win0_4.blk t).view.emb y 0 : Fin 1024) = lay t := Fin.ext (by show _ / 256 = t.val / 1; rw [hv]; omega)
  have e1 : rp ((win0_4.blk t).view.emb y 0 : Fin 1024) = row t (y 0) := Fin.ext (by show _ % 256 = t.val % 1 * 256 + (y 0).val; rw [hv]; omega)
  have e2 : ((win0_4.blk t).view.emb y 1 : Fin 1024) = y 1 := Fin.ext (by blk_simp [idx t])
  rw [e0, e1, e2]

end Cert.Kernel34Ideal.PartsRow

namespace Cert.Reference34Ideal.PartsRow

open Cert.Reference34Ideal Cert.Reference34Ideal.Read Idealize.ShloMosaic Idealize.ShloMosaic.TcCoe

variable (x0 x1 x2 x3 : FVec Ideal S4x256x1024 .bf16)

/-- The reference's sum over the chips, a layer's. -/
theorem v1_at (i : Fin 256) (j : Fin 1024) : val_main_v1 (F := Ideal) x0 (ix2 i j) = ∑ k, x0 (ix3 k i j) := by
  pointwise [val_main_v1, val_main_v0, val_main_cst]
theorem v3_at (i : Fin 256) (j : Fin 1024) : val_main_v3 (F := Ideal) x1 (ix2 i j) = ∑ k, x1 (ix3 k i j) := by
  pointwise [val_main_v3, val_main_v2, val_main_cst_0]
theorem v5_at (i : Fin 256) (j : Fin 1024) : val_main_v5 (F := Ideal) x2 (ix2 i j) = ∑ k, x2 (ix3 k i j) := by
  pointwise [val_main_v5, val_main_v4, val_main_cst_1]
theorem v7_at (i : Fin 256) (j : Fin 1024) : val_main_v7 (F := Ideal) x3 (ix2 i j) = ∑ k, x3 (ix3 k i j) := by
  pointwise [val_main_v7, val_main_v6, val_main_cst_2]

/-- The reference's result: the layers' sums, one layer after another. -/
theorem v8_at (i : Fin 1024) (j : Fin 1024) : val_main_v8 (F := Ideal) x0 x1 x2 x3 (ix2 i j)
    = ∑ k, (![x0, x1, x2, x3] ⟨i.val / 256, by omega⟩ : FVec Ideal S4x256x1024 .bf16) (ix3 k ⟨i.val % 256, by omega⟩ j) := by
  pointwise [val_main_v8]
  have hi := i.isLt
  have hl : i.val / 256 = 0 ∨ i.val / 256 = 1 ∨ i.val / 256 = 2 ∨ i.val / 256 = 3 := by omega
  rcases hl with h | h | h | h
  · rw [dif_pos (by omega), v1_at, show (⟨i.val / 256, by omega⟩ : Fin 4) = 0 from Fin.ext h]
    exact Finset.sum_congr rfl fun k _ => congrArg (fun r => x0 (ix3 k r j)) (Fin.ext (by show _ = i.val % 256; simp; omega))
  · rw [dif_neg (by omega), dif_pos (by omega), v3_at, show (⟨i.val / 256, by omega⟩ : Fin 4) = 1 from Fin.ext h]
    exact Finset.sum_congr rfl fun k _ => congrArg (fun r => x1 (ix3 k r j)) (Fin.ext (by show _ = i.val % 256; simp; omega))
  · rw [dif_neg (by omega), dif_neg (by omega), dif_pos (by omega), v5_at, show (⟨i.val / 256, by omega⟩ : Fin 4) = 2 from Fin.ext h]
    exact Finset.sum_congr rfl fun k _ => congrArg (fun r => x2 (ix3 k r j)) (Fin.ext (by show _ = i.val % 256; simp; omega))
  · rw [dif_neg (by omega), dif_neg (by omega), dif_neg (by omega), v7_at, show (⟨i.val / 256, by omega⟩ : Fin 4) = 3 from Fin.ext h]
    exact Finset.sum_congr rfl fun k _ => congrArg (fun r => x3 (ix3 k r j)) (Fin.ext (by show _ = i.val % 256; simp; omega))

end Cert.Reference34Ideal.PartsRow

end
-- ==== Proof.PartsRowClaim.lean ====
/- The four chips' parts of the gradient of a square weight added up: the reference's frame, and the value claim. -/
module

public import proofs.«01_k».proof.Defs
public import proofs.«01_k».proof.Proof.Gen.Kernel34Ideal
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.PartsRow
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref34 : Cert.quiescent_Reference34Ideal (hReference34Ideal := Cert.Reference34Ideal.Gen.facts) := by
  intro m g _
  exact (θ_run Cert.Reference34Ideal.defs _ _).mono (fun r h => ⟨fun c => ⟨(h c).2.1, (h c).2.2.1, (h c).2.2.2.1, (h c).2.2.2.2⟩,
      Idealize.ShloMosaic.sem_eq_zero_of_no_sems (by decide) r.2⟩)
    (Cert.Reference34Ideal.Value.run (F := Ideal) m g)

/-- The kernel and the reference leave equal results. -/
theorem value34 : Cert.algebraic_Kernel34Ideal_Reference34Ideal (hKernel34Ideal := Cert.Kernel34Ideal.Gen.facts)
    (hReference34Ideal := Cert.Reference34Ideal.Gen.facts) := by
  pair_intro
  · run_from Cert.Kernel34Ideal.Gen.run_main m g
  · run_from Cert.Reference34Ideal.Value.run m' g'
    rw [Cert.Reference34Ideal.Read.val_main_v8_eq]
    obtain ⟨_, _, _, h3⟩ := hagree c
    refine (congrArg (Cert.Reference34Ideal.Read.val_main_v8 (F := Ideal) _ _ _) h3).trans ?_
    refine Eq.trans ?_ (Cert.Kernel34Ideal.PartsRow.final_o m c).symm
    funext y
    rw [eq_ix2 y]
    refine (Cert.Reference34Ideal.PartsRow.v8_at _ _ _ _ (y 0) (y 1)).trans ?_
    have key : ∀ (x0 x1 x2 x3 : FVec Ideal Cert.Kernel34Ideal.S4x256x1024 .bf16) (l : Fin 4) (i : Fin 256) (j : Fin 1024),
        ∑ k, (![x0, x1, x2, x3] l : FVec Ideal Cert.Kernel34Ideal.S4x256x1024 .bf16) (ix3 k i j)
          = ∑ k, (![fun k i j => x0 (ix3 k i j), fun k i j => x1 (ix3 k i j), fun k i j => x2 (ix3 k i j),
              fun k i j => x3 (ix3 k i j)] l : Fin 4 → Fin 256 → Fin 1024 → EReal) k i j := by
      intro x0 x1 x2 x3 l i j; fin_cases l <;> rfl
    exact key _ _ _ _ _ _ _

end Cert.Proof

end
-- ==== Proof.PartsHalf.lean ====
/- The four chips' parts of the gradient of a half-wide weight added up: what a grid point leaves, the array after the run, and the reference's result. -/
module

public import proofs.«01_k».proof.Proof.Gen.Kernel35Ideal.Value
public import proofs.«01_k».proof.Proof.Gen.Reference35Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel35Ideal.PartsHalf

open Cert.Kernel35Ideal Cert.Kernel35Ideal.Gen Idealize.ShloMosaic Idealize.ShloMosaic.TcCoe Idealize.SL.Sem

variable (m : (ℓ : Loc nD τ sig) → Buf (Elt Ideal) ℓ) (c : Dev nD)

/-- Four blocks, each one chip's part, add up. -/
theorem pay1_at (u v w x : Vec Ideal S1x256x512 .bf16) (i : Fin 256) (j : Fin 512) :
    k0_pay1 u v w x (ix2 i j) = u (ix3 0 i j) + v (ix3 0 i j) + w (ix3 0 i j) + x (ix3 0 i j) := by
  pointwise [k0_pay1]
theorem pay2_at (u v w x : Vec Ideal S1x256x512 .bf16) (i : Fin 256) (j : Fin 512) :
    k0_pay2 u v w x (ix2 i j) = u (ix3 0 i j) + v (ix3 0 i j) + w (ix3 0 i j) + x (ix3 0 i j) := by
  pointwise [k0_pay2]
theorem pay3_at (u v w x : Vec Ideal S1x256x512 .bf16) (i : Fin 256) (j : Fin 512) :
    k0_pay3 u v w x (ix2 i j) = u (ix3 0 i j) + v (ix3 0 i j) + w (ix3 0 i j) + x (ix3 0 i j) := by
  pointwise [k0_pay3]
theorem pay4_at (u v w x : Vec Ideal S1x256x512 .bf16) (i : Fin 256) (j : Fin 512) :
    k0_pay4 u v w x (ix2 i j) = u (ix3 0 i j) + v (ix3 0 i j) + w (ix3 0 i j) + x (ix3 0 i j) := by
  pointwise [k0_pay4]

/-- One layer's four parts, as launched. -/
abbrev A0 (k : Fin 4) (i : Fin 256) (j : Fin 512) : EReal := (show FVec Ideal S4x256x512 .bf16 from m ((c : Thread nD τ).loc main_arg0)) (ix3 k i j)
abbrev A1 (k : Fin 4) (i : Fin 256) (j : Fin 512) : EReal := (show FVec Ideal S4x256x512 .bf16 from m ((c : Thread nD τ).loc main_arg1)) (ix3 k i j)
abbrev A2 (k : Fin 4) (i : Fin 256) (j : Fin 512) : EReal := (show FVec Ideal S4x256x512 .bf16 from m ((c : Thread nD τ).loc main_arg2)) (ix3 k i j)
abbrev A3 (k : Fin 4) (i : Fin 256) (j : Fin 512) : EReal := (show FVec Ideal S4x256x512 .bf16 from m ((c : Thread nD τ).loc main_arg3)) (ix3 k i j)

/-- A layer's parts, by the layer. -/
def parts (l : Fin 4) : Fin 4 → Fin 256 → Fin 512 → EReal := ![A0 m c, A1 m c, A2 m c, A3 m c] l

/-- Where every window's block stands at a grid point: a layer's own block is the point's while the layer is being summed. -/
theorem idx : ∀ t : Fin cfg0.N, (t.val / 1 = 0 → win0_0.index t = ![0, t.val % 1, 0]) ∧ (t.val / 1 = 1 → win0_1.index t = ![0, t.val % 1, 0])
    ∧ (t.val / 1 = 2 → win0_2.index t = ![0, t.val % 1, 0]) ∧ (t.val / 1 = 3 → win0_3.index t = ![0, t.val % 1, 0])
    ∧ win0_4.index t = ![t.val, 0] ∧ t.val < 4 :=
  (by decide +kernel : ∀ t : Fin grid0.N, _)

/-- A grid point's layer, and row `i` of its block in the layer. -/
def lay (t : Fin cfg0.N) : Fin 4 := ⟨t.val / 1, by have := (idx t).2.2.2.2.2; omega⟩
def row (t : Fin cfg0.N) (i : Fin 256) : Fin 256 := ⟨t.val % 1 * 256 + i.val, by omega⟩

theorem b0_at (t : Fin cfg0.N) (ht : t.val / 1 = 0) (k : Fin 4) (i : Fin 256) (j : Fin 512) :
    (show FVec Ideal S4x256x512 .bf16 from iblk m c 0 t) (ix3 k i j) = A0 m c k (row t i) j := by
  have e := (idx t).1 ht
  simp only [A0, row]; blk_ext [iblk, V_main_arg0, e]
theorem b1_at (t : Fin cfg0.N) (ht : t.val / 1 = 1) (k : Fin 4) (i : Fin 256) (j : Fin 512) :
    (show FVec Ideal S4x256x512 .bf16 from iblk m c 1 t) (ix3 k i j) = A1 m c k (row t i) j := by
  have e := (idx t).2.1 ht
  simp only [A1, row]; blk_ext [iblk, V_main_arg1, e]
theorem b2_at (t : Fin cfg0.N) (ht : t.val / 1 = 2) (k : Fin 4) (i : Fin 256) (j : Fin 512) :
    (show FVec Ideal S4x256x512 .bf16 from iblk m c 2 t) (ix3 k i j) = A2 m c k (row t i) j := by
  have e := (idx t).2.2.1 ht
  simp only [A2, row]; blk_ext [iblk, V_main_arg2, e]
theorem b3_at (t : Fin cfg0.N) (ht : t.val / 1 = 3) (k : Fin 4) (i : Fin 256) (j : Fin 512) :
    (show FVec Ideal S4x256x512 .bf16 from iblk m c 3 t) (ix3 k i j) = A3 m c k (row t i) j := by
  have e := (idx t).2.2.2.1 ht
  simp only [A3, row]; blk_ext [iblk, V_main_arg3, e]

/-- One chip's part of a block of four. -/
theorem ld0_at (x : Vec Ideal S4x256x512 .bf16) (i : Fin 256) (j : Fin 512) :
    View.ld x (Rect.unit ![0, 0, 0] ![1, 256, 512] inb_S4x256x512_S1x256x512_0_0_0) (ix3 0 i j) = x (ix3 0 i j) := by
  pointwise
  blk_ext []
theorem ld1_at (x : Vec Ideal S4x256x512 .bf16) (i : Fin 256) (j : Fin 512) :
    View.ld x (Rect.unit ![1, 0, 0] ![1, 256, 512] inb_S4x256x512_S1x256x512_1_0_0) (ix3 0 i j) = x (ix3 1 i j) := by
  pointwise
  blk_ext []
theorem ld2_at (x : Vec Ideal S4x256x512 .bf16) (i : Fin 256) (j : Fin 512) :
    View.ld x (Rect.unit ![2, 0, 0] ![1, 256, 512] inb_S4x256x512_S1x256x512_2_0_0) (ix3 0 i j) = x (ix3 2 i j) := by
  pointwise
  blk_ext []
theorem ld3_at (x : Vec Ideal S4x256x512 .bf16) (i : Fin 256) (j : Fin 512) :
    View.ld x (Rect.unit ![3, 0, 0] ![1, 256, 512] inb_S4x256x512_S1x256x512_3_0_0) (ix3 0 i j) = x (ix3 3 i j) := by
  pointwise
  blk_ext []

/-- A grid point's block: its layer's four parts added up. -/
theorem o0_block (t : Fin cfg0.N) (h : t.val / 1 = 0) (i : Fin 256) (j : Fin 512) :
    outsAt0 m c t.val t.isLt (ix2 i j) = ∑ k, A0 m c k (row t i) j := by
  have hN := (idx t).2.2.2.2.2
  rw [Fin.sum_univ_four, outsAt0_A m c t (by omega) (by omega) (by omega) (by omega)]; frame_out
  rw [pay1_at, ld0_at, ld1_at, ld2_at, ld3_at]
  simp only [← b0_at m c t h]
theorem o1_block (t : Fin cfg0.N) (h : t.val / 1 = 1) (i : Fin 256) (j : Fin 512) :
    outsAt0 m c t.val t.isLt (ix2 i j) = ∑ k, A1 m c k (row t i) j := by
  have hN := (idx t).2.2.2.2.2
  rw [Fin.sum_univ_four, outsAt0_B m c t (by omega) (by omega) (by omega) (by omega)]; frame_out
  rw [pay2_at, ld0_at, ld1_at, ld2_at, ld3_at]
  simp only [← b1_at m c t h]
theorem o2_block (t : Fin cfg0.N) (h : t.val / 1 = 2) (i : Fin 256) (j : Fin 512) :
    outsAt0 m c t.val t.isLt (ix2 i j) = ∑ k, A2 m c k (row t i) j := by
  have hN := (idx t).2.2.2.2.2
  rw [Fin.sum_univ_four, outsAt0_C m c t (by omega) (by omega) (by omega) (by omega)]; frame_out
  rw [pay3_at, ld0_at, ld1_at, ld2_at, ld3_at]
  simp only [← b2_at m c t h]
theorem o3_block (t : Fin cfg0.N) (h : t.val / 1 = 3) (i : Fin 256) (j : Fin 512) :
    outsAt0 m c t.val t.isLt (ix2 i j) = ∑ k, A3 m c k (row t i) j := by
  have hN := (idx t).2.2.2.2.2
  rw [Fin.sum_univ_four, outsAt0_D m c t (by omega) (by omega) (by omega) (by omega)]; frame_out
  rw [pay4_at, ld0_at, ld1_at, ld2_at, ld3_at]
  simp only [← b3_at m c t h]
theorem o_block (t : Fin cfg0.N) (y : S256x512.Idx) : outsAt0 m c t.val t.isLt y = ∑ k, parts m c (lay t) k (row t (y 0)) (y 1) := by
  have hN := (idx t).2.2.2.2.2
  idx_vars y
  have hl : t.val / 1 = 0 ∨ t.val / 1 = 1 ∨ t.val / 1 = 2 ∨ t.val / 1 = 3 := by omega
  rcases hl with h | h | h | h
  · rw [o0_block m c t h, show lay t = 0 from Fin.ext h]; rfl
  · rw [o1_block m c t h, show lay t = 1 from Fin.ext h]; rfl
  · rw [o2_block m c t h, show lay t = 2 from Fin.ext h]; rfl
  · rw [o3_block m c t h, show lay t = 3 from Fin.ext h]; rfl

/-- A row's layer, and its place in it. -/
def rl (i : Fin 1024) : Fin 4 := ⟨i.val / 256, by omega⟩
def rp (i : Fin 1024) : Fin 256 := ⟨i.val % 256, by omega⟩

/-- The result: every layer's four parts added up, one layer after another. -/
theorem final_o : (dats m 0 c).arrAt 4 cfg0.N = fun y : S1024x512.Idx => ∑ k, parts m c (rl (y 0)) k (rp (y 0)) (y 1) := by
  refine (dats m 0 c).arrAt_eq_of_covers 4 _ (by decide +kernel) fun t _ y => ?_
  blk_simp
  rw [after0_4, o_block]
  have hy : (y 0).val < 256 := (y 0).isLt
  have hv : ((win0_4.blk t).view.emb y 0 : Fin 1024).val = t.val * 256 + (y 0).val := by blk_simp [idx t]
  have e0 : rl ((win0_4.blk t).view.emb y 0 : Fin 1024) = lay t := Fin.ext (by show _ / 256 = t.val / 1; rw [hv]; omega)
  have e1 : rp ((win0_4.blk t).view.emb y 0 : Fin 1024) = row t (y 0) := Fin.ext (by show _ % 256 = t.val % 1 * 256 + (y 0).val; rw [hv]; omega)
  have e2 : ((win0_4.blk t).view.emb y 1 : Fin 512) = y 1 := Fin.ext (by blk_simp [idx t])
  rw [e0, e1, e2]

end Cert.Kernel35Ideal.PartsHalf

namespace Cert.Reference35Ideal.PartsHalf

open Cert.Reference35Ideal Cert.Reference35Ideal.Read Idealize.ShloMosaic Idealize.ShloMosaic.TcCoe

variable (x0 x1 x2 x3 : FVec Ideal S4x256x512 .bf16)

/-- The reference's sum over the chips, a layer's. -/
theorem v1_at (i : Fin 256) (j : Fin 512) : val_main_v1 (F := Ideal) x0 (ix2 i j) = ∑ k, x0 (ix3 k i j) := by
  pointwise [val_main_v1, val_main_v0, val_main_cst]
theorem v3_at (i : Fin 256) (j : Fin 512) : val_main_v3 (F := Ideal) x1 (ix2 i j) = ∑ k, x1 (ix3 k i j) := by
  pointwise [val_main_v3, val_main_v2, val_main_cst_0]
theorem v5_at (i : Fin 256) (j : Fin 512) : val_main_v5 (F := Ideal) x2 (ix2 i j) = ∑ k, x2 (ix3 k i j) := by
  pointwise [val_main_v5, val_main_v4, val_main_cst_1]
theorem v7_at (i : Fin 256) (j : Fin 512) : val_main_v7 (F := Ideal) x3 (ix2 i j) = ∑ k, x3 (ix3 k i j) := by
  pointwise [val_main_v7, val_main_v6, val_main_cst_2]

/-- The reference's result: the layers' sums, one layer after another. -/
theorem v8_at (i : Fin 1024) (j : Fin 512) : val_main_v8 (F := Ideal) x0 x1 x2 x3 (ix2 i j)
    = ∑ k, (![x0, x1, x2, x3] ⟨i.val / 256, by omega⟩ : FVec Ideal S4x256x512 .bf16) (ix3 k ⟨i.val % 256, by omega⟩ j) := by
  pointwise [val_main_v8]
  have hi := i.isLt
  have hl : i.val / 256 = 0 ∨ i.val / 256 = 1 ∨ i.val / 256 = 2 ∨ i.val / 256 = 3 := by omega
  rcases hl with h | h | h | h
  · rw [dif_pos (by omega), v1_at, show (⟨i.val / 256, by omega⟩ : Fin 4) = 0 from Fin.ext h]
    exact Finset.sum_congr rfl fun k _ => congrArg (fun r => x0 (ix3 k r j)) (Fin.ext (by show _ = i.val % 256; simp; omega))
  · rw [dif_neg (by omega), dif_pos (by omega), v3_at, show (⟨i.val / 256, by omega⟩ : Fin 4) = 1 from Fin.ext h]
    exact Finset.sum_congr rfl fun k _ => congrArg (fun r => x1 (ix3 k r j)) (Fin.ext (by show _ = i.val % 256; simp; omega))
  · rw [dif_neg (by omega), dif_neg (by omega), dif_pos (by omega), v5_at, show (⟨i.val / 256, by omega⟩ : Fin 4) = 2 from Fin.ext h]
    exact Finset.sum_congr rfl fun k _ => congrArg (fun r => x2 (ix3 k r j)) (Fin.ext (by show _ = i.val % 256; simp; omega))
  · rw [dif_neg (by omega), dif_neg (by omega), dif_neg (by omega), v7_at, show (⟨i.val / 256, by omega⟩ : Fin 4) = 3 from Fin.ext h]
    exact Finset.sum_congr rfl fun k _ => congrArg (fun r => x3 (ix3 k r j)) (Fin.ext (by show _ = i.val % 256; simp; omega))

end Cert.Reference35Ideal.PartsHalf

end
-- ==== Proof.PartsHalfClaim.lean ====
/- The four chips' parts of the gradient of a half-wide weight added up: the reference's frame, and the value claim. -/
module

public import proofs.«01_k».proof.Defs
public import proofs.«01_k».proof.Proof.Gen.Kernel35Ideal
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.PartsHalf
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref35 : Cert.quiescent_Reference35Ideal (hReference35Ideal := Cert.Reference35Ideal.Gen.facts) := by
  intro m g _
  exact (θ_run Cert.Reference35Ideal.defs _ _).mono (fun r h => ⟨fun c => ⟨(h c).2.1, (h c).2.2.1, (h c).2.2.2.1, (h c).2.2.2.2⟩,
      Idealize.ShloMosaic.sem_eq_zero_of_no_sems (by decide) r.2⟩)
    (Cert.Reference35Ideal.Value.run (F := Ideal) m g)

/-- The kernel and the reference leave equal results. -/
theorem value35 : Cert.algebraic_Kernel35Ideal_Reference35Ideal (hKernel35Ideal := Cert.Kernel35Ideal.Gen.facts)
    (hReference35Ideal := Cert.Reference35Ideal.Gen.facts) := by
  pair_intro
  · run_from Cert.Kernel35Ideal.Gen.run_main m g
  · run_from Cert.Reference35Ideal.Value.run m' g'
    rw [Cert.Reference35Ideal.Read.val_main_v8_eq]
    obtain ⟨_, _, _, h3⟩ := hagree c
    refine (congrArg (Cert.Reference35Ideal.Read.val_main_v8 (F := Ideal) _ _ _) h3).trans ?_
    refine Eq.trans ?_ (Cert.Kernel35Ideal.PartsHalf.final_o m c).symm
    funext y
    rw [eq_ix2 y]
    refine (Cert.Reference35Ideal.PartsHalf.v8_at _ _ _ _ (y 0) (y 1)).trans ?_
    have key : ∀ (x0 x1 x2 x3 : FVec Ideal Cert.Kernel35Ideal.S4x256x512 .bf16) (l : Fin 4) (i : Fin 256) (j : Fin 512),
        ∑ k, (![x0, x1, x2, x3] l : FVec Ideal Cert.Kernel35Ideal.S4x256x512 .bf16) (ix3 k i j)
          = ∑ k, (![fun k i j => x0 (ix3 k i j), fun k i j => x1 (ix3 k i j), fun k i j => x2 (ix3 k i j),
              fun k i j => x3 (ix3 k i j)] l : Fin 4 → Fin 256 → Fin 512 → EReal) k i j := by
      intro x0 x1 x2 x3 l i j; fin_cases l <;> rfl
    exact key _ _ _ _ _ _ _

end Cert.Proof

end
-- ==== Proof.LruClaim.lean ====
/- The linear recurrence's forward call: the reference's frame. -/
module

public import proofs.«01_k».proof.Defs
public import proofs.«01_k».proof.Proof.Gen.Reference36Ideal
public import proofs.«01_k».proof.Proof.Gen.Reference36Ideal.Run
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref36 : Cert.quiescent_Reference36Ideal (hReference36Ideal := Cert.Reference36Ideal.Gen.facts) := by
  intro m g _
  exact (θ_run Cert.Reference36Ideal.defs _ _).mono (fun r h => ⟨fun c => (h c).2.2,
      Idealize.ShloMosaic.sem_eq_zero_of_no_sems (by decide) r.2⟩)
    (Cert.Reference36Ideal.Value.run (F := Ideal) m g)

end Cert.Proof

end
-- ==== Proof.lean ====
/- The certificate assembled: the frames come from the generated runs; each call's value claim joins the kernel's arrays after
   the run with the reference's results, under the call's precondition where it has one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Reference36Ideal
public import proofs.«01_k».proof.Proof.Gen.Reference36Ideal.Run
public import proofs.«01_k».proof.Proof.MemArray
public import proofs.«01_k».proof.Proof.MemRef
public import proofs.«01_k».proof.Proof.MemPre
public import proofs.«01_k».proof.Proof.FfnClaim
public import proofs.«01_k».proof.Proof.NormClaim
public import proofs.«01_k».proof.Proof.DwDownClaim
public import proofs.«01_k».proof.Proof.DwUpClaim
public import proofs.«01_k».proof.Proof.MergeClaim
public import proofs.«01_k».proof.Proof.MixClaim
public import proofs.«01_k».proof.Proof.DwQkvClaim
public import proofs.«01_k».proof.Proof.DwXrClaim
public import proofs.«01_k».proof.Proof.DwCqClaim
public import proofs.«01_k».proof.Proof.DwGatesClaim
public import proofs.«01_k».proof.Proof.DwAttnOutClaim
public import proofs.«01_k».proof.Proof.UpClaim
public import proofs.«01_k».proof.Proof.DownClaim
public import proofs.«01_k».proof.Proof.MixOutClaim
public import proofs.«01_k».proof.Proof.ProjClaim
public import proofs.«01_k».proof.Proof.MergeFClaim
public import proofs.«01_k».proof.Proof.MemFClaim
public import proofs.«01_k».proof.Proof.AttnClaim
public import proofs.«01_k».proof.Proof.AdamwAClaim
public import proofs.«01_k».proof.Proof.AdamwBClaim
public import proofs.«01_k».proof.Proof.AdamwCClaim
public import proofs.«01_k».proof.Proof.AdamwDClaim
public import proofs.«01_k».proof.Proof.AdamwEClaim
public import proofs.«01_k».proof.Proof.LossHeadClaim
public import proofs.«01_k».proof.Proof.MemNormClaim
public import proofs.«01_k».proof.Proof.DwMemKvClaim
public import proofs.«01_k».proof.Proof.MemKvClaim
public import proofs.«01_k».proof.Proof.RmsXClaim
public import proofs.«01_k».proof.Proof.RmsMemClaim
public import proofs.«01_k».proof.Proof.PartsFfnClaim
public import proofs.«01_k».proof.Proof.PartsWinClaim
public import proofs.«01_k».proof.Proof.PartsRowClaim
public import proofs.«01_k».proof.Proof.PartsHalfClaim
public import proofs.«01_k».proof.Proof.LruClaim
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference runs, its arguments unchanged and every counter at zero at the end. -/
theorem frame_ref : Cert.quiescent_ReferenceIdeal (hReferenceIdeal := Cert.ReferenceIdeal.Gen.facts) := by
  intro m g _
  exact (θ_run Cert.ReferenceIdeal.defs _ _).mono (fun r h => ⟨fun c => ⟨(h c).2.2.1, (h c).2.2.2.1, (h c).2.2.2.2⟩,
      Idealize.ShloMosaic.sem_eq_zero_of_no_sems (by decide) r.2⟩)
    (Cert.ReferenceIdeal.Value.run (F := Ideal) m g)

/-- The kernel and the reference leave equal results wherever the queries and the keys are finite. -/
theorem mem_attn_bwd : Cert.algebraic_KernelIdeal_ReferenceIdeal_pre_finite_scores (hKernelIdeal := Cert.KernelIdeal.Gen.facts)
    (hReferenceIdeal := Cert.ReferenceIdeal.Gen.facts) (hPre_finite_scores := Cert.MemP.facts) := by
  haveI := Cert.MemP.facts
  pair_intro
  · run_from Cert.KernelIdeal.Gen.run_main m g
  · run_from Cert.ReferenceIdeal.Value.run m' g'
    · rw [Cert.ReferenceIdeal.Read.val_main_v69_eq, (hagree c).1, (hagree c).2.1, (hagree c).2.2]
      refine Eq.trans ?_ (Cert.KernelIdeal.MemB.final_dq m c).symm
      funext y
      exact Cert.ReferenceIdeal.MemR.dq_ref _ _ _ (Cert.MemP.fin_score _ _ _ (hpre c)) y
    · rw [Cert.ReferenceIdeal.Read.val_main_v68_eq, (hagree c).1, (hagree c).2.1, (hagree c).2.2]
      refine Eq.trans ?_ (Cert.KernelIdeal.MemB.final_dkv m c).symm
      funext y
      exact Cert.ReferenceIdeal.MemR.dkv_ref _ _ _ (Cert.MemP.fin_score _ _ _ (hpre c)) y

/-- The certificate. -/
theorem claim : Cert.Claim := ⟨
  Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Kernel11.Gen.facts,
  Cert.Kernel11Ideal.Gen.facts, Cert.Reference11Ideal.Gen.facts, Cert.Kernel12.Gen.facts, Cert.Kernel12Ideal.Gen.facts,
  Cert.Reference12Ideal.Gen.facts, Cert.Kernel14.Gen.facts, Cert.Kernel14Ideal.Gen.facts, Cert.Reference14Ideal.Gen.facts,
  Cert.Kernel15.Gen.facts, Cert.Kernel15Ideal.Gen.facts, Cert.Reference15Ideal.Gen.facts, Cert.Kernel16.Gen.facts,
  Cert.Kernel16Ideal.Gen.facts, Cert.Reference16Ideal.Gen.facts, Cert.Kernel17.Gen.facts, Cert.Kernel17Ideal.Gen.facts,
  Cert.Reference17Ideal.Gen.facts, Cert.Kernel18.Gen.facts, Cert.Kernel18Ideal.Gen.facts, Cert.Reference18Ideal.Gen.facts,
  Cert.Kernel19.Gen.facts, Cert.Kernel19Ideal.Gen.facts, Cert.Reference19Ideal.Gen.facts, Cert.Kernel20.Gen.facts,
  Cert.Kernel20Ideal.Gen.facts, Cert.Reference20Ideal.Gen.facts, Cert.Kernel21.Gen.facts, Cert.Kernel21Ideal.Gen.facts,
  Cert.Reference21Ideal.Gen.facts, Cert.Kernel22.Gen.facts, Cert.Kernel22Ideal.Gen.facts, Cert.Reference22Ideal.Gen.facts,
  Cert.Kernel23.Gen.facts, Cert.Kernel23Ideal.Gen.facts, Cert.Reference23Ideal.Gen.facts, Cert.Kernel24.Gen.facts,
  Cert.Kernel24Ideal.Gen.facts, Cert.Reference24Ideal.Gen.facts, Cert.Kernel25.Gen.facts, Cert.Kernel25Ideal.Gen.facts,
  Cert.Reference25Ideal.Gen.facts, Cert.Kernel26.Gen.facts, Cert.Kernel26Ideal.Gen.facts, Cert.Reference26Ideal.Gen.facts,
  Cert.Kernel27.Gen.facts, Cert.Kernel27Ideal.Gen.facts, Cert.Reference27Ideal.Gen.facts, Cert.Kernel28.Gen.facts,
  Cert.Kernel28Ideal.Gen.facts, Cert.Reference28Ideal.Gen.facts, Cert.Kernel29.Gen.facts, Cert.Kernel29Ideal.Gen.facts,
  Cert.Reference29Ideal.Gen.facts, Cert.Kernel30.Gen.facts, Cert.Kernel30Ideal.Gen.facts, Cert.Reference30Ideal.Gen.facts,
  Cert.Kernel31.Gen.facts, Cert.Kernel31Ideal.Gen.facts, Cert.Reference31Ideal.Gen.facts, Cert.Kernel32.Gen.facts,
  Cert.Kernel32Ideal.Gen.facts, Cert.Reference32Ideal.Gen.facts, Cert.Kernel33.Gen.facts, Cert.Kernel33Ideal.Gen.facts,
  Cert.Reference33Ideal.Gen.facts, Cert.Kernel34.Gen.facts, Cert.Kernel34Ideal.Gen.facts, Cert.Reference34Ideal.Gen.facts,
  Cert.Kernel35.Gen.facts, Cert.Kernel35Ideal.Gen.facts, Cert.Reference35Ideal.Gen.facts, Cert.Kernel36.Gen.facts, Cert.Kernel36Ideal.Gen.facts,
  Cert.Reference36Ideal.Gen.facts, Cert.MemP.facts, Cert.FfnP.facts, Cert.DxP.facts,
  Cert.MixP.facts, Cert.AttnP.facts, Cert.LossP.facts, Cert.MemNP.facts, fun m ρ _ => Cert.Kernel.Gen.frame m ρ,
  fun m ρ _ => Cert.KernelIdeal.Gen.frame m ρ, fun m ρ _ => Cert.KernelIdeal.Gen.frame m ρ, frame_ref, fun m g _ => frame_ref m g trivial,
  fun m ρ _ => Cert.Kernel2.Gen.frame m ρ, fun m ρ _ => Cert.Kernel2Ideal.Gen.frame m ρ, fun m ρ _ => Cert.Kernel2Ideal.Gen.frame m ρ,
  frame_ref2, fun m g _ => frame_ref2 m g trivial, fun m ρ _ => Cert.Kernel3.Gen.frame m ρ, fun m ρ _ => Cert.Kernel3Ideal.Gen.frame m ρ,
  fun m ρ _ => Cert.Kernel3Ideal.Gen.frame m ρ, frame_ref3, fun m g _ => frame_ref3 m g trivial, fun m ρ _ => Cert.Kernel4.Gen.frame m ρ,
  fun m ρ _ => Cert.Kernel4Ideal.Gen.frame m ρ, frame_ref4, fun m ρ _ => Cert.Kernel5.Gen.frame m ρ,
  fun m ρ _ => Cert.Kernel5Ideal.Gen.frame m ρ, frame_ref5, fun m ρ _ => Cert.Kernel6.Gen.frame m ρ,
  fun m ρ _ => Cert.Kernel6Ideal.Gen.frame m ρ, frame_ref6, fun m ρ _ => Cert.Kernel7.Gen.frame m ρ,
  fun m ρ _ => Cert.Kernel7Ideal.Gen.frame m ρ, fun m ρ _ => Cert.Kernel7Ideal.Gen.frame m ρ, frame_ref7,
  fun m g _ => frame_ref7 m g trivial, fun m ρ _ => Cert.Kernel8.Gen.frame m ρ, fun m ρ _ => Cert.Kernel8Ideal.Gen.frame m ρ, frame_ref8,
  fun m ρ _ => Cert.Kernel9.Gen.frame m ρ, fun m ρ _ => Cert.Kernel9Ideal.Gen.frame m ρ, frame_ref9,
  fun m ρ _ => Cert.Kernel10.Gen.frame m ρ, fun m ρ _ => Cert.Kernel10Ideal.Gen.frame m ρ, frame_ref10,
  fun m ρ _ => Cert.Kernel11.Gen.frame m ρ, fun m ρ _ => Cert.Kernel11Ideal.Gen.frame m ρ, frame_ref11,
  fun m ρ _ => Cert.Kernel12.Gen.frame m ρ, fun m ρ _ => Cert.Kernel12Ideal.Gen.frame m ρ, frame_ref12,
  fun m ρ _ => Cert.Kernel14.Gen.frame m ρ, fun m ρ _ => Cert.Kernel14Ideal.Gen.frame m ρ, frame_ref14,
  fun m ρ _ => Cert.Kernel15.Gen.frame m ρ, fun m ρ _ => Cert.Kernel15Ideal.Gen.frame m ρ, frame_ref15,
  fun m ρ _ => Cert.Kernel16.Gen.frame m ρ, fun m ρ _ => Cert.Kernel16Ideal.Gen.frame m ρ, frame_ref16,
  fun m ρ _ => Cert.Kernel17.Gen.frame m ρ, fun m ρ _ => Cert.Kernel17Ideal.Gen.frame m ρ, frame_ref17,
  fun m ρ _ => Cert.Kernel18.Gen.frame m ρ, fun m ρ _ => Cert.Kernel18Ideal.Gen.frame m ρ, frame_ref18,
  fun m ρ _ => Cert.Kernel19.Gen.frame m ρ, fun m ρ _ => Cert.Kernel19Ideal.Gen.frame m ρ, frame_ref19,
  fun m ρ _ => Cert.Kernel20.Gen.frame m ρ, fun m ρ _ => Cert.Kernel20Ideal.Gen.frame m ρ, fun m ρ _ => Cert.Kernel20Ideal.Gen.frame m ρ,
  frame_ref20, fun m g _ => frame_ref20 m g trivial, fun m ρ _ => Cert.Kernel21.Gen.frame m ρ,
  fun m ρ _ => Cert.Kernel21Ideal.Gen.frame m ρ, frame_ref21, fun m ρ _ => Cert.Kernel22.Gen.frame m ρ,
  fun m ρ _ => Cert.Kernel22Ideal.Gen.frame m ρ, frame_ref22, fun m ρ _ => Cert.Kernel23.Gen.frame m ρ,
  fun m ρ _ => Cert.Kernel23Ideal.Gen.frame m ρ, frame_ref23, fun m ρ _ => Cert.Kernel24.Gen.frame m ρ,
  fun m ρ _ => Cert.Kernel24Ideal.Gen.frame m ρ, frame_ref24, fun m ρ _ => Cert.Kernel25.Gen.frame m ρ,
  fun m ρ _ => Cert.Kernel25Ideal.Gen.frame m ρ, frame_ref25, fun m ρ _ => Cert.Kernel26.Gen.frame m ρ,
  fun m ρ _ => Cert.Kernel26Ideal.Gen.frame m ρ, fun m ρ _ => Cert.Kernel26Ideal.Gen.frame m ρ, frame_ref26,
  fun m g _ => frame_ref26 m g trivial, fun m ρ _ => Cert.Kernel27.Gen.frame m ρ, fun m ρ _ => Cert.Kernel27Ideal.Gen.frame m ρ,
  fun m ρ _ => Cert.Kernel27Ideal.Gen.frame m ρ, frame_ref27, fun m g _ => frame_ref27 m g trivial,
  fun m ρ _ => Cert.Kernel28.Gen.frame m ρ, fun m ρ _ => Cert.Kernel28Ideal.Gen.frame m ρ, frame_ref28,
  fun m ρ _ => Cert.Kernel29.Gen.frame m ρ, fun m ρ _ => Cert.Kernel29Ideal.Gen.frame m ρ, frame_ref29,
  fun m ρ _ => Cert.Kernel30.Gen.frame m ρ, fun m ρ _ => Cert.Kernel30Ideal.Gen.frame m ρ, frame_ref30,
  fun m ρ _ => Cert.Kernel31.Gen.frame m ρ, fun m ρ _ => Cert.Kernel31Ideal.Gen.frame m ρ, frame_ref31,
  fun m ρ _ => Cert.Kernel32.Gen.frame m ρ, fun m ρ _ => Cert.Kernel32Ideal.Gen.frame m ρ, frame_ref32,
  fun m ρ _ => Cert.Kernel33.Gen.frame m ρ, fun m ρ _ => Cert.Kernel33Ideal.Gen.frame m ρ, frame_ref33,
  fun m ρ _ => Cert.Kernel34.Gen.frame m ρ, fun m ρ _ => Cert.Kernel34Ideal.Gen.frame m ρ, frame_ref34,
  fun m ρ _ => Cert.Kernel35.Gen.frame m ρ, fun m ρ _ => Cert.Kernel35Ideal.Gen.frame m ρ, frame_ref35,
  fun m ρ _ => Cert.Kernel36.Gen.frame m ρ, fun m ρ _ => Cert.Kernel36Ideal.Gen.frame m ρ, frame_ref36, trivial, mem_attn_bwd, trivial,
  value2, trivial, value3, trivial, value4, trivial, value5, trivial, value6, trivial, value7, trivial, value8, trivial, value9, trivial,
  value10, trivial, value11, trivial, value12, trivial, value14, trivial, value15, trivial, value16, trivial, value17, trivial, value18,
  trivial, value19, preserves20, value20, trivial, value21, trivial, value22, trivial, value23, trivial, value24, trivial, value25,
  trivial, value26, trivial, value27, trivial, value28, trivial, value29, trivial, value30, trivial, value31, trivial, value32, trivial,
  value33, trivial, value34, trivial, value35, trivial⟩

end Cert.Proof

end
